-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_on_gate_norm_pre_finite [hKernelIdeal : Cert.KernelIdeal.Facts] [hReferenceIdeal : Cert.ReferenceIdeal.Facts] [hPre_finite : Cert.Pre_finite.Facts] [hOn_gate_norm : Cert.On_gate_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1664]⟩ : Shape).Idx, (Cert.On_gate_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v7_0) i = v0 c i)
          ∧ (∀ i : (⟨2, ![128, 256]⟩ : Shape).Idx, (Cert.On_gate_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v7_1) i = v1 c i)
          ∧ (∀ i : (⟨2, ![1, 256]⟩ : Shape).Idx, (Cert.On_gate_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v7_2) i = v2 c i)
          ∧ (∀ i : (⟨2, ![1, 128]⟩ : Shape).Idx, (Cert.On_gate_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.KernelIdeal.nD Cert.KernelIdeal.τ).loc Cert.KernelIdeal.main_v7_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1664]⟩ : Shape).Idx, (Cert.On_gate_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v105) i = v0 c i)
          ∧ (∀ i : (⟨2, ![128, 256]⟩ : Shape).Idx, (Cert.On_gate_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v106) i = v1 c i)
          ∧ (∀ i : (⟨2, ![1, 256]⟩ : Shape).Idx, (Cert.On_gate_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v107) i = v2 c i)
          ∧ (∀ i : (⟨2, ![1, 128]⟩ : Shape).Idx, (Cert.On_gate_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.ReferenceIdeal.nD Cert.ReferenceIdeal.τ).loc Cert.ReferenceIdeal.main_v108) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "inv_sqrt2" .f32 0x3F3504F3#32 (((Real.sqrt 2)⁻¹ : ℝ) : EReal)
  ∧ IdealRules.named_const.Statement Cert.Kernel2Ideal.κ "inv_sqrt2pi" .f32 0x3ECC422A#32 (((Real.sqrt (2 * Real.pi))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_v90) = v1 c
          ∧ r.2.mem ((c.tc : Thread Cert.Reference2Ideal.nD Cert.Reference2Ideal.τ).loc Cert.Reference2Ideal.main_v91) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v25_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v25_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v24_0)) (v1 : (c : Dev Cert.Kernel9Ideal.nD) → Buf (Elt Ideal) ((c.tc : Thread Cert.Kernel9Ideal.nD Cert.Kernel9Ideal.τ).loc Cert.Kernel9Ideal.main_v24_1)) (v2 : (c : Dev Cert.Kernel9Ideal.nD) → Buf (Elt Ideal) ((c.tc : Thread Cert.Kernel9Ideal.nD Cert.Kernel9Ideal.τ).loc Cert.Kernel9Ideal.main_v24_2)) (v3 : (c : Dev Cert.Kernel9Ideal.nD) → Buf (Elt Ideal) ((c.tc : Thread Cert.Kernel9Ideal.nD Cert.Kernel9Ideal.τ).loc Cert.Kernel9Ideal.main_v24_3)) (v4 : (c : Dev Cert.Kernel9Ideal.nD) → Buf (Elt Ideal) ((c.tc : Thread Cert.Kernel9Ideal.nD Cert.Kernel9Ideal.τ).loc Cert.Kernel9Ideal.main_v24_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v24_0) = v0 c
          ∧ r.2.mem ((c.tc : Thread Cert.Kernel9Ideal.nD Cert.Kernel9Ideal.τ).loc Cert.Kernel9Ideal.main_v24_1) = v1 c
          ∧ r.2.mem ((c.tc : Thread Cert.Kernel9Ideal.nD Cert.Kernel9Ideal.τ).loc Cert.Kernel9Ideal.main_v24_2) = v2 c
          ∧ r.2.mem ((c.tc : Thread Cert.Kernel9Ideal.nD Cert.Kernel9Ideal.τ).loc Cert.Kernel9Ideal.main_v24_3) = v3 c
          ∧ r.2.mem ((c.tc : Thread Cert.Kernel9Ideal.nD Cert.Kernel9Ideal.τ).loc Cert.Kernel9Ideal.main_v24_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v104) = v0 c
          ∧ r.2.mem ((c.tc : Thread Cert.Reference9Ideal.nD Cert.Reference9Ideal.τ).loc Cert.Reference9Ideal.main_v105) = v1 c
          ∧ r.2.mem ((c.tc : Thread Cert.Reference9Ideal.nD Cert.Reference9Ideal.τ).loc Cert.Reference9Ideal.main_v106) = v2 c
          ∧ r.2.mem ((c.tc : Thread Cert.Reference9Ideal.nD Cert.Reference9Ideal.τ).loc Cert.Reference9Ideal.main_v107) = v3 c
          ∧ r.2.mem ((c.tc : Thread Cert.Reference9Ideal.nD Cert.Reference9Ideal.τ).loc Cert.Reference9Ideal.main_v108) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)) (v2 : (c : Dev Cert.Kernel10Ideal.nD) → Buf (Elt Ideal) ((c.tc : Thread Cert.Kernel10Ideal.nD Cert.Kernel10Ideal.τ).loc Cert.Kernel10Ideal.main_v5_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_v5_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v22) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v47) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  IdealRules.named_const.Statement Cert.Kernel11Ideal.κ "inv_sqrt2" .f32 0x3F3504F3#32 (((Real.sqrt 2)⁻¹ : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v31) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  IdealRules.named_const.Statement Cert.Kernel12Ideal.κ "bias1" .f32 0x3FC48605#32 (((5463681 / 8388608)⁻¹ : ℝ) : EReal)
  ∧ IdealRules.named_const.Statement Cert.Kernel12Ideal.κ "bias2" .f32 0x42C8E6D3#32 (((2672307 / 268435456)⁻¹ : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "bias1" .f32 0x3FC48605#32 (((5463681 / 8388608)⁻¹ : ℝ) : EReal)
  ∧ IdealRules.named_const.Statement Cert.Kernel13Ideal.κ "bias2" .f32 0x42C8E6D3#32 (((2672307 / 268435456)⁻¹ : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "bias1" .f32 0x3FC48605#32 (((5463681 / 8388608)⁻¹ : ℝ) : EReal)
  ∧ IdealRules.named_const.Statement Cert.Kernel14Ideal.κ "bias2" .f32 0x42C8E6D3#32 (((2672307 / 268435456)⁻¹ : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "bias1" .f32 0x3FC48605#32 (((5463681 / 8388608)⁻¹ : ℝ) : EReal)
  ∧ IdealRules.named_const.Statement Cert.Kernel15Ideal.κ "bias2" .f32 0x42C8E6D3#32 (((2672307 / 268435456)⁻¹ : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite3 : Cert.Pre_finite3.Facts) (hPre_finite9 : Cert.Pre_finite9.Facts) (hOn_gate_norm : Cert.On_gate_norm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_on_gate_norm_pre_finite (hKernelIdeal := hKernelIdeal) (hReferenceIdeal := hReferenceIdeal) (hPre_finite := hPre_finite) (hOn_gate_norm := hOn_gate_norm)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== On_gate_norm.lean ====
abbrev S4096x3200 : Shape := ⟨2, ![4096, 3200]⟩
abbrev S4096x1024 : Shape := ⟨2, ![4096, 1024]⟩
abbrev S4096x512 : Shape := ⟨2, ![4096, 512]⟩
abbrev S64x4x64x128 : Shape := ⟨4, ![64, 4, 64, 128]⟩
abbrev S128x256 : Shape := ⟨2, ![128, 256]⟩
abbrev S1x256 : Shape := ⟨2, ![1, 256]⟩
abbrev S1x128 : Shape := ⟨2, ![1, 128]⟩
abbrev S4096x1664 : Shape := ⟨2, ![4096, 1664]⟩
abbrev S_ : Shape := ⟨0, ![]⟩

class Facts : Prop where
  bcast_S_S4096x1664 : S_.BroadcastsInDim S4096x1664 (![] : Fin 0 → Fin S4096x1664.rank)
  bcast_S_S128x256 : S_.BroadcastsInDim S128x256 (![] : Fin 0 → Fin S128x256.rank)
  bcast_S_S1x256 : S_.BroadcastsInDim S1x256 (![] : Fin 0 → Fin S1x256.rank)
  bcast_S_S1x128 : S_.BroadcastsInDim S1x128 (![] : Fin 0 → Fin S1x128.rank)

variable [Facts]

def fn {F : FTy → Type} [FloatOps F] (main_arg0 : FVec F S4096x3200 .f32) (main_arg1 : FVec F S4096x1024 .f32) (main_arg2 : FVec F S4096x512 .f32) (main_arg3 : FVec F S64x4x64x128 .f32) (main_arg4 : FVec F S128x256 .f32) (main_arg5 : FVec F S1x256 .f32) (main_arg6 : FVec F S1x128 .f32) : IVec S4096x1664 1 × IVec S128x256 1 × IVec S1x256 1 × IVec S1x128 1 :=
  let main_v0 : IVec S4096x1664 32 := iotaInDim S4096x1664 32 1
  let main_c : IVec S_ 32 := constantI S_ 32 256#32
  let main_v1 : IVec S4096x1664 32 := broadcastInDim S4096x1664 ![] bcast_S_S4096x1664 main_c
  let main_v2 : IVec S4096x1664 1 := cmpi .slt main_v0 main_v1
  let main_c_0 : IVec S_ 32 := constantI S_ 32 1024#32
  let main_v3 : IVec S4096x1664 32 := broadcastInDim S4096x1664 ![] bcast_S_S4096x1664 main_c_0
  let main_v4 : IVec S4096x1664 1 := cmpi .sge main_v0 main_v3
  let main_c_1 : IVec S_ 32 := constantI S_ 32 1536#32
  let main_v5 : IVec S4096x1664 32 := broadcastInDim S4096x1664 ![] bcast_S_S4096x1664 main_c_1
  let main_v6 : IVec S4096x1664 1 := cmpi .slt main_v0 main_v5
  let main_v7 : IVec S4096x1664 1 := andi main_v4 main_v6
  let main_v8 : IVec S4096x1664 1 := ori main_v2 main_v7
  let main_v9 : IVec S128x256 32 := iotaInDim S128x256 32 1
  let main_c_2 : IVec S_ 32 := constantI S_ 32 0#32
  let main_v10 : IVec S128x256 32 := broadcastInDim S128x256 ![] bcast_S_S128x256 main_c_2
  let main_v11 : IVec S128x256 1 := cmpi .slt main_v9 main_v10
  let main_v12 : IVec S1x256 32 := iotaInDim S1x256 32 1
  let main_c_3 : IVec S_ 32 := constantI S_ 32 0#32
  let main_v13 : IVec S1x256 32 := broadcastInDim S1x256 ![] bcast_S_S1x256 main_c_3
  let main_v14 : IVec S1x256 1 := cmpi .slt main_v12 main_v13
  let main_v15 : IVec S1x128 32 := iotaInDim S1x128 32 1
  let main_c_4 : IVec S_ 32 := constantI S_ 32 0#32
  let main_v16 : IVec S1x128 32 := broadcastInDim S1x128 ![] bcast_S_S1x128 main_c_4
  let main_v17 : IVec S1x128 1 := cmpi .sge main_v15 main_v16
  (main_v8, main_v11, main_v14, main_v17)
-- ==== Pre_finite.lean ====
abbrev S4096x3200 : Shape := ⟨2, ![4096, 3200]⟩
abbrev S4096x1024 : Shape := ⟨2, ![4096, 1024]⟩
abbrev S4096x512 : Shape := ⟨2, ![4096, 512]⟩
abbrev S64x4x64x128 : Shape := ⟨4, ![64, 4, 64, 128]⟩
abbrev S128x256 : Shape := ⟨2, ![128, 256]⟩
abbrev S1x256 : Shape := ⟨2, ![1, 256]⟩
abbrev S1x128 : Shape := ⟨2, ![1, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S4096x3200 .f32) (main_arg1 : FVec F S4096x1024 .f32) (main_arg2 : FVec F S4096x512 .f32) (main_arg3 : FVec F S64x4x64x128 .f32) (main_arg4 : FVec F S128x256 .f32) (main_arg5 : FVec F S1x256 .f32) (main_arg6 : FVec F S1x128 .f32) : IVec S_ 1 :=
  let main_v0 : FVec F S4096x1024 .f32 := subf main_arg1 main_arg1
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x128 .f32 := subf main_arg6 main_arg6
  let main_cst_0 : FVec F S_ .f32 := constant S_ .f32 0x00000000#32
  let main_v5 : FVec F S1x128 .f32 := broadcastInDim S1x128 ![] bcast_S_S1x128 main_cst_0
  let main_v6 : IVec S1x128 1 := cmpf .oeq main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  main_v8
-- ==== Pre_finite3.lean ====
abbrev S4096x1024 : Shape := ⟨2, ![4096, 1024]⟩
abbrev S1024x5632 : Shape := ⟨2, ![1024, 5632]⟩
abbrev S1024 : Shape := ⟨1, ![1024]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S1024 : S_.BroadcastsInDim S1024 (![] : Fin 0 → Fin S1024.rank)
  reducesTo_S1024_S_d0 : S1024.ReducesTo [0] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_arg4 : FVec F S4096x1024 .f32) (main_v13 : IVec S_ 1) (main_v16 : IVec S4096x5632 1) : IVec S_ 1 :=
  let main_c_5 : IVec S_ 1 := constantI S_ 1 1#1
  let main_v17 : IVec S_ 1 := (fun x v => Host.reduce IntOp.andi x v reducesTo_S4096x5632_S_d0_1 h_S_) main_v16 main_c_5
  let main_v18 : IVec S_ 1 := andi main_v13 main_v17
  let main_v19 : FVec F S4096x1024 .f32 := subf main_arg4 main_arg4
  let main_cst_6 : FVec F S_ .f32 := constant S_ .f32 0x00000000#32
  let main_v20 : FVec F S4096x1024 .f32 := broadcastInDim S4096x1024 ![] bcast_S_S4096x1024 main_cst_6
  let main_v21 : IVec S4096x1024 1 := cmpf .oeq main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024x5632 .f32) (main_arg2 : FVec F S1024 .f32) (main_arg3 : FVec F S4096x5632 .f32) (main_arg4 : FVec F S4096x1024 .f32) : IVec S_ 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := subf main_arg1 main_arg1
  let main_cst_0 : FVec F S_ .f32 := constant S_ .f32 0x00000000#32
  let main_v5 : FVec F S1024x5632 .f32 := broadcastInDim S1024x5632 ![] bcast_S_S1024x5632 main_cst_0
  let main_v6 : IVec S1024x5632 1 := cmpf .oeq main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S1024 .f32 := subf main_arg2 main_arg2
  let main_cst_2 : FVec F S_ .f32 := constant S_ .f32 0x00000000#32
  let main_v10 : FVec F S1024 .f32 := broadcastInDim S1024 ![] bcast_S_S1024 main_cst_2
  let main_v11 : IVec S1024 1 := cmpf .oeq main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x5632 .f32 := subf main_arg3 main_arg3
  let main_cst_4 : FVec F S_ .f32 := constant S_ .f32 0x00000000#32
  let main_v15 : FVec F S4096x5632 .f32 := broadcastInDim S4096x5632 ![] bcast_S_S4096x5632 main_cst_4
  let main_v16 : IVec S4096x5632 1 := cmpf .oeq main_v14 main_v15
  fn_part1 (F := F) main_arg4 main_v13 main_v16
-- ==== Pre_finite9.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4096x1024 .f32) (main_v33 : IVec S_ 1) : IVec S_ 1 :=
  let main_v34 : FVec F S4096x1024 .f32 := subf main_arg7 main_arg7
  let main_cst_12 : FVec F S_ .f32 := constant S_ .f32 0x00000000#32
  let main_v35 : FVec F S4096x1024 .f32 := broadcastInDim S4096x1024 ![] bcast_S_S4096x1024 main_cst_12
  let main_v36 : IVec S4096x1024 1 := cmpf .oeq main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  main_v38

def fn_part1 {F : FTy → Type} [FloatOps F] (main_arg4 : FVec F S1024 .f32) (main_arg5 : FVec F S1024 .f32) (main_arg6 : FVec F S1024 .f32) (main_arg7 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := subf main_arg4 main_arg4
  let main_cst_6 : FVec F S_ .f32 := constant S_ .f32 0x00000000#32
  let main_v20 : FVec F S1024 .f32 := broadcastInDim S1024 ![] bcast_S_S1024 main_cst_6
  let main_v21 : IVec S1024 1 := cmpf .oeq main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := subf main_arg5 main_arg5
  let main_cst_8 : FVec F S_ .f32 := constant S_ .f32 0x00000000#32
  let main_v25 : FVec F S1024 .f32 := broadcastInDim S1024 ![] bcast_S_S1024 main_cst_8
  let main_v26 : IVec S1024 1 := cmpf .oeq main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := subf main_arg6 main_arg6
  let main_cst_10 : FVec F S_ .f32 := constant S_ .f32 0x00000000#32
  let main_v30 : FVec F S1024 .f32 := broadcastInDim S1024 ![] bcast_S_S1024 main_cst_10
  let main_v31 : IVec S1024 1 := cmpf .oeq main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S4096x2816 .f32) (main_arg2 : FVec F S2816x1024 .f32) (main_arg3 : FVec F S1024 .f32) (main_arg4 : FVec F S1024 .f32) (main_arg5 : FVec F S1024 .f32) (main_arg6 : FVec F S1024 .f32) (main_arg7 : FVec F S4096x1024 .f32) : IVec S_ 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2816 .f32 := subf main_arg1 main_arg1
  let main_cst_0 : FVec F S_ .f32 := constant S_ .f32 0x00000000#32
  let main_v5 : FVec F S4096x2816 .f32 := broadcastInDim S4096x2816 ![] bcast_S_S4096x2816 main_cst_0
  let main_v6 : IVec S4096x2816 1 := cmpf .oeq main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S2816x1024 .f32 := subf main_arg2 main_arg2
  let main_cst_2 : FVec F S_ .f32 := constant S_ .f32 0x00000000#32
  let main_v10 : FVec F S2816x1024 .f32 := broadcastInDim S2816x1024 ![] bcast_S_S2816x1024 main_cst_2
  let main_v11 : IVec S2816x1024 1 := cmpf .oeq main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := subf main_arg3 main_arg3
  let main_cst_4 : FVec F S_ .f32 := constant S_ .f32 0x00000000#32
  let main_v15 : FVec F S1024 .f32 := broadcastInDim S1024 ![] bcast_S_S1024 main_cst_4
  let main_v16 : IVec S1024 1 := cmpf .oeq main_v14 main_v15
  fn_part1 (F := F) main_arg4 main_arg5 main_arg6 main_arg7 main_v13 main_v16
-- ==== Kernel.lean ====
abbrev S4096x3200 : Shape := ⟨2, ![4096, 3200]⟩
abbrev S4096x1024 : Shape := ⟨2, ![4096, 1024]⟩
abbrev S4096x512 : Shape := ⟨2, ![4096, 512]⟩
abbrev S64x4x64x128 : Shape := ⟨4, ![64, 4, 64, 128]⟩
abbrev S128x256 : Shape := ⟨2, ![128, 256]⟩
abbrev S1x256 : Shape := ⟨2, ![1, 256]⟩
abbrev S1x128 : Shape := ⟨2, ![1, 128]⟩
abbrev S64x2x64x128 : Shape := ⟨4, ![64, 2, 64, 128]⟩
abbrev S_ : Shape := ⟨0, ![]⟩
abbrev S64x2x64x256 : Shape := ⟨4, ![64, 2, 64, 256]⟩
abbrev S64x2x128x256 : Shape := ⟨4, ![64, 2, 128, 256]⟩
abbrev S4096x1664 : Shape := ⟨2, ![4096, 1664]⟩
abbrev S256x256 : Shape := ⟨2, ![256, 256]⟩
abbrev S256x512 : Shape := ⟨2, ![256, 512]⟩
abbrev S256x128 : Shape := ⟨2, ![256, 128]⟩
abbrev S4x2x128x256 : Shape := ⟨4, ![4, 2, 128, 256]⟩
abbrev S256x1664 : Shape := ⟨2, ![256, 1664]⟩
abbrev S2x128x256 : Shape := ⟨3, ![2, 128, 256]⟩
abbrev S768x256 : Shape := ⟨2, ![768, 256]⟩
abbrev S256x768 : Shape := ⟨2, ![256, 768]⟩
abbrev S256x1 : Shape := ⟨2, ![256, 1]⟩
abbrev S768x128 : Shape := ⟨2, ![768, 128]⟩
abbrev S256 : Shape := ⟨1, ![256]⟩
abbrev S128 : Shape := ⟨1, ![128]⟩
abbrev S1x128x256 : Shape := ⟨3, ![1, 128, 256]⟩
abbrev S1x1x128x256 : Shape := ⟨4, ![1, 1, 128, 256]⟩
abbrev S64x128 : Shape := ⟨2, ![64, 128]⟩
abbrev S64x256 : Shape := ⟨2, ![64, 256]⟩
abbrev S128x1 : Shape := ⟨2, ![128, 1]⟩
abbrev S128x128 : Shape := ⟨2, ![128, 128]⟩

abbrev nBuf : Space → Nat
  | .hbm => 20
  | .vmem => 25
  | .smem => 0
  | _ => 0

abbrev bufTy : (tb : Table) → Fin (tcTables nBuf tb) → BufTy
  | .hbm, ⟨0, _⟩ => ⟨S4096x3200, .f32⟩
  | .hbm, ⟨1, _⟩ => ⟨S4096x1024, .f32⟩
  | .hbm, ⟨2, _⟩ => ⟨S4096x512, .f32⟩
  | .hbm, ⟨3, _⟩ => ⟨S64x4x64x128, .f32⟩
  | .hbm, ⟨4, _⟩ => ⟨S128x256, .f32⟩
  | .hbm, ⟨5, _⟩ => ⟨S1x256, .f32⟩
  | .hbm, ⟨6, _⟩ => ⟨S1x128, .f32⟩
  | .hbm, ⟨7, _⟩ => ⟨S64x2x64x128, .f32⟩
  | .hbm, ⟨8, _⟩ => ⟨S64x2x64x128, .f32⟩
  | .hbm, ⟨9, _⟩ => ⟨S_, .f32⟩
  | .hbm, ⟨10, _⟩ => ⟨S64x2x64x128, .f32⟩
  | .hbm, ⟨11, _⟩ => ⟨S64x2x64x256, .f32⟩
  | .hbm, ⟨12, _⟩ => ⟨S_, .f32⟩
  | .hbm, ⟨13, _⟩ => ⟨S64x2x64x128, .f32⟩
  | .hbm, ⟨14, _⟩ => ⟨S64x2x64x256, .f32⟩
  | .hbm, ⟨15, _⟩ => ⟨S64x2x128x256, .f32⟩
  | .hbm, ⟨16, _⟩ => ⟨S4096x1664, .bf16⟩
  | .hbm, ⟨17, _⟩ => ⟨S128x256, .f32⟩
  | .hbm, ⟨18, _⟩ => ⟨S1x256, .f32⟩
  | .hbm, ⟨19, _⟩ => ⟨S1x128, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S4x2x128x256, .f32⟩
  | .local _ .vmem, ⟨15, _⟩ => ⟨S4x2x128x256, .f32⟩
  | .local _ .vmem, ⟨16, _⟩ => ⟨S128x256, .f32⟩
  | .local _ .vmem, ⟨17, _⟩ => ⟨S1x256, .f32⟩
  | .local _ .vmem, ⟨18, _⟩ => ⟨S1x128, .f32⟩
  | .local _ .vmem, ⟨19, _⟩ => ⟨S256x1664, .bf16⟩
  | .local _ .vmem, ⟨20, _⟩ => ⟨S256x1664, .bf16⟩
  | .local _ .vmem, ⟨21, _⟩ => ⟨S128x256, .f32⟩
  | .local _ .vmem, ⟨22, _⟩ => ⟨S1x256, .f32⟩
  | .local _ .vmem, ⟨23, _⟩ => ⟨S1x128, .f32⟩
  | .local _ .vmem, ⟨24, _⟩ => ⟨S2x128x256, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c7_i32 : BitVec 32 := 7#32
  let c0_i32 : BitVec 32 := 0#32
  ![v0.toNat, c7_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c24_i32 : BitVec 32 := 24#32
  let c0_i32 : BitVec 32 := 0#32
  ![v0.toNat, c24_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1664 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4096x3200 : Shape := ⟨2, ![4096, 3200]⟩
abbrev S4096x1024 : Shape := ⟨2, ![4096, 1024]⟩
abbrev S4096x512 : Shape := ⟨2, ![4096, 512]⟩
abbrev S64x4x64x128 : Shape := ⟨4, ![64, 4, 64, 128]⟩
abbrev S128x256 : Shape := ⟨2, ![128, 256]⟩
abbrev S1x256 : Shape := ⟨2, ![1, 256]⟩
abbrev S1x128 : Shape := ⟨2, ![1, 128]⟩
abbrev S4096x1664 : Shape := ⟨2, ![4096, 1664]⟩
abbrev S4096x256 : Shape := ⟨2, ![4096, 256]⟩
abbrev S4096x128 : Shape := ⟨2, ![4096, 128]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S64x64x4x64 : Shape := ⟨4, ![64, 64, 4, 64]⟩
abbrev S64x64x4x128 : Shape := ⟨4, ![64, 64, 4, 128]⟩
abbrev S64x1x4x64 : Shape := ⟨4, ![64, 1, 4, 64]⟩
abbrev S64x4x64x64 : Shape := ⟨4, ![64, 4, 64, 64]⟩
abbrev S64x64 : Shape := ⟨2, ![64, 64]⟩
abbrev S64x4x128x64 : Shape := ⟨4, ![64, 4, 128, 64]⟩
abbrev S4096x768 : Shape := ⟨2, ![4096, 768]⟩

abbrev nBuf : Space → Nat
  | .hbm => 182
  | .vmem => 0
  | .smem => 0
  | _ => 0

abbrev hbmTy0_0 (i : Nat) : BufTy := match i % 128 with
  | 0 => ⟨S4096x3200, .f32⟩
  | 1 => ⟨S4096x1024, .f32⟩
  | 2 => ⟨S4096x512, .f32⟩
  | 3 => ⟨S64x4x64x128, .f32⟩
  | 4 => ⟨S128x256, .f32⟩
  | 5 => ⟨S1x256, .f32⟩
  | 6 => ⟨S1x128, .f32⟩
  | 7 => ⟨S4096x1664, .f32⟩
  | 8 => ⟨S4096x256, .f32⟩
  | 9 => ⟨S4096x256, .f32⟩
  | 10 => ⟨S4096x512, .f32⟩
  | 11 => ⟨S4096x512, .f32⟩
  | 12 => ⟨S4096x128, .f32⟩
  | 13 => ⟨S128, .f32⟩
  | 14 => ⟨S4096x4x128, .f32⟩
  | 15 => ⟨S4096x4x128, .f32⟩
  | 16 => ⟨S_, .f32⟩
  | 17 => ⟨S4096x4x128, .f32⟩
  | 18 => ⟨S4096x4x128, .f32⟩
  | 19 => ⟨S_, .f32⟩
  | 20 => ⟨S4096x4, .f32⟩
  | 21 => ⟨S4096x4x1, .f32⟩
  | 22 => ⟨S_, .f32⟩
  | 23 => ⟨S4096x4x1, .f32⟩
  | 24 => ⟨S4096x4x1, .f32⟩
  | 25 => ⟨S_, .f32⟩
  | 26 => ⟨S4096x4x1, .f32⟩
  | 27 => ⟨S4096x4x1, .f32⟩
  | 28 => ⟨S4096x4x1, .f32⟩
  | 29 => ⟨S4096x4x1, .f32⟩
  | 30 => ⟨S_, .f32⟩
  | 31 => ⟨S4096x4x1, .f32⟩
  | 32 => ⟨S4096x4x1, .f32⟩
  | 33 => ⟨S4096x4x128, .f32⟩
  | 34 => ⟨S4096x4x128, .f32⟩
  | 35 => ⟨S1x1x128, .f32⟩
  | 36 => ⟨S4096x4x128, .f32⟩
  | 37 => ⟨S4096x4x128, .f32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S_, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S4096x512, .f32⟩
  | 60 => ⟨S4096x4x128, .f32⟩
  | 61 => ⟨S4096x4x128, .f32⟩
  | 62 => ⟨S_, .f32⟩
  | 63 => ⟨S128, .f32⟩
  | 64 => ⟨S1x1x128, .f32⟩
  | 65 => ⟨S4096x4x128, .f32⟩
  | 66 => ⟨S4096x4x128, .f32⟩
  | 67 => ⟨S_, .f32⟩
  | 68 => ⟨S128, .f32⟩
  | 69 => ⟨S4096x4x128, .f32⟩
  | 70 => ⟨S_, .f32⟩
  | 71 => ⟨S4096x4, .f32⟩
  | 72 => ⟨S4096x4x1, .f32⟩
  | 73 => ⟨S4096x4x128, .f32⟩
  | 74 => ⟨S4096x4x128, .f32⟩
  | 75 => ⟨S4096x4x1, .f32⟩
  | 76 => ⟨S_, .f32⟩
  | 77 => ⟨S4096x4x1, .f32⟩
  | 78 => ⟨S4096x4x1, .f32⟩
  | 79 => ⟨S_, .f32⟩
  | 80 => ⟨S4096x4, .f32⟩
  | 81 => ⟨S4096x4x128, .f32⟩
  | 82 => ⟨S4096x4x128, .f32⟩
  | 83 => ⟨S4096x4x128, .f32⟩
  | 84 => ⟨S4096x512, .f32⟩
  | 85 => ⟨S4096x256, .f32⟩
  | 86 => ⟨S4096x256, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S4096x256, .f32⟩
  | 93 => ⟨S4096x256, .f32⟩
  | 94 => ⟨S4096x256, .i1⟩
  | 95 => ⟨S4096x256, .f32⟩
  | 96 => ⟨S4096x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S4096x256, .f32⟩
  | 103 => ⟨S4096x256, .f32⟩
  | 104 => ⟨S_, .f32⟩
  | 105 => ⟨S4096x256, .f32⟩
  | 106 => ⟨S4096x256, .f32⟩
  | 107 => ⟨S_, .f32⟩
  | 108 => ⟨S4096x256, .f32⟩
  | 109 => ⟨S4096x256, .f32⟩
  | 110 => ⟨S64x64x4x64, .f32⟩
  | 111 => ⟨S64x64x4x64, .f32⟩
  | 112 => ⟨S64x64x4x128, .f32⟩
  | 113 => ⟨S64x64x4x64, .f32⟩
  | 114 => ⟨S_, .f32⟩
  | 115 => ⟨S_, .f32⟩
  | 116 => ⟨S64x64x4x64, .f32⟩
  | 117 => ⟨S64x1x4x64, .f32⟩
  | 118 => ⟨S64x64x4x64, .f32⟩
  | 119 => ⟨S64x64x4x64, .f32⟩
  | 120 => ⟨S64x64x4x64, .f32⟩
  | 121 => ⟨S64x64x4x64, .f32⟩
  | 122 => ⟨S64x64x4x64, .f32⟩
  | 123 => ⟨S64x64x4x64, .f32⟩
  | 124 => ⟨S64x64x4x64, .f32⟩
  | 125 => ⟨S64x64x4x64, .f32⟩
  | 126 => ⟨S64x4x64x64, .f32⟩
  | 127 => ⟨S_, .i1⟩
  | _ => ⟨S4096x3200, .f32⟩

abbrev hbmTy0_1 (i : Nat) : BufTy := match i % 128 with
  | 0 => ⟨S64x64, .i1⟩
  | 1 => ⟨S64x64, .i32⟩
  | 2 => ⟨S_, .i32⟩
  | 3 => ⟨S64x64, .i32⟩
  | 4 => ⟨S64x64, .i32⟩
  | 5 => ⟨S64x64, .i32⟩
  | 6 => ⟨S64x64, .i1⟩
  | 7 => ⟨S_, .i1⟩
  | 8 => ⟨S64x64, .i1⟩
  | 9 => ⟨S64x64, .i1⟩
  | 10 => ⟨S_, .f32⟩
  | 11 => ⟨S_, .f32⟩
  | 12 => ⟨S64x4x64x64, .i1⟩
  | 13 => ⟨S64x4x64x64, .f32⟩
  | 14 => ⟨S64x4x64x64, .f32⟩
  | 15 => ⟨S_, .f32⟩
  | 16 => ⟨S64x4x64x64, .f32⟩
  | 17 => ⟨S64x4x128x64, .f32⟩
  | 18 => ⟨S64x64x4x128, .f32⟩
  | 19 => ⟨S64x64x4x64, .f32⟩
  | 20 => ⟨S64x64x4x64, .f32⟩
  | 21 => ⟨S64x4x128x64, .f32⟩
  | 22 => ⟨S64x64x4x128, .f32⟩
  | 23 => ⟨S64x64x4x128, .f32⟩
  | 24 => ⟨S4096x512, .f32⟩
  | 25 => ⟨S64x64x4x128, .f32⟩
  | 26 => ⟨S64x4x128x64, .f32⟩
  | 27 => ⟨S64x4x64x64, .f32⟩
  | 28 => ⟨S64x64x4x64, .f32⟩
  | 29 => ⟨S64x64x4x64, .f32⟩
  | 30 => ⟨S64x4x128x64, .f32⟩
  | 31 => ⟨S64x4x64x64, .f32⟩
  | 32 => ⟨S_, .f32⟩
  | 33 => ⟨S64x4x64x64, .f32⟩
  | 34 => ⟨S64x4x64x64, .f32⟩
  | 35 => ⟨S64x4x64x64, .f32⟩
  | 36 => ⟨S64x64x4x64, .f32⟩
  | 37 => ⟨S64x64x4x64, .f32⟩
  | 38 => ⟨S64x64x4x64, .f32⟩
  | 39 => ⟨S4096x256, .f32⟩
  | 40 => ⟨S_, .f32⟩
  | 41 => ⟨S4096x256, .f32⟩
  | 42 => ⟨S4096x256, .f32⟩
  | 43 => ⟨S_, .f32⟩
  | 44 => ⟨S4096x768, .f32⟩
  | 45 => ⟨S_, .f32⟩
  | 46 => ⟨S4096x128, .f32⟩
  | 47 => ⟨S4096x1664, .f32⟩
  | 48 => ⟨S4096x1664, .bf16⟩
  | 49 => ⟨S_, .f32⟩
  | 50 => ⟨S128x256, .f32⟩
  | 51 => ⟨S_, .f32⟩
  | 52 => ⟨S1x256, .f32⟩
  | 53 => ⟨S1x128, .f32⟩
  | _ => ⟨S4096x3200, .f32⟩

abbrev hbmTy (i : Nat) : BufTy := match i / 128 with
  | 0 => hbmTy0_0 i
  | 1 => hbmTy0_1 i
  | _ => ⟨S4096x3200, .f32⟩

abbrev bufTy : (tb : Table) → Fin (tcTables nBuf tb) → BufTy
  | .hbm, ⟨i, _⟩ => hbmTy i
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v27_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v27_1 : Ref sig .tc := ⟨.hbm, 50, rfl⟩
abbrev main_v27_0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_cst_8 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call2_v0 : Ref sig .tc := ⟨.hbm, 88, rfl⟩
abbrev main_call2_call0_cst : Ref sig .tc := ⟨.hbm, 89, rfl⟩
abbrev main_call2_call0_v0 : Ref sig .tc := ⟨.hbm, 90, rfl⟩
abbrev main_call2_call0_v1 : Ref sig .tc := ⟨.hbm, 91, rfl⟩
abbrev main_call2_call0_v2 : Ref sig .tc := ⟨.hbm, 92, rfl⟩
abbrev main_call2_call0_v3 : Ref sig .tc := ⟨.hbm, 93, rfl⟩
abbrev main_call2_call0_v4 : Ref sig .tc := ⟨.hbm, 94, rfl⟩
abbrev main_call2_call0_v5 : Ref sig .tc := ⟨.hbm, 95, rfl⟩
abbrev main_call2_call0_v6 : Ref sig .tc := ⟨.hbm, 96, rfl⟩
abbrev main_call2_call0_v7 : Ref sig .tc := ⟨.hbm, 97, rfl⟩
abbrev main_call2_call0_v8 : Ref sig .tc := ⟨.hbm, 98, rfl⟩
abbrev main_call2_call0_v9 : Ref sig .tc := ⟨.hbm, 99, rfl⟩
abbrev main_call2_call0_v10 : Ref sig .tc := ⟨.hbm, 100, rfl⟩
abbrev main_call2_call0_v11 : Ref sig .tc := ⟨.hbm, 101, rfl⟩
abbrev main_call2_v1 : Ref sig .tc := ⟨.hbm, 102, rfl⟩
abbrev main_v56 : Ref sig .tc := ⟨.hbm, 103, rfl⟩
abbrev main_cst_9 : Ref sig .tc := ⟨.hbm, 104, rfl⟩
abbrev main_v57 : Ref sig .tc := ⟨.hbm, 105, rfl⟩
abbrev main_v58 : Ref sig .tc := ⟨.hbm, 106, rfl⟩
abbrev main_cst_10 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_call3_call0_cst : Ref sig .tc := ⟨.hbm, 114, rfl⟩
abbrev main_call3_call0_v0 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_c : Ref sig .tc := ⟨.hbm, 127, rfl⟩
abbrev main_v76 : Ref sig .tc := ⟨.hbm, 128, rfl⟩
abbrev main_call4_v0 : Ref sig .tc := ⟨.hbm, 129, rfl⟩
abbrev main_call4_c : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_c_0 : Ref sig .tc := ⟨.hbm, 135, rfl⟩
abbrev main_call4_v5 : Ref sig .tc := ⟨.hbm, 136, rfl⟩
abbrev main_v77 : Ref sig .tc := ⟨.hbm, 137, rfl⟩
abbrev main_cst_11 : Ref sig .tc := ⟨.hbm, 138, rfl⟩
abbrev main_call5_v0 : Ref sig .tc := ⟨.hbm, 139, rfl⟩
abbrev main_v78_1 : Ref sig .tc := ⟨.hbm, 140, rfl⟩
abbrev main_call5_v2 : Ref sig .tc := ⟨.hbm, 141, rfl⟩
abbrev main_v78_0 : Ref sig .tc := ⟨.hbm, 142, rfl⟩
abbrev main_call5_cst : Ref sig .tc := ⟨.hbm, 143, rfl⟩
abbrev main_v78_2 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_call6_cst : Ref sig .tc := ⟨.hbm, 160, rfl⟩
abbrev main_call6_v0 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_cst_12 : Ref sig .tc := ⟨.hbm, 168, rfl⟩
abbrev main_v100 : Ref sig .tc := ⟨.hbm, 169, rfl⟩
abbrev main_v101 : Ref sig .tc := ⟨.hbm, 170, rfl⟩
abbrev main_cst_13 : Ref sig .tc := ⟨.hbm, 171, rfl⟩
abbrev main_v102 : Ref sig .tc := ⟨.hbm, 172, rfl⟩
abbrev main_cst_14 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_cst_15 : Ref sig .tc := ⟨.hbm, 177, rfl⟩
abbrev main_v106 : Ref sig .tc := ⟨.hbm, 178, rfl⟩
abbrev main_cst_16 : Ref sig .tc := ⟨.hbm, 179, rfl⟩
abbrev main_v107 : Ref sig .tc := ⟨.hbm, 180, rfl⟩
abbrev main_v108 : Ref sig .tc := ⟨.hbm, 181, rfl⟩

abbrev nD : Nat := 1
abbrev τ : Topo := Topo.v7x

variable {F : FTy → Type} [FloatOps F]
-- ==== Kernel2.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S4096x2x2816 : Shape := ⟨3, ![4096, 2, 2816]⟩
abbrev S2x4096x2816 : Shape := ⟨3, ![2, 4096, 2816]⟩
abbrev S3x2x2816 : Shape := ⟨3, ![3, 2, 2816]⟩
abbrev S2x3x2816 : Shape := ⟨3, ![2, 3, 2816]⟩
abbrev S2x1x2816 : Shape := ⟨3, ![2, 1, 2816]⟩
abbrev S2x8x2816 : Shape := ⟨3, ![2, 8, 2816]⟩
abbrev S2x512x256 : Shape := ⟨3, ![2, 512, 256]⟩
abbrev S2x16x256 : Shape := ⟨3, ![2, 16, 256]⟩
abbrev S512x256 : Shape := ⟨2, ![512, 256]⟩
abbrev S16x256 : Shape := ⟨2, ![16, 256]⟩
abbrev S2x3x256 : Shape := ⟨3, ![2, 3, 256]⟩
abbrev S2x1x256 : Shape := ⟨3, ![2, 1, 256]⟩
abbrev S2x8x256 : Shape := ⟨3, ![2, 8, 256]⟩
abbrev S1x16x256 : Shape := ⟨3, ![1, 16, 256]⟩
abbrev S1x512x256 : Shape := ⟨3, ![1, 512, 256]⟩
abbrev S544x256 : Shape := ⟨2, ![544, 256]⟩
abbrev S1x1x256 : Shape := ⟨3, ![1, 1, 256]⟩
abbrev S1x256 : Shape := ⟨2, ![1, 256]⟩
abbrev S8x1 : Shape := ⟨2, ![8, 1]⟩
abbrev S256 : Shape := ⟨1, ![256]⟩
abbrev S1x8x256 : Shape := ⟨3, ![1, 8, 256]⟩
abbrev S8x256 : Shape := ⟨2, ![8, 256]⟩

abbrev nBuf : Space → Nat
  | .hbm => 14
  | .vmem => 20
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S4096x2816, .f32⟩
  | .hbm, ⟨4, _⟩ => ⟨S4096x2x2816, .f32⟩
  | .hbm, ⟨5, _⟩ => ⟨S2x4096x2816, .f32⟩
  | .hbm, ⟨6, _⟩ => ⟨S2x4096x2816, .bf16⟩
  | .hbm, ⟨7, _⟩ => ⟨S4096x2816, .bf16⟩
  | .hbm, ⟨8, _⟩ => ⟨S3x2x2816, .f32⟩
  | .hbm, ⟨9, _⟩ => ⟨S2x3x2816, .f32⟩
  | .hbm, ⟨10, _⟩ => ⟨S2x1x2816, .f32⟩
  | .hbm, ⟨11, _⟩ => ⟨S2x4096x2816, .bf16⟩
  | .hbm, ⟨12, _⟩ => ⟨S2x8x2816, .f32⟩
  | .hbm, ⟨13, _⟩ => ⟨S2x1x2816, .f32⟩
  | .local _ .vmem, ⟨0, _⟩ => ⟨S2x512x256, .bf16⟩
  | .local _ .vmem, ⟨1, _⟩ => ⟨S2x512x256, .bf16⟩
  | .local _ .vmem, ⟨2, _⟩ => ⟨S2x16x256, .bf16⟩
  | .local _ .vmem, ⟨3, _⟩ => ⟨S2x16x256, .bf16⟩
  | .local _ .vmem, ⟨4, _⟩ => ⟨S2x16x256, .bf16⟩
  | .local _ .vmem, ⟨5, _⟩ => ⟨S2x16x256, .bf16⟩
  | .local _ .vmem, ⟨6, _⟩ => ⟨S512x256, .bf16⟩
  | .local _ .vmem, ⟨7, _⟩ => ⟨S512x256, .bf16⟩
  | .local _ .vmem, ⟨8, _⟩ => ⟨S16x256, .bf16⟩
  | .local _ .vmem, ⟨9, _⟩ => ⟨S16x256, .bf16⟩
  | .local _ .vmem, ⟨10, _⟩ => ⟨S2x3x256, .f32⟩
  | .local _ .vmem, ⟨11, _⟩ => ⟨S2x3x256, .f32⟩
  | .local _ .vmem, ⟨12, _⟩ => ⟨S2x1x256, .f32⟩
  | .local _ .vmem, ⟨13, _⟩ => ⟨S2x1x256, .f32⟩
  | .local _ .vmem, ⟨14, _⟩ => ⟨S2x512x256, .bf16⟩
  | .local _ .vmem, ⟨15, _⟩ => ⟨S2x512x256, .bf16⟩
  | .local _ .vmem, ⟨16, _⟩ => ⟨S2x8x256, .f32⟩
  | .local _ .vmem, ⟨17, _⟩ => ⟨S2x8x256, .f32⟩
  | .local _ .vmem, ⟨18, _⟩ => ⟨S2x1x256, .f32⟩
  | .local _ .vmem, ⟨19, _⟩ => ⟨S2x1x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel2Ideal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== Reference2Ideal.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2x2816 : Shape := ⟨3, ![4096, 2, 2816]⟩
abbrev S2x4096x2816 : Shape := ⟨3, ![2, 4096, 2816]⟩
abbrev S3x2x2816 : Shape := ⟨3, ![3, 2, 2816]⟩
abbrev S2x3x2816 : Shape := ⟨3, ![2, 3, 2816]⟩
abbrev S2x8x2816 : Shape := ⟨3, ![2, 8, 2816]⟩
abbrev S2x1x2816 : Shape := ⟨3, ![2, 1, 2816]⟩

abbrev nBuf : Space → Nat
  | .hbm => 120
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S4096x2816, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S_, .f32⟩
  | .hbm, ⟨8, _⟩ => ⟨S2x5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S_, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S_, .f32⟩
  | .hbm, ⟨58, _⟩ => ⟨S4096x2816, .f32⟩
  | .hbm, ⟨59, _⟩ => ⟨S4096x2816, .f32⟩
  | .hbm, ⟨60, _⟩ => ⟨S_, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S_, .f32⟩
  | .hbm, ⟨74, _⟩ => ⟨S5632, .f32⟩
  | .hbm, ⟨75, _⟩ => ⟨S4096x5632, .f32⟩
  | .hbm, ⟨76, _⟩ => ⟨S4096x5632, .f32⟩
  | .hbm, ⟨77, _⟩ => ⟨S4096x5632, .f32⟩
  | .hbm, ⟨78, _⟩ => ⟨S_, .f32⟩
  | .hbm, ⟨79, _⟩ => ⟨S5632, .f32⟩
  | .hbm, ⟨80, _⟩ => ⟨S1x5632, .f32⟩
  | .hbm, ⟨81, _⟩ => ⟨S_, .f32⟩
  | .hbm, ⟨82, _⟩ => ⟨S4098x5632, .f32⟩
  | .hbm, ⟨83, _⟩ => ⟨S_, .f32⟩
  | .hbm, ⟨84, _⟩ => ⟨S3x5632, .f32⟩
  | .hbm, ⟨85, _⟩ => ⟨S4096x5632, .f32⟩
  | .hbm, ⟨86, _⟩ => ⟨S4096x5632, .f32⟩
  | .hbm, ⟨87, _⟩ => ⟨S4096x5632, .f32⟩
  | .hbm, ⟨88, _⟩ => ⟨S_, .f32⟩
  | .hbm, ⟨89, _⟩ => ⟨S5632, .f32⟩
  | .hbm, ⟨90, _⟩ => ⟨S1x5632, .f32⟩
  | .hbm, ⟨91, _⟩ => ⟨S_, .f32⟩
  | .hbm, ⟨92, _⟩ => ⟨S4098x5632, .f32⟩
  | .hbm, ⟨93, _⟩ => ⟨S4098x5632, .f32⟩
  | .hbm, ⟨94, _⟩ => ⟨S_, .f32⟩
  | .hbm, ⟨95, _⟩ => ⟨S3x5632, .f32⟩
  | .hbm, ⟨96, _⟩ => ⟨S3x5632, .f32⟩
  | .hbm, ⟨97, _⟩ => ⟨S4096x5632, .f32⟩
  | .hbm, ⟨98, _⟩ => ⟨S4096x5632, .f32⟩
  | .hbm, ⟨99, _⟩ => ⟨S4096x5632, .f32⟩
  | .hbm, ⟨100, _⟩ => ⟨S_, .f32⟩
  | .hbm, ⟨101, _⟩ => ⟨S5632, .f32⟩
  | .hbm, ⟨102, _⟩ => ⟨S1x5632, .f32⟩
  | .hbm, ⟨103, _⟩ => ⟨S_, .f32⟩
  | .hbm, ⟨104, _⟩ => ⟨S4098x5632, .f32⟩
  | .hbm, ⟨105, _⟩ => ⟨S4098x5632, .f32⟩
  | .hbm, ⟨106, _⟩ => ⟨S_, .f32⟩
  | .hbm, ⟨107, _⟩ => ⟨S3x5632, .f32⟩
  | .hbm, ⟨108, _⟩ => ⟨S3x5632, .f32⟩
  | .hbm, ⟨109, _⟩ => ⟨S2x5632, .f32⟩
  | .hbm, ⟨110, _⟩ => ⟨S4096x5632, .f32⟩
  | .hbm, ⟨111, _⟩ => ⟨S4096x2x2816, .f32⟩
  | .hbm, ⟨112, _⟩ => ⟨S2x4096x2816, .f32⟩
  | .hbm, ⟨113, _⟩ => ⟨S2x4096x2816, .bf16⟩
  | .hbm, ⟨114, _⟩ => ⟨S3x2x2816, .f32⟩
  | .hbm, ⟨115, _⟩ => ⟨S2x3x2816, .f32⟩
  | .hbm, ⟨116, _⟩ => ⟨S_, .i32⟩
  | .hbm, ⟨117, _⟩ => ⟨S_, .f32⟩
  | .hbm, ⟨118, _⟩ => ⟨S2x8x2816, .f32⟩
  | .hbm, ⟨119, _⟩ => ⟨S2x1x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_15 : Ref sig .tc := ⟨.hbm, 88, rfl⟩
abbrev main_v68 : Ref sig .tc := ⟨.hbm, 89, rfl⟩
abbrev main_v69 : Ref sig .tc := ⟨.hbm, 90, rfl⟩
abbrev main_cst_16 : Ref sig .tc := ⟨.hbm, 91, rfl⟩
abbrev main_v70 : Ref sig .tc := ⟨.hbm, 92, rfl⟩
abbrev main_v71 : Ref sig .tc := ⟨.hbm, 93, rfl⟩
abbrev main_cst_17 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_cst_19 : Ref sig .tc := ⟨.hbm, 103, rfl⟩
abbrev main_v79 : Ref sig .tc := ⟨.hbm, 104, rfl⟩
abbrev main_v80 : Ref sig .tc := ⟨.hbm, 105, rfl⟩
abbrev main_cst_20 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c : Ref sig .tc := ⟨.hbm, 116, rfl⟩
abbrev main_call0_v0 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]
-- ==== Kernel3.lean ====
abbrev S4096x1024 : Shape := ⟨2, ![4096, 1024]⟩
abbrev S1024x5632 : Shape := ⟨2, ![1024, 5632]⟩
abbrev S1024 : Shape := ⟨1, ![1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S4096x2x2816 : Shape := ⟨3, ![4096, 2, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S1x1024 : Shape := ⟨2, ![1, 1024]⟩
abbrev S2x256x2816 : Shape := ⟨3, ![2, 256, 2816]⟩
abbrev S256x1024 : Shape := ⟨2, ![256, 1024]⟩
abbrev S256x1 : Shape := ⟨2, ![256, 1]⟩
abbrev S1x256x1408 : Shape := ⟨3, ![1, 256, 1408]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩

abbrev nBuf : Space → Nat
  | .hbm => 38
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024, .f32⟩
  | .hbm, ⟨3, _⟩ => ⟨S4096x5632, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2x2816, .f32⟩
  | .hbm, ⟨25, _⟩ => ⟨S2x4096x2816, .f32⟩
  | .hbm, ⟨26, _⟩ => ⟨S2x4096x2816, .bf16⟩
  | .hbm, ⟨27, _⟩ => ⟨S1024x4x1408, .f32⟩
  | .hbm, ⟨28, _⟩ => ⟨S4x1024x1408, .f32⟩
  | .hbm, ⟨29, _⟩ => ⟨S4x1024x1408, .bf16⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S1x1024, .f32⟩
  | .hbm, ⟨37, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x1024 : Shape := ⟨2, ![4096, 1024]⟩
abbrev S1024x5632 : Shape := ⟨2, ![1024, 5632]⟩
abbrev S1024 : Shape := ⟨1, ![1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024, .f32⟩
  | .hbm, ⟨3, _⟩ => ⟨S4096x5632, .f32⟩
  | .hbm, ⟨4, _⟩ => ⟨S4096x1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x5632, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S1x1024, .f32⟩
  | .hbm, ⟨97, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel4.lean ====
abbrev S2816x1024 : Shape := ⟨2, ![2816, 1024]⟩
abbrev S4096x1024 : Shape := ⟨2, ![4096, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S4096x1024, .bf16⟩
  | .hbm, ⟨3, _⟩ => ⟨S2816x1024, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S4x1024x1408 : Shape := ⟨3, ![4, 1024, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x2x2816, .f32⟩
  | .hbm, ⟨4, _⟩ => ⟨S2x4096x2816, .f32⟩
  | .hbm, ⟨5, _⟩ => ⟨S2x4096x2816, .bf16⟩
  | .hbm, ⟨6, _⟩ => ⟨S4x1024x1408, .f32⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .f32⟩
  | .local _ .vmem, ⟨5, _⟩ => ⟨S1x512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x512 : Shape := ⟨2, ![4096, 512]⟩
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x512, .bf16⟩
  | .hbm, ⟨4, _⟩ => ⟨S4096x512, .bf16⟩
  | .hbm, ⟨5, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_6 : BitVec 32 := 0#32
  let v10 : BitVec 1 := Scalar.cmpi .ne v9 c0_i32_6
  v10

def k0_cond2 (i : grid0.Coords) : BitVec 1 :=
  let arg0 : BitVec 32 := BitVec.ofNat 32 (i 0).val
  let c0_i32_7 : BitVec 32 := 0#32
  let v11 : BitVec 1 := Scalar.cmpi .sgt arg0 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference6Ideal.lean ====
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S4096x512 : Shape := ⟨2, ![4096, 512]⟩
abbrev S4096x1664 : Shape := ⟨2, ![4096, 1664]⟩
abbrev S1024x3200 : Shape := ⟨2, ![1024, 3200]⟩
abbrev S1024x512 : Shape := ⟨2, ![1024, 512]⟩
abbrev S1024x1664 : Shape := ⟨2, ![1024, 1664]⟩
abbrev S512x3200 : Shape := ⟨2, ![512, 3200]⟩
abbrev S512x512 : Shape := ⟨2, ![512, 512]⟩
abbrev S512x1664 : Shape := ⟨2, ![512, 1664]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1664, .f32⟩
  | .hbm, ⟨5, _⟩ => ⟨S4096x512, .bf16⟩
  | .hbm, ⟨6, _⟩ => ⟨S4096x1664, .bf16⟩
  | .hbm, ⟨7, _⟩ => ⟨S1024x3200, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1664, .bf16⟩
  | .local _ .vmem, ⟨9, _⟩ => ⟨S1024x1664, .bf16⟩
  | .local _ .vmem, ⟨10, _⟩ => ⟨S512x3200, .f32⟩
  | .local _ .vmem, ⟨11, _⟩ => ⟨S512x3200, .f32⟩
  | .local _ .vmem, ⟨12, _⟩ => ⟨S512x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32_6 : BitVec 32 := 3#32
  let v13 : BitVec 1 := Scalar.cmpi .eq arg1 c3_i32_6
  let v14 : BitVec 32 := Scalar.extui v13
  let c0_i32_7 : BitVec 32 := 0#32
  let v15 : BitVec 1 := Scalar.cmpi .ne v14 c0_i32_7
  v15

def k0_cond6 (i : grid0.Coords) : BitVec 1 :=
  let arg1 : BitVec 32 := BitVec.ofNat 32 (i 1).val
  let c3_i32_16 : BitVec 32 := 3#32
  let v27 : BitVec 1 := Scalar.cmpi .eq arg1 c3_i32_16
  let v28 : BitVec 32 := Scalar.extui v27
  let c0_i32_17 : BitVec 32 := 0#32
  let v29 : BitVec 1 := Scalar.cmpi .ne v28 c0_i32_17
  v29

def k0_cond9 (i : grid0.Coords) : BitVec 1 :=
  let arg1 : BitVec 32 := BitVec.ofNat 32 (i 1).val
  let c3_i32_26 : BitVec 32 := 3#32
  let v41 : BitVec 1 := Scalar.cmpi .eq arg1 c3_i32_26
  let v42 : BitVec 32 := Scalar.extui v41
  let c0_i32_27 : BitVec 32 := 0#32
  let v43 : BitVec 1 := Scalar.cmpi .ne v42 c0_i32_27
  v43

def k0_cond12 (i : grid0.Coords) : BitVec 1 :=
  let arg1 : BitVec 32 := BitVec.ofNat 32 (i 1).val
  let c3_i32_36 : BitVec 32 := 3#32
  let v55 : BitVec 1 := Scalar.cmpi .eq arg1 c3_i32_36
  let v56 : BitVec 32 := Scalar.extui v55
  let c0_i32_37 : BitVec 32 := 0#32
  let v57 : BitVec 1 := Scalar.cmpi .ne v56 c0_i32_37
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1664 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S4096x1024 : Shape := ⟨2, ![4096, 1024]⟩
abbrev S4096x512 : Shape := ⟨2, ![4096, 512]⟩
abbrev S4096x1664 : Shape := ⟨2, ![4096, 1664]⟩
abbrev S_ : Shape := ⟨0, ![]⟩
abbrev S1024x3200 : Shape := ⟨2, ![1024, 3200]⟩
abbrev S4096x3200 : Shape := ⟨2, ![4096, 3200]⟩
abbrev S3200x1024 : Shape := ⟨2, ![3200, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1664, .f32⟩
  | .hbm, ⟨5, _⟩ => ⟨S_, .f32⟩
  | .hbm, ⟨6, _⟩ => ⟨S1024x3200, .f32⟩
  | .hbm, ⟨7, _⟩ => ⟨S4096x3200, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x1664, .f32⟩
  | .hbm, ⟨12, _⟩ => ⟨S4096x3200, .f32⟩
  | .hbm, ⟨13, _⟩ => ⟨S3200x1024, .f32⟩
  | .hbm, ⟨14, _⟩ => ⟨S1024x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel8.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 42
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x2816, .bf16⟩
  | .hbm, ⟨32, _⟩ => ⟨S2816x1024, .bf16⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S4096x1024, .f32⟩
  | .hbm, ⟨38, _⟩ => ⟨S4096x1024, .bf16⟩
  | .hbm, ⟨39, _⟩ => ⟨S1x1, .f32⟩
  | .hbm, ⟨40, _⟩ => ⟨S1x1024, .f32⟩
  | .hbm, ⟨41, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1, .f32⟩
  | .local _ .vmem, ⟨16, _⟩ => ⟨S1x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v24_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference9Ideal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S4096x1024, .f32⟩
  | 1 => ⟨S4096x2816, .f32⟩
  | 2 => ⟨S2816x1024, .f32⟩
  | 3 => ⟨S1024, .f32⟩
  | 4 => ⟨S1024, .f32⟩
  | 5 => ⟨S1024, .f32⟩
  | 6 => ⟨S1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S_, .f32⟩
  | 26 => ⟨S4096x1, .f32⟩
  | 27 => ⟨S4096x1, .f32⟩
  | 28 => ⟨S4096x1, .f32⟩
  | 29 => ⟨S4096x1024, .f32⟩
  | 30 => ⟨S4096x1024, .f32⟩
  | 31 => ⟨S1x1024, .f32⟩
  | 32 => ⟨S4096x1024, .f32⟩
  | 33 => ⟨S4096x1024, .f32⟩
  | 34 => ⟨S1x1024, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S4096x1024, .f32⟩
  | 61 => ⟨S4096x1024, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S1x1024, .f32⟩
  | 73 => ⟨S4096x1024, .f32⟩
  | 74 => ⟨S4096x1024, .f32⟩
  | 75 => ⟨S1x1024, .f32⟩
  | 76 => ⟨S4096x1024, .f32⟩
  | 77 => ⟨S4096x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096, .f32⟩
  | 85 => ⟨S_, .f32⟩
  | 86 => ⟨S4096, .f32⟩
  | 87 => ⟨S4096, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S4096, .f32⟩
  | 96 => ⟨S_, .f32⟩
  | 97 => ⟨S4096, .f32⟩
  | 98 => ⟨S4096, .f32⟩
  | 99 => ⟨S4096x1024, .f32⟩
  | 100 => ⟨S4096x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S4096x1024, .f32⟩
  | 107 => ⟨S_, .f32⟩
  | 108 => ⟨S1024, .f32⟩
  | 109 => ⟨S1x1024, .f32⟩
  | 110 => ⟨S4096x1024, .f32⟩
  | 111 => ⟨S4096x1024, .f32⟩
  | 112 => ⟨S_, .f32⟩
  | 113 => ⟨S1024, .f32⟩
  | 114 => ⟨S4096x1024, .f32⟩
  | 115 => ⟨S_, .f32⟩
  | 116 => ⟨S4096, .f32⟩
  | 117 => ⟨S4096x1, .f32⟩
  | 118 => ⟨S4096x1024, .f32⟩
  | 119 => ⟨S4096x1024, .f32⟩
  | 120 => ⟨S4096x1, .f32⟩
  | 121 => ⟨S4096x1024, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096, .f32⟩
  | 2 => ⟨S4096x1024, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S4096x1024, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x1024, .f32⟩
  | 16 => ⟨S4096x1024, .f32⟩
  | 17 => ⟨S4096x1024, .bf16⟩
  | 18 => ⟨S1x1, .f32⟩
  | 19 => ⟨S1x1024, .f32⟩
  | 20 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_cst_17 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_cst_19 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_20 : Ref sig .tc := ⟨.hbm, 101, rfl⟩
abbrev main_v72 : Ref sig .tc := ⟨.hbm, 102, rfl⟩
abbrev main_v73 : Ref sig .tc := ⟨.hbm, 103, rfl⟩
abbrev main_cst_21 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_cst_24 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_25 : Ref sig .tc := ⟨.hbm, 122, rfl⟩
abbrev main_v88 : Ref sig .tc := ⟨.hbm, 123, rfl⟩
abbrev main_v89 : Ref sig .tc := ⟨.hbm, 124, rfl⟩
abbrev main_cst_26 : Ref sig .tc := ⟨.hbm, 125, rfl⟩
abbrev main_v90 : Ref sig .tc := ⟨.hbm, 126, rfl⟩
abbrev main_v91 : Ref sig .tc := ⟨.hbm, 127, rfl⟩
abbrev main_cst_27 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_28 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_29 : Ref sig .tc := ⟨.hbm, 138, rfl⟩
abbrev main_v100 : Ref sig .tc := ⟨.hbm, 139, rfl⟩
abbrev main_v101 : Ref sig .tc := ⟨.hbm, 140, rfl⟩
abbrev main_cst_30 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩

abbrev nD : Nat := 1
abbrev τ : Topo := Topo.v7x

variable {F : FTy → Type} [FloatOps F]
-- ==== Kernel10.lean ====
abbrev S4096x512 : Shape := ⟨2, ![4096, 512]⟩
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4096x1 : Shape := ⟨2, ![4096, 1]⟩
abbrev S256x512 : Shape := ⟨2, ![256, 512]⟩
abbrev S256x1024 : Shape := ⟨2, ![256, 1024]⟩
abbrev S256x1 : Shape := ⟨2, ![256, 1]⟩
abbrev S512x1024 : Shape := ⟨2, ![512, 1024]⟩
abbrev S256 : Shape := ⟨1, ![256]⟩

abbrev nBuf : Space → Nat
  | .hbm => 14
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4096x512, .bf16⟩
  | .hbm, ⟨7, _⟩ => ⟨S4096x512, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1, .f32⟩
  | .hbm, ⟨13, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1, .f32⟩
  | .local _ .vmem, ⟨12, _⟩ => ⟨S256x1, .f32⟩
  | .local _ .vmem, ⟨13, _⟩ => ⟨S256x1024, .bf16⟩
  | .local _ .vmem, ⟨14, _⟩ => ⟨S256x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4096x512 : Shape := ⟨2, ![4096, 512]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel11.lean ====
abbrev S4096x5632 : Shape := ⟨2, ![4096, 5632]⟩
abbrev S3x5632 : Shape := ⟨2, ![3, 5632]⟩
abbrev S5632 : Shape := ⟨1, ![5632]⟩
abbrev S4096x2x2816 : Shape := ⟨3, ![4096, 2, 2816]⟩
abbrev S2x4096x2816 : Shape := ⟨3, ![2, 4096, 2816]⟩
abbrev S3x2x2816 : Shape := ⟨3, ![3, 2, 2816]⟩
abbrev S2x3x2816 : Shape := ⟨3, ![2, 3, 2816]⟩
abbrev S2x1x2816 : Shape := ⟨3, ![2, 1, 2816]⟩
abbrev S4096x2816 : Shape := ⟨2, ![4096, 2816]⟩
abbrev S2x1024x256 : Shape := ⟨3, ![2, 1024, 256]⟩
abbrev S2x16x256 : Shape := ⟨3, ![2, 16, 256]⟩
abbrev S2x3x256 : Shape := ⟨3, ![2, 3, 256]⟩
abbrev S2x1x256 : Shape := ⟨3, ![2, 1, 256]⟩
abbrev S1024x256 : Shape := ⟨2, ![1024, 256]⟩
abbrev S1x16x256 : Shape := ⟨3, ![1, 16, 256]⟩
abbrev S16x256 : Shape := ⟨2, ![16, 256]⟩
abbrev S1x1024x256 : Shape := ⟨3, ![1, 1024, 256]⟩
abbrev S1040x256 : Shape := ⟨2, ![1040, 256]⟩
abbrev S1x1x256 : Shape := ⟨3, ![1, 1, 256]⟩
abbrev S1x256 : Shape := ⟨2, ![1, 256]⟩

abbrev nBuf : Space → Nat
  | .hbm => 10
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S4096x2x2816, .f32⟩
  | .hbm, ⟨4, _⟩ => ⟨S2x4096x2816, .f32⟩
  | .hbm, ⟨5, _⟩ => ⟨S2x4096x2816, .bf16⟩
  | .hbm, ⟨6, _⟩ => ⟨S3x2x2816, .f32⟩
  | .hbm, ⟨7, _⟩ => ⟨S2x3x2816, .f32⟩
  | .hbm, ⟨8, _⟩ => ⟨S2x1x2816, .f32⟩
  | .hbm, ⟨9, _⟩ => ⟨S4096x2816, .bf16⟩
  | .local _ .vmem, ⟨0, _⟩ => ⟨S2x1024x256, .bf16⟩
  | .local _ .vmem, ⟨1, _⟩ => ⟨S2x1024x256, .bf16⟩
  | .local _ .vmem, ⟨2, _⟩ => ⟨S2x16x256, .bf16⟩
  | .local _ .vmem, ⟨3, _⟩ => ⟨S2x16x256, .bf16⟩
  | .local _ .vmem, ⟨4, _⟩ => ⟨S2x3x256, .f32⟩
  | .local _ .vmem, ⟨5, _⟩ => ⟨S2x3x256, .f32⟩
  | .local _ .vmem, ⟨6, _⟩ => ⟨S2x1x256, .f32⟩
  | .local _ .vmem, ⟨7, _⟩ => ⟨S2x1x256, .f32⟩
  | .local _ .vmem, ⟨8, _⟩ => ⟨S1024x256, .bf16⟩
  | .local _ .vmem, ⟨9, _⟩ => ⟨S1024x256, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel11Ideal.lean ====
variable {F : FTy → Type} [FloatOps F] [Named F]
def κ : String → Option EReal := fun
  | "inv_sqrt2" => some (((Real.sqrt 2)⁻¹ : ℝ) : EReal)
  | _ => none
-- ==== Reference11Ideal.lean ====
abbrev S4096x5632 : Shape := ⟨2, ![4096, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S2x5632, .f32⟩
  | .hbm, ⟨5, _⟩ => ⟨S4098x5632, .f32⟩
  | .hbm, ⟨6, _⟩ => ⟨S1x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel12.lean ====
abbrev S1024x772 : Shape := ⟨2, ![1024, 772]⟩
abbrev S772x1024 : Shape := ⟨2, ![772, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S772x1024, .f32⟩
  | .hbm, ⟨5, _⟩ => ⟨S772x1024, .f32⟩
  | .hbm, ⟨6, _⟩ => ⟨S772x1024, .f32⟩
  | .hbm, ⟨7, _⟩ => ⟨S772x1024, .f32⟩
  | .hbm, ⟨8, _⟩ => ⟨S772x1024, .f32⟩
  | .hbm, ⟨9, _⟩ => ⟨S772x1024, .f32⟩
  | .hbm, ⟨10, _⟩ => ⟨S772x1024, .f32⟩
  | .local _ .vmem, ⟨0, _⟩ => ⟨S772x1024, .f32⟩
  | .local _ .vmem, ⟨1, _⟩ => ⟨S772x1024, .f32⟩
  | .local _ .vmem, ⟨2, _⟩ => ⟨S772x1024, .f32⟩
  | .local _ .vmem, ⟨3, _⟩ => ⟨S772x1024, .f32⟩
  | .local _ .vmem, ⟨4, _⟩ => ⟨S772x1024, .f32⟩
  | .local _ .vmem, ⟨5, _⟩ => ⟨S772x1024, .f32⟩
  | .local _ .vmem, ⟨6, _⟩ => ⟨S772x1024, .f32⟩
  | _, _ => ⟨S1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S772x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S772x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S772x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S772x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S772x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S772x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S772x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel12Ideal.lean ====
variable {F : FTy → Type} [FloatOps F] [Named F]
def κ : String → Option EReal := fun
  | "bias1" => some (((5463681 / 8388608)⁻¹ : ℝ) : EReal)
  | "bias2" => some (((2672307 / 268435456)⁻¹ : ℝ) : EReal)
  | _ => none
-- ==== Reference12Ideal.lean ====
abbrev S1024x772 : Shape := ⟨2, ![1024, 772]⟩
abbrev S_ : Shape := ⟨0, ![]⟩
abbrev S772x1024 : Shape := ⟨2, ![772, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S_, .f32⟩
  | .hbm, ⟨5, _⟩ => ⟨S1024x772, .f32⟩
  | .hbm, ⟨6, _⟩ => ⟨S1024x772, .f32⟩
  | .hbm, ⟨7, _⟩ => ⟨S_, .f32⟩
  | .hbm, ⟨8, _⟩ => ⟨S1024x772, .f32⟩
  | .hbm, ⟨9, _⟩ => ⟨S1024x772, .f32⟩
  | .hbm, ⟨10, _⟩ => ⟨S1024x772, .f32⟩
  | .hbm, ⟨11, _⟩ => ⟨S_, .f32⟩
  | .hbm, ⟨12, _⟩ => ⟨S1024x772, .f32⟩
  | .hbm, ⟨13, _⟩ => ⟨S1024x772, .f32⟩
  | .hbm, ⟨14, _⟩ => ⟨S1024x772, .f32⟩
  | .hbm, ⟨15, _⟩ => ⟨S_, .f32⟩
  | .hbm, ⟨16, _⟩ => ⟨S1024x772, .f32⟩
  | .hbm, ⟨17, _⟩ => ⟨S1024x772, .f32⟩
  | .hbm, ⟨18, _⟩ => ⟨S1024x772, .f32⟩
  | .hbm, ⟨19, _⟩ => ⟨S_, .f32⟩
  | .hbm, ⟨20, _⟩ => ⟨S1024x772, .f32⟩
  | .hbm, ⟨21, _⟩ => ⟨S1024x772, .f32⟩
  | .hbm, ⟨22, _⟩ => ⟨S_, .f32⟩
  | .hbm, ⟨23, _⟩ => ⟨S1024x772, .f32⟩
  | .hbm, ⟨24, _⟩ => ⟨S1024x772, .f32⟩
  | .hbm, ⟨25, _⟩ => ⟨S1024x772, .f32⟩
  | .hbm, ⟨26, _⟩ => ⟨S_, .f32⟩
  | .hbm, ⟨27, _⟩ => ⟨S1024x772, .f32⟩
  | .hbm, ⟨28, _⟩ => ⟨S1024x772, .f32⟩
  | .hbm, ⟨29, _⟩ => ⟨S1024x772, .f32⟩
  | .hbm, ⟨30, _⟩ => ⟨S_, .f32⟩
  | .hbm, ⟨31, _⟩ => ⟨S1024x772, .f32⟩
  | .hbm, ⟨32, _⟩ => ⟨S1024x772, .f32⟩
  | .hbm, ⟨33, _⟩ => ⟨S1024x772, .f32⟩
  | .hbm, ⟨34, _⟩ => ⟨S_, .f32⟩
  | .hbm, ⟨35, _⟩ => ⟨S1024x772, .f32⟩
  | .hbm, ⟨36, _⟩ => ⟨S1024x772, .f32⟩
  | .hbm, ⟨37, _⟩ => ⟨S772x1024, .f32⟩
  | .hbm, ⟨38, _⟩ => ⟨S772x1024, .f32⟩
  | .hbm, ⟨39, _⟩ => ⟨S772x1024, .f32⟩
  | _, _ => ⟨S1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13Ideal.lean ====
variable {F : FTy → Type} [FloatOps F] [Named F]
def κ : String → Option EReal := fun
  | "bias1" => some (((5463681 / 8388608)⁻¹ : ℝ) : EReal)
  | "bias2" => some (((2672307 / 268435456)⁻¹ : ℝ) : EReal)
  | _ => none
-- ==== Reference13Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
variable {F : FTy → Type} [FloatOps F] [Named F]
def κ : String → Option EReal := fun
  | "bias1" => some (((5463681 / 8388608)⁻¹ : ℝ) : EReal)
  | "bias2" => some (((2672307 / 268435456)⁻¹ : ℝ) : EReal)
  | _ => none
-- ==== Reference14Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel15Ideal.lean ====
variable {F : FTy → Type} [FloatOps F] [Named F]
def κ : String → Option EReal := fun
  | "bias1" => some (((5463681 / 8388608)⁻¹ : ℝ) : EReal)
  | "bias2" => some (((2672307 / 268435456)⁻¹ : ℝ) : EReal)
  | _ => none
-- ==== Reference15Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.ConvSpec.lean ====
/- The backward pass of the convolution and its gate, written once as plain functions of the four arrays: what both the
   kernel and the reference are shown to compute. -/
module

public import Idealize.ShloMosaic.PureOps.Ideal
public import Idealize.ShloMosaic.Lib.Pointwise

@[expose] public section

noncomputable section

namespace Cert.Conv

open Idealize.ShloMosaic

/-- Column `k` of half `g` (0: the gated half, 1: the linear half) of the 5632 columns. -/
def col (g : Fin 2) (k : Fin 2816) : Fin 5632 := ⟨g.val * 2816 + k.val, by omega⟩

variable (x : Fin 4096 → Fin 5632 → EReal) (w : Fin 3 → Fin 5632 → EReal) (b : Fin 5632 → EReal)
  (d : Fin 4096 → Fin 2816 → EReal)

/-- The rows of `x` behind two rows of zeros (and zeros again past the end). -/
def past (n : ℕ) (j : Fin 5632) : EReal := if h : 2 ≤ n ∧ n < 4098 then x ⟨n - 2, by omega⟩ j else 0

/-- The convolution of three taps, at row `n`. -/
def u (n : ℕ) (j : Fin 5632) : EReal :=
  w 0 j * past x n j + w 1 j * past x (n + 1) j + w 2 j * past x (n + 2) j + b j

/-- The normal distribution function. -/
def cdf (a : EReal) : EReal :=
  Ideal.ofBits .f32 0x3F000000#32 * (1 + Ideal.erf (a * (((Real.sqrt 2)⁻¹ : ℝ) : EReal)))

/-- The normal density. -/
def pdf (a : EReal) : EReal :=
  Ideal.exp (Ideal.ofBits .f32 0xBF000000#32 * (a * a)) * (((Real.sqrt (2 * Real.pi))⁻¹ : ℝ) : EReal)

/-- The gradient of the convolution's output at row `n`, zero past the last row. -/
def du (n : ℕ) (g : Fin 2) (k : Fin 2816) : EReal :=
  if h : n < 4096 then
    (if g = 0 then
      d ⟨n, h⟩ k * u x w b n (col 1 k)
        * (cdf (u x w b n (col 0 k)) + u x w b n (col 0 k) * pdf (u x w b n (col 0 k)))
    else d ⟨n, h⟩ k * (u x w b n (col 0 k) * cdf (u x w b n (col 0 k))))
  else 0

/-- The gradient of `x`. -/
def dx (n : ℕ) (g : Fin 2) (k : Fin 2816) : EReal :=
  w 2 (col g k) * du x w b d n g k + w 1 (col g k) * du x w b d (n + 1) g k + w 0 (col g k) * du x w b d (n + 2) g k

/-- The gradient of tap `q`. -/
def dw (q : ℕ) (g : Fin 2) (k : Fin 2816) : EReal :=
  ∑ n : Fin 4096, du x w b d n.val g k * past x (n.val + q) (col g k)

/-- The gradient of the bias. -/
def db (g : Fin 2) (k : Fin 2816) : EReal := ∑ n : Fin 4096, du x w b d n.val g k

end Cert.Conv

end
-- ==== Proof.ConvTile.lean ====
/- The values of the convolution's backward kernel on one tile of 544 rows: sixteen rows before a block of 512, the block,
   and sixteen after it. -/
module

public import proofs.«01_k».proof.Proof.ConvSpec
public import proofs.«01_k».proof.Proof.Gen.Kernel2Ideal.Skeleton

@[expose] public section

set_option maxRecDepth 16384

noncomputable section

namespace Cert.Kernel2Ideal.Conv

open Idealize.ShloMosaic Cert.Kernel2Ideal Cert.Kernel2Ideal.Gen Cert.Conv

variable (X : Fin 4096 → Fin 5632 → EReal) (W : Fin 3 → Fin 5632 → EReal) (B : Fin 5632 → EReal)
  (D : Fin 4096 → Fin 2816 → EReal) (rb : ℕ) (cs : Fin 256 → Fin 2816)

/-- A tile holds the input of row block `rb` and half `g`: row `r` of the tile is row `512 rb + r - 16` of the array,
    and the two rows before the first are zero. -/
def IsX (g : Fin 2) (T : FVec Ideal S544x256 .f32) : Prop :=
  ∀ (r : Fin 544) (s : Fin 256), 14 ≤ r.val → 512 * rb + r.val < 4112 →
    T (ix2 r s) = past X (512 * rb + r.val - 14) (col g (cs s))

/-- A tile holds the convolution of half `g`. -/
def IsU (g : Fin 2) (T : FVec Ideal S544x256 .f32) : Prop :=
  ∀ (r : Fin 544) (s : Fin 256), 16 ≤ r.val → 512 * rb + r.val < 4112 →
    T (ix2 r s) = u X W B (512 * rb + r.val - 16) (col g (cs s))

/-- A tile holds the gradient of the convolution's half `g`, which is zero past the last row. -/
def IsDu (g : Fin 2) (T : FVec Ideal S544x256 .f32) : Prop :=
  ∀ (r : Fin 544) (s : Fin 256), 16 ≤ r.val →
    T (ix2 r s) = du X W B D (512 * rb + r.val - 16) g (cs s)

/-- What the loads of the rows before, in and after the block hold. -/
def HPrev (g : Fin 2) (v : Vec Ideal S1x16x256 .bf16) : Prop :=
  0 < rb → ∀ (r : Fin 16) (s : Fin 256), v (ix3 0 r s) = past X (512 * rb + r.val - 14) (col g (cs s))
def HMid (g : Fin 2) (v : Vec Ideal S1x512x256 .bf16) : Prop :=
  ∀ (r : Fin 512) (s : Fin 256), v (ix3 0 r s) = past X (512 * rb + r.val + 2) (col g (cs s))
def HNext (g : Fin 2) (v : Vec Ideal S1x16x256 .bf16) : Prop :=
  rb < 7 → ∀ (r : Fin 16) (s : Fin 256), v (ix3 0 r s) = past X (512 * rb + r.val + 514) (col g (cs s))
def HDMid (v : Vec Ideal S512x256 .bf16) : Prop :=
  ∀ (r : Fin 512) (s : Fin 256) (h : 512 * rb + r.val < 4096), v (ix2 r s) = D ⟨512 * rb + r.val, h⟩ (cs s)
def HDNext (v : Vec Ideal S16x256 .bf16) : Prop :=
  ∀ (r : Fin 16) (s : Fin 256) (h : 512 * rb + r.val + 512 < 4096), v (ix2 r s) = D ⟨512 * rb + r.val + 512, h⟩ (cs s)
/-- What a load of one tap's row, or of the bias, holds. -/
def HRow (g : Fin 2) (f : Fin 5632 → EReal) (v : Vec Ideal S1x1x256 .f32) : Prop :=
  ∀ s : Fin 256, v (ix3 0 0 s) = f (col g (cs s))

theorem tile_x (g : Fin 2) (f : EReal) (hf : f = if rb = 0 then 0 else 1) (v9 : Vec Ideal S1x16x256 .bf16) (v14 : Vec Ideal S1x512x256 .bf16)
    (v17 : Vec Ideal S1x16x256 .bf16) (h9 : HPrev X rb cs g v9) (h14 : HMid X rb cs g v14) (h17 : HNext X rb cs g v17)
    (r : Fin 544) (s : Fin 256) (hr : 14 ≤ r.val) (hlt : 512 * rb + r.val < 4112) :
    (if h : r.val < 16 then v9 (ix3 0 ⟨r.val, h⟩ s) * f
      else if h : r.val - 16 < 512 then v14 (ix3 0 ⟨r.val - 16, h⟩ s) else v17 (ix3 0 ⟨r.val - 16 - 512, by omega⟩ s) : EReal)
    = past X (512 * rb + r.val - 14) (col g (cs s)) := by
  by_cases h : r.val < 16
  · rw [dif_pos h]
    by_cases h0 : rb = 0
    · rw [hf, if_pos h0, mul_zero, past, dif_neg (by omega)]
    · rw [hf, if_neg h0, mul_one, h9 (by omega)]
  · rw [dif_neg h]
    by_cases h1 : r.val - 16 < 512
    · rw [dif_pos h1, h14]
      congr 1
      show 512 * rb + (r.val - 16) + 2 = _
      omega
    · rw [dif_neg h1, h17 (by omega)]
      congr 1
      show 512 * rb + (r.val - 16 - 512) + 514 = _
      omega

theorem isX_pay7 (g : Fin 2) (i : grid0.Coords) (hf : k0_pay5 (F := Ideal) i = if rb = 0 then (0 : EReal) else 1) (v9 : Vec Ideal S1x16x256 .bf16) (v14 : Vec Ideal S1x512x256 .bf16)
    (v17 : Vec Ideal S1x16x256 .bf16) (h9 : HPrev X rb cs g v9) (h14 : HMid X rb cs g v14) (h17 : HNext X rb cs g v17) :
    IsX X rb cs g (k0_pay7 i v9 v14 v17) := by
  intro r s hr hlt
  rw [← tile_x X rb cs g _ hf v9 v14 v17 h9 h14 h17 r s hr hlt]
  pointwise [k0_pay7]

theorem isX_pay12 (g : Fin 2) (f : Ideal .f32) (hf : f = if rb = 0 then (0 : EReal) else 1) (v9 : Vec Ideal S1x16x256 .bf16) (v14 : Vec Ideal S1x512x256 .bf16)
    (v17 : Vec Ideal S1x16x256 .bf16) (h9 : HPrev X rb cs g v9) (h14 : HMid X rb cs g v14) (h17 : HNext X rb cs g v17) :
    IsX X rb cs g (k0_pay12 f v9 v14 v17) := by
  intro r s hr hlt
  rw [← tile_x X rb cs g _ hf v9 v14 v17 h9 h14 h17 r s hr hlt]
  pointwise [k0_pay12]

/-- The rotations: row `r` becomes row `r - 1`, `r - 2`, and, by 543 and 542 of 544 rows, `r + 1` and `r + 2`. -/
theorem rot_1 (T : FVec Ideal S544x256 .f32) (r : Fin 544) (s : Fin 256) (h : 1 ≤ r.val) :
    dynamicRotate 0 1#32 none T rotates_S544x256_d0 (ix2 r s) = T (ix2 ⟨r.val - 1, by omega⟩ s) := by
  pointwise
  congr 2
  apply Fin.ext
  show (r.val + 544 - 1) % 544 = r.val - 1
  omega
theorem rot_2 (T : FVec Ideal S544x256 .f32) (r : Fin 544) (s : Fin 256) (h : 2 ≤ r.val) :
    dynamicRotate 0 2#32 none T rotates_S544x256_d0 (ix2 r s) = T (ix2 ⟨r.val - 2, by omega⟩ s) := by
  pointwise
  congr 2
  apply Fin.ext
  show (r.val + 544 - 2) % 544 = r.val - 2
  omega
theorem rot_543 (T : FVec Ideal S544x256 .f32) (r : Fin 544) (s : Fin 256) (h : r.val + 1 < 544) :
    dynamicRotate 0 543#32 none T rotates_S544x256_d0 (ix2 r s) = T (ix2 ⟨r.val + 1, h⟩ s) := by
  pointwise
  congr 2
  apply Fin.ext
  show (r.val + 544 - 543) % 544 = r.val + 1
  omega
theorem rot_542 (T : FVec Ideal S544x256 .f32) (r : Fin 544) (s : Fin 256) (h : r.val + 2 < 544) :
    dynamicRotate 0 542#32 none T rotates_S544x256_d0 (ix2 r s) = T (ix2 ⟨r.val + 2, h⟩ s) := by
  pointwise
  congr 2
  apply Fin.ext
  show (r.val + 544 - 542) % 544 = r.val + 2
  omega

/-- A tile of the input rotated by one and two rows, at the rows the convolution is read at. -/
theorem isX_rot_1 (g : Fin 2) (T : FVec Ideal S544x256 .f32) (hT : IsX X rb cs g T) (r : Fin 544) (s : Fin 256) (hr : 16 ≤ r.val)
    (hlt : 512 * rb + r.val < 4112) :
    dynamicRotate 0 1#32 none T rotates_S544x256_d0 (ix2 r s) = past X (512 * rb + r.val - 16 + 1) (col g (cs s)) := by
  rw [rot_1 _ _ _ (by omega), hT _ _ (by show 14 ≤ r.val - 1; omega) (by show 512 * rb + (r.val - 1) < _; omega)]
  congr 1
  show 512 * rb + (r.val - 1) - 14 = _
  omega
theorem isX_rot_2 (g : Fin 2) (T : FVec Ideal S544x256 .f32) (hT : IsX X rb cs g T) (r : Fin 544) (s : Fin 256) (hr : 16 ≤ r.val)
    (hlt : 512 * rb + r.val < 4112) :
    dynamicRotate 0 2#32 none T rotates_S544x256_d0 (ix2 r s) = past X (512 * rb + r.val - 16) (col g (cs s)) := by
  rw [rot_2 _ _ _ (by omega), hT _ _ (by show 14 ≤ r.val - 2; omega) (by show 512 * rb + (r.val - 2) < _; omega)]
  congr 1
  show 512 * rb + (r.val - 2) - 14 = _
  omega
theorem isX_rot_0 (g : Fin 2) (T : FVec Ideal S544x256 .f32) (hT : IsX X rb cs g T) (r : Fin 544) (s : Fin 256) (hr : 16 ≤ r.val)
    (hlt : 512 * rb + r.val < 4112) :
    T (ix2 r s) = past X (512 * rb + r.val - 16 + 2) (col g (cs s)) := by
  rw [hT _ _ (by omega) hlt]
  congr 1
  omega

/-- The convolution on the tile, from a tile of the input, its rotations, the taps and the bias. -/
theorem tile_u (g : Fin 2) (T : FVec Ideal S544x256 .f32) (hT : IsX X rb cs g T) (v0 v1 v2 vb : Vec Ideal S1x1x256 .f32)
    (h0 : HRow cs g (W 0) v0) (h1 : HRow cs g (W 1) v1) (h2 : HRow cs g (W 2) v2) (hb : HRow cs g B vb)
    (r : Fin 544) (s : Fin 256) (hr : 16 ≤ r.val) (hlt : 512 * rb + r.val < 4112) :
    (v0 (ix3 0 0 s) * dynamicRotate 0 2#32 none T rotates_S544x256_d0 (ix2 r s)
      + v1 (ix3 0 0 s) * dynamicRotate 0 1#32 none T rotates_S544x256_d0 (ix2 r s)
      + v2 (ix3 0 0 s) * T (ix2 r s) + vb (ix3 0 0 s) : EReal) = u X W B (512 * rb + r.val - 16) (col g (cs s)) := by
  rw [isX_rot_1 X rb cs g T hT r s hr hlt, isX_rot_2 X rb cs g T hT r s hr hlt, isX_rot_0 X rb cs g T hT r s hr hlt, h0, h1, h2, hb]
  rfl

theorem isU_pay11 (i : grid0.Coords) (v9 : Vec Ideal S1x16x256 .bf16) (v14 : Vec Ideal S1x512x256 .bf16)
    (v17 : Vec Ideal S1x16x256 .bf16) (hT : IsX X rb cs 0 (k0_pay7 i v9 v14 v17)) (v0 v1 v2 vb : Vec Ideal S1x1x256 .f32)
    (h0 : HRow cs 0 (W 0) v0) (h1 : HRow cs 0 (W 1) v1) (h2 : HRow cs 0 (W 2) v2) (hb : HRow cs 0 B vb) :
    IsU X W B rb cs 0 (k0_pay11 (k0_pay7 i v9 v14 v17) (k0_pay10 i v9 v14 v17 v0 v1) v2 vb) := by
  intro r s hr hlt
  rw [← tile_u X W B rb cs 0 _ hT v0 v1 v2 vb h0 h1 h2 hb r s hr hlt]
  generalize hg : k0_pay7 i v9 v14 v17 = T
  pointwise [k0_pay11, k0_pay10, k0_pay9, k0_pay8, hg]

/-- The gradient the gate receives, zero past the last row. -/
theorem tile_d (f : Ideal .f32) (hf : f = if rb < 7 then (1 : EReal) else 0) (hrb : rb < 8) (v74 : Vec Ideal S512x256 .bf16) (v77 : Vec Ideal S16x256 .bf16)
    (h74 : HDMid D rb cs v74) (h77 : HDNext D rb cs v77) (r : Fin 544) (s : Fin 256) (hr : 16 ≤ r.val) :
    k0_pay16 f v74 v77 (ix2 r s) = if h : 512 * rb + r.val - 16 < 4096 then D ⟨512 * rb + r.val - 16, h⟩ (cs s) else 0 := by
  pointwise [k0_pay16]
  rw [dif_neg (by omega)]
  by_cases h1 : r.val - 16 < 512
  · rw [dif_pos h1, dif_pos (by omega), h74 _ _ (by show 512 * rb + (r.val - 16) < _; omega)]
    congr 1
    apply Fin.ext
    show 512 * rb + (r.val - 16) = 512 * rb + r.val - 16
    omega
  · rw [dif_neg h1]
    by_cases h7 : rb < 7
    · rw [hf, if_pos h7, mul_one, dif_pos (by omega), h77 _ _ (by show 512 * rb + (r.val - 16 - 512) + 512 < _; omega)]
      congr 1
      apply Fin.ext
      show 512 * rb + (r.val - 16 - 512) + 512 = 512 * rb + r.val - 16
      omega
    · rw [hf, if_neg h7, mul_zero, dif_neg (by omega)]

theorem named_inv_sqrt2 : Named.named (F := Ideal) (φ := .f32) κ "inv_sqrt2" 0x3F3504F3#32 = (((Real.sqrt 2)⁻¹ : ℝ) : EReal) :=
  IdealRules.named_const.ideal_named_scalar _ _ _ _ rfl
theorem named_inv_sqrt2pi : Named.named (F := Ideal) (φ := .f32) κ "inv_sqrt2pi" 0x3ECC422A#32 = (((Real.sqrt (2 * Real.pi))⁻¹ : ℝ) : EReal) :=
  IdealRules.named_const.ideal_named_scalar _ _ _ _ rfl

theorem pay17_apply (a : FVec Ideal S544x256 .f32) (r : Fin 544) (s : Fin 256) : k0_pay17 a (ix2 r s) = cdf (a (ix2 r s)) := by
  pointwise [k0_pay17, cdf]
  rw [named_inv_sqrt2]
  rfl

/-- The gradients of the two halves of the convolution, on the tile. -/
theorem isDu_pay18 (f : Ideal .f32) (hf : f = if rb < 7 then (1 : EReal) else 0) (hrb : rb < 8) (v74 : Vec Ideal S512x256 .bf16) (v77 : Vec Ideal S16x256 .bf16)
    (h74 : HDMid D rb cs v74) (h77 : HDNext D rb cs v77) (v40 : FVec Ideal S544x256 .f32) (h40 : IsU X W B rb cs 0 v40)
    (f5 : Ideal .f32) (v9 : Vec Ideal S1x16x256 .bf16) (v14 : Vec Ideal S1x512x256 .bf16)
    (v17 : Vec Ideal S1x16x256 .bf16) (hT : IsX X rb cs 1 (k0_pay12 f5 v9 v14 v17)) (v0 v1 v2 vb : Vec Ideal S1x1x256 .f32)
    (h0 : HRow cs 1 (W 0) v0) (h1 : HRow cs 1 (W 1) v1) (h2 : HRow cs 1 (W 2) v2) (hb : HRow cs 1 B vb) :
    IsDu X W B D rb cs 0 (k0_pay18 f v40 (k0_pay15 f5 v9 v14 v17 v0 v1 v2) vb v74 v77) := by
  intro r s hr
  have e : k0_pay18 f v40 (k0_pay15 f5 v9 v14 v17 v0 v1 v2) vb v74 v77 (ix2 r s)
      = k0_pay16 f v74 v77 (ix2 r s) * (v0 (ix3 0 0 s) * dynamicRotate 0 2#32 none (k0_pay12 f5 v9 v14 v17) rotates_S544x256_d0 (ix2 r s)
      + v1 (ix3 0 0 s) * dynamicRotate 0 1#32 none (k0_pay12 f5 v9 v14 v17) rotates_S544x256_d0 (ix2 r s)
      + v2 (ix3 0 0 s) * k0_pay12 f5 v9 v14 v17 (ix2 r s) + vb (ix3 0 0 s)) * (k0_pay17 v40 (ix2 r s) + v40 (ix2 r s) * pdf (v40 (ix2 r s))) := by
    generalize hg : k0_pay12 f5 v9 v14 v17 = T
    generalize hg' : k0_pay17 v40 = T'
    generalize hg'' : k0_pay16 f v74 v77 = T''
    pointwise [k0_pay18, k0_pay15, k0_pay13, k0_pay14, hg, hg', hg'', pdf]
    rw [named_inv_sqrt2pi, mul_assoc (Ideal.ofBits FTy.f32 3204448256#32)]
  rw [e, tile_d D rb cs f hf hrb v74 v77 h74 h77 r s hr, du]
  by_cases hn : 512 * rb + r.val - 16 < 4096
  · rw [dif_pos hn, dif_pos hn, if_pos rfl, tile_u X W B rb cs 1 _ hT v0 v1 v2 vb h0 h1 h2 hb r s hr (by omega), pay17_apply, h40 r s hr (by omega)]
  · rw [dif_neg hn, dif_neg hn, zero_mul, zero_mul]

theorem isDu_pay19 (f : Ideal .f32) (hf : f = if rb < 7 then (1 : EReal) else 0) (hrb : rb < 8) (v74 : Vec Ideal S512x256 .bf16) (v77 : Vec Ideal S16x256 .bf16)
    (h74 : HDMid D rb cs v74) (h77 : HDNext D rb cs v77) (v40 : FVec Ideal S544x256 .f32) (h40 : IsU X W B rb cs 0 v40) :
    IsDu X W B D rb cs 1 (k0_pay19 f v40 v74 v77) := by
  intro r s hr
  have e : k0_pay19 f v40 v74 v77 (ix2 r s) = k0_pay16 f v74 v77 (ix2 r s) * (v40 (ix2 r s) * k0_pay17 v40 (ix2 r s)) := rfl
  rw [e, tile_d D rb cs f hf hrb v74 v77 h74 h77 r s hr, du]
  by_cases hn : 512 * rb + r.val - 16 < 4096
  · rw [dif_pos hn, dif_pos hn, if_neg (by decide), pay17_apply, h40 r s hr (by omega)]
  · rw [dif_neg hn, dif_neg hn, zero_mul]

/-- The gradient of the input on the block's rows, from the tile of the gradient of the convolution. -/
theorem tile_dx (g : Fin 2) (T : FVec Ideal S544x256 .f32) (hT : IsDu X W B D rb cs g T) (v0 v1 v2 : Vec Ideal S1x1x256 .f32)
    (h0 : HRow cs g (W 0) v0) (h1 : HRow cs g (W 1) v1) (h2 : HRow cs g (W 2) v2) (r : Fin 512) (s : Fin 256) :
    (v2 (ix3 0 0 s) * T (ix2 ⟨16 + r.val, by omega⟩ s)
      + v1 (ix3 0 0 s) * dynamicRotate 0 543#32 none T rotates_S544x256_d0 (ix2 ⟨16 + r.val, by omega⟩ s)
      + v0 (ix3 0 0 s) * dynamicRotate 0 542#32 none T rotates_S544x256_d0 (ix2 ⟨16 + r.val, by omega⟩ s) : EReal)
    = dx X W B D (512 * rb + r.val) g (cs s) := by
  rw [rot_543 _ _ _ (by show 16 + r.val + 1 < 544; omega), rot_542 _ _ _ (by show 16 + r.val + 2 < 544; omega),
    hT _ _ (by show 16 ≤ 16 + r.val; omega), hT _ _ (by show 16 ≤ 16 + r.val + 1; omega), hT _ _ (by show 16 ≤ 16 + r.val + 2; omega), h0, h1, h2, dx]
  have e0 : 512 * rb + (16 + r.val) - 16 = 512 * rb + r.val := by omega
  have e1 : 512 * rb + (16 + r.val + 1) - 16 = 512 * rb + r.val + 1 := by omega
  have e2 : 512 * rb + (16 + r.val + 2) - 16 = 512 * rb + r.val + 2 := by omega
  simp only [e0, e1, e2]

theorem dx_half0 (f v40 v68 vb v74 v77) (hT : IsDu X W B D rb cs 0 (k0_pay18 f v40 v68 vb v74 v77)) (v0 v1 v2 : Vec Ideal S1x1x256 .f32)
    (h0 : HRow cs 0 (W 0) v0) (h1 : HRow cs 0 (W 1) v1) (h2 : HRow cs 0 (W 2) v2) (r : Fin 512) (s : Fin 256) :
    k0_pay23 (k0_pay18 f v40 v68 vb v74 v77) (k0_pay20 f v40 v68 vb v74 v77 v2) (k0_pay21 v1) (k0_pay22 f v40 v68 vb v74 v77) v0 (ix3 0 r s)
    = dx X W B D (512 * rb + r.val) 0 (cs s) := by
  rw [← tile_dx X W B D rb cs 0 _ hT v0 v1 v2 h0 h1 h2 r s]
  generalize hg : k0_pay18 f v40 v68 vb v74 v77 = T
  pointwise [k0_pay23, k0_pay20, k0_pay21, k0_pay22, hg]

theorem dx_half1 (T : FVec Ideal S544x256 .f32) (hT : IsDu X W B D rb cs 1 T) (v0 v1 v2 : Vec Ideal S1x1x256 .f32)
    (h0 : HRow cs 1 (W 0) v0) (h1 : HRow cs 1 (W 1) v1) (h2 : HRow cs 1 (W 2) v2) (r : Fin 512) (s : Fin 256) :
    k0_pay34 (k0_pay33 T v2 v1 v0) (ix3 0 r s) = dx X W B D (512 * rb + r.val) 1 (cs s) := by
  rw [← tile_dx X W B D rb cs 1 _ hT v0 v1 v2 h0 h1 h2 r s]
  pointwise [k0_pay34, k0_pay33]

/-- One block's part of the sum over the rows for tap `q`, and for the bias. -/
def dwPart (q : ℕ) (g : Fin 2) (k : Fin 2816) : EReal :=
  ∑ r : Fin 512, du X W B D (512 * rb + r.val) g k * past X (512 * rb + r.val + q) (col g k)
def dbPart (g : Fin 2) (k : Fin 2816) : EReal := ∑ r : Fin 512, du X W B D (512 * rb + r.val) g k

theorem isDu_row (g : Fin 2) (T : FVec Ideal S544x256 .f32) (hT : IsDu X W B D rb cs g T) (r : Fin 512) (s : Fin 256) :
    T (ix2 ⟨16 + r.val, by omega⟩ s) = du X W B D (512 * rb + r.val) g (cs s) := by
  rw [hT _ _ (by show 16 ≤ 16 + r.val; omega)]
  congr 1
  show 512 * rb + (16 + r.val) - 16 = _
  omega

theorem sum_dw (q : ℕ) (g : Fin 2) (T P : FVec Ideal S544x256 .f32) (hT : IsDu X W B D rb cs g T)
    (hP : ∀ (r : Fin 544) (s : Fin 256), 16 ≤ r.val → 512 * rb + r.val < 4112 → P (ix2 r s) = past X (512 * rb + r.val - 16 + q) (col g (cs s))) (hrb : rb < 8) (s : Fin 256) :
    (∑ r : Fin 512, T (ix2 ⟨16 + r.val, by omega⟩ s) * P (ix2 ⟨16 + r.val, by omega⟩ s) : EReal) = dwPart X W B D rb q g (cs s) := by
  refine Finset.sum_congr rfl fun r _ => ?_
  rw [isDu_row X W B D rb cs g T hT, hP _ _ (by show 16 ≤ 16 + r.val; omega) (by show 512 * rb + (16 + r.val) < _; omega)]
  congr 2
  show 512 * rb + (16 + r.val) - 16 + q = _
  omega

/-- The iota of the eight rows, compared with a row number. -/
theorem iota_row (q : Fin 8) : iota .tc S8x1 32 [0] iota_S8x1_d0_w32 (ix2 q 0) = BitVec.ofNat 32 q.val := by
  pointwise

/-- Row `q` of what is added to the taps' gradients. -/
def dwRow (q : Fin 8) (g : Fin 2) (k : Fin 2816) : EReal := if q.val < 3 then dwPart X W B D rb q.val g k else 0

theorem select_rows (q : Fin 8) (a0 a1 a2 : EReal) (g : Fin 2) (k : Fin 2816) (h0 : a0 = dwPart X W B D rb 0 g k) (h1 : a1 = dwPart X W B D rb 1 g k)
    (h2 : a2 = dwPart X W B D rb 2 g k) :
    Scalar.select (α := EReal) (IntOp.cmpi .eq (iota .tc S8x1 32 [0] iota_S8x1_d0_w32 (ix2 q 0)) 0#32) a0
      (Scalar.select (α := EReal) (IntOp.cmpi .eq (iota .tc S8x1 32 [0] iota_S8x1_d0_w32 (ix2 q 0)) 1#32) a1
        (Scalar.select (α := EReal) (IntOp.cmpi .eq (iota .tc S8x1 32 [0] iota_S8x1_d0_w32 (ix2 q 0)) 2#32) a2 0)) = dwRow X W B D rb q g k := by
  rw [iota_row, dwRow, h0, h1, h2]
  fin_vals q with hq
  all_goals simp [hq, Scalar.select, IntOp.cmpi]

/-- What the body adds to the taps' gradients and to the bias's, in the two halves. -/
theorem dw_half0 (i : grid0.Coords) (v9 : Vec Ideal S1x16x256 .bf16) (v14 : Vec Ideal S1x512x256 .bf16)
    (v17 : Vec Ideal S1x16x256 .bf16) (hX : IsX X rb cs 0 (k0_pay7 i v9 v14 v17)) (hrb : rb < 8) (T : FVec Ideal S544x256 .f32) (hT : IsDu X W B D rb cs 0 T)
    (v137 : Vec Ideal S1x8x256 .f32) (q : Fin 8) (s : Fin 256) :
    k0_pay31 (k0_pay25 (k0_pay9 i v9 v14 v17) T) (k0_pay26 (k0_pay8 i v9 v14 v17) T) (k0_pay27 v137) (k0_pay28 (iota .tc S8x1 32 [0] iota_S8x1_d0_w32))
      (k0_pay29 (k0_pay7 i v9 v14 v17) T (iota .tc S8x1 32 [0] iota_S8x1_d0_w32)) (k0_pay30 (iota .tc S8x1 32 [0] iota_S8x1_d0_w32)) (ix3 0 q s)
    = v137 (ix3 0 q s) + dwRow X W B D rb q 0 (cs s) := by
  rw [← select_rows X W B D rb q _ _ _ 0 (cs s)
    (sum_dw X W B D rb cs 0 0 T _ hT (isX_rot_2 X rb cs 0 _ hX) hrb s)
    (sum_dw X W B D rb cs 1 0 T _ hT (isX_rot_1 X rb cs 0 _ hX) hrb s)
    (sum_dw X W B D rb cs 2 0 T _ hT (isX_rot_0 X rb cs 0 _ hX) hrb s)]
  generalize hg : k0_pay7 i v9 v14 v17 = P
  generalize hi : iota .tc S8x1 32 [0] iota_S8x1_d0_w32 = I
  generalize hR2 : dynamicRotate 0 2#32 none P rotates_S544x256_d0 = P2
  generalize hR1 : dynamicRotate 0 1#32 none P rotates_S544x256_d0 = P1
  pointwise [k0_pay31, k0_pay25, k0_pay26, k0_pay24, k0_pay27, k0_pay28, k0_pay29, k0_pay30, k0_pay8, k0_pay9, hg, hR1, hR2]

theorem dw_half1 (P : FVec Ideal S544x256 .f32) (f v9 v14 v17) (hP : k0_pay12 f v9 v14 v17 = P) (hX : IsX X rb cs 1 P) (hrb : rb < 8) (T : FVec Ideal S544x256 .f32) (hT : IsDu X W B D rb cs 1 T)
    (v207 : Vec Ideal S1x8x256 .f32) (q : Fin 8) (s : Fin 256) :
    k0_pay1 (k0_pay36 (k0_pay12 f v9 v14 v17) (k0_pay13 f v9 v14 v17) (k0_pay14 f v9 v14 v17) T (iota .tc S8x1 32 [0] iota_S8x1_d0_w32) v207) (ix3 0 q s)
    = v207 (ix3 0 q s) + dwRow X W B D rb q 1 (cs s) := by
  rw [← select_rows X W B D rb q _ _ _ 1 (cs s)
    (sum_dw X W B D rb cs 0 1 T _ hT (isX_rot_2 X rb cs 1 _ hX) hrb s)
    (sum_dw X W B D rb cs 1 1 T _ hT (isX_rot_1 X rb cs 1 _ hX) hrb s)
    (sum_dw X W B D rb cs 2 1 T _ hT (isX_rot_0 X rb cs 1 _ hX) hrb s)]
  generalize hi : iota .tc S8x1 32 [0] iota_S8x1_d0_w32 = I
  generalize hR2 : dynamicRotate 0 2#32 none P rotates_S544x256_d0 = P2
  generalize hR1 : dynamicRotate 0 1#32 none P rotates_S544x256_d0 = P1
  pointwise [k0_pay1, k0_pay36, k0_pay35, k0_pay13, k0_pay14, hP, hR1, hR2]

theorem db_half0 (T : FVec Ideal S544x256 .f32) (hT : IsDu X W B D rb cs 0 T) (v165 : Vec Ideal S1x1x256 .f32) (s : Fin 256) :
    k0_pay32 (k0_pay24 T) v165 (ix3 0 0 s) = v165 (ix3 0 0 s) + dbPart X W B D rb 0 (cs s) := by
  pointwise [k0_pay32, k0_pay24]
  simp only [isDu_row X W B D rb cs 0 T hT]
  rfl

theorem db_half1 (T : FVec Ideal S544x256 .f32) (hT : IsDu X W B D rb cs 1 T) (v235 : Vec Ideal S1x1x256 .f32) (s : Fin 256) :
    k0_pay2 (k0_pay35 T) v235 (ix3 0 0 s) = v235 (ix3 0 0 s) + dbPart X W B D rb 1 (cs s) := by
  pointwise [k0_pay2, k0_pay35]
  simp only [isDu_row X W B D rb cs 1 T hT]
  rfl

end Cert.Kernel2Ideal.Conv

end
-- ==== Proof.ConvOut.lean ====
/- What one grid point of the convolution's backward kernel leaves in its three outputs. -/
module

public import proofs.«01_k».proof.Proof.ConvTile
public import proofs.«01_k».proof.Proof.Gen.Kernel2Ideal.Value
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.Kernel2Ideal.Conv

open Idealize.ShloMosaic Idealize.ShloMosaic.TcCoe Idealize.SL.Sem Cert.Kernel2Ideal Cert.Kernel2Ideal.Gen Cert.Conv

variable (X : Fin 4096 → Fin 5632 → EReal) (W : Fin 3 → Fin 5632 → EReal) (B : Fin 5632 → EReal)
  (D : Fin 4096 → Fin 2816 → EReal) (rb : ℕ) (cs : Fin 256 → Fin 2816)

/-- What the blocks of one grid point hold: row block `rb`, the columns `cs`. -/
structure Blocks (i : grid0.Coords) (x0 : Vec Ideal S2x512x256 .bf16) (x1 x2 : Vec Ideal S2x16x256 .bf16) (x3 : Vec Ideal S512x256 .bf16)
    (x4 : Vec Ideal S16x256 .bf16) (x5 : Vec Ideal S2x3x256 .f32) (x6 : Vec Ideal S2x1x256 .f32) : Prop where
  hrb : rb < 8
  hprev : k0_pay5 (F := Ideal) i = if rb = 0 then (0 : EReal) else 1
  hnext : k0_pay6 (F := Ideal) i = if rb < 7 then (1 : EReal) else 0
  h0 : ∀ (g : Fin 2) (r : Fin 512) (s : Fin 256), x0 (ix3 g r s) = past X (512 * rb + r.val + 2) (col g (cs s))
  h1 : 0 < rb → ∀ (g : Fin 2) (r : Fin 16) (s : Fin 256), x1 (ix3 g r s) = past X (512 * rb + r.val - 14) (col g (cs s))
  h2 : rb < 7 → ∀ (g : Fin 2) (r : Fin 16) (s : Fin 256), x2 (ix3 g r s) = past X (512 * rb + r.val + 514) (col g (cs s))
  h3 : ∀ (r : Fin 512) (s : Fin 256) (h : 512 * rb + r.val < 4096), x3 (ix2 r s) = D ⟨512 * rb + r.val, h⟩ (cs s)
  h4 : ∀ (r : Fin 16) (s : Fin 256) (h : 512 * rb + r.val + 512 < 4096), x4 (ix2 r s) = D ⟨512 * rb + r.val + 512, h⟩ (cs s)
  h5 : ∀ (g : Fin 2) (q : Fin 3) (s : Fin 256), x5 (ix3 g q s) = W q (col g (cs s))
  h6 : ∀ (g : Fin 2) (s : Fin 256), x6 (ix3 g 0 s) = B (col g (cs s))

/-- Two stores, one per half of the leading axis, the second half's last: what they leave. -/
theorem canon_half1 {n : ℕ} {e : EltTy} (inb : ∀ a, (![1, 0, 0] : Fin 3 → ℕ) a + (![1, n, 256] : Fin 3 → ℕ) a ≤ (⟨3, ![2, n, 256]⟩ : Shape).size a)
    (w : (Rect.unit (s := ⟨3, ![2, n, 256]⟩) ![1, 0, 0] ![1, n, 256] inb).shape.Idx → Elt Ideal e) (L : List (View.Piece (Elt Ideal) ⟨3, ![2, n, 256]⟩ e)) (q : Fin n) (s : Fin 256) :
    View.canon (⟨Rect.unit ![1, 0, 0] ![1, n, 256] inb, w⟩ :: L) (ix3 1 q s) = w (ix3 0 q s) := by
  rw [← View.canon_cons_emb (Val := Elt Ideal) _ w L (ix3 0 q s)]
  congr 1
  funext a
  apply Fin.ext
  refine Eq.trans ?_ (Rect.idx_unit_val ![1, 0, 0] ![1, n, 256] inb (ix3 0 q s) a).symm
  fin_cases a <;> simp

theorem canon_half0 {n : ℕ} {e : EltTy} (inb : ∀ a, (![0, 0, 0] : Fin 3 → ℕ) a + (![1, n, 256] : Fin 3 → ℕ) a ≤ (⟨3, ![2, n, 256]⟩ : Shape).size a)
    (w : (Rect.unit (s := ⟨3, ![2, n, 256]⟩) ![0, 0, 0] ![1, n, 256] inb).shape.Idx → Elt Ideal e) (L : List (View.Piece (Elt Ideal) ⟨3, ![2, n, 256]⟩ e)) (q : Fin n) (s : Fin 256) :
    View.canon (⟨Rect.unit ![0, 0, 0] ![1, n, 256] inb, w⟩ :: L) (ix3 0 q s) = w (ix3 0 q s) := by
  rw [← View.canon_cons_emb (Val := Elt Ideal) _ w L (ix3 0 q s)]
  congr 1
  funext a
  apply Fin.ext
  refine Eq.trans ?_ (Rect.idx_unit_val ![0, 0, 0] ![1, n, 256] inb (ix3 0 q s) a).symm
  fin_cases a <;> simp

theorem canon_skip1 {n : ℕ} {e : EltTy} (inb : ∀ a, (![1, 0, 0] : Fin 3 → ℕ) a + (![1, n, 256] : Fin 3 → ℕ) a ≤ (⟨3, ![2, n, 256]⟩ : Shape).size a)
    (w : (Rect.unit (s := ⟨3, ![2, n, 256]⟩) ![1, 0, 0] ![1, n, 256] inb).shape.Idx → Elt Ideal e) (L : List (View.Piece (Elt Ideal) ⟨3, ![2, n, 256]⟩ e)) (q : Fin n) (s : Fin 256) :
    View.canon (⟨Rect.unit ![1, 0, 0] ![1, n, 256] inb, w⟩ :: L) (ix3 0 q s) = View.canon L (ix3 0 q s) := by
  refine View.canon_cons_of_not_mem (Val := Elt Ideal) _ L fun h => ?_
  have := ((Rect.mem_set_unit (inb := inb)).mp h 0).1
  simp at this

theorem canon_skip0 {n : ℕ} {e : EltTy} (inb : ∀ a, (![0, 0, 0] : Fin 3 → ℕ) a + (![1, n, 256] : Fin 3 → ℕ) a ≤ (⟨3, ![2, n, 256]⟩ : Shape).size a)
    (w : (Rect.unit (s := ⟨3, ![2, n, 256]⟩) ![0, 0, 0] ![1, n, 256] inb).shape.Idx → Elt Ideal e) (L : List (View.Piece (Elt Ideal) ⟨3, ![2, n, 256]⟩ e)) (q : Fin n) (s : Fin 256) :
    View.canon (⟨Rect.unit ![0, 0, 0] ![1, n, 256] inb, w⟩ :: L) (ix3 1 q s) = View.canon L (ix3 1 q s) := by
  refine View.canon_cons_of_not_mem (Val := Elt Ideal) _ L fun h => ?_
  have := ((Rect.mem_set_unit (inb := inb)).mp h 0).2
  simp at this

/-- A load of one half, or of one row of one half, read at an index. -/
theorem ld_half {n k : ℕ} {e : EltTy} (x : Vec Ideal ⟨3, ![2, n, 256]⟩ e) (g : Fin 2) (o : ℕ) (inb : ∀ a, (![g.val, o, 0] : Fin 3 → ℕ) a + (![1, k, 256] : Fin 3 → ℕ) a ≤ (⟨3, ![2, n, 256]⟩ : Shape).size a)
    (q : Fin k) (s : Fin 256) (h : o + q.val < n) :
    View.ld (Val := Elt Ideal) (S := ⟨3, ![2, n, 256]⟩) x (Rect.unit ![g.val, o, 0] ![1, k, 256] inb) (ix3 0 q s) = x (ix3 g ⟨o + q.val, h⟩ s) := by
  refine View.ld_unit_apply_of _ _ _ _ _ _ fun a => ?_
  fin_cases a <;> simp

/-- A load of one half of what stores left. -/
theorem cov_half {n : ℕ} {e : EltTy} (v : View sig .tc .vmem ⟨3, ![2, n, 256]⟩ e) (L : List (View.Piece (Elt Ideal) ⟨3, ![2, n, 256]⟩ e)) (g : Fin 2)
    (inb : ∀ a, (![g.val, 0, 0] : Fin 3 → ℕ) a + (![1, n, 256] : Fin 3 → ℕ) a ≤ (⟨3, ![2, n, 256]⟩ : Shape).size a) (q : Fin n) (s : Fin 256) :
    v.readCov L (Rect.unit (s := ⟨3, ![2, n, 256]⟩) ![g.val, 0, 0] ![1, n, 256] inb).toLoadRect (ix3 0 q s) = View.canon L (ix3 g q s) := by
  rw [View.readCov_eq_canon']
  show View.canon L _ = _
  congr 1
  funext a
  apply Fin.ext
  refine (Rect.idx_unit_val ![g.val, 0, 0] ![1, n, 256] inb (ix3 0 q s) a).trans ?_
  fin_cases a <;> simp

theorem canon_zero8 (inb) (g : Fin 2) (q : Fin 8) (s : Fin 256) :
    View.canon [(⟨Rect.unit ![0, 0, 0] ![2, 8, 256] inb, (k0_pay3 (F := Ideal) : S2x8x256.Idx → EReal)⟩ : View.Piece (Elt Ideal) S2x8x256 .f32)] (ix3 g q s) = (0 : EReal) := by
  refine (congrFun (View.canon_unit_zero (S := S2x8x256) (funext fun a => by fin_cases a <;> rfl) inb _) _).trans ?_
  pointwise [k0_pay3]
theorem canon_zero9 (inb) (g : Fin 2) (s : Fin 256) :
    View.canon [(⟨Rect.unit ![0, 0, 0] ![2, 1, 256] inb, (k0_pay4 (F := Ideal) : S2x1x256.Idx → EReal)⟩ : View.Piece (Elt Ideal) S2x1x256 .f32)] (ix3 g 0 s) = (0 : EReal) := by
  refine (congrFun (View.canon_unit_zero (S := S2x1x256) (funext fun a => by fin_cases a <;> rfl) inb _) _).trans ?_
  pointwise [k0_pay4]

section
variable {X W B D rb cs} {i : grid0.Coords} {x0 : Vec Ideal S2x512x256 .bf16} {x1 x2 : Vec Ideal S2x16x256 .bf16} {x3 : Vec Ideal S512x256 .bf16}
    {x4 : Vec Ideal S16x256 .bf16} {x5 : Vec Ideal S2x3x256 .f32} {x6 : Vec Ideal S2x1x256 .f32} (hb : Blocks X W B D rb cs i x0 x1 x2 x3 x4 x5 x6)
include hb

theorem ld_mid (g : Fin 2) (inb) : HMid X rb cs g (View.ld (Val := Elt Ideal) x0 (Rect.unit (s := S2x512x256) ![g.val, 0, 0] ![1, 512, 256] inb)) := fun r s => by
  rw [ld_half x0 g 0 inb r s (by omega), hb.h0]
  simp
theorem ld_prev (g : Fin 2) (inb) : HPrev X rb cs g (View.ld (Val := Elt Ideal) x1 (Rect.unit (s := S2x16x256) ![g.val, 0, 0] ![1, 16, 256] inb)) := fun h r s => by
  rw [ld_half x1 g 0 inb r s (by omega), hb.h1 h]
  simp
theorem ld_next (g : Fin 2) (inb) : HNext X rb cs g (View.ld (Val := Elt Ideal) x2 (Rect.unit (s := S2x16x256) ![g.val, 0, 0] ![1, 16, 256] inb)) := fun h r s => by
  rw [ld_half x2 g 0 inb r s (by omega), hb.h2 h]
  simp
theorem ld_dmid (inb) : HDMid D rb cs (View.ld (Val := Elt Ideal) x3 (Rect.unit (s := S512x256) ![0, 0] ![512, 256] inb)) := fun r s h => by
  rw [View.ld_unit_zero (S := S512x256) (funext fun a => by fin_cases a <;> rfl), hb.h3]
theorem ld_dnext (inb) : HDNext D rb cs (View.ld (Val := Elt Ideal) x4 (Rect.unit (s := S16x256) ![0, 0] ![16, 256] inb)) := fun r s h => by
  rw [View.ld_unit_zero (S := S16x256) (funext fun a => by fin_cases a <;> rfl), hb.h4]
theorem ld_tap (g : Fin 2) (q : Fin 3) (inb) : HRow cs g (W q) (View.ld (Val := Elt Ideal) x5 (Rect.unit (s := S2x3x256) ![g.val, q.val, 0] ![1, 1, 256] inb)) := fun s => by
  rw [ld_half x5 g q.val inb 0 s (by simp), hb.h5]
  rfl
theorem ld_bias (g : Fin 2) (inb) : HRow cs g B (View.ld (Val := Elt Ideal) x6 (Rect.unit (s := S2x1x256) ![g.val, 0, 0] ![1, 1, 256] inb)) := fun s => by
  rw [ld_half x6 g 0 inb 0 s (by simp), ← hb.h6]
  rfl

/-- The tiles of the input's two halves, and of the gradients of the convolution's two halves. -/
theorem tile0 : IsX X rb cs 0 (k0_pay7 i (View.ld (Val := Elt Ideal) x1 (Rect.unit (s := S2x16x256) ![0, 0, 0] ![1, 16, 256] inb_S2x16x256_S1x16x256_0_0_0))
    (View.ld (Val := Elt Ideal) x0 (Rect.unit (s := S2x512x256) ![0, 0, 0] ![1, 512, 256] inb_S2x512x256_S1x512x256_0_0_0))
    (View.ld (Val := Elt Ideal) x2 (Rect.unit (s := S2x16x256) ![0, 0, 0] ![1, 16, 256] inb_S2x16x256_S1x16x256_0_0_0))) :=
  isX_pay7 X rb cs 0 i hb.hprev _ _ _ (ld_prev hb 0 _) (ld_mid hb 0 _) (ld_next hb 0 _)

theorem tile1 : IsX X rb cs 1 (k0_pay12 (k0_pay5 i) (View.ld (Val := Elt Ideal) x1 (Rect.unit (s := S2x16x256) ![1, 0, 0] ![1, 16, 256] inb_S2x16x256_S1x16x256_1_0_0))
    (View.ld (Val := Elt Ideal) x0 (Rect.unit (s := S2x512x256) ![1, 0, 0] ![1, 512, 256] inb_S2x512x256_S1x512x256_1_0_0))
    (View.ld (Val := Elt Ideal) x2 (Rect.unit (s := S2x16x256) ![1, 0, 0] ![1, 16, 256] inb_S2x16x256_S1x16x256_1_0_0))) :=
  isX_pay12 X rb cs 1 _ hb.hprev _ _ _ (ld_prev hb 1 _) (ld_mid hb 1 _) (ld_next hb 1 _)

theorem tileU (a b c1 d e f h) : IsU X W B rb cs 0 (k0_pay11 (k0_pay7 i (View.ld (Val := Elt Ideal) x1 (Rect.unit (s := S2x16x256) ![0, 0, 0] ![1, 16, 256] a))
    (View.ld (Val := Elt Ideal) x0 (Rect.unit (s := S2x512x256) ![0, 0, 0] ![1, 512, 256] b))
    (View.ld (Val := Elt Ideal) x2 (Rect.unit (s := S2x16x256) ![0, 0, 0] ![1, 16, 256] c1))) (k0_pay10 i (View.ld (Val := Elt Ideal) x1 (Rect.unit (s := S2x16x256) ![0, 0, 0] ![1, 16, 256] a))
    (View.ld (Val := Elt Ideal) x0 (Rect.unit (s := S2x512x256) ![0, 0, 0] ![1, 512, 256] b))
    (View.ld (Val := Elt Ideal) x2 (Rect.unit (s := S2x16x256) ![0, 0, 0] ![1, 16, 256] c1))
      (View.ld (Val := Elt Ideal) x5 (Rect.unit (s := S2x3x256) ![0, 0, 0] ![1, 1, 256] d)) (View.ld (Val := Elt Ideal) x5 (Rect.unit (s := S2x3x256) ![0, 1, 0] ![1, 1, 256] e)))
      (View.ld (Val := Elt Ideal) x5 (Rect.unit (s := S2x3x256) ![0, 2, 0] ![1, 1, 256] f)) (View.ld (Val := Elt Ideal) x6 (Rect.unit (s := S2x1x256) ![0, 0, 0] ![1, 1, 256] h))) :=
  isU_pay11 X W B rb cs i _ _ _ (tile0 hb) _ _ _ _ (ld_tap hb 0 0 _) (ld_tap hb 0 1 _) (ld_tap hb 0 2 _) (ld_bias hb 0 _)

end

theorem out_B_7 (c : Dev nD) (i : grid0.Coords) (arg2 : Memref sig .tc .vmem S2x512x256 .bf16) (harg2 : arg2.IsWhole) (arg3 : Memref sig .tc .vmem S2x16x256 .bf16) (harg3 : arg3.IsWhole) (arg4 : Memref sig .tc .vmem S2x16x256 .bf16) (harg4 : arg4.IsWhole) (arg5 : Memref sig .tc .vmem S512x256 .bf16) (harg5 : arg5.IsWhole) (arg6 : Memref sig .tc .vmem S16x256 .bf16) (harg6 : arg6.IsWhole) (arg7 : Memref sig .tc .vmem S2x3x256 .f32) (harg7 : arg7.IsWhole) (arg8 : Memref sig .tc .vmem S2x1x256 .f32) (harg8 : arg8.IsWhole) (arg9 : Memref sig .tc .vmem S2x512x256 .bf16) (harg9 : arg9.IsWhole) (arg10 : Memref sig .tc .vmem S2x8x256 .f32) (harg10 : arg10.IsWhole) (arg11 : Memref sig .tc .vmem S2x1x256 .f32) (harg11 : arg11.IsWhole) (hc0 : ¬cond0_0 i) (x0 x1 x2 x3 x4 x5 x6 xo8 xo9) (hb : Blocks X W B D rb cs i x0 x1 x2 x3 x4 x5 x6)
    (g : Fin 2) (r : Fin 512) (s : Fin 256) :
    out0_B_7 (F := Ideal) c i arg2 harg2 arg3 harg3 arg4 harg4 arg5 harg5 arg6 harg6 arg7 harg7 arg8 harg8 arg9 harg9 arg10 harg10 arg11 harg11 hc0 x0 x1 x2 x3 x4 x5 x6 xo8 xo9 (ix3 g r s) = dx X W B D (512 * rb + r.val) g (cs s) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread]
  have hU := tileU hb inb_S2x16x256_S1x16x256_0_0_0 inb_S2x512x256_S1x512x256_0_0_0 inb_S2x16x256_S1x16x256_0_0_0 inb_S2x3x256_S1x1x256_0_0_0 inb_S2x3x256_S1x1x256_0_1_0 inb_S2x3x256_S1x1x256_0_2_0 inb_S2x1x256_S1x1x256_0_0_0
  have h18 := isDu_pay18 X W B D rb cs _ hb.hnext hb.hrb _ _ (ld_dmid hb inb_S512x256_S512x256_0_0) (ld_dnext hb inb_S16x256_S16x256_0_0) _ hU _ _ _ _ (tile1 hb) _ _ _ _
    (ld_tap hb 1 0 inb_S2x3x256_S1x1x256_1_0_0) (ld_tap hb 1 1 inb_S2x3x256_S1x1x256_1_1_0) (ld_tap hb 1 2 inb_S2x3x256_S1x1x256_1_2_0) (ld_bias hb 1 inb_S2x1x256_S1x1x256_1_0_0)
  have h19 := isDu_pay19 X W B D rb cs _ hb.hnext hb.hrb _ _ (ld_dmid hb inb_S512x256_S512x256_0_0) (ld_dnext hb inb_S16x256_S16x256_0_0) _ hU
  rcases (by omega : g = 0 ∨ g = 1) with rfl | rfl
  · refine (canon_skip1 _ _ _ _ _).trans ((canon_half0 _ _ _ _ _).trans ?_)
    exact dx_half0 X W B D rb cs _ _ _ _ _ _ h18 _ _ _ (ld_tap hb 0 0 _) (ld_tap hb 0 1 _) (ld_tap hb 0 2 _) r s
  · refine (canon_half1 _ _ _ _ _).trans ?_
    exact dx_half1 X W B D rb cs _ h19 _ _ _ (ld_tap hb 1 0 _) (ld_tap hb 1 1 _) (ld_tap hb 1 2 _) r s

theorem out_A_7 (c : Dev nD) (i : grid0.Coords) (arg2 : Memref sig .tc .vmem S2x512x256 .bf16) (harg2 : arg2.IsWhole) (arg3 : Memref sig .tc .vmem S2x16x256 .bf16) (harg3 : arg3.IsWhole) (arg4 : Memref sig .tc .vmem S2x16x256 .bf16) (harg4 : arg4.IsWhole) (arg5 : Memref sig .tc .vmem S512x256 .bf16) (harg5 : arg5.IsWhole) (arg6 : Memref sig .tc .vmem S16x256 .bf16) (harg6 : arg6.IsWhole) (arg7 : Memref sig .tc .vmem S2x3x256 .f32) (harg7 : arg7.IsWhole) (arg8 : Memref sig .tc .vmem S2x1x256 .f32) (harg8 : arg8.IsWhole) (arg9 : Memref sig .tc .vmem S2x512x256 .bf16) (harg9 : arg9.IsWhole) (arg10 : Memref sig .tc .vmem S2x8x256 .f32) (harg10 : arg10.IsWhole) (arg11 : Memref sig .tc .vmem S2x1x256 .f32) (harg11 : arg11.IsWhole) (hc0 : cond0_0 i) (x0 x1 x2 x3 x4 x5 x6) (hb : Blocks X W B D rb cs i x0 x1 x2 x3 x4 x5 x6)
    (g : Fin 2) (r : Fin 512) (s : Fin 256) :
    out0_A_7 (F := Ideal) c i arg2 harg2 arg3 harg3 arg4 harg4 arg5 harg5 arg6 harg6 arg7 harg7 arg8 harg8 arg9 harg9 arg10 harg10 arg11 harg11 hc0 x0 x1 x2 x3 x4 x5 x6 (ix3 g r s) = dx X W B D (512 * rb + r.val) g (cs s) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  have hU := tileU hb inb_S2x16x256_S1x16x256_0_0_0 inb_S2x512x256_S1x512x256_0_0_0 inb_S2x16x256_S1x16x256_0_0_0 inb_S2x3x256_S1x1x256_0_0_0 inb_S2x3x256_S1x1x256_0_1_0 inb_S2x3x256_S1x1x256_0_2_0 inb_S2x1x256_S1x1x256_0_0_0
  have h18 := isDu_pay18 X W B D rb cs _ hb.hnext hb.hrb _ _ (ld_dmid hb inb_S512x256_S512x256_0_0) (ld_dnext hb inb_S16x256_S16x256_0_0) _ hU _ _ _ _ (tile1 hb) _ _ _ _
    (ld_tap hb 1 0 inb_S2x3x256_S1x1x256_1_0_0) (ld_tap hb 1 1 inb_S2x3x256_S1x1x256_1_1_0) (ld_tap hb 1 2 inb_S2x3x256_S1x1x256_1_2_0) (ld_bias hb 1 inb_S2x1x256_S1x1x256_1_0_0)
  have h19 := isDu_pay19 X W B D rb cs _ hb.hnext hb.hrb _ _ (ld_dmid hb inb_S512x256_S512x256_0_0) (ld_dnext hb inb_S16x256_S16x256_0_0) _ hU
  rcases (by omega : g = 0 ∨ g = 1) with rfl | rfl
  · refine (canon_skip1 _ _ _ _ _).trans ((canon_half0 _ _ _ _ _).trans ?_)
    exact dx_half0 X W B D rb cs _ _ _ _ _ _ h18 _ _ _ (ld_tap hb 0 0 _) (ld_tap hb 0 1 _) (ld_tap hb 0 2 _) r s
  · refine (canon_half1 _ _ _ _ _).trans ?_
    exact dx_half1 X W B D rb cs _ h19 _ _ _ (ld_tap hb 1 0 _) (ld_tap hb 1 1 _) (ld_tap hb 1 2 _) r s

theorem out_B_8 (c : Dev nD) (i : grid0.Coords) (arg2 : Memref sig .tc .vmem S2x512x256 .bf16) (harg2 : arg2.IsWhole) (arg3 : Memref sig .tc .vmem S2x16x256 .bf16) (harg3 : arg3.IsWhole) (arg4 : Memref sig .tc .vmem S2x16x256 .bf16) (harg4 : arg4.IsWhole) (arg5 : Memref sig .tc .vmem S512x256 .bf16) (harg5 : arg5.IsWhole) (arg6 : Memref sig .tc .vmem S16x256 .bf16) (harg6 : arg6.IsWhole) (arg7 : Memref sig .tc .vmem S2x3x256 .f32) (harg7 : arg7.IsWhole) (arg8 : Memref sig .tc .vmem S2x1x256 .f32) (harg8 : arg8.IsWhole) (arg9 : Memref sig .tc .vmem S2x512x256 .bf16) (harg9 : arg9.IsWhole) (arg10 : Memref sig .tc .vmem S2x8x256 .f32) (harg10 : arg10.IsWhole) (arg11 : Memref sig .tc .vmem S2x1x256 .f32) (harg11 : arg11.IsWhole) (hc0 : ¬cond0_0 i) (x0 x1 x2 x3 x4 x5 x6 xo8 xo9) (hb : Blocks X W B D rb cs i x0 x1 x2 x3 x4 x5 x6)
    (g : Fin 2) (q : Fin 8) (s : Fin 256) :
    out0_B_8 (F := Ideal) c i arg2 harg2 arg3 harg3 arg4 harg4 arg5 harg5 arg6 harg6 arg7 harg7 arg8 harg8 arg9 harg9 arg10 harg10 arg11 harg11 hc0 x0 x1 x2 x3 x4 x5 x6 xo8 xo9 (ix3 g q s) = xo8 (ix3 g q s) + dwRow X W B D rb q g (cs s) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread]
  have hU := tileU hb inb_S2x16x256_S1x16x256_0_0_0 inb_S2x512x256_S1x512x256_0_0_0 inb_S2x16x256_S1x16x256_0_0_0 inb_S2x3x256_S1x1x256_0_0_0 inb_S2x3x256_S1x1x256_0_1_0 inb_S2x3x256_S1x1x256_0_2_0 inb_S2x1x256_S1x1x256_0_0_0
  have h18 := isDu_pay18 X W B D rb cs _ hb.hnext hb.hrb _ _ (ld_dmid hb inb_S512x256_S512x256_0_0) (ld_dnext hb inb_S16x256_S16x256_0_0) _ hU _ _ _ _ (tile1 hb) _ _ _ _
    (ld_tap hb 1 0 inb_S2x3x256_S1x1x256_1_0_0) (ld_tap hb 1 1 inb_S2x3x256_S1x1x256_1_1_0) (ld_tap hb 1 2 inb_S2x3x256_S1x1x256_1_2_0) (ld_bias hb 1 inb_S2x1x256_S1x1x256_1_0_0)
  have h19 := isDu_pay19 X W B D rb cs _ hb.hnext hb.hrb _ _ (ld_dmid hb inb_S512x256_S512x256_0_0) (ld_dnext hb inb_S16x256_S16x256_0_0) _ hU
  rcases (by omega : g = 0 ∨ g = 1) with rfl | rfl
  · refine (canon_skip1 _ _ _ _ _).trans ((canon_half0 _ _ _ _ _).trans ?_)
    refine (dw_half0 X W B D rb cs i _ _ _ (tile0 hb) hb.hrb _ h18 _ q s).trans ?_
    congr 1
    exact (ld_half xo8 0 0 _ q s (by omega)).trans (by simp)
  · refine (canon_half1 _ _ _ _ _).trans ?_
    refine (dw_half1 X W B D rb cs _ _ _ _ _ rfl (tile1 hb) hb.hrb _ h19 _ q s).trans ?_
    congr 1
    exact (ld_half xo8 1 0 _ q s (by omega)).trans (by simp)

theorem out_B_9 (c : Dev nD) (i : grid0.Coords) (arg2 : Memref sig .tc .vmem S2x512x256 .bf16) (harg2 : arg2.IsWhole) (arg3 : Memref sig .tc .vmem S2x16x256 .bf16) (harg3 : arg3.IsWhole) (arg4 : Memref sig .tc .vmem S2x16x256 .bf16) (harg4 : arg4.IsWhole) (arg5 : Memref sig .tc .vmem S512x256 .bf16) (harg5 : arg5.IsWhole) (arg6 : Memref sig .tc .vmem S16x256 .bf16) (harg6 : arg6.IsWhole) (arg7 : Memref sig .tc .vmem S2x3x256 .f32) (harg7 : arg7.IsWhole) (arg8 : Memref sig .tc .vmem S2x1x256 .f32) (harg8 : arg8.IsWhole) (arg9 : Memref sig .tc .vmem S2x512x256 .bf16) (harg9 : arg9.IsWhole) (arg10 : Memref sig .tc .vmem S2x8x256 .f32) (harg10 : arg10.IsWhole) (arg11 : Memref sig .tc .vmem S2x1x256 .f32) (harg11 : arg11.IsWhole) (hc0 : ¬cond0_0 i) (x0 x1 x2 x3 x4 x5 x6 xo8 xo9) (hb : Blocks X W B D rb cs i x0 x1 x2 x3 x4 x5 x6)
    (g : Fin 2) (s : Fin 256) :
    out0_B_9 (F := Ideal) c i arg2 harg2 arg3 harg3 arg4 harg4 arg5 harg5 arg6 harg6 arg7 harg7 arg8 harg8 arg9 harg9 arg10 harg10 arg11 harg11 hc0 x0 x1 x2 x3 x4 x5 x6 xo8 xo9 (ix3 g 0 s) = xo9 (ix3 g 0 s) + dbPart X W B D rb g (cs s) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 x6 xo8 xo9)]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread]
  have hU := tileU hb inb_S2x16x256_S1x16x256_0_0_0 inb_S2x512x256_S1x512x256_0_0_0 inb_S2x16x256_S1x16x256_0_0_0 inb_S2x3x256_S1x1x256_0_0_0 inb_S2x3x256_S1x1x256_0_1_0 inb_S2x3x256_S1x1x256_0_2_0 inb_S2x1x256_S1x1x256_0_0_0
  have h18 := isDu_pay18 X W B D rb cs _ hb.hnext hb.hrb _ _ (ld_dmid hb inb_S512x256_S512x256_0_0) (ld_dnext hb inb_S16x256_S16x256_0_0) _ hU _ _ _ _ (tile1 hb) _ _ _ _
    (ld_tap hb 1 0 inb_S2x3x256_S1x1x256_1_0_0) (ld_tap hb 1 1 inb_S2x3x256_S1x1x256_1_1_0) (ld_tap hb 1 2 inb_S2x3x256_S1x1x256_1_2_0) (ld_bias hb 1 inb_S2x1x256_S1x1x256_1_0_0)
  have h19 := isDu_pay19 X W B D rb cs _ hb.hnext hb.hrb _ _ (ld_dmid hb inb_S512x256_S512x256_0_0) (ld_dnext hb inb_S16x256_S16x256_0_0) _ hU
  rcases (by omega : g = 0 ∨ g = 1) with rfl | rfl
  · refine (canon_skip1 _ _ _ _ _).trans ((canon_half0 _ _ _ _ _).trans ?_)
    refine (db_half0 X W B D rb cs _ h18 _ s).trans ?_
    congr 1
    exact (ld_half xo9 0 0 _ 0 s (by simp)).trans rfl
  · refine (canon_half1 _ _ _ _ _).trans ?_
    refine (db_half1 X W B D rb cs _ h19 _ s).trans ?_
    congr 1
    exact (ld_half xo9 1 0 _ 0 s (by simp)).trans rfl

theorem out_A_8 (c : Dev nD) (i : grid0.Coords) (arg2 : Memref sig .tc .vmem S2x512x256 .bf16) (harg2 : arg2.IsWhole) (arg3 : Memref sig .tc .vmem S2x16x256 .bf16) (harg3 : arg3.IsWhole) (arg4 : Memref sig .tc .vmem S2x16x256 .bf16) (harg4 : arg4.IsWhole) (arg5 : Memref sig .tc .vmem S512x256 .bf16) (harg5 : arg5.IsWhole) (arg6 : Memref sig .tc .vmem S16x256 .bf16) (harg6 : arg6.IsWhole) (arg7 : Memref sig .tc .vmem S2x3x256 .f32) (harg7 : arg7.IsWhole) (arg8 : Memref sig .tc .vmem S2x1x256 .f32) (harg8 : arg8.IsWhole) (arg9 : Memref sig .tc .vmem S2x512x256 .bf16) (harg9 : arg9.IsWhole) (arg10 : Memref sig .tc .vmem S2x8x256 .f32) (harg10 : arg10.IsWhole) (arg11 : Memref sig .tc .vmem S2x1x256 .f32) (harg11 : arg11.IsWhole) (hc0 : cond0_0 i) (x0 x1 x2 x3 x4 x5 x6) (hb : Blocks X W B D rb cs i x0 x1 x2 x3 x4 x5 x6)
    (g : Fin 2) (q : Fin 8) (s : Fin 256) :
    out0_A_8 (F := Ideal) c i arg2 harg2 arg3 harg3 arg4 harg4 arg5 harg5 arg6 harg6 arg7 harg7 arg8 harg8 arg9 harg9 arg10 harg10 arg11 harg11 hc0 x0 x1 x2 x3 x4 x5 x6 (ix3 g q s) = dwRow X W B D rb q g (cs s) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  have hU := tileU hb inb_S2x16x256_S1x16x256_0_0_0 inb_S2x512x256_S1x512x256_0_0_0 inb_S2x16x256_S1x16x256_0_0_0 inb_S2x3x256_S1x1x256_0_0_0 inb_S2x3x256_S1x1x256_0_1_0 inb_S2x3x256_S1x1x256_0_2_0 inb_S2x1x256_S1x1x256_0_0_0
  have h18 := isDu_pay18 X W B D rb cs _ hb.hnext hb.hrb _ _ (ld_dmid hb inb_S512x256_S512x256_0_0) (ld_dnext hb inb_S16x256_S16x256_0_0) _ hU _ _ _ _ (tile1 hb) _ _ _ _
    (ld_tap hb 1 0 inb_S2x3x256_S1x1x256_1_0_0) (ld_tap hb 1 1 inb_S2x3x256_S1x1x256_1_1_0) (ld_tap hb 1 2 inb_S2x3x256_S1x1x256_1_2_0) (ld_bias hb 1 inb_S2x1x256_S1x1x256_1_0_0)
  have h19 := isDu_pay19 X W B D rb cs _ hb.hnext hb.hrb _ _ (ld_dmid hb inb_S512x256_S512x256_0_0) (ld_dnext hb inb_S16x256_S16x256_0_0) _ hU
  rcases (by omega : g = 0 ∨ g = 1) with rfl | rfl
  · refine (canon_skip1 _ _ _ _ _).trans ((canon_half0 _ _ _ _ _).trans ?_)
    refine (dw_half0 X W B D rb cs i _ _ _ (tile0 hb) hb.hrb _ h18 _ q s).trans ?_
    refine (congrArg (· + _) ((cov_half _ _ 0 _ q s).trans (canon_zero8 _ 0 q s))).trans (zero_add _)
  · refine (canon_half1 _ _ _ _ _).trans ?_
    refine (dw_half1 X W B D rb cs _ _ _ _ _ rfl (tile1 hb) hb.hrb _ h19 _ q s).trans ?_
    refine (congrArg (· + _) ((cov_half _ _ 1 _ q s).trans ((canon_skip0 _ _ _ q s).trans (canon_zero8 _ 1 q s)))).trans (zero_add _)

theorem out_A_9 (c : Dev nD) (i : grid0.Coords) (arg2 : Memref sig .tc .vmem S2x512x256 .bf16) (harg2 : arg2.IsWhole) (arg3 : Memref sig .tc .vmem S2x16x256 .bf16) (harg3 : arg3.IsWhole) (arg4 : Memref sig .tc .vmem S2x16x256 .bf16) (harg4 : arg4.IsWhole) (arg5 : Memref sig .tc .vmem S512x256 .bf16) (harg5 : arg5.IsWhole) (arg6 : Memref sig .tc .vmem S16x256 .bf16) (harg6 : arg6.IsWhole) (arg7 : Memref sig .tc .vmem S2x3x256 .f32) (harg7 : arg7.IsWhole) (arg8 : Memref sig .tc .vmem S2x1x256 .f32) (harg8 : arg8.IsWhole) (arg9 : Memref sig .tc .vmem S2x512x256 .bf16) (harg9 : arg9.IsWhole) (arg10 : Memref sig .tc .vmem S2x8x256 .f32) (harg10 : arg10.IsWhole) (arg11 : Memref sig .tc .vmem S2x1x256 .f32) (harg11 : arg11.IsWhole) (hc0 : cond0_0 i) (x0 x1 x2 x3 x4 x5 x6) (hb : Blocks X W B D rb cs i x0 x1 x2 x3 x4 x5 x6)
    (g : Fin 2) (s : Fin 256) :
    out0_A_9 (F := Ideal) c i arg2 harg2 arg3 harg3 arg4 harg4 arg5 harg5 arg6 harg6 arg7 harg7 arg8 harg8 arg9 harg9 arg10 harg10 arg11 harg11 hc0 x0 x1 x2 x3 x4 x5 x6 (ix3 g 0 s) = dbPart X W B D rb g (cs s) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  have hU := tileU hb inb_S2x16x256_S1x16x256_0_0_0 inb_S2x512x256_S1x512x256_0_0_0 inb_S2x16x256_S1x16x256_0_0_0 inb_S2x3x256_S1x1x256_0_0_0 inb_S2x3x256_S1x1x256_0_1_0 inb_S2x3x256_S1x1x256_0_2_0 inb_S2x1x256_S1x1x256_0_0_0
  have h18 := isDu_pay18 X W B D rb cs _ hb.hnext hb.hrb _ _ (ld_dmid hb inb_S512x256_S512x256_0_0) (ld_dnext hb inb_S16x256_S16x256_0_0) _ hU _ _ _ _ (tile1 hb) _ _ _ _
    (ld_tap hb 1 0 inb_S2x3x256_S1x1x256_1_0_0) (ld_tap hb 1 1 inb_S2x3x256_S1x1x256_1_1_0) (ld_tap hb 1 2 inb_S2x3x256_S1x1x256_1_2_0) (ld_bias hb 1 inb_S2x1x256_S1x1x256_1_0_0)
  have h19 := isDu_pay19 X W B D rb cs _ hb.hnext hb.hrb _ _ (ld_dmid hb inb_S512x256_S512x256_0_0) (ld_dnext hb inb_S16x256_S16x256_0_0) _ hU
  rcases (by omega : g = 0 ∨ g = 1) with rfl | rfl
  · refine (canon_skip1 _ _ _ _ _).trans ((canon_half0 _ _ _ _ _).trans ?_)
    refine (db_half0 X W B D rb cs _ h18 _ s).trans ?_
    refine (congrArg (· + _) ((cov_half _ _ 0 _ 0 s).trans (canon_zero9 _ 0 s))).trans (zero_add _)
  · refine (canon_half1 _ _ _ _ _).trans ?_
    refine (db_half1 X W B D rb cs _ h19 _ s).trans ?_
    refine (congrArg (· + _) ((cov_half _ _ 1 _ 0 s).trans ((canon_skip0 _ _ _ 0 s).trans (canon_zero9 _ 1 s)))).trans (zero_add _)

end Cert.Kernel2Ideal.Conv

end
-- ==== Proof.ConvArr.lean ====
/- What the convolution's backward kernel leaves in its three result arrays. -/
module

public import proofs.«01_k».proof.Proof.ConvOut
public import Idealize.ShloMosaic.Lib.Pipeline.ValueKit.Point

@[expose] public section

set_option maxRecDepth 16384

noncomputable section

namespace Cert.Kernel2Ideal.Conv

open Idealize.ShloMosaic Idealize.ShloMosaic.TcCoe Idealize.SL.Sem Cert.Kernel2Ideal Cert.Kernel2Ideal.Gen Cert.Conv
open Idealize.ShloMosaic.Pipeline (Dat)

variable (m : (ℓ : Loc nD τ sig) → Buf (Elt Ideal) ℓ)

/-- The four arguments. -/
def kX (c : Dev nD) (r : Fin 4096) (s : Fin 5632) : EReal := m ((c : Thread nD τ).loc main_arg0) (ix2 r s)
def kW (c : Dev nD) (q : Fin 3) (s : Fin 5632) : EReal := m ((c : Thread nD τ).loc main_arg1) (ix2 q s)
def kB (c : Dev nD) (s : Fin 5632) : EReal := m ((c : Thread nD τ).loc main_arg2) (ix1 s)
def kD (c : Dev nD) (r : Fin 4096) (s : Fin 2816) : EReal := m ((c : Thread nD τ).loc main_arg3) (ix2 r s)

/-- The arrays the region finds, in terms of the arguments. -/
theorem entry_x (c : Dev nD) (g : Fin 2) (n : Fin 4096) (k : Fin 2816) : (V m c main_v2 : S2x4096x2816.Idx → EReal) (ix3 g n k) = kX m c n (col g k) := by
  entry_read
  unfold kX col
  pointwise []
  blk_ext []
theorem entry_d (c : Dev nD) (n : Fin 4096) (k : Fin 2816) : (V m c main_v3 : S4096x2816.Idx → EReal) (ix2 n k) = kD m c n k := by
  entry_read
  unfold kD
  pointwise []
theorem entry_w (c : Dev nD) (g : Fin 2) (q : Fin 3) (k : Fin 2816) : (V m c main_v5 : S2x3x2816.Idx → EReal) (ix3 g q k) = kW m c q (col g k) := by
  entry_read
  unfold kW col
  pointwise []
  blk_ext []
theorem entry_b (c : Dev nD) (g : Fin 2) (k : Fin 2816) : (V m c main_v6 : S2x1x2816.Idx → EReal) (ix3 g 0 k) = kB m c (col g k) := by
  entry_read
  unfold kB col
  pointwise []
  blk_ext []

theorem lt88 (t : Fin cfg0.N) : t.val < 88 := lt_of_lt_of_eq t.isLt N_0

/-- The row block and the columns of a grid point. -/
def rbt (t : Fin cfg0.N) : ℕ := t.val % 8
def cst (t : Fin cfg0.N) (s : Fin 256) : Fin 2816 := ⟨256 * (t.val / 8) + s.val, by have := lt88 t; omega⟩

theorem idx0 : ∀ t : Fin cfg0.N, win0_0.index t 0 = 0 ∧ win0_0.index t 1 = t.val % 8 ∧ win0_0.index t 2 = t.val / 8 :=
  (by decide +kernel : ∀ t : Fin grid0.N, win0_0.index t 0 = 0 ∧ win0_0.index t 1 = t.val % 8 ∧ win0_0.index t 2 = t.val / 8)
theorem idx1 : ∀ t : Fin cfg0.N, win0_1.index t 0 = 0 ∧ win0_1.index t 1 = 32 * (t.val % 8) - 1 ∧ win0_1.index t 2 = t.val / 8 :=
  (by decide +kernel : ∀ t : Fin grid0.N, win0_1.index t 0 = 0 ∧ win0_1.index t 1 = 32 * (t.val % 8) - 1 ∧ win0_1.index t 2 = t.val / 8)
theorem idx2 : ∀ t : Fin cfg0.N, win0_2.index t 0 = 0 ∧ win0_2.index t 1 = min (32 * (t.val % 8 + 1)) 255 ∧ win0_2.index t 2 = t.val / 8 :=
  (by decide +kernel : ∀ t : Fin grid0.N, win0_2.index t 0 = 0 ∧ win0_2.index t 1 = min (32 * (t.val % 8 + 1)) 255 ∧ win0_2.index t 2 = t.val / 8)
theorem idx3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)
theorem idx4 : ∀ t : Fin cfg0.N, win0_4.index t 0 = min (32 * (t.val % 8 + 1)) 255 ∧ win0_4.index t 1 = t.val / 8 :=
  (by decide +kernel : ∀ t : Fin grid0.N, win0_4.index t 0 = min (32 * (t.val % 8 + 1)) 255 ∧ win0_4.index t 1 = t.val / 8)
theorem idx5 : ∀ t : Fin cfg0.N, win0_5.index t 0 = 0 ∧ win0_5.index t 1 = 0 ∧ win0_5.index t 2 = t.val / 8 :=
  (by decide +kernel : ∀ t : Fin grid0.N, win0_5.index t 0 = 0 ∧ win0_5.index t 1 = 0 ∧ win0_5.index t 2 = t.val / 8)
theorem idx6 : ∀ t : Fin cfg0.N, win0_6.index t 0 = 0 ∧ win0_6.index t 1 = 0 ∧ win0_6.index t 2 = t.val / 8 :=
  (by decide +kernel : ∀ t : Fin grid0.N, win0_6.index t 0 = 0 ∧ win0_6.index t 1 = 0 ∧ win0_6.index t 2 = t.val / 8)
theorem idx7 : ∀ t : Fin cfg0.N, win0_7.index t 0 = 0 ∧ win0_7.index t 1 = t.val % 8 ∧ win0_7.index t 2 = t.val / 8 :=
  (by decide +kernel : ∀ t : Fin grid0.N, win0_7.index t 0 = 0 ∧ win0_7.index t 1 = t.val % 8 ∧ win0_7.index t 2 = t.val / 8)
theorem idx8 : ∀ t : Fin cfg0.N, win0_8.index t 0 = 0 ∧ win0_8.index t 1 = 0 ∧ win0_8.index t 2 = t.val / 8 :=
  (by decide +kernel : ∀ t : Fin grid0.N, win0_8.index t 0 = 0 ∧ win0_8.index t 1 = 0 ∧ win0_8.index t 2 = t.val / 8)
theorem idx9 : ∀ t : Fin cfg0.N, win0_9.index t 0 = 0 ∧ win0_9.index t 1 = 0 ∧ win0_9.index t 2 = t.val / 8 :=
  (by decide +kernel : ∀ t : Fin grid0.N, win0_9.index t 0 = 0 ∧ win0_9.index t 1 = 0 ∧ win0_9.index t 2 = t.val / 8)
theorem coord1 : ∀ t : Fin cfg0.N, (grid0.coords t 1).val = t.val % 8 :=
  (by decide +kernel : ∀ t : Fin grid0.N, (grid0.coords t 1).val = t.val % 8)

/-- A comparison of two words, as a number. -/
theorem flag_eq (p : BitVec 1) : (Scalar.sitofp (F := Ideal) .f32 (Scalar.extui p : BitVec 32) : EReal) = if p = 1#1 then (1 : EReal) else 0 := by
  rcases (by revert p; decide : p = 0#1 ∨ p = 1#1) with rfl | rfl <;> rw [Ideal.scalar_sitofp_def] <;> simp [Scalar.extui]

theorem prev_eq (t : Fin cfg0.N) : k0_pay5 (F := Ideal) (grid0.coords t) = if rbt t = 0 then (0 : EReal) else 1 := by
  have h := coord1 t
  unfold k0_pay5 rbt
  dsimp only
  rw [flag_eq, h]
  have h8 : t.val % 8 < 8 := Nat.mod_lt _ (by omega)
  generalize t.val % 8 = n at h8 ⊢
  interval_cases n <;> simp [Scalar.cmpi, IntOp.cmpi]

theorem next_eq (t : Fin cfg0.N) : k0_pay6 (F := Ideal) (grid0.coords t) = if rbt t < 7 then (1 : EReal) else 0 := by
  have h := coord1 t
  unfold k0_pay6 rbt
  dsimp only
  rw [flag_eq, h]
  have h8 : t.val % 8 < 8 := Nat.mod_lt _ (by omega)
  generalize t.val % 8 = n at h8 ⊢
  interval_cases n <;> simp [Scalar.cmpi, IntOp.cmpi]

theorem blocks (c : Dev nD) (t : Fin cfg0.N) : Blocks (kX m c) (kW m c) (kB m c) (kD m c) (rbt t) (cst t) (grid0.coords t)
    (iblk m c 0 t) (iblk m c 1 t) (iblk m c 2 t) (iblk m c 3 t) (iblk m c 4 t) (iblk m c 5 t) (iblk m c 6 t) where
  hrb := Nat.mod_lt _ (by omega)
  hprev := prev_eq t
  hnext := next_eq t
  h0 g r s := by
    have ht := lt88 t
    unfold rbt past
    rw [dif_pos (by omega), ← entry_x]
    unfold cst
    blk_ext [iblk, idx0 t]
  h1 h g r s := by
    have ht := lt88 t
    unfold rbt at *
    unfold past
    rw [dif_pos (by omega), ← entry_x]
    unfold cst
    blk_ext [iblk, idx1 t]
  h2 h g r s := by
    have ht := lt88 t
    unfold rbt at *
    unfold past
    rw [dif_pos (by omega), ← entry_x]
    unfold cst
    blk_ext [iblk, idx2 t]
  h3 r s h := by
    have ht := lt88 t
    unfold rbt at *
    rw [← entry_d]
    unfold cst
    blk_ext [iblk, idx3 t]
  h4 r s h := by
    have ht := lt88 t
    unfold rbt at *
    rw [← entry_d]
    unfold cst
    blk_ext [iblk, idx4 t]
  h5 g q s := by
    have ht := lt88 t
    rw [← entry_w]
    unfold cst
    blk_ext [iblk, idx5 t]
  h6 g s := by
    have ht := lt88 t
    rw [← entry_b]
    unfold cst
    blk_ext [iblk, idx6 t]

/-! ## What the outputs' blocks hold after each grid point -/

theorem at7 (c : Dev nD) (t : Fin cfg0.N) (g : Fin 2) (r : Fin 512) (s : Fin 256) :
    (outsAt0 m c t.val t.isLt).1 (ix3 g r s) = dx (kX m c) (kW m c) (kB m c) (kD m c) (512 * rbt t + r.val) g (cst t s) := by
  by_cases h : t.val % 8 = 0
  · have e := congrArg (fun p => p.1) (outsAt0_A m c t h)
    dsimp only at e
    have e' := out_A_7 (kX m c) (kW m c) (kB m c) (kD m c) (rbt t) (cst t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t) (iblk m c 3 t) (iblk m c 4 t) (iblk m c 5 t) (iblk m c 6 t) (blocks m c t) g r s
    exact (congrFun e _).trans e'
  · have e := congrArg (fun p => p.1) (outsAt0_B m c t h)
    dsimp only at e
    have e' := out_B_7 (kX m c) (kW m c) (kB m c) (kD m c) (rbt t) (cst t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h0 => h ((hcond0_0 t).mp h0)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (blocks m c t) g r s
    exact (congrFun e _).trans e'

/-- One grid point's addend to the gradient of the taps, and to that of the bias. -/
def term8 (c : Dev nD) (t : Fin cfg0.N) (i : S2x8x256.Idx) : EReal :=
  dwRow (kX m c) (kW m c) (kB m c) (kD m c) (rbt t) (i 1) (i 0) (cst t (i 2))
def term9 (c : Dev nD) (t : Fin cfg0.N) (i : S2x1x256.Idx) : EReal :=
  dbPart (kX m c) (kW m c) (kB m c) (kD m c) (rbt t) (i 0) (cst t (i 2))

theorem idx_one (i : S2x1x256.Idx) : ∃ (g : Fin 2) (s : Fin 256), i = ix3 g 0 s :=
  ⟨i 0, i 2, (eq_ix3 i).trans (congrArg (fun q : Fin 1 => (ix3 (i 0) q (i 2) : S2x1x256.Idx)) (Subsingleton.elim _ _))⟩

theorem zero8 (c : Dev nD) (t : Fin cfg0.N) (h : t.val % 8 = 0) (i : S2x8x256.Idx) :
    (outsAt0 m c t.val t.isLt).2.1 i = (fun _ => 0 : S2x8x256.Idx → EReal) i + term8 m c t i := by
  refine Eq.trans ?_ (zero_add _).symm
  obtain ⟨g, q, s, rfl⟩ : ∃ (g : Fin 2) (q : Fin 8) (s : Fin 256), i = ix3 g q s := ⟨i 0, i 1, i 2, eq_ix3 i⟩
  have e := congrArg (fun p => p.2.1) (outsAt0_A m c t h)
  dsimp only at e
  have e' := out_A_8 (kX m c) (kW m c) (kB m c) (kD m c) (rbt t) (cst t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t) (iblk m c 3 t) (iblk m c 4 t) (iblk m c 5 t) (iblk m c 6 t) (blocks m c t) g q s
  exact (congrFun e _).trans e'
theorem step8 (c : Dev nD) (t : Fin cfg0.N) (h : ¬t.val % 8 = 0) (i : S2x8x256.Idx) :
    (outsAt0 m c t.val t.isLt).2.1 i = (show EReal from (outsAt0 m c (t.val - 1) (Nat.lt_of_le_of_lt (Nat.sub_le _ _) t.isLt)).2.1 i) + term8 m c t i := by
  obtain ⟨g, q, s, rfl⟩ : ∃ (g : Fin 2) (q : Fin 8) (s : Fin 256), i = ix3 g q s := ⟨i 0, i 1, i 2, eq_ix3 i⟩
  have e := congrArg (fun p => p.2.1) (outsAt0_B m c t h)
  dsimp only at e
  have e' := out_B_8 (kX m c) (kW m c) (kB m c) (kD m c) (rbt t) (cst t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h0 => h ((hcond0_0 t).mp h0)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (blocks m c t) g q s
  exact (congrFun e _).trans e'
theorem zero9 (c : Dev nD) (t : Fin cfg0.N) (h : t.val % 8 = 0) (i : S2x1x256.Idx) :
    (outsAt0 m c t.val t.isLt).2.2 i = (fun _ => 0 : S2x1x256.Idx → EReal) i + term9 m c t i := by
  refine Eq.trans ?_ (zero_add _).symm
  obtain ⟨g, s, rfl⟩ := idx_one i
  have e := congrArg (fun p => p.2.2) (outsAt0_A m c t h)
  dsimp only at e
  have e' := out_A_9 (kX m c) (kW m c) (kB m c) (kD m c) (rbt t) (cst t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t) (iblk m c 3 t) (iblk m c 4 t) (iblk m c 5 t) (iblk m c 6 t) (blocks m c t) g s
  exact (congrFun e _).trans e'
theorem step9 (c : Dev nD) (t : Fin cfg0.N) (h : ¬t.val % 8 = 0) (i : S2x1x256.Idx) :
    (outsAt0 m c t.val t.isLt).2.2 i = (show EReal from (outsAt0 m c (t.val - 1) (Nat.lt_of_le_of_lt (Nat.sub_le _ _) t.isLt)).2.2 i) + term9 m c t i := by
  obtain ⟨g, s, rfl⟩ := idx_one i
  have e := congrArg (fun p => p.2.2) (outsAt0_B m c t h)
  dsimp only at e
  have e' := out_B_9 (kX m c) (kW m c) (kB m c) (kD m c) (rbt t) (cst t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h0 => h ((hcond0_0 t).mp h0)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 (blocks m c t) g s
  exact (congrFun e _).trans e'

/-- The points of one column tile: their columns are the tile's, their row blocks run through the eight. -/
theorem run_cst (t : Fin cfg0.N) (s : Fin 8) (hs : 8 * (t.val / 8) + s.val < cfg0.N) : cst ⟨8 * (t.val / 8) + s.val, hs⟩ = cst t :=
  funext fun k => Fin.ext (by show 256 * ((8 * (t.val / 8) + s.val) / 8) + k.val = 256 * (t.val / 8) + k.val; omega)
theorem run_rbt (t : Fin cfg0.N) (s : Fin 8) (hs : 8 * (t.val / 8) + s.val < cfg0.N) : rbt ⟨8 * (t.val / 8) + s.val, hs⟩ = s.val := by
  show (8 * (t.val / 8) + s.val) % 8 = s.val; omega

theorem at8 (c : Dev nD) (t : Fin cfg0.N) (h : t.val % 8 = 7) (g : Fin 2) (q : Fin 8) (s : Fin 256) :
    (outsAt0 m c t.val t.isLt).2.1 (ix3 g q s) = if q.val < 3 then dw (kX m c) (kW m c) (kB m c) (kD m c) q.val g (cst t s) else 0 := by
  refine (Pipeline.eq_sum_fin_of_reset_step_apply_of_flush (M := EReal) (fun n h => (outsAt0 m c n h).2.1) 8 (fun _ => 0) (term8 m c) (zero8 m c) (step8 m c) t h (ix3 g q s)).trans ?_
  refine (zero_add _).trans ?_
  refine (Finset.sum_congr rfl fun p _ => show _ = dwRow (kX m c) (kW m c) (kB m c) (kD m c) p.val q g (cst t s) from ?_).trans ?_
  · show dwRow (kX m c) (kW m c) (kB m c) (kD m c) (rbt ⟨8 * (t.val / 8) + p.val, _⟩) q g (cst ⟨8 * (t.val / 8) + p.val, _⟩ s) = _
    rw [run_cst, run_rbt]
  · by_cases hq : q.val < 3
    · simp only [dwRow, if_pos hq, dwPart]
      refine Fin.sum_mul_add_congr fun p k hl => ?_
      rw [Nat.mul_comm 512]
    · simp only [dwRow, if_neg hq, Finset.sum_const_zero]

theorem at9 (c : Dev nD) (t : Fin cfg0.N) (h : t.val % 8 = 7) (g : Fin 2) (s : Fin 256) :
    (outsAt0 m c t.val t.isLt).2.2 (ix3 g 0 s) = db (kX m c) (kW m c) (kB m c) (kD m c) g (cst t s) := by
  refine (Pipeline.eq_sum_fin_of_reset_step_apply_of_flush (M := EReal) (fun n h => (outsAt0 m c n h).2.2) 8 (fun _ => 0) (term9 m c) (zero9 m c) (step9 m c) t h (ix3 g 0 s)).trans ?_
  refine (zero_add _).trans ?_
  refine (Finset.sum_congr rfl fun p _ => show _ = dbPart (kX m c) (kW m c) (kB m c) (kD m c) p.val g (cst t s) from ?_).trans ?_
  · show dbPart (kX m c) (kW m c) (kB m c) (kD m c) (rbt ⟨8 * (t.val / 8) + p.val, _⟩) g (cst ⟨8 * (t.val / 8) + p.val, _⟩ s) = _
    rw [run_cst, run_rbt]
  · simp only [dbPart]
    refine Fin.sum_mul_add_congr fun p k hl => ?_
    rw [Nat.mul_comm 512]

/-! ## The three result arrays -/

def G7 (c : Dev nD) (i : S2x4096x2816.Idx) : EReal := dx (kX m c) (kW m c) (kB m c) (kD m c) (i 1).val (i 0) (i 2)
def G8 (c : Dev nD) (i : S2x8x2816.Idx) : EReal := if (i 1).val < 3 then dw (kX m c) (kW m c) (kB m c) (kD m c) (i 1).val (i 0) (i 2) else 0
def G9 (c : Dev nD) (i : S2x1x2816.Idx) : EReal := db (kX m c) (kW m c) (kB m c) (kD m c) (i 0) (i 2)

theorem arr7 (c : Dev nD) : (dats m 0 c).arrAt 7 cfg0.N = (G7 m c : S2x4096x2816.Idx → EReal) := by
  refine (dats m 0 c).arrAt_eq_of_covers 7 _ (by decide +kernel) fun t hf y => ?_
  have ht := lt88 t
  blk_simp
  rw [after0_7]
  obtain ⟨g, r, s, rfl⟩ : ∃ (g : Fin 2) (r : Fin 512) (s : Fin 256), y = ix3 g r s := ⟨y 0, y 1, y 2, eq_ix3 y⟩
  have e : ((win0_7.blk t).view.emb (ix3 g r s) : S2x4096x2816.Idx) = ix3 g ⟨512 * rbt t + r.val, by unfold rbt; omega⟩ (cst t s) := by
    unfold rbt cst
    blk_ext [idx7 t]
  exact (at7 m c t g r s).trans (congrArg (G7 m c) e).symm

theorem arr8 (c : Dev nD) : (dats m 0 c).arrAt 8 cfg0.N = (G8 m c : S2x8x2816.Idx → EReal) := by
  refine (dats m 0 c).arrAt_eq_of_covers 8 _ (by decide +kernel) fun t hf y => ?_
  have ht := lt88 t
  have h7 := (flush0_8 t).mp hf
  blk_simp
  rw [after0_8]
  obtain ⟨g, q, s, rfl⟩ : ∃ (g : Fin 2) (q : Fin 8) (s : Fin 256), y = ix3 g q s := ⟨y 0, y 1, y 2, eq_ix3 y⟩
  have e : ((win0_8.blk t).view.emb (ix3 g q s) : S2x8x2816.Idx) = ix3 g q (cst t s) := by
    unfold cst
    blk_ext [idx8 t]
  exact (at8 m c t h7 g q s).trans (congrArg (G8 m c) e).symm

theorem arr9 (c : Dev nD) : (dats m 0 c).arrAt 9 cfg0.N = (G9 m c : S2x1x2816.Idx → EReal) := by
  refine (dats m 0 c).arrAt_eq_of_covers 9 _ (by decide +kernel) fun t hf y => ?_
  have ht := lt88 t
  have h7 := (flush0_9 t).mp hf
  blk_simp
  rw [after0_9]
  obtain ⟨g, s, rfl⟩ := idx_one y
  have e : ((win0_9.blk t).view.emb (ix3 g 0 s) : S2x1x2816.Idx) = ix3 g 0 (cst t s) := by
    unfold cst
    blk_ext [idx9 t]
  exact (at9 m c t h7 g s).trans (congrArg (G9 m c) e).symm

end Cert.Kernel2Ideal.Conv

end
-- ==== Proof.ConvRef.lean ====
/- The reference of the convolution's backward pass, read element by element. -/
module

public import proofs.«01_k».proof.Proof.ConvSpec
public import proofs.«01_k».proof.Proof.Gen.Reference2Ideal.Run

@[expose] public section

set_option maxRecDepth 16384

noncomputable section

namespace Cert.Reference2Ideal.Conv

open Cert.Reference2Ideal Cert.Reference2Ideal.Gen Cert.Reference2Ideal.Value Cert.Conv
open Idealize.ShloMosaic Idealize.ShloMosaic.TcCoe

variable (x : FVec Ideal S4096x5632 .f32) (w : FVec Ideal S3x5632 .f32) (b : FVec Ideal S5632 .f32) (d : FVec Ideal S4096x2816 .f32)

/-- `x` behind two rows of zeros. -/
def hPast : FVec Ideal S4098x5632 .f32 :=
  concatenate S4098x5632 0 [⟨S2x5632, (broadcastInDim S2x5632 ![] bcast_S_S2x5632 (constant S_ .f32 0x00000000#32))⟩, ⟨S4096x5632, x⟩] concatenates_S2x5632_S4096x5632_S4098x5632_d0

theorem hPast_apply (n : Fin 4098) (j : Fin 5632) : hPast x (ix2 n j) = past (fun r c => x (ix2 r c)) n.val j := by
  pointwise [hPast, past]
  by_cases h : n.val < 2
  · rw [dif_pos h, dif_neg (by omega)]
  · rw [dif_neg h, dif_pos (by omega)]

/-- The convolution. -/
def hU : FVec Ideal S4096x5632 .f32 :=
  addf (addf (addf
    (mulf (broadcastInDim S4096x5632 ![0, 1] bcast_S1x5632_S4096x5632_0_1 (extractStridedSlice S1x5632 ![0, 0] w slices_S3x5632_S1x5632_0_0)) (extractStridedSlice S4096x5632 ![0, 0] (hPast x) slices_S4098x5632_S4096x5632_0_0))
    (mulf (broadcastInDim S4096x5632 ![0, 1] bcast_S1x5632_S4096x5632_0_1 (extractStridedSlice S1x5632 ![1, 0] w slices_S3x5632_S1x5632_1_0)) (extractStridedSlice S4096x5632 ![1, 0] (hPast x) slices_S4098x5632_S4096x5632_1_0)))
    (mulf (broadcastInDim S4096x5632 ![0, 1] bcast_S1x5632_S4096x5632_0_1 (extractStridedSlice S1x5632 ![2, 0] w slices_S3x5632_S1x5632_2_0)) (extractStridedSlice S4096x5632 ![2, 0] (hPast x) slices_S4098x5632_S4096x5632_2_0)))
    (broadcastInDim S4096x5632 ![0, 1] bcast_S1x5632_S4096x5632_0_1 (broadcastInDim S1x5632 ![1] bcast_S5632_S1x5632_1 b))

theorem hU_apply (n : Fin 4096) (j : Fin 5632) : hU x w b (ix2 n j)
    = u (fun r c => x (ix2 r c)) (fun r c => w (ix2 r c)) (fun c => b (ix1 c)) n.val j := by
  pointwise [hU, u]
  simp only [hPast_apply, Nat.add_comm]

/-- The halves of the convolution. -/
def hA : FVec Ideal S4096x2816 .f32 := extractStridedSlice S4096x2816 ![0, 0] (hU x w b) slices_S4096x5632_S4096x2816_0_0
def hC : FVec Ideal S4096x2816 .f32 := extractStridedSlice S4096x2816 ![0, 2816] (hU x w b) slices_S4096x5632_S4096x2816_0_2816

theorem hA_apply (n : Fin 4096) (k : Fin 2816) : hA x w b (ix2 n k)
    = u (fun r c => x (ix2 r c)) (fun r c => w (ix2 r c)) (fun c => b (ix1 c)) n.val (col 0 k) := by
  pointwise [hA]
  rw [← hU_apply]
  congr 2
  apply Fin.ext
  simp [col]

theorem hC_apply (n : Fin 4096) (k : Fin 2816) : hC x w b (ix2 n k)
    = u (fun r c => x (ix2 r c)) (fun r c => w (ix2 r c)) (fun c => b (ix1 c)) n.val (col 1 k) := by
  pointwise [hC]
  rw [← hU_apply]
  rfl

/-- The normal distribution function and the density on the host: the roots are taken at run time. -/
def hCdf (a : FVec Ideal S4096x2816 .f32) : FVec Ideal S4096x2816 .f32 :=
  mulf (broadcastInDim S4096x2816 ![] bcast_S_S4096x2816 (constant S_ .f32 0x3F000000#32)) (addf (broadcastInDim S4096x2816 ![] bcast_S_S4096x2816 (constant S_ .f32 0x3F800000#32)) (Host.erf (Host.divf a (broadcastInDim S4096x2816 ![] bcast_S_S4096x2816 (Host.sqrt (constant S_ .f32 0x40000000#32))))))
def hPdf (a : FVec Ideal S4096x2816 .f32) : FVec Ideal S4096x2816 .f32 :=
  Host.divf (Host.exp (mulf (broadcastInDim S4096x2816 ![] bcast_S_S4096x2816 (constant S_ .f32 0xBF000000#32)) (mulf a a))) (broadcastInDim S4096x2816 ![] bcast_S_S4096x2816 (Host.sqrt (mulf (constant S_ .f32 0x40000000#32) (Host.acos (constant S_ .f32 0xBF800000#32)))))

theorem two_word : Ideal.ofBits .f32 0x40000000#32 = ((2 : ℝ) : EReal) := by
  simp [Ideal.ofBits, Ideal.ieee, -EReal.coe_mul]; norm_num
theorem neg_one_word : Ideal.ofBits .f32 0xBF800000#32 = ((-1 : ℝ) : EReal) := by
  simp [Ideal.ofBits, Ideal.ieee, -EReal.coe_mul]; norm_num

theorem hCdf_apply (a : FVec Ideal S4096x2816 .f32) (i : S4096x2816.Idx) : hCdf a i = cdf (a i) := by
  pointwise [hCdf, cdf]
  rw [two_word, Ideal.sqrt_coe, if_neg (by norm_num), Ideal.div_coe (by positivity), one_div]

theorem hPdf_apply (a : FVec Ideal S4096x2816 .f32) (i : S4096x2816.Idx) : hPdf a i = pdf (a i) := by
  pointwise [hPdf, pdf]
  rw [two_word, neg_one_word, Ideal.acos_coe, if_pos (by norm_num), Real.arccos_neg_one, ← EReal.coe_mul, Ideal.sqrt_coe,
    if_neg (not_lt.mpr (by positivity)), Ideal.div_coe (by positivity), one_div]

/-- The gradient of the convolution's output. -/
def hDu : FVec Ideal S4096x5632 .f32 :=
  fn_main_v54 (mulf (addf (hCdf (hA x w b)) (mulf (hA x w b) (hPdf (hA x w b)))) (mulf d (hC x w b)))
    (mulf (mulf (hA x w b) (hCdf (hA x w b))) d)

theorem hDu_apply (n : Fin 4096) (g : Fin 2) (k : Fin 2816) : hDu x w b d (ix2 n (col g k))
    = du (fun r c => x (ix2 r c)) (fun r c => w (ix2 r c)) (fun c => b (ix1 c)) (fun r c => d (ix2 r c)) n.val g k := by
  have h0 : ∀ g : Fin 2, ∀ k : Fin 2816, (col g k).val = g.val * 2816 + k.val := fun _ _ => rfl
  rw [du, dif_pos n.isLt]
  pointwise [hDu, fn_main_v54]
  simp only [hCdf_apply, hPdf_apply, hA_apply, hC_apply]
  by_cases hg : g = 0
  · subst hg
    have hk : (col 0 k).val < 2816 := by rw [h0]; simp
    rw [dif_pos hk, if_pos rfl]
    have e : (⟨(col 0 k).val, hk⟩ : Fin 2816) = k := Fin.ext (by rw [h0]; simp)
    rw [e, mul_comm]
  · have h1 : g = 1 := by omega
    subst h1
    have hk : ¬ (col 1 k).val < 2816 := by rw [h0]; simp
    rw [dif_neg hk, if_neg hg]
    have e : ∀ h, (⟨(col 1 k).val - 2816, h⟩ : Fin 2816) = k := fun h => Fin.ext (by simp [h0])
    rw [e, mul_comm]

/-- The gradient of the convolution's input, before it is cut into halves: each tap sends the gradient back by its
    distance. -/
def hDx : FVec Ideal S4096x5632 .f32 :=
  extractStridedSlice S4096x5632 ![2, 0] (addf (addf
    (pad S4098x5632 ![2, 0] ![0, 0] ![0, 0] (mulf (broadcastInDim S4096x5632 ![0, 1] bcast_S1x5632_S4096x5632_0_1 (extractStridedSlice S1x5632 ![2, 0] w slices_S3x5632_S1x5632_2_0)) (hDu x w b d)) (constant S_ .f32 0x00000000#32) pads_S4096x5632_S4098x5632_200_000 h_S_)
    (pad S4098x5632 ![1, 0] ![1, 0] ![0, 0] (mulf (broadcastInDim S4096x5632 ![0, 1] bcast_S1x5632_S4096x5632_0_1 (extractStridedSlice S1x5632 ![1, 0] w slices_S3x5632_S1x5632_1_0)) (hDu x w b d)) (constant S_ .f32 0x00000000#32) pads_S4096x5632_S4098x5632_110_000 h_S_))
    (pad S4098x5632 ![0, 0] ![2, 0] ![0, 0] (mulf (broadcastInDim S4096x5632 ![0, 1] bcast_S1x5632_S4096x5632_0_1 (extractStridedSlice S1x5632 ![0, 0] w slices_S3x5632_S1x5632_0_0)) (hDu x w b d)) (constant S_ .f32 0x00000000#32) pads_S4096x5632_S4098x5632_020_000 h_S_)) slices_S4098x5632_S4096x5632_2_0

theorem hDx_apply (n : Fin 4096) (g : Fin 2) (k : Fin 2816) : hDx x w b d (ix2 n (col g k))
    = dx (fun r c => x (ix2 r c)) (fun r c => w (ix2 r c)) (fun c => b (ix1 c)) (fun r c => d (ix2 r c)) n.val g k := by
  pointwise [hDx, dx]
  simp only [hDu_apply]
  have z : ∀ q, ¬ q < 4096 → ∀ a : EReal, a * du (fun r c => x (ix2 r c)) (fun r c => w (ix2 r c)) (fun c => b (ix1 c)) (fun r c => d (ix2 r c)) q g k = 0 := fun q hq a => by
    rw [du, dif_neg hq, mul_zero]
  have e : 2 + n.val - 1 = n.val + 1 := by omega
  simp only [e]
  simp only [Nat.add_comm 2]
  congr 1
  · congr 1
    by_cases h : n.val + 1 < 4096
    · rw [dif_pos ⟨by omega, h⟩]
    · rw [dif_neg (fun h' => h h'.2), z _ h]
  · by_cases h : n.val + 2 < 4096
    · rw [dif_pos h]
    · rw [dif_neg h, z _ h]

/-- The sum over the rows of the gradient times a shifted input. -/
def hTap0 : FVec Ideal S5632 .f32 := Host.reduceAdd (mulf (hDu x w b d) (extractStridedSlice S4096x5632 ![0, 0] (hPast x) slices_S4098x5632_S4096x5632_0_0)) (constant S_ .f32 0x00000000#32) reducesTo_S4096x5632_S5632_d0 h_S_
def hTap1 : FVec Ideal S5632 .f32 := Host.reduceAdd (mulf (hDu x w b d) (extractStridedSlice S4096x5632 ![1, 0] (hPast x) slices_S4098x5632_S4096x5632_1_0)) (constant S_ .f32 0x00000000#32) reducesTo_S4096x5632_S5632_d0 h_S_
def hTap2 : FVec Ideal S5632 .f32 := Host.reduceAdd (mulf (hDu x w b d) (extractStridedSlice S4096x5632 ![2, 0] (hPast x) slices_S4098x5632_S4096x5632_2_0)) (constant S_ .f32 0x00000000#32) reducesTo_S4096x5632_S5632_d0 h_S_
def hBias : FVec Ideal S5632 .f32 := Host.reduceAdd (hDu x w b d) (constant S_ .f32 0x00000000#32) reducesTo_S4096x5632_S5632_d0 h_S_

theorem hTap0_apply (g : Fin 2) (k : Fin 2816) : hTap0 x w b d (ix1 (col g k))
    = dw (fun r c => x (ix2 r c)) (fun r c => w (ix2 r c)) (fun c => b (ix1 c)) (fun r c => d (ix2 r c)) 0 g k := by
  pointwise [hTap0, dw]
  simp only [hDu_apply, hPast_apply]
theorem hTap1_apply (g : Fin 2) (k : Fin 2816) : hTap1 x w b d (ix1 (col g k))
    = dw (fun r c => x (ix2 r c)) (fun r c => w (ix2 r c)) (fun c => b (ix1 c)) (fun r c => d (ix2 r c)) 1 g k := by
  pointwise [hTap1, dw]
  simp only [hDu_apply, hPast_apply, Nat.add_comm]
theorem hTap2_apply (g : Fin 2) (k : Fin 2816) : hTap2 x w b d (ix1 (col g k))
    = dw (fun r c => x (ix2 r c)) (fun r c => w (ix2 r c)) (fun c => b (ix1 c)) (fun r c => d (ix2 r c)) 2 g k := by
  pointwise [hTap2, dw]
  simp only [hDu_apply, hPast_apply, Nat.add_comm]
theorem hBias_apply (g : Fin 2) (k : Fin 2816) : hBias x w b d (ix1 (col g k))
    = db (fun r c => x (ix2 r c)) (fun r c => w (ix2 r c)) (fun c => b (ix1 c)) (fun r c => d (ix2 r c)) g k := by
  pointwise [hBias, db]
  simp only [hDu_apply]

/-- The gradients of the taps, one row per tap, in halves and filled up to eight rows. -/
def hDw : FVec Ideal S2x8x2816 .f32 :=
  pad S2x8x2816 ![0, 0, 0] ![0, 5, 0] ![0, 0, 0] (transpose S2x3x2816 [1, 0, 2] (shapeCast S3x2x2816 (addf (addf
    (pad S3x5632 ![2, 0] ![0, 0] ![0, 0] (shapeCast S1x5632 (hTap2 x w b d) shapeCasts_S5632_S1x5632) (constant S_ .f32 0x00000000#32) pads_S1x5632_S3x5632_200_000 h_S_)
    (pad S3x5632 ![1, 0] ![1, 0] ![0, 0] (shapeCast S1x5632 (hTap1 x w b d) shapeCasts_S5632_S1x5632) (constant S_ .f32 0x00000000#32) pads_S1x5632_S3x5632_110_000 h_S_))
    (pad S3x5632 ![0, 0] ![2, 0] ![0, 0] (shapeCast S1x5632 (hTap0 x w b d) shapeCasts_S5632_S1x5632) (constant S_ .f32 0x00000000#32) pads_S1x5632_S3x5632_020_000 h_S_)) shapeCasts_S3x5632_S3x2x2816) transposes_S3x2x2816_S2x3x2816_1_0_2) (sitofp .f32 (constantI S_ 32 0#32)) pads_S2x3x2816_S2x8x2816_000_050_000 h_S_

theorem hDw_apply (g : Fin 2) (q : Fin 8) (k : Fin 2816) : hDw x w b d (ix3 g q k)
    = if q.val < 3 then dw (fun r c => x (ix2 r c)) (fun r c => w (ix2 r c)) (fun c => b (ix1 c)) (fun r c => d (ix2 r c)) q.val g k else 0 := by
  have z : FloatOps.sitofp (F := Ideal) FTy.f32 (0#32) = (0 : EReal) := by
    show (((0#32 : BitVec 32).toInt : ℝ) : EReal) = 0
    simp
  have e : ∀ h, (⟨g.val * 2816 + k.val, h⟩ : Fin 5632) = col g k := fun _ => rfl
  pointwise [hDw]
  simp only [z, e, hTap0_apply, hTap1_apply, hTap2_apply]
  have hb : g.val * 2816 + k.val < 5632 := (col g k).isLt
  fin_vals q with hq
  all_goals simp [hb, hq, Fin.ext_iff]

section
variable (m : (ℓ : Loc nD τ sig) → Buf (Elt Ideal) ℓ) (c : Dev nD)

/-- The four arguments. -/
abbrev aX : FVec Ideal S4096x5632 .f32 := m ((c.tc : Thread nD τ).loc main_arg0)
abbrev aW : FVec Ideal S3x5632 .f32 := m ((c.tc : Thread nD τ).loc main_arg1)
abbrev aB : FVec Ideal S5632 .f32 := m ((c.tc : Thread nD τ).loc main_arg2)
abbrev aD : FVec Ideal S4096x2816 .f32 := m ((c.tc : Thread nD τ).loc main_arg3)

theorem out0_eq : res_out0 (F := Ideal) m c = truncf .bf16 (transpose S2x4096x2816 [1, 0, 2] (shapeCast S4096x2x2816
    (hDx (aX m c) (aW m c) (aB m c) (aD m c)) shapeCasts_S4096x5632_S4096x2x2816) transposes_S4096x2x2816_S2x4096x2816_1_0_2) bitsLt_bf16_f32 := rfl
theorem out1_eq : res_out1 (F := Ideal) m c = hDw (aX m c) (aW m c) (aB m c) (aD m c) := rfl
theorem out2_eq : res_out2 (F := Ideal) m c = shapeCast S2x1x2816 (Host.reduceAdd (shapeCast S1x5632 (hBias (aX m c) (aW m c) (aB m c) (aD m c)) shapeCasts_S5632_S1x5632) (constant S_ .f32 0x00000000#32) reducesTo_S1x5632_S5632_d0 h_S_) shapeCasts_S5632_S2x1x2816 := rfl

theorem out0_apply (g : Fin 2) (n : Fin 4096) (k : Fin 2816) : res_out0 (F := Ideal) m c (ix3 g n k)
    = dx (fun r s => aX m c (ix2 r s)) (fun r s => aW m c (ix2 r s)) (fun s => aB m c (ix1 s)) (fun r s => aD m c (ix2 r s)) n.val g k := by
  rw [out0_eq, ← hDx_apply]
  pointwise
  rfl
theorem out1_apply (g : Fin 2) (q : Fin 8) (k : Fin 2816) : res_out1 (F := Ideal) m c (ix3 g q k)
    = if q.val < 3 then dw (fun r s => aX m c (ix2 r s)) (fun r s => aW m c (ix2 r s)) (fun s => aB m c (ix1 s)) (fun r s => aD m c (ix2 r s)) q.val g k else 0 := by
  rw [out1_eq, hDw_apply]
theorem out2_apply (g : Fin 2) (k : Fin 2816) : res_out2 (F := Ideal) m c (ix3 g 0 k)
    = db (fun r s => aX m c (ix2 r s)) (fun r s => aW m c (ix2 r s)) (fun s => aB m c (ix1 s)) (fun r s => aD m c (ix2 r s)) g k := by
  rw [out2_eq, ← hBias_apply]
  pointwise
  simp only [Finset.univ_unique, Finset.sum_const, Finset.card_singleton, one_smul]
  rfl

end

end Cert.Reference2Ideal.Conv

end
-- ==== Proof.ConvClaim.lean ====
/- The convolution's backward kernel and its reference compute the same three arrays. -/
module

public import proofs.«01_k».proof.Defs
public import proofs.«01_k».proof.Proof.ConvArr
public import proofs.«01_k».proof.Proof.ConvRef

@[expose] public section

set_option maxRecDepth 16384

noncomputable section

namespace Cert.Proof

open Idealize.ShloMosaic Idealize.ShloMosaic.TcCoe Idealize.SL.Sem

theorem algebraic_conv : Cert.algebraic_Kernel2Ideal_Reference2Ideal := by
  intro m ρ m' ρ' _ hagree
  refine ⟨fun c => Cert.Kernel2Ideal.Conv.G7 m c, fun c => Cert.Kernel2Ideal.Conv.G8 m c, fun c => Cert.Kernel2Ideal.Conv.G9 m c,
    (θ_run _ _ _).mono (fun r h c => ?_) (Cert.Kernel2Ideal.Value.run_blocks m ρ),
    (θ_run _ _ _).mono (fun r h c => ?_) (Cert.Reference2Ideal.Value.run (F := Ideal) m' ρ')⟩
  · obtain ⟨h7, h8, h9, hk⟩ := h c
    exact ⟨h7.trans (Cert.Kernel2Ideal.Conv.arr7 m c), h8.trans (Cert.Kernel2Ideal.Conv.arr8 m c), h9.trans (Cert.Kernel2Ideal.Conv.arr9 m c), hk⟩
  · obtain ⟨h7, h8, h9, hk⟩ := h c
    obtain ⟨a0, a1, a2, a3⟩ := hagree c
    have eX : (fun r s => Cert.Reference2Ideal.Conv.aX m' c (ix2 r s)) = Cert.Kernel2Ideal.Conv.kX m c := funext fun r => funext fun s => congrFun a0 (ix2 r s)
    have eW : (fun r s => Cert.Reference2Ideal.Conv.aW m' c (ix2 r s)) = Cert.Kernel2Ideal.Conv.kW m c := funext fun r => funext fun s => congrFun a1 (ix2 r s)
    have eB : (fun s => Cert.Reference2Ideal.Conv.aB m' c (ix1 s)) = Cert.Kernel2Ideal.Conv.kB m c := funext fun s => congrFun a2 (ix1 s)
    have eD : (fun r s => Cert.Reference2Ideal.Conv.aD m' c (ix2 r s)) = Cert.Kernel2Ideal.Conv.kD m c := funext fun r => funext fun s => congrFun a3 (ix2 r s)
    refine ⟨h7.trans (funext fun (i : Cert.Kernel2Ideal.S2x4096x2816.Idx) => ?_), h8.trans (funext fun (i : Cert.Kernel2Ideal.S2x8x2816.Idx) => ?_),
      h9.trans (funext fun (i : Cert.Kernel2Ideal.S2x1x2816.Idx) => ?_), hk⟩
    · obtain ⟨g, n, k, rfl⟩ : ∃ (g : Fin 2) (n : Fin 4096) (k : Fin 2816), i = ix3 g n k := ⟨i 0, i 1, i 2, eq_ix3 i⟩
      refine (Cert.Reference2Ideal.Conv.out0_apply m' c g n k).trans ?_
      rw [eX, eW, eB, eD]
      rfl
    · obtain ⟨g, q, k, rfl⟩ : ∃ (g : Fin 2) (q : Fin 8) (k : Fin 2816), i = ix3 g q k := ⟨i 0, i 1, i 2, eq_ix3 i⟩
      refine (Cert.Reference2Ideal.Conv.out1_apply m' c g q k).trans ?_
      rw [eX, eW, eB, eD]
      rfl
    · obtain ⟨g, k, rfl⟩ : ∃ (g : Fin 2) (k : Fin 2816), i = ix3 g 0 k :=
        ⟨i 0, i 2, (eq_ix3 i).trans (congrArg (fun q : Fin 1 => (ix3 (i 0) q (i 2) : Cert.Kernel2Ideal.S2x1x2816.Idx)) (Subsingleton.elim _ _))⟩
      refine (Cert.Reference2Ideal.Conv.out2_apply m' c g k).trans ?_
      rw [eX, eW, eB, eD]
      rfl

end Cert.Proof

end
-- ==== Proof.Whole.lean ====
/- Loads and stores through a whole buffer, for the value proofs of the calls. -/
module

public import Idealize.ShloMosaic.Lib.Pipeline.Value
public import Idealize.ShloMosaic.Lib.Pipeline.ValueKit.Point
public import Idealize.ShloMosaic.Lib.Pipeline.ValueKit.Tiles
public import Idealize.ShloMosaic.Lib.Pipeline.ReadBack
public import Idealize.ShloMosaic.Lib.Tactic

@[expose] public section

namespace Cert.Proof

/-- The offsets of a whole buffer of two or three axes. -/
theorem zero2 : (![0, 0] : Fin 2 → ℕ) = fun _ => 0 := funext fun a => by fin_cases a <;> rfl
theorem zero3 : (![0, 0, 0] : Fin 3 → ℕ) = fun _ => 0 := funext fun a => by fin_cases a <;> rfl

open Idealize.ShloMosaic

/-- The last store of several, read at an index it wrote. -/
theorem canon_hit {S : Shape} {e : EltTy} {off sz : Fin S.rank → ℕ} (inb : ∀ a, off a + sz a ≤ S.size a)
    (w : (Rect.unit (s := S) off sz inb).shape.Idx → Elt Ideal e) (L : List (View.Piece (Elt Ideal) S e)) (y : S.Idx)
    (x : (Rect.unit (s := S) off sz inb).shape.Idx) (h : ∀ a, off a + (x a).val = (y a).val) :
    View.canon (⟨Rect.unit off sz inb, w⟩ :: L) y = w x := by
  rw [← View.canon_cons_emb (Val := Elt Ideal) _ w L x]
  congr 1
  funext a
  exact Fin.ext ((h a).symm.trans (Rect.idx_unit_val off sz inb x a).symm)

/-- The last store of several, passed over at an index outside it. -/
theorem canon_miss {S : Shape} {e : EltTy} {off sz : Fin S.rank → ℕ} (inb : ∀ a, off a + sz a ≤ S.size a)
    (w : (Rect.unit (s := S) off sz inb).shape.Idx → Elt Ideal e) (L : List (View.Piece (Elt Ideal) S e)) (y : S.Idx)
    (a : Fin S.rank) (h : (y a).val < off a ∨ off a + sz a ≤ (y a).val) :
    View.canon (⟨Rect.unit off sz inb, w⟩ :: L) y = View.canon L y := by
  refine View.canon_cons_of_not_mem (Val := Elt Ideal) _ L fun hm => ?_
  have := (Rect.mem_set_unit (inb := inb)).mp hm a
  omega

end Cert.Proof
-- ==== Proof.NormSpec.lean ====
/- The feed-forward input gradient and the first layer norm backward: what the call computes, its arguments and blocks. -/
module

public import proofs.«01_k».proof.Defs
public import proofs.«01_k».proof.Proof.Gen.Kernel3Ideal.Value
public import proofs.«01_k».proof.Proof.Gen.Reference3Ideal.Run
public import proofs.«01_k».proof.Proof.Whole

@[expose] public section

set_option maxRecDepth 16384

noncomputable section

namespace Cert.Kernel3Ideal.Norm

open Idealize.ShloMosaic Idealize.ShloMosaic.TcCoe Idealize.SL.Sem Cert.Proof Cert.Kernel3Ideal Cert.Kernel3Ideal.Gen
open Idealize.ShloMosaic.Pipeline (Dat)

variable (m : (ℓ : Loc nD τ sig) → Buf (Elt Ideal) ℓ)

/-- The residual sum, the up projection, the norm's gain, the gradients of the product and of the residual branch. -/
def kR (c : Dev nD) (n : Fin 4096) (k : Fin 1024) : EReal := m ((c : Thread nD τ).loc main_arg0) (ix2 n k)
def kW (c : Dev nD) (k : Fin 1024) (j : Fin 5632) : EReal := m ((c : Thread nD τ).loc main_arg1) (ix2 k j)
def kG (c : Dev nD) (k : Fin 1024) : EReal := m ((c : Thread nD τ).loc main_arg2) (ix1 k)
def kU (c : Dev nD) (n : Fin 4096) (j : Fin 5632) : EReal := m ((c : Thread nD τ).loc main_arg3) (ix2 n j)
def kD (c : Dev nD) (n : Fin 4096) (k : Fin 1024) : EReal := m ((c : Thread nD τ).loc main_arg4) (ix2 n k)

/-- The number of columns, the weight of the residual branch and the norm's small constant. -/
def width : EReal := Ideal.ofBits .f32 0x44800000#32
def alpha : EReal := Ideal.ofBits .f32 0x3F9837F0#32
def eps : EReal := Ideal.ofBits .f32 0x3727C5AC#32

/-- The norm's mean, centred row, reciprocal deviation and normalised row. -/
def mean (c : Dev nD) (n : Fin 4096) : EReal := Ideal.div (∑ k : Fin 1024, kR m c n k) width
def cent (c : Dev nD) (n : Fin 4096) (k : Fin 1024) : EReal := kR m c n k - mean m c n
def rstd (c : Dev nD) (n : Fin 4096) : EReal := Ideal.rsqrt (Ideal.div (∑ k : Fin 1024, cent m c n k * cent m c n k) width + eps)
def xhat (c : Dev nD) (n : Fin 4096) (k : Fin 1024) : EReal := cent m c n k * rstd m c n

/-- The gradient with respect to the norm's output, and that times the gain. -/
def dh (c : Dev nD) (n : Fin 4096) (k : Fin 1024) : EReal := alpha * kD m c n k + ∑ j : Fin 5632, kU m c n j * kW m c k j
def dhg (c : Dev nD) (n : Fin 4096) (k : Fin 1024) : EReal := dh m c n k * kG m c k

/-- The three results. -/
def G0 (c : Dev nD) (i : S4096x1024.Idx) : EReal :=
  rstd m c (i 0) * ((dhg m c (i 0) (i 1) - Ideal.div (∑ k : Fin 1024, dhg m c (i 0) k) width)
    - xhat m c (i 0) (i 1) * Ideal.div (∑ k : Fin 1024, dhg m c (i 0) k * xhat m c (i 0) k) width)
def G1 (c : Dev nD) (i : S1x1024.Idx) : EReal := ∑ n : Fin 4096, dh m c n (i 1) * xhat m c n (i 1)
def G2 (c : Dev nD) (i : S1x1024.Idx) : EReal := ∑ n : Fin 4096, dh m c n (i 1)

theorem entry_u (c : Dev nD) (h : Fin 2) (n : Fin 4096) (j : Fin 2816) : (V m c main_v16 : S2x4096x2816.Idx → EReal) (ix3 h n j) = kU m c n ⟨h.val * 2816 + j.val, by omega⟩ := by
  entry_read
  unfold kU
  pointwise []
theorem entry_w (c : Dev nD) (h : Fin 4) (k : Fin 1024) (j : Fin 1408) : (V m c main_v19 : S4x1024x1408.Idx → EReal) (ix3 h k j) = kW m c k ⟨h.val * 1408 + j.val, by omega⟩ := by
  entry_read
  unfold kW
  pointwise []
theorem entry_x (c : Dev nD) (n : Fin 4096) (k : Fin 1024) : (V m c main_v23 : S4096x1024.Idx → EReal) (ix2 n k) = xhat m c n k := by
  entry_read
  unfold xhat cent rstd cent mean kR width eps
  pointwise []
theorem entry_s (c : Dev nD) (n : Fin 4096) : (V m c main_v13 : S4096x1.Idx → EReal) (ix2 n 0) = rstd m c n := by
  entry_read
  unfold rstd cent mean kR width eps
  pointwise []
theorem entry_g (c : Dev nD) (k : Fin 1024) : (V m c main_v24 : S1x1024.Idx → EReal) (ix2 0 k) = kG m c k := by
  entry_read
  unfold kG
  pointwise []

theorem lt16 {n : ℕ} (h : n < cfg0.N) : n < 16 := lt_of_lt_of_eq h N_0

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)

theorem blk0 (c : Dev nD) (t : Fin cfg0.N) (h : Fin 2) (r : Fin 256) (j : Fin 2816) : (iblk m c 0 t : S2x256x2816.Idx → EReal) (ix3 h r j)
    = kU m c ⟨t.val * 256 + r.val, by have := lt16 t.isLt; omega⟩ ⟨h.val * 2816 + j.val, by omega⟩ := by
  have ht := lt16 t.isLt
  rw [← entry_u]
  blk_ext [iblk, idx0 t]
theorem blk1 (c : Dev nD) (t : Fin cfg0.N) (h : Fin 4) (k : Fin 1024) (j : Fin 1408) : (iblk m c 1 t : S4x1024x1408.Idx → EReal) (ix3 h k j)
    = kW m c k ⟨h.val * 1408 + j.val, by omega⟩ := by
  have ht := lt16 t.isLt
  rw [← entry_w]
  blk_ext [iblk, idx1 t]
theorem blk2 (c : Dev nD) (t : Fin cfg0.N) (r : Fin 256) (k : Fin 1024) : (iblk m c 2 t : S256x1024.Idx → EReal) (ix2 r k)
    = kD m c ⟨t.val * 256 + r.val, by have := lt16 t.isLt; omega⟩ k := by
  have ht := lt16 t.isLt
  unfold kD
  rw [← V_main_arg4 m c]
  blk_ext [iblk, idx2 t]
theorem blk3 (c : Dev nD) (t : Fin cfg0.N) (r : Fin 256) (k : Fin 1024) : (iblk m c 3 t : S256x1024.Idx → EReal) (ix2 r k)
    = xhat m c ⟨t.val * 256 + r.val, by have := lt16 t.isLt; omega⟩ k := by
  have ht := lt16 t.isLt
  rw [← entry_x]
  blk_ext [iblk, idx3 t]
theorem blk4 (c : Dev nD) (t : Fin cfg0.N) (r : Fin 256) : (iblk m c 4 t : S256x1.Idx → EReal) (ix2 r 0)
    = rstd m c ⟨t.val * 256 + r.val, by have := lt16 t.isLt; omega⟩ := by
  have ht := lt16 t.isLt
  rw [← entry_s]
  blk_ext [iblk, idx4 t]
theorem blk5 (c : Dev nD) (t : Fin cfg0.N) (k : Fin 1024) : (iblk m c 5 t : S1x1024.Idx → EReal) (ix2 0 k)
    = kG m c k := by
  have ht := lt16 t.isLt
  rw [← entry_g]
  blk_ext [iblk, idx5 t]

end Cert.Kernel3Ideal.Norm

end
-- ==== Proof.NormTile.lean ====
/- The feed-forward input gradient and the first layer norm backward: the three result arrays of the call. -/
module

public import proofs.«01_k».proof.Proof.NormSpec

@[expose] public section

set_option maxRecDepth 16384

noncomputable section

namespace Cert.Kernel3Ideal.Norm

open Idealize.ShloMosaic Idealize.ShloMosaic.TcCoe Idealize.SL.Sem Cert.Proof Cert.Kernel3Ideal Cert.Kernel3Ideal.Gen
open Idealize.ShloMosaic.Pipeline (Dat)

variable (m : (ℓ : Loc nD τ sig) → Buf (Elt Ideal) ℓ)

theorem pay6_apply (v3 : Vec Ideal S256x1024 .f32) (v6 : Vec Ideal S1x256x1408 .bf16) (v8 : Vec Ideal S1x1024x1408 .bf16) (v12 : Vec Ideal S1x256x1408 .bf16)
    (v14 : Vec Ideal S1x1024x1408 .bf16) (v18 : Vec Ideal S1x256x1408 .bf16) (v20 : Vec Ideal S1x1024x1408 .bf16) (v24 : Vec Ideal S1x256x1408 .bf16)
    (v26 : Vec Ideal S1x1024x1408 .bf16) (r : Fin 256) (k : Fin 1024) :
    k0_pay6 (F := Ideal) (k0_pay4 v3 v6 v8 v12 v14 v18 v20) (k0_pay5 v24) v26 (ix2 r k)
      = alpha * v3 (ix2 r k) + ∑ x : Fin 1408, (v6 (ix3 0 r x) * v8 (ix3 0 k x) : EReal) + ∑ x : Fin 1408, (v12 (ix3 0 r x) * v14 (ix3 0 k x) : EReal)
        + ∑ x : Fin 1408, (v18 (ix3 0 r x) * v20 (ix3 0 k x) : EReal) + ∑ x : Fin 1408, (v24 (ix3 0 r x) * v26 (ix3 0 k x) : EReal) := by
  pointwise [k0_pay6, k0_pay5, k0_pay4, alpha]

section
variable (a : FVec Ideal S256x1024 .f32) (b : FVec Ideal S256x1408 .bf16) (w : Vec Ideal S1x1024x1408 .bf16) (x : Vec Ideal S256x1024 .f32)
  (g : Vec Ideal S1x1024 .f32) (s : Vec Ideal S256x1 .f32) (r : Fin 256) (k : Fin 1024)

theorem pay8_apply : k0_pay8 (F := Ideal) a b w x g (ix2 0 k) = g (ix2 0 k) + ∑ r : Fin 256, (k0_pay6 (F := Ideal) a b w (ix2 r k) * x (ix2 r k) : EReal) := by
  unfold k0_pay8
  pointwise [k0_pay7]
theorem pay9_apply : k0_pay9 (F := Ideal) a b w g (ix2 0 k) = g (ix2 0 k) + ∑ r : Fin 256, (k0_pay6 (F := Ideal) a b w (ix2 r k) : EReal) := by
  unfold k0_pay9
  pointwise []
theorem pay10_apply : k0_pay10 (F := Ideal) a b w g (ix2 r k) = (k0_pay6 (F := Ideal) a b w (ix2 r k) * g (ix2 0 k) : EReal) := by
  unfold k0_pay10
  pointwise []
theorem pay12_apply : k0_pay12 (F := Ideal) a b w g (ix2 r k)
    = (k0_pay10 (F := Ideal) a b w g (ix2 r k) - Ideal.div (∑ q : Fin 1024, (k0_pay10 (F := Ideal) a b w g (ix2 r q) : EReal)) width : EReal) := by
  unfold k0_pay12 width
  pointwise []
theorem pay13_apply : k0_pay13 (F := Ideal) a b w x g (ix2 r k)
    = Ideal.div (∑ q : Fin 1024, (k0_pay10 (F := Ideal) a b w g (ix2 r q) * x (ix2 r q) : EReal)) width := by
  unfold k0_pay13 width
  pointwise [k0_pay7]
theorem pay1_apply (p q : FVec Ideal S256x1024 .f32) : k0_pay1 (F := Ideal) (k0_pay7 x) (k0_pay11 s) p q (ix2 r k)
    = (s (ix2 r 0) * (p (ix2 r k) - x (ix2 r k) * q (ix2 r k)) : EReal) := by
  pointwise [k0_pay1, k0_pay7, k0_pay11]
end

theorem pay2_apply (k : Fin 1024) : k0_pay2 (F := Ideal) (ix2 0 k) = (0 : EReal) := by pointwise [k0_pay2]
theorem pay3_apply (k : Fin 1024) : k0_pay3 (F := Ideal) (ix2 0 k) = (0 : EReal) := by pointwise [k0_pay3]

/-- The first three quarters of a tile's gradient, the last quarter's rows and its weights. -/
def tileA (c : Dev nD) (t : Fin cfg0.N) : FVec Ideal S256x1024 .f32 :=
  k0_pay4 (iblk m c 2 t)
    (View.ld (iblk m c 0 t) (Rect.unit ![0, 0, 0] ![1, 256, 1408] inb_S2x256x2816_S1x256x1408_0_0_0))
    (View.ld (iblk m c 1 t) (Rect.unit ![0, 0, 0] ![1, 1024, 1408] inb_S4x1024x1408_S1x1024x1408_0_0_0))
    (View.ld (iblk m c 0 t) (Rect.unit ![0, 0, 1408] ![1, 256, 1408] inb_S2x256x2816_S1x256x1408_0_0_1408))
    (View.ld (iblk m c 1 t) (Rect.unit ![1, 0, 0] ![1, 1024, 1408] inb_S4x1024x1408_S1x1024x1408_1_0_0))
    (View.ld (iblk m c 0 t) (Rect.unit ![1, 0, 0] ![1, 256, 1408] inb_S2x256x2816_S1x256x1408_1_0_0))
    (View.ld (iblk m c 1 t) (Rect.unit ![2, 0, 0] ![1, 1024, 1408] inb_S4x1024x1408_S1x1024x1408_2_0_0))
def tileB (c : Dev nD) (t : Fin cfg0.N) : FVec Ideal S256x1408 .bf16 :=
  k0_pay5 (View.ld (iblk m c 0 t) (Rect.unit ![1, 0, 1408] ![1, 256, 1408] inb_S2x256x2816_S1x256x1408_1_0_1408))
def tileW (c : Dev nD) (t : Fin cfg0.N) : Vec Ideal S1x1024x1408 .bf16 :=
  View.ld (iblk m c 1 t) (Rect.unit ![3, 0, 0] ![1, 1024, 1408] inb_S4x1024x1408_S1x1024x1408_3_0_0)

theorem ld_rows (c : Dev nD) (t : Fin cfg0.N) (h o : ℕ) (hh : h < 2) (ho : o + 1408 ≤ 2816)
    (inb : ∀ a, (![h, 0, o] : Fin 3 → ℕ) a + (![1, 256, 1408] : Fin 3 → ℕ) a ≤ S2x256x2816.size a) (r : Fin 256) (x : Fin 1408) :
    View.ld (iblk m c 0 t) (Rect.unit (s := S2x256x2816) ![h, 0, o] ![1, 256, 1408] inb) (ix3 0 r x)
      = kU m c ⟨t.val * 256 + r.val, by have := lt16 t.isLt; omega⟩ ⟨h * 2816 + (o + x.val), by omega⟩ := by
  refine (View.ld_unit_apply_of _ _ _ _ _ (ix3 ⟨h, hh⟩ r ⟨o + x.val, by omega⟩) fun a => ?_).trans (blk0 m c t ⟨h, hh⟩ r ⟨o + x.val, by omega⟩)
  fin_cases a <;> simp
theorem ld_cols (c : Dev nD) (t : Fin cfg0.N) (h : ℕ) (hh : h < 4)
    (inb : ∀ a, (![h, 0, 0] : Fin 3 → ℕ) a + (![1, 1024, 1408] : Fin 3 → ℕ) a ≤ S4x1024x1408.size a) (k : Fin 1024) (x : Fin 1408) :
    View.ld (iblk m c 1 t) (Rect.unit (s := S4x1024x1408) ![h, 0, 0] ![1, 1024, 1408] inb) (ix3 0 k x)
      = kW m c k ⟨h * 1408 + x.val, by omega⟩ := by
  refine (View.ld_unit_apply_of _ _ _ _ _ (ix3 ⟨h, hh⟩ k x) fun a => ?_).trans (blk1 m c t ⟨h, hh⟩ k x)
  fin_cases a <;> simp

/-- A sum over all columns is four sums over a quarter of them. -/
theorem sum_quarters (f : Fin 5632 → EReal) : ∑ j, f j = ∑ x : Fin 1408, f ⟨0 * 1408 + x.val, by omega⟩ + ∑ x : Fin 1408, f ⟨1 * 1408 + x.val, by omega⟩
    + ∑ x : Fin 1408, f ⟨2 * 1408 + x.val, by omega⟩ + ∑ x : Fin 1408, f ⟨3 * 1408 + x.val, by omega⟩ := by
  have h : ∑ s : Fin 4, ∑ k : Fin 1408, f ⟨s.val * 1408 + k.val, by omega⟩ = ∑ j, f j := Fin.sum_mul_add_congr fun _ _ _ => rfl
  rw [← h, Fin.sum_univ_four]
  rfl

/-- One quarter of a tile's product. -/
theorem quarter (c : Dev nD) (t : Fin cfg0.N) (h o q : ℕ) (hh : h < 2) (ho : o + 1408 ≤ 2816) (hq : q < 4) (e : h * 2816 + o = q * 1408)
    (inb : ∀ a, (![h, 0, o] : Fin 3 → ℕ) a + (![1, 256, 1408] : Fin 3 → ℕ) a ≤ S2x256x2816.size a)
    (inb' : ∀ a, (![q, 0, 0] : Fin 3 → ℕ) a + (![1, 1024, 1408] : Fin 3 → ℕ) a ≤ S4x1024x1408.size a)
    (u : Vec Ideal S1x256x1408 .bf16) (w : Vec Ideal S1x1024x1408 .bf16)
    (hu : u = View.ld (iblk m c 0 t) (Rect.unit (s := S2x256x2816) ![h, 0, o] ![1, 256, 1408] inb))
    (hw : w = View.ld (iblk m c 1 t) (Rect.unit (s := S4x1024x1408) ![q, 0, 0] ![1, 1024, 1408] inb')) (r : Fin 256) (k : Fin 1024) :
    ∑ x : Fin 1408, (u (ix3 0 r x) * w (ix3 0 k x) : EReal)
      = ∑ x : Fin 1408, kU m c ⟨t.val * 256 + r.val, by have := lt16 t.isLt; omega⟩ ⟨q * 1408 + x.val, by omega⟩ * kW m c k ⟨q * 1408 + x.val, by omega⟩ := by
  refine Finset.sum_congr rfl fun x _ => ?_
  rw [hu, hw, ld_rows m c t h o hh ho, ld_cols m c t q hq]
  exact congrArg (fun j => kU m c _ j * kW m c k ⟨q * 1408 + x.val, by omega⟩) (Fin.ext (by simp only; omega))

/-- A tile's gradient with respect to the norm's output. -/
theorem tile_dh (c : Dev nD) (t : Fin cfg0.N) (r : Fin 256) (k : Fin 1024) :
    k0_pay6 (F := Ideal) (tileA m c t) (tileB m c t) (tileW m c t) (ix2 r k) = dh m c ⟨t.val * 256 + r.val, by have := lt16 t.isLt; omega⟩ k := by
  have ht := lt16 t.isLt
  refine (pay6_apply _ _ _ _ _ _ _ _ _ r k).trans ?_
  rw [dh, sum_quarters, ← add_assoc, ← add_assoc, ← add_assoc]
  refine congrArg₂ (· + ·) (congrArg₂ (· + ·) (congrArg₂ (· + ·) (congrArg₂ (· + ·) ?_ ?_) ?_) ?_) ?_
  · exact congrArg (alpha * ·) (blk2 m c t r k)
  · exact quarter m c t 0 0 0 (by omega) (by omega) (by omega) (by omega) _ _ _ _ rfl rfl r k
  · exact quarter m c t 0 1408 1 (by omega) (by omega) (by omega) (by omega) _ _ _ _ rfl rfl r k
  · exact quarter m c t 1 0 2 (by omega) (by omega) (by omega) (by omega) _ _ _ _ rfl rfl r k
  · exact quarter m c t 1 1408 3 (by omega) (by omega) (by omega) (by omega) _ _ _ _ rfl rfl r k

/-- A tile's part of the two sums over rows. -/
def term1 (c : Dev nD) (t : Fin cfg0.N) (i : S1x1024.Idx) : EReal :=
  ∑ r : Fin 256, dh m c ⟨t.val * 256 + r.val, by have := lt16 t.isLt; omega⟩ (i 1) * xhat m c ⟨t.val * 256 + r.val, by have := lt16 t.isLt; omega⟩ (i 1)
def term2 (c : Dev nD) (t : Fin cfg0.N) (i : S1x1024.Idx) : EReal :=
  ∑ r : Fin 256, dh m c ⟨t.val * 256 + r.val, by have := lt16 t.isLt; omega⟩ (i 1)

theorem step1 (c : Dev nD) (t : Fin cfg0.N) (g : Vec Ideal S1x1024 .f32) (k : Fin 1024) :
    k0_pay8 (F := Ideal) (tileA m c t) (tileB m c t) (tileW m c t) (iblk m c 3 t) g (ix2 0 k) = g (ix2 0 k) + term1 m c t (ix2 0 k) := by
  refine (pay8_apply _ _ _ _ _ k).trans (congrArg (g (ix2 0 k) + ·) ?_)
  exact Finset.sum_congr rfl fun r _ => by rw [tile_dh, blk3]; rfl
theorem step2 (c : Dev nD) (t : Fin cfg0.N) (g : Vec Ideal S1x1024 .f32) (k : Fin 1024) :
    k0_pay9 (F := Ideal) (tileA m c t) (tileB m c t) (tileW m c t) g (ix2 0 k) = g (ix2 0 k) + term2 m c t (ix2 0 k) := by
  refine (pay9_apply _ _ _ _ k).trans (congrArg (g (ix2 0 k) + ·) ?_)
  exact Finset.sum_congr rfl fun r _ => by rw [tile_dh]; rfl

theorem first1 (c : Dev nD) (t : Fin cfg0.N) (h : t.val % 16 = 0) (i : S1x1024.Idx) :
    (outsAt0 m c t.val t.isLt).2.1 i = (fun _ => 0 : S1x1024.Idx → EReal) i + term1 m c t i := by
  have ht := lt16 t.isLt
  obtain ⟨z, k, rfl⟩ : ∃ (z : Fin 1) (k : Fin 1024), i = ix2 z k := ⟨i 0, i 1, eq_ix2 i⟩
  obtain rfl : z = 0 := Subsingleton.elim _ _
  rw [outsAt0_A m c t h]
  frame_out
  exact (step1 m c t _ k).trans (congrArg (· + term1 m c t (ix2 0 k)) (pay2_apply k))
theorem next1 (c : Dev nD) (t : Fin cfg0.N) (h : ¬t.val % 16 = 0) (i : S1x1024.Idx) :
    (outsAt0 m c t.val t.isLt).2.1 i = (show EReal from (outsAt0 m c (t.val - 1) (Nat.lt_of_le_of_lt (Nat.sub_le _ _) t.isLt)).2.1 i) + term1 m c t i := by
  have ht := lt16 t.isLt
  obtain ⟨z, k, rfl⟩ : ∃ (z : Fin 1) (k : Fin 1024), i = ix2 z k := ⟨i 0, i 1, eq_ix2 i⟩
  obtain rfl : z = 0 := Subsingleton.elim _ _
  rw [outsAt0_B m c t h]
  frame_out
  exact step1 m c t _ k
theorem total1 (c : Dev nD) (t : Fin cfg0.N) (h : t.val % 16 = 15) (i : S1x1024.Idx) : (outsAt0 m c t.val t.isLt).2.1 i = G1 m c i := by
  have ht := lt16 t.isLt
  refine (Pipeline.eq_sum_fin_of_reset_step_apply_of_flush (M := EReal) (fun n h => (outsAt0 m c n h).2.1) 16 (fun _ => 0) (term1 m c) (first1 m c) (next1 m c) t h i).trans ?_
  refine (zero_add _).trans ?_
  refine Fin.sum_mul_add_congr fun p q hl => ?_
  have e : (⟨(16 * (t.val / 16) + p.val) * 256 + q.val, by omega⟩ : Fin 4096) = ⟨p.val * 256 + q.val, hl⟩ := Fin.ext (by simp only; omega)
  exact congrArg (fun z => dh m c z (i 1) * xhat m c z (i 1)) e
theorem arr1 (c : Dev nD) : (dats m 0 c).arrAt 7 cfg0.N = (G1 m c : S1x1024.Idx → EReal) := by
  refine (dats m 0 c).arrAt_eq_of_covers 7 _ (by decide +kernel) fun t hf y => ?_
  have h3 := (flush0_7 t).mp hf
  have ht := lt16 t.isLt
  blk_simp
  rw [after0_7]
  have e : ((win0_7.blk t).view.emb y : S1x1024.Idx) = y := by
    obtain ⟨z, k, rfl⟩ : ∃ (z : Fin 1) (k : Fin 1024), y = ix2 z k := ⟨y 0, y 1, eq_ix2 y⟩
    blk_ext [idx7 t]
  exact (total1 m c t (by omega) y).trans (congrArg (G1 m c) e).symm

theorem first2 (c : Dev nD) (t : Fin cfg0.N) (h : t.val % 16 = 0) (i : S1x1024.Idx) :
    (outsAt0 m c t.val t.isLt).2.2 i = (fun _ => 0 : S1x1024.Idx → EReal) i + term2 m c t i := by
  have ht := lt16 t.isLt
  obtain ⟨z, k, rfl⟩ : ∃ (z : Fin 1) (k : Fin 1024), i = ix2 z k := ⟨i 0, i 1, eq_ix2 i⟩
  obtain rfl : z = 0 := Subsingleton.elim _ _
  rw [outsAt0_A m c t h]
  frame_out
  exact (step2 m c t _ k).trans (congrArg (· + term2 m c t (ix2 0 k)) (pay3_apply k))
theorem next2 (c : Dev nD) (t : Fin cfg0.N) (h : ¬t.val % 16 = 0) (i : S1x1024.Idx) :
    (outsAt0 m c t.val t.isLt).2.2 i = (show EReal from (outsAt0 m c (t.val - 1) (Nat.lt_of_le_of_lt (Nat.sub_le _ _) t.isLt)).2.2 i) + term2 m c t i := by
  have ht := lt16 t.isLt
  obtain ⟨z, k, rfl⟩ : ∃ (z : Fin 1) (k : Fin 1024), i = ix2 z k := ⟨i 0, i 1, eq_ix2 i⟩
  obtain rfl : z = 0 := Subsingleton.elim _ _
  rw [outsAt0_B m c t h]
  frame_out
  exact step2 m c t _ k
theorem total2 (c : Dev nD) (t : Fin cfg0.N) (h : t.val % 16 = 15) (i : S1x1024.Idx) : (outsAt0 m c t.val t.isLt).2.2 i = G2 m c i := by
  have ht := lt16 t.isLt
  refine (Pipeline.eq_sum_fin_of_reset_step_apply_of_flush (M := EReal) (fun n h => (outsAt0 m c n h).2.2) 16 (fun _ => 0) (term2 m c) (first2 m c) (next2 m c) t h i).trans ?_
  refine (zero_add _).trans ?_
  refine Fin.sum_mul_add_congr fun p q hl => ?_
  have e : (⟨(16 * (t.val / 16) + p.val) * 256 + q.val, by omega⟩ : Fin 4096) = ⟨p.val * 256 + q.val, hl⟩ := Fin.ext (by simp only; omega)
  exact congrArg (fun z => dh m c z (i 1)) e
theorem arr2 (c : Dev nD) : (dats m 0 c).arrAt 8 cfg0.N = (G2 m c : S1x1024.Idx → EReal) := by
  refine (dats m 0 c).arrAt_eq_of_covers 8 _ (by decide +kernel) fun t hf y => ?_
  have h3 := (flush0_8 t).mp hf
  have ht := lt16 t.isLt
  blk_simp
  rw [after0_8]
  have e : ((win0_8.blk t).view.emb y : S1x1024.Idx) = y := by
    obtain ⟨z, k, rfl⟩ : ∃ (z : Fin 1) (k : Fin 1024), y = ix2 z k := ⟨y 0, y 1, eq_ix2 y⟩
    blk_ext [idx8 t]
  exact (total2 m c t (by omega) y).trans (congrArg (G2 m c) e).symm

theorem tile0 (c : Dev nD) (t : Fin cfg0.N) (r : Fin 256) (k : Fin 1024) :
    k0_pay1 (F := Ideal) (k0_pay7 (iblk m c 3 t)) (k0_pay11 (iblk m c 4 t)) (k0_pay12 (tileA m c t) (tileB m c t) (tileW m c t) (iblk m c 5 t))
      (k0_pay13 (tileA m c t) (tileB m c t) (tileW m c t) (iblk m c 3 t) (iblk m c 5 t)) (ix2 r k)
    = G0 m c (ix2 ⟨t.val * 256 + r.val, by have := lt16 t.isLt; omega⟩ k) := by
  have e (q : Fin 1024) : k0_pay10 (F := Ideal) (tileA m c t) (tileB m c t) (tileW m c t) (iblk m c 5 t) (ix2 r q)
      = dhg m c ⟨t.val * 256 + r.val, by have := lt16 t.isLt; omega⟩ q := by
    refine (pay10_apply _ _ _ _ r q).trans ?_
    rw [tile_dh, blk5]; rfl
  refine (pay1_apply _ _ r k _ _).trans ?_
  rw [pay12_apply, pay13_apply, blk4, blk3, e]
  show _ = rstd m c _ * ((dhg m c _ k - Ideal.div (∑ q : Fin 1024, dhg m c _ q) width)
    - xhat m c _ k * Ideal.div (∑ q : Fin 1024, dhg m c _ q * xhat m c _ q) width)
  have e1 : (∑ q : Fin 1024, (k0_pay10 (F := Ideal) (tileA m c t) (tileB m c t) (tileW m c t) (iblk m c 5 t) (ix2 r q) : EReal)) = ∑ q : Fin 1024, dhg m c _ q :=
    Finset.sum_congr rfl fun q _ => e q
  have e2 : (∑ q : Fin 1024, (k0_pay10 (F := Ideal) (tileA m c t) (tileB m c t) (tileW m c t) (iblk m c 5 t) (ix2 r q) * (iblk m c 3 t : S256x1024.Idx → EReal) (ix2 r q) : EReal))
      = ∑ q : Fin 1024, dhg m c _ q * xhat m c _ q :=
    Finset.sum_congr rfl fun q _ => by rw [e, blk3]
  rw [e1]
  exact congrArg (fun z : EReal => rstd m c _ * ((dhg m c _ k - Ideal.div (∑ q : Fin 1024, dhg m c _ q) width) - xhat m c _ k * Ideal.div z width)) e2

theorem out0 (c : Dev nD) (t : Fin cfg0.N) (r : Fin 256) (k : Fin 1024) :
    (outsAt0 m c t.val t.isLt).1 (ix2 r k) = G0 m c (ix2 ⟨t.val * 256 + r.val, by have := lt16 t.isLt; omega⟩ k) := by
  by_cases h : t.val % 16 = 0
  · rw [outsAt0_A m c t h]
    frame_out
    exact tile0 m c t r k
  · rw [outsAt0_B m c t h]
    frame_out
    exact tile0 m c t r k

theorem arr0 (c : Dev nD) : (dats m 0 c).arrAt 6 cfg0.N = (G0 m c : S4096x1024.Idx → EReal) := by
  refine (dats m 0 c).arrAt_eq_of_covers 6 _ (by decide +kernel) fun t hf y => ?_
  have ht := lt16 t.isLt
  blk_simp
  rw [after0_6]
  obtain ⟨r, s, rfl⟩ : ∃ (r : Fin 256) (s : Fin 1024), y = ix2 r s := ⟨y 0, y 1, eq_ix2 y⟩
  have e : ((win0_6.blk t).view.emb (ix2 r s) : S4096x1024.Idx) = ix2 ⟨t.val * 256 + r.val, by omega⟩ s := by
    blk_ext [idx6 t]
  exact (out0 m c t r s).trans (congrArg (G0 m c) e).symm

end Cert.Kernel3Ideal.Norm

end
-- ==== Proof.NormReal.lean ====
/- The layer norm backward over the reals, and the finite values among the extended reals. -/
module

public import proofs.«01_k».proof.Defs
public import proofs.«01_k».proof.Proof.Whole

@[expose] public section

set_option maxRecDepth 16384

noncomputable section

namespace Cert.Proof

open Idealize.ShloMosaic

/-- A value that is a real number. -/
def Real' (x : EReal) : Prop := ∃ r : ℝ, x = (r : EReal)

namespace Real'

theorem of_coe (r : ℝ) : Real' (r : EReal) := ⟨r, rfl⟩
theorem of_sub_self {x : EReal} (h : x - x = 0) : Real' x := by
  induction x using EReal.rec with
  | bot => simp at h
  | coe r => exact ⟨r, rfl⟩
  | top => simp at h
theorem add {x y : EReal} (hx : Real' x) (hy : Real' y) : Real' (x + y) := by
  obtain ⟨a, rfl⟩ := hx
  obtain ⟨b, rfl⟩ := hy
  exact ⟨a + b, (EReal.coe_add a b).symm⟩
theorem mul {x y : EReal} (hx : Real' x) (hy : Real' y) : Real' (x * y) := by
  obtain ⟨a, rfl⟩ := hx
  obtain ⟨b, rfl⟩ := hy
  exact ⟨a * b, (EReal.coe_mul a b).symm⟩

end Real'

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem Real'.sum {ι : Type} (s : Finset ι) {f : ι → EReal} (h : ∀ i, Real' (f i)) : Real' (∑ i ∈ s, f i) := by
  choose g hg using h
  exact ⟨∑ i ∈ s, g i, by rw [coe_sum]; exact Finset.sum_congr rfl fun i _ => hg i⟩

theorem word_1024 : Ideal.ofBits .f32 0x44800000#32 = ((1024 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_alpha : Real' (Ideal.ofBits .f32 0x3F9837F0#32) := by
  refine ⟨(0x9837F0 : ℝ) / 2 ^ 23, ?_⟩
  simp [Ideal.ofBits, Ideal.ieee, -EReal.coe_mul]; norm_num
theorem word_eps : ∃ e : ℝ, 0 < e ∧ Ideal.ofBits .f32 0x3727C5AC#32 = (e : EReal) := by
  refine ⟨(0xA7C5AC : ℝ) / 2 ^ 40, by norm_num, ?_⟩
  simp [Ideal.ofBits, Ideal.ieee, -EReal.coe_mul]; norm_num

/-- The layer norm backward of one row over the reals: with `v` the variance plus the small constant and `s` its reciprocal
    root, the sum of the derivatives through the row, the variance and the mean is the usual closed form. -/
theorem real_norm_grad {N : ℕ} (w v s : ℝ) (d e : Fin N → ℝ) (hw : w ≠ 0) (hv : v ≠ 0) (hs : s * s = 1 / v) (hd : ∑ k, d k = 0) (k : Fin N) :
    (e k * s + (∑ x, d x * e x) * (-(1 / 2) * (s * (1 / v))) * (1 / w) * (2 * d k))
      + (∑ x, -(e x * s) + ∑ x, -((∑ x, d x * e x) * (-(1 / 2) * (s * (1 / v))) * (1 / w) * (2 * d x))) * (1 / w)
    = s * ((e k - (∑ x, e x) * (1 / w)) - d k * s * ((∑ x, e x * (d x * s)) * (1 / w))) := by
  have h1 : ∑ x, e x * (d x * s) = s * ∑ x, d x * e x := by
    rw [Finset.mul_sum]; exact Finset.sum_congr rfl fun x _ => by ring
  have h2 : ∑ x, -(e x * s) = -(s * ∑ x, e x) := by
    rw [Finset.mul_sum, ← Finset.sum_neg_distrib]; exact Finset.sum_congr rfl fun x _ => by ring
  have h3 : ∀ a : ℝ, ∑ x, -(a * (2 * d x)) = 0 := fun a => by
    have : ∑ x, -(a * (2 * d x)) = (-(2 * a)) * ∑ x, d x := by
      rw [Finset.mul_sum]; exact Finset.sum_congr rfl fun x _ => by ring
    rw [this, hd, mul_zero]
  rw [h1, h2, h3, ← hs]
  ring

theorem rsqrt_pos {v : ℝ} (hv : 0 < v) : Ideal.rsqrt (v : EReal) = (((Real.sqrt v)⁻¹ : ℝ) : EReal) := by
  rw [Ideal.rsqrt_coe, if_neg (not_lt.2 hv.le), if_neg hv.ne']

/-- The same for extended reals that are real numbers, in the order of operations of the derivative and of the closed form. -/
theorem norm_grad {N : ℕ} (d e : Fin N → EReal) (v : EReal) (d' : Fin N → ℝ) (v' : ℝ) (hd : ∀ k, d k = (d' k : EReal)) (he : ∀ k, Real' (e k))
    (hv : v = (v' : EReal)) (hpos : 0 < v') (h0 : ∑ k, d' k = 0) (k : Fin N) :
    (e k * Ideal.rsqrt v + Ideal.div ((∑ x, d x * e x) * (Ideal.ofBits .f32 0xBF000000#32 * Ideal.div (Ideal.rsqrt v) v)) (Ideal.ofBits .f32 0x44800000#32)
          * (Ideal.ofBits .f32 0x40000000#32 * d k))
      + Ideal.div (∑ x, -(e x * Ideal.rsqrt v)
          + ∑ x, -(Ideal.div ((∑ x, d x * e x) * (Ideal.ofBits .f32 0xBF000000#32 * Ideal.div (Ideal.rsqrt v) v)) (Ideal.ofBits .f32 0x44800000#32)
              * (Ideal.ofBits .f32 0x40000000#32 * d x)))
        (Ideal.ofBits .f32 0x44800000#32)
    = Ideal.rsqrt v * ((e k - Ideal.div (∑ x, e x) (Ideal.ofBits .f32 0x44800000#32))
        - d k * Ideal.rsqrt v * Ideal.div (∑ x, e x * (d x * Ideal.rsqrt v)) (Ideal.ofBits .f32 0x44800000#32)) := by
  choose e' he' using he
  obtain rfl : d = fun k => (d' k : EReal) := funext hd
  obtain rfl : e = fun k => (e' k : EReal) := funext he'
  subst hv
  have hs : (Real.sqrt v')⁻¹ * (Real.sqrt v')⁻¹ = 1 / v' := by
    rw [← mul_inv, Real.mul_self_sqrt hpos.le, one_div]
  have := congrArg (fun r : ℝ => (r : EReal)) (real_norm_grad 1024 v' _ d' e' (by norm_num) hpos.ne' hs h0 k)
  simp only [word_1024, word_2, word_neg_half, rsqrt_pos hpos, Ideal.div_coe (show (1024 : ℝ) ≠ 0 by norm_num), Ideal.div_coe hpos.ne', ← EReal.coe_mul, ← coe_sum,
    ← EReal.coe_neg, ← EReal.coe_add, ← EReal.coe_sub]
  exact this

/-- The centred row of a row of real numbers: real numbers whose sum is zero. -/
theorem centred (r : Fin 1024 → EReal) (h : ∀ k, Real' (r k)) :
    ∃ d : Fin 1024 → ℝ, (∀ k, r k - Ideal.div (∑ x, r x) (Ideal.ofBits .f32 0x44800000#32) = (d k : EReal)) ∧ ∑ k, d k = 0 := by
  choose r' hr using h
  refine ⟨fun k => r' k - (∑ x, r' x) * (1 / 1024), fun k => ?_, ?_⟩
  · simp only [hr, word_1024, Ideal.div_coe (show (1024 : ℝ) ≠ 0 by norm_num), ← EReal.coe_mul, ← coe_sum, ← EReal.coe_sub]
  · rw [Finset.sum_sub_distrib, Finset.sum_const, Finset.card_univ, Fintype.card_fin, nsmul_eq_mul]
    push_cast
    ring

/-- The mean of squares of real numbers plus the small constant: a positive real number. -/
theorem variance (d : Fin 1024 → EReal) (d' : Fin 1024 → ℝ) (hd : ∀ k, d k = (d' k : EReal)) :
    ∃ v : ℝ, Ideal.div (∑ k, d k * d k) (Ideal.ofBits .f32 0x44800000#32) + Ideal.ofBits .f32 0x3727C5AC#32 = (v : EReal) ∧ 0 < v := by
  obtain ⟨e, he, ew⟩ := word_eps
  refine ⟨(∑ k, d' k * d' k) * (1 / 1024) + e, ?_, ?_⟩
  · simp only [hd, ew, word_1024, Ideal.div_coe (show (1024 : ℝ) ≠ 0 by norm_num), ← EReal.coe_mul, ← coe_sum, ← EReal.coe_add]
  · have : 0 ≤ ∑ k, d' k * d' k := Finset.sum_nonneg fun k _ => mul_self_nonneg _
    positivity

end Cert.Proof

end
-- ==== Proof.NormClaim.lean ====
/- The feed-forward input gradient and the first layer norm backward: the value claim. -/
module

public import proofs.«01_k».proof.Proof.NormTile
public import proofs.«01_k».proof.Proof.NormReal
public import Idealize.ShloMosaic.Lib.ReduceAll
public import proofs.«01_k».proof.Proof.Gen.Pre_finite3
public import proofs.«01_k».proof.Proof.Gen.Reference3Ideal.Run

@[expose] public section

set_option maxRecDepth 16384

noncomputable section

namespace Cert.Proof

open Idealize.ShloMosaic Idealize.ShloMosaic.TcCoe Idealize.SL.Sem Cert.Kernel3Ideal.Norm

/-- What the precondition says of one array: each of its elements is a real number. -/
theorem real_of_all {s t u : Shape} {axes : List (Fin s.rank)} [Subsingleton t.Idx] (x z : FVec Ideal s .f32) (hz : ∀ i, z i = (0 : EReal)) (init : IVec u 1)
    (h : s.ReducesTo axes t) (hu : 0 < u.numel) (j : t.Idx) (e : Host.reduce IntOp.andi (cmpf .oeq (subf x x) z) init h hu j = 1#1) (i : s.Idx) :
    Real' (x i) := by
  have e1 := Host.reduce_andi_all _ init h hu j e i
  have e2 : Ideal.cmp .oeq (x i - x i : EReal) (z i) = 1#1 := e1
  rw [hz] at e2
  refine Real'.of_sub_self ?_
  by_contra hne
  have e3 : Ideal.cmp .oeq (x i - x i : EReal) 0 = 0#1 := by
    show BitVec.ofBool (decide ((x i - x i : EReal) = 0)) = 0#1
    rw [decide_eq_false hne]; rfl
  rw [e3] at e2
  exact absurd e2 (by decide)

theorem finite_args (a : FVec Ideal Cert.Kernel3Ideal.S4096x1024 .f32) (b : FVec Ideal Cert.Kernel3Ideal.S1024x5632 .f32) (g : FVec Ideal Cert.Kernel3Ideal.S1024 .f32)
    (u : FVec Ideal Cert.Kernel3Ideal.S4096x5632 .f32) (d : FVec Ideal Cert.Kernel3Ideal.S4096x1024 .f32)
    (h : ∀ i, Cert.Pre_finite3.fn (F := Ideal) a b g u d i = 1#1) :
    (∀ i, Real' (a i)) ∧ (∀ i, Real' (b i)) ∧ (∀ i, Real' (g i)) ∧ (∀ i, Real' (u i)) ∧ (∀ i, Real' (d i)) := by
  haveI : Subsingleton Cert.Pre_finite3.S_.Idx := ⟨fun x y => funext fun k => k.elim0⟩
  have e := h (fun k => k.elim0)
  obtain ⟨e, h5⟩ := IntOp.andi_eq_one.1 (show IntOp.andi _ _ = 1#1 from e)
  obtain ⟨e, h4⟩ := IntOp.andi_eq_one.1 (show IntOp.andi _ _ = 1#1 from e)
  obtain ⟨e, h3⟩ := IntOp.andi_eq_one.1 (show IntOp.andi _ _ = 1#1 from e)
  obtain ⟨h1, h2⟩ := IntOp.andi_eq_one.1 (show IntOp.andi _ _ = 1#1 from e)
  have hz : Ideal.ofBits .f32 0x00000000#32 = 0 := Ideal.ofBits_zero_f32
  exact ⟨real_of_all a _ (fun _ => hz) _ _ _ _ h1, real_of_all b _ (fun _ => hz) _ _ _ _ h2, real_of_all g _ (fun _ => hz) _ _ _ _ h3,
    real_of_all u _ (fun _ => hz) _ _ _ _ h4, real_of_all d _ (fun _ => hz) _ _ _ _ h5⟩

theorem algebraic_norm : Cert.algebraic_Kernel3Ideal_Reference3Ideal_pre_finite3 := by
  intro m ρ m' ρ' hpre hagree
  refine ⟨fun c => G0 m c, fun c => G1 m c, fun c => G2 m c,
    (θ_run _ _ _).mono (fun r h c => ?_) (Cert.Kernel3Ideal.Value.run_blocks m ρ),
    (θ_run _ _ _).mono (fun r h c => ?_) (Cert.Reference3Ideal.Value.run (F := Ideal) m' ρ')⟩
  · obtain ⟨h0, h1, h2, hk⟩ := h c
    exact ⟨h0.trans (arr0 m c), h1.trans (arr1 m c), h2.trans (arr2 m c), hk⟩
  · obtain ⟨h0, h1, h2, hk⟩ := h c
    obtain ⟨a0, a1, a2, a3, a4⟩ := hagree c
    refine ⟨h0.trans (funext fun (i : Cert.Kernel3Ideal.S4096x1024.Idx) => ?_), h1.trans (funext fun (i : Cert.Kernel3Ideal.S1x1024.Idx) => ?_), h2.trans (funext fun (i : Cert.Kernel3Ideal.S1x1024.Idx) => ?_), hk⟩
    · obtain ⟨n, k, rfl⟩ : ∃ (n : Fin 4096) (k : Fin 1024), i = ix2 n k := ⟨i 0, i 1, eq_ix2 i⟩
      obtain ⟨f0, f1, f2, f3, f4⟩ := finite_args _ _ _ _ _ (fun i => congrFun (hpre c) i)
      obtain ⟨d', hd, hs⟩ := centred (kR m c n) fun k => f0 (ix2 n k)
      obtain ⟨v', hv, hpos⟩ := variance (cent m c n) d' hd
      have he (k : Fin 1024) : Real' (dhg m c n k) :=
        ((word_alpha.mul (f4 (ix2 n k))).add (Real'.sum _ fun j => (f3 (ix2 n j)).mul (f1 (ix2 k j)))).mul (f2 (ix1 k))
      refine Eq.trans ?_ (norm_grad (cent m c n) (dhg m c n) _ d' v' hd he hv hpos hs k)
      unfold Cert.Reference3Ideal.Value.res_main_v69
      rw [a0, a1, a2, a3, a4]
      unfold dhg dh cent mean kR kW kU kD kG width alpha
      pointwise [Fin.sum_univ_one]
    · obtain ⟨z, k, rfl⟩ : ∃ (z : Fin 1) (k : Fin 1024), i = ix2 z k := ⟨i 0, i 1, eq_ix2 i⟩
      rw [a0, a1, a3, a4]
      unfold G1 dh xhat cent rstd cent mean kR kW kU kD width eps alpha
      pointwise [Fin.sum_univ_one]
      exact Finset.sum_congr rfl fun _ _ => mul_comm _ _
    · obtain ⟨z, k, rfl⟩ : ∃ (z : Fin 1) (k : Fin 1024), i = ix2 z k := ⟨i 0, i 1, eq_ix2 i⟩
      rw [a1, a3, a4]
      unfold G2 dh kW kU kD alpha
      pointwise [Fin.sum_univ_one]

end Cert.Proof

end
-- ==== Proof.DownIn.lean ====
/- The gradient of the down projection with respect to its input: a tiled product with a transposed operand. -/
module

public import proofs.«01_k».proof.Defs
public import proofs.«01_k».proof.Proof.Gen.Kernel4Ideal.Value
public import proofs.«01_k».proof.Proof.Gen.Reference4Ideal.Run
public import proofs.«01_k».proof.Proof.Whole

@[expose] public section

set_option maxRecDepth 16384

noncomputable section

namespace Cert.Kernel4Ideal.Prod

open Idealize.ShloMosaic Idealize.ShloMosaic.TcCoe Idealize.SL.Sem Cert.Proof Cert.Kernel4Ideal Cert.Kernel4Ideal.Gen
open Idealize.ShloMosaic.Pipeline (Dat)

variable (m : (ℓ : Loc nD τ sig) → Buf (Elt Ideal) ℓ)

/-- The weights and the gradient of the product. -/
def kW (c : Dev nD) (r : Fin 2816) (s : Fin 1024) : EReal := m ((c : Thread nD τ).loc main_arg0) (ix2 r s)
def kD (c : Dev nD) (r : Fin 4096) (s : Fin 1024) : EReal := m ((c : Thread nD τ).loc main_arg1) (ix2 r s)

/-- The result. -/
def G (c : Dev nD) (i : S4096x2816.Idx) : EReal := ∑ q : Fin 1024, kD m c (i 0) q * kW m c (i 1) q

theorem entry_d (c : Dev nD) (n : Fin 4096) (k : Fin 1024) : (V m c main_v0 : S4096x1024.Idx → EReal) (ix2 n k) = kD m c n k := by
  entry_read
  unfold kD
  pointwise []
theorem entry_w (c : Dev nD) (n : Fin 2816) (k : Fin 1024) : (V m c main_v1 : S2816x1024.Idx → EReal) (ix2 n k) = kW m c n k := by
  entry_read
  unfold kW
  pointwise []

theorem lt8 (t : Fin cfg0.N) : t.val < 8 := lt_of_lt_of_eq t.isLt N_0

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem blk0 (c : Dev nD) (t : Fin cfg0.N) (r : Fin 1024) (s : Fin 1024) : (iblk m c 0 t : S1024x1024.Idx → EReal) (ix2 r s)
    = kD m c ⟨1024 * (t.val / 2) + r.val, by have := lt8 t; omega⟩ s := by
  have ht := lt8 t
  rw [← entry_d]
  blk_ext [iblk, idx0 t]
theorem blk1 (c : Dev nD) (t : Fin cfg0.N) (r : Fin 1408) (s : Fin 1024) : (iblk m c 1 t : S1408x1024.Idx → EReal) (ix2 r s)
    = kW m c ⟨1408 * (t.val % 2) + r.val, by have := lt8 t; omega⟩ s := by
  have ht := lt8 t
  rw [← entry_w]
  blk_ext [iblk, idx1 t]

theorem pay_apply (a : Vec Ideal S1024x1024 .bf16) (b : Vec Ideal S1408x1024 .bf16) (r : Fin 1024) (s : Fin 1408) :
    k0_pay1 (F := Ideal) a b (ix2 r s) = ∑ q : Fin 1024, (a (ix2 r q) * b (ix2 s q) : EReal) := by
  pointwise [k0_pay1]

theorem out_apply (a : Vec Ideal S1024x1024 .bf16) (b : Vec Ideal S1408x1024 .bf16) (r : Fin 1024) (s : Fin 1408) :
    out0_2 (F := Ideal) a b (ix2 r s) = ∑ q : Fin 1024, (a (ix2 r q) * b (ix2 s q) : EReal) := by
  unfold out0_2 r0_2 r0_0 r0_1
  rw [View.ld_unit_zero (S := S1024x1024) zero2, View.ld_unit_zero (S := S1408x1024) zero2]
  refine (congrFun (View.canon_unit_zero (S := S1024x1408) zero2 _ _) _).trans ?_
  exact pay_apply a b r s

theorem arr (c : Dev nD) : (dats m 0 c).arrAt 2 cfg0.N = (G m c : S4096x2816.Idx → EReal) := by
  refine (dats m 0 c).arrAt_eq_of_covers 2 _ (by decide +kernel) fun t hf y => ?_
  have ht := lt8 t
  blk_simp
  rw [after0_2]
  obtain ⟨r, s, rfl⟩ : ∃ (r : Fin 1024) (s : Fin 1408), y = ix2 r s := ⟨y 0, y 1, eq_ix2 y⟩
  have e : ((win0_2.blk t).view.emb (ix2 r s) : S4096x2816.Idx) = ix2 ⟨1024 * (t.val / 2) + r.val, by omega⟩ ⟨1408 * (t.val % 2) + s.val, by omega⟩ := by
    blk_ext [idx2 t]
  refine (out_apply _ _ r s).trans (Eq.trans ?_ (congrArg (G m c) e).symm)
  exact Finset.sum_congr rfl fun q _ => by rw [blk0, blk1]; rfl

end Cert.Kernel4Ideal.Prod

namespace Cert.Proof

open Idealize.ShloMosaic Idealize.ShloMosaic.TcCoe Idealize.SL.Sem

theorem algebraic_down_in : Cert.algebraic_Kernel4Ideal_Reference4Ideal := by
  intro m ρ m' ρ' _ hagree
  refine ⟨fun c => Cert.Kernel4Ideal.Prod.G m c,
    (θ_run _ _ _).mono (fun r h c => ?_) (Cert.Kernel4Ideal.Value.run_blocks m ρ),
    (θ_run _ _ _).mono (fun r h c => ?_) (Cert.Reference4Ideal.Value.run (F := Ideal) m' ρ')⟩
  · obtain ⟨h2, hk⟩ := h c
    exact ⟨h2.trans (Cert.Kernel4Ideal.Prod.arr m c), hk⟩
  · obtain ⟨h2, hk⟩ := h c
    obtain ⟨a0, a1⟩ := hagree c
    refine ⟨h2.trans (funext fun (i : Cert.Kernel4Ideal.S4096x2816.Idx) => ?_), hk⟩
    obtain ⟨r, s, rfl⟩ : ∃ (r : Fin 4096) (s : Fin 2816), i = ix2 r s := ⟨i 0, i 1, eq_ix2 i⟩
    rw [a0, a1]
    pointwise [Cert.Kernel4Ideal.Prod.G, Cert.Kernel4Ideal.Prod.kW, Cert.Kernel4Ideal.Prod.kD]

end Cert.Proof

end
-- ==== Proof.UpWeights.lean ====
/- The gradient of the feed-forward's up projection: one product per tile of the weights. -/
module

public import proofs.«01_k».proof.Defs
public import proofs.«01_k».proof.Proof.Gen.Kernel5Ideal.Value
public import proofs.«01_k».proof.Proof.Gen.Reference5Ideal.Run
public import proofs.«01_k».proof.Proof.Whole

@[expose] public section

set_option maxRecDepth 16384

noncomputable section

namespace Cert.Kernel5Ideal.Prod

open Idealize.ShloMosaic Idealize.ShloMosaic.TcCoe Idealize.SL.Sem Cert.Proof Cert.Kernel5Ideal Cert.Kernel5Ideal.Gen
open Idealize.ShloMosaic.Pipeline (Dat)

variable (m : (ℓ : Loc nD τ sig) → Buf (Elt Ideal) ℓ)

/-- The layer's activations and the gradient of the product. -/
def kH (c : Dev nD) (r : Fin 4096) (s : Fin 1024) : EReal := m ((c : Thread nD τ).loc main_arg0) (ix2 r s)
def kD (c : Dev nD) (r : Fin 4096) (s : Fin 5632) : EReal := m ((c : Thread nD τ).loc main_arg1) (ix2 r s)

/-- A column of one of the two halves, and of one of the four quarters, of the up projection. -/
def half (g : Fin 2) (k : Fin 2816) : Fin 5632 := ⟨2816 * g.val + k.val, by omega⟩
def quarter (g : Fin 4) (k : Fin 1408) : Fin 5632 := ⟨1408 * g.val + k.val, by omega⟩

/-- The result. -/
def G (c : Dev nD) (i : S4x1024x1408.Idx) : EReal := ∑ q : Fin 4096, kH m c q (i 1) * kD m c q (quarter (i 0) (i 2))

theorem entry_h (c : Dev nD) (n : Fin 4096) (k : Fin 1024) : (V m c main_v0 : S4096x1024.Idx → EReal) (ix2 n k) = kH m c n k := by
  entry_read
  unfold kH
  pointwise []
theorem entry_d (c : Dev nD) (g : Fin 2) (n : Fin 4096) (k : Fin 2816) : (V m c main_v3 : S2x4096x2816.Idx → EReal) (ix3 g n k) = kD m c n (half g k) := by
  entry_read
  unfold kD half
  pointwise []
  blk_ext []

theorem lt8 (t : Fin cfg0.N) : t.val < 8 := lt_of_lt_of_eq t.isLt N_0

theorem idx0 : ∀ t : Fin cfg0.N, win0_0.index t 0 = 0 ∧ win0_0.index t 1 = t.val / 4 :=
  (by decide +kernel : ∀ t : Fin grid0.N, win0_0.index t 0 = 0 ∧ win0_0.index t 1 = t.val / 4)
theorem idx1 : ∀ t : Fin cfg0.N, win0_1.index t 0 = t.val % 4 / 2 ∧ win0_1.index t 1 = 0 ∧ win0_1.index t 2 = t.val % 2 :=
  (by decide +kernel : ∀ t : Fin grid0.N, win0_1.index t 0 = t.val % 4 / 2 ∧ win0_1.index t 1 = 0 ∧ win0_1.index t 2 = t.val % 2)
theorem idx2 : ∀ t : Fin cfg0.N, win0_2.index t 0 = t.val % 4 ∧ win0_2.index t 1 = t.val / 4 ∧ win0_2.index t 2 = 0 :=
  (by decide +kernel : ∀ t : Fin grid0.N, win0_2.index t 0 = t.val % 4 ∧ win0_2.index t 1 = t.val / 4 ∧ win0_2.index t 2 = 0)

theorem blk0 (c : Dev nD) (t : Fin cfg0.N) (r : Fin 4096) (s : Fin 512) : (iblk m c 0 t : S4096x512.Idx → EReal) (ix2 r s)
    = kH m c r ⟨512 * (t.val / 4) + s.val, by have := lt8 t; omega⟩ := by
  have ht := lt8 t
  rw [← entry_h]
  blk_ext [iblk, idx0 t]
theorem blk1 (c : Dev nD) (t : Fin cfg0.N) (r : Fin 4096) (s : Fin 1408) : (iblk m c 1 t : S1x4096x1408.Idx → EReal) (ix3 0 r s)
    = kD m c r (quarter ⟨t.val % 4, by omega⟩ s) := by
  have ht := lt8 t
  have e : quarter ⟨t.val % 4, by omega⟩ s = half ⟨t.val % 4 / 2, by omega⟩ ⟨1408 * (t.val % 2) + s.val, by omega⟩ := by
    apply Fin.ext
    simp only [quarter, half]
    omega
  rw [e, ← entry_d]
  blk_ext [iblk, idx1 t]

theorem pay_apply (a : Vec Ideal S4096x512 .bf16) (b : Vec Ideal S1x4096x1408 .bf16) (r : Fin 512) (s : Fin 1408) :
    k0_pay1 (F := Ideal) a b (ix3 0 r s) = ∑ q : Fin 4096, (a (ix2 q r) * b (ix3 0 q s) : EReal) := by
  pointwise [k0_pay1]

theorem arr (c : Dev nD) : (dats m 0 c).arrAt 2 cfg0.N = (G m c : S4x1024x1408.Idx → EReal) := by
  refine (dats m 0 c).arrAt_eq_of_covers 2 _ (by decide +kernel) fun t hf y => ?_
  have ht := lt8 t
  blk_simp
  rw [after0_2]
  frame_out
  obtain ⟨r, s, rfl⟩ : ∃ (r : Fin 512) (s : Fin 1408), y = ix3 0 r s :=
    ⟨y 1, y 2, (eq_ix3 y).trans (congrArg (fun q : Fin 1 => (ix3 q (y 1) (y 2) : S1x512x1408.Idx)) (Subsingleton.elim _ _))⟩
  have e : ((win0_2.blk t).view.emb (ix3 0 r s) : S4x1024x1408.Idx) = ix3 ⟨t.val % 4, by omega⟩ ⟨512 * (t.val / 4) + r.val, by omega⟩ s := by
    blk_ext [idx2 t]
  refine (pay_apply _ _ r s).trans (Eq.trans ?_ (congrArg (G m c) e).symm)
  exact Finset.sum_congr rfl fun q _ => by rw [blk0, blk1]; rfl

end Cert.Kernel5Ideal.Prod

namespace Cert.Proof

open Idealize.ShloMosaic Idealize.ShloMosaic.TcCoe Idealize.SL.Sem

theorem algebraic_up_weights : Cert.algebraic_Kernel5Ideal_Reference5Ideal := by
  intro m ρ m' ρ' _ hagree
  refine ⟨fun c => Cert.Kernel5Ideal.Prod.G m c,
    (θ_run _ _ _).mono (fun r h c => ?_) (Cert.Kernel5Ideal.Value.run_blocks m ρ),
    (θ_run _ _ _).mono (fun r h c => ?_) (Cert.Reference5Ideal.Value.run (F := Ideal) m' ρ')⟩
  · obtain ⟨h2, hk⟩ := h c
    exact ⟨h2.trans (Cert.Kernel5Ideal.Prod.arr m c), hk⟩
  · obtain ⟨h2, hk⟩ := h c
    obtain ⟨a0, a1⟩ := hagree c
    refine ⟨h2.trans (funext fun (i : Cert.Kernel5Ideal.S4x1024x1408.Idx) => ?_), hk⟩
    obtain ⟨g, r, s, rfl⟩ : ∃ (g : Fin 4) (r : Fin 1024) (s : Fin 1408), i = ix3 g r s := ⟨i 0, i 1, i 2, eq_ix3 i⟩
    rw [a0, a1]
    pointwise [Cert.Kernel5Ideal.Prod.G, Cert.Kernel5Ideal.Prod.kH, Cert.Kernel5Ideal.Prod.kD, Cert.Kernel5Ideal.Prod.quarter]
    refine Finset.sum_congr rfl fun q _ => (mul_comm _ _).trans ?_
    have e : (⟨g.val * 1408 + s.val, by omega⟩ : Fin 5632) = ⟨1408 * g.val + s.val, by omega⟩ := Fin.ext (by simp only; omega)
    rw [e]

end Cert.Proof

end
-- ==== Proof.OutWeights.lean ====
/- The gradient of the output projection: the products of its two halves, accumulated over blocks of rows. -/
module

public import proofs.«01_k».proof.Defs
public import proofs.«01_k».proof.Proof.Gen.Kernel6Ideal.Value
public import proofs.«01_k».proof.Proof.Gen.Reference6Ideal.Run
public import proofs.«01_k».proof.Proof.Whole

@[expose] public section

set_option maxRecDepth 16384

noncomputable section

namespace Cert.Kernel6Ideal.Prod

open Idealize.ShloMosaic Idealize.ShloMosaic.TcCoe Idealize.SL.Sem Cert.Proof Cert.Kernel6Ideal Cert.Kernel6Ideal.Gen
open Idealize.ShloMosaic.Pipeline (Dat)

variable (m : (ℓ : Loc nD τ sig) → Buf (Elt Ideal) ℓ)

/-- The two halves of the heads' outputs and the gradient of the product. -/
def kS (c : Dev nD) (r : Fin 4096) (s : Fin 512) : EReal := m ((c : Thread nD τ).loc main_arg0) (ix2 r s)
def kL (c : Dev nD) (r : Fin 4096) (s : Fin 512) : EReal := m ((c : Thread nD τ).loc main_arg1) (ix2 r s)
def kD (c : Dev nD) (r : Fin 4096) (s : Fin 1024) : EReal := m ((c : Thread nD τ).loc main_arg2) (ix2 r s)

/-- The two halves side by side. -/
def kC (c : Dev nD) (r : Fin 4096) (s : Fin 1024) : EReal :=
  if h : s.val < 512 then kS m c r ⟨s.val, h⟩ else kL m c r ⟨s.val - 512, by omega⟩

/-- The result. -/
def G (c : Dev nD) (i : S1024x1024.Idx) : EReal := ∑ q : Fin 4096, kC m c q (i 0) * kD m c q (i 1)

theorem entry_s (c : Dev nD) (n : Fin 4096) (k : Fin 512) : (V m c main_v0 : S4096x512.Idx → EReal) (ix2 n k) = kS m c n k := by
  entry_read
  unfold kS
  pointwise []
theorem entry_l (c : Dev nD) (n : Fin 4096) (k : Fin 512) : (V m c main_v1 : S4096x512.Idx → EReal) (ix2 n k) = kL m c n k := by
  entry_read
  unfold kL
  pointwise []

theorem lt4 {n : ℕ} (h : n < cfg0.N) : n < 4 := lt_of_lt_of_eq h N_0

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

theorem blk0 (c : Dev nD) (t : Fin cfg0.N) (r : Fin 1024) (s : Fin 512) : (iblk m c 0 t : S1024x512.Idx → EReal) (ix2 r s)
    = kS m c ⟨t.val * 1024 + r.val, by have := lt4 t.isLt; omega⟩ s := by
  have ht := lt4 t.isLt
  rw [← entry_s]
  blk_ext [iblk, idx0 t]
theorem blk1 (c : Dev nD) (t : Fin cfg0.N) (r : Fin 1024) (s : Fin 512) : (iblk m c 1 t : S1024x512.Idx → EReal) (ix2 r s)
    = kL m c ⟨t.val * 1024 + r.val, by have := lt4 t.isLt; omega⟩ s := by
  have ht := lt4 t.isLt
  rw [← entry_l]
  blk_ext [iblk, idx1 t]
theorem blk2 (c : Dev nD) (t : Fin cfg0.N) (r : Fin 1024) (s : Fin 1024) : (iblk m c 2 t : S1024x1024.Idx → EReal) (ix2 r s)
    = kD m c ⟨t.val * 1024 + r.val, by have := lt4 t.isLt; omega⟩ s := by
  have ht := lt4 t.isLt
  unfold kD
  rw [← V_main_arg2 m c]
  blk_ext [iblk, idx2 t]

theorem pay2_apply (d : Vec Ideal S1024x1024 .f32) (a : Vec Ideal S1024x512 .bf16) (r : Fin 512) (s : Fin 1024) :
    k0_pay2 (F := Ideal) d a (ix2 r s) = ∑ q : Fin 1024, (a (ix2 q r) * d (ix2 q s) : EReal) := by
  pointwise [k0_pay2, k0_pay1]
theorem pay3_apply (d : Vec Ideal S1024x1024 .f32) (a : Vec Ideal S1024x512 .bf16) (r : Fin 512) (s : Fin 1024) :
    k0_pay3 (F := Ideal) d a (ix2 r s) = ∑ q : Fin 1024, (a (ix2 q r) * d (ix2 q s) : EReal) := by
  pointwise [k0_pay3, k0_pay1]
theorem pay4_apply (d : Vec Ideal S1024x1024 .f32) (a : Vec Ideal S1024x512 .bf16) (x : Vec Ideal S512x1024 .f32) (r : Fin 512) (s : Fin 1024) :
    k0_pay4 (F := Ideal) d a x (ix2 r s) = (x (ix2 r s) + k0_pay2 (F := Ideal) d a (ix2 r s) : EReal) := by
  pointwise [k0_pay4]
theorem pay5_apply (d : Vec Ideal S1024x1024 .f32) (a : Vec Ideal S1024x512 .bf16) (x : Vec Ideal S512x1024 .f32) (r : Fin 512) (s : Fin 1024) :
    k0_pay5 (F := Ideal) d a x (ix2 r s) = (x (ix2 r s) + k0_pay3 (F := Ideal) d a (ix2 r s) : EReal) := by
  pointwise [k0_pay5]

/-- One block of rows' share of the sum. -/
def term (c : Dev nD) (t : Fin cfg0.N) (i : S1024x1024.Idx) : EReal :=
  ∑ q : Fin 1024, kC m c ⟨t.val * 1024 + q.val, by have := lt4 t.isLt; omega⟩ (i 0) * kD m c ⟨t.val * 1024 + q.val, by have := lt4 t.isLt; omega⟩ (i 1)

theorem term_top (c : Dev nD) (t : Fin cfg0.N) (r : Fin 1024) (h : r.val < 512) (s : Fin 1024) :
    k0_pay2 (F := Ideal) (iblk m c 2 t) (iblk m c 0 t) (ix2 ⟨r.val, h⟩ s) = term m c t (ix2 r s) := by
  refine (pay2_apply _ _ _ _).trans ?_
  refine Finset.sum_congr rfl fun q _ => ?_
  rw [blk0, blk2]
  show _ = kC m c _ r * kD m c _ s
  rw [kC, dif_pos h]
theorem term_bottom (c : Dev nD) (t : Fin cfg0.N) (r : Fin 1024) (h : ¬r.val < 512) (s : Fin 1024) :
    k0_pay3 (F := Ideal) (iblk m c 2 t) (iblk m c 1 t) (ix2 ⟨r.val - 512, by omega⟩ s) = term m c t (ix2 r s) := by
  refine (pay3_apply _ _ _ _).trans ?_
  refine Finset.sum_congr rfl fun q _ => ?_
  rw [blk1, blk2]
  show _ = kC m c _ r * kD m c _ s
  rw [kC, dif_neg h]

theorem first (c : Dev nD) (t : Fin cfg0.N) (h : t.val % 4 = 0) (i : S1024x1024.Idx) :
    outsAt0 m c t.val t.isLt i = (fun _ => 0 : S1024x1024.Idx → EReal) i + term m c t i := by
  have ht := lt4 t.isLt
  refine Eq.trans ?_ (zero_add _).symm
  obtain ⟨r, s, rfl⟩ : ∃ (r s : Fin 1024), i = ix2 r s := ⟨i 0, i 1, eq_ix2 i⟩
  rw [outsAt0_A m c t h (by omega)]
  frame_out
  by_cases hr : r.val < 512
  · refine (canon_miss _ _ _ _ 0 (Or.inl ?_)).trans ((canon_hit _ _ _ _ (ix2 ⟨r.val, hr⟩ s) ?_).trans ?_)
    · simpa using hr
    · intro a; fin_cases a <;> simp
    · exact term_top m c t r hr s
  · refine (canon_hit _ _ _ _ (ix2 ⟨r.val - 512, by omega⟩ s) ?_).trans ?_
    · intro a; fin_cases a <;> simp; omega
    · exact term_bottom m c t r hr s

theorem next (c : Dev nD) (t : Fin cfg0.N) (h : ¬t.val % 4 = 0) (i : S1024x1024.Idx) :
    outsAt0 m c t.val t.isLt i = (show EReal from outsAt0 m c (t.val - 1) (Nat.lt_of_le_of_lt (Nat.sub_le _ _) t.isLt) i) + term m c t i := by
  have ht := lt4 t.isLt
  obtain ⟨r, s, rfl⟩ : ∃ (r s : Fin 1024), i = ix2 r s := ⟨i 0, i 1, eq_ix2 i⟩
  rw [outsAt0_B m c t h (by omega)]
  frame_out
  by_cases hr : r.val < 512
  · refine (canon_miss _ _ _ _ 0 (Or.inl ?_)).trans ((canon_hit _ _ _ _ (ix2 ⟨r.val, hr⟩ s) ?_).trans ?_)
    · simpa using hr
    · intro a; fin_cases a <;> simp
    · refine (pay4_apply _ _ _ _ _).trans ?_
      rw [term_top m c t r hr s]
      congr 1
      refine View.ld_unit_apply_of _ _ _ _ _ _ fun a => ?_
      fin_cases a <;> simp
  · refine (canon_hit _ _ _ _ (ix2 ⟨r.val - 512, by omega⟩ s) ?_).trans ?_
    · intro a; fin_cases a <;> simp; omega
    · refine (pay5_apply _ _ _ _ _).trans ?_
      rw [term_bottom m c t r hr s]
      congr 1
      refine View.ld_unit_apply_of _ _ _ _ _ _ fun a => ?_
      fin_cases a <;> simp; omega

theorem total (c : Dev nD) (t : Fin cfg0.N) (h : t.val % 4 = 3) (r s : Fin 1024) : outsAt0 m c t.val t.isLt (ix2 r s) = G m c (ix2 r s) := by
  have ht := lt4 t.isLt
  refine (Pipeline.eq_sum_fin_of_reset_step_apply_of_flush (M := EReal) (fun n h => outsAt0 m c n h) 4 (fun _ => 0) (term m c) (first m c) (next m c) t h (ix2 r s)).trans ?_
  refine (zero_add _).trans ?_
  refine Fin.sum_mul_add_congr fun p q hl => ?_
  have e : (⟨(4 * (t.val / 4) + p.val) * 1024 + q.val, by omega⟩ : Fin 4096) = ⟨p.val * 1024 + q.val, hl⟩ := Fin.ext (by simp only; omega)
  exact congrArg (fun z => kC m c z r * kD m c z s) e

theorem arr (c : Dev nD) : (dats m 0 c).arrAt 3 cfg0.N = (G m c : S1024x1024.Idx → EReal) := by
  refine (dats m 0 c).arrAt_eq_of_covers 3 _ (by decide +kernel) fun t hf y => ?_
  have h3 := (flush0_3 t).mp hf
  blk_simp
  rw [after0_3]
  obtain ⟨r, s, rfl⟩ : ∃ (r s : Fin 1024), y = ix2 r s := ⟨y 0, y 1, eq_ix2 y⟩
  have e : ((win0_3.blk t).view.emb (ix2 r s) : S1024x1024.Idx) = ix2 r s := by
    blk_ext [idx3 t]
  exact (total m c t h3 r s).trans (congrArg (G m c) e).symm

end Cert.Kernel6Ideal.Prod

namespace Cert.Proof

open Idealize.ShloMosaic Idealize.ShloMosaic.TcCoe Idealize.SL.Sem

theorem algebraic_out_weights : Cert.algebraic_Kernel6Ideal_Reference6Ideal := by
  intro m ρ m' ρ' _ hagree
  refine ⟨fun c => Cert.Kernel6Ideal.Prod.G m c,
    (θ_run _ _ _).mono (fun r h c => ?_) (Cert.Kernel6Ideal.Value.run_blocks m ρ),
    (θ_run _ _ _).mono (fun r h c => ?_) (Cert.Reference6Ideal.Value.run (F := Ideal) m' ρ')⟩
  · obtain ⟨h2, hk⟩ := h c
    exact ⟨h2.trans (Cert.Kernel6Ideal.Prod.arr m c), hk⟩
  · obtain ⟨h2, hk⟩ := h c
    obtain ⟨a0, a1, a2⟩ := hagree c
    refine ⟨h2.trans (funext fun (i : Cert.Kernel6Ideal.S1024x1024.Idx) => ?_), hk⟩
    obtain ⟨r, s, rfl⟩ : ∃ (r s : Fin 1024), i = ix2 r s := ⟨i 0, i 1, eq_ix2 i⟩
    rw [a0, a1, a2]
    pointwise [Cert.Kernel6Ideal.Prod.G, Cert.Kernel6Ideal.Prod.kC, Cert.Kernel6Ideal.Prod.kS, Cert.Kernel6Ideal.Prod.kL, Cert.Kernel6Ideal.Prod.kD]
    exact Finset.sum_congr rfl fun q _ => mul_comm _ _

end Cert.Proof

end
-- ==== Proof.InWeights.lean ====
/- The gradient of the input projection: the products of its four groups of columns, accumulated over blocks of rows. -/
module

public import proofs.«01_k».proof.Defs
public import proofs.«01_k».proof.Proof.Gen.Kernel7Ideal.Value
public import proofs.«01_k».proof.Proof.Gen.Reference7Ideal.Run
public import proofs.«01_k».proof.Proof.Whole

@[expose] public section

set_option maxRecDepth 16384

noncomputable section

namespace Cert.Kernel7Ideal.Prod

open Idealize.ShloMosaic Idealize.ShloMosaic.TcCoe Idealize.SL.Sem Cert.Proof Cert.Kernel7Ideal Cert.Kernel7Ideal.Gen
open Idealize.ShloMosaic.Pipeline (Dat)

variable (m : (ℓ : Loc nD τ sig) → Buf (Elt Ideal) ℓ)

/-- The input of the projection and the gradients of its four groups of columns. -/
def kX (c : Dev nD) (r : Fin 4096) (s : Fin 1024) : EReal := m ((c : Thread nD τ).loc main_arg0) (ix2 r s)
def kQ (c : Dev nD) (r : Fin 4096) (s : Fin 512) : EReal := m ((c : Thread nD τ).loc main_arg1) (ix2 r s)
def kK (c : Dev nD) (r : Fin 4096) (s : Fin 512) : EReal := m ((c : Thread nD τ).loc main_arg2) (ix2 r s)
def kV (c : Dev nD) (r : Fin 4096) (s : Fin 512) : EReal := m ((c : Thread nD τ).loc main_arg3) (ix2 r s)
def kL (c : Dev nD) (r : Fin 4096) (s : Fin 1664) : EReal := m ((c : Thread nD τ).loc main_arg4) (ix2 r s)

/-- The four groups side by side. -/
def kD (c : Dev nD) (r : Fin 4096) (s : Fin 3200) : EReal :=
  if h : s.val < 512 then kQ m c r ⟨s.val, h⟩
  else if h : s.val - 512 < 512 then kK m c r ⟨s.val - 512, h⟩
  else if h : s.val - 512 - 512 < 512 then kV m c r ⟨s.val - 512 - 512, h⟩
  else kL m c r ⟨s.val - 512 - 512 - 512, by omega⟩

/-- The result. -/
def G (c : Dev nD) (i : S1024x3200.Idx) : EReal := ∑ q : Fin 4096, kX m c q (i 0) * kD m c q (i 1)

theorem entry_q (c : Dev nD) (n : Fin 4096) (k : Fin 512) : (V m c main_v0 : S4096x512.Idx → EReal) (ix2 n k) = kQ m c n k := by
  entry_read
  unfold kQ
  pointwise []
theorem entry_l (c : Dev nD) (n : Fin 4096) (k : Fin 1664) : (V m c main_v1 : S4096x1664.Idx → EReal) (ix2 n k) = kL m c n k := by
  entry_read
  unfold kL
  pointwise []

theorem lt8 {n : ℕ} (h : n < cfg0.N) : n < 8 := lt_of_lt_of_eq h N_0

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val % 4 ∧ win0_2.index t 1 = 0 :=
  (by decide +kernel : ∀ t : Fin grid0.N, win0_2.index t 0 = t.val % 4 ∧ win0_2.index t 1 = 0)
theorem idx3 : ∀ t : Fin cfg0.N, win0_3.index t 0 = t.val % 4 ∧ win0_3.index t 1 = 0 :=
  (by decide +kernel : ∀ t : Fin grid0.N, win0_3.index t 0 = t.val % 4 ∧ win0_3.index t 1 = 0)
theorem idx4 : ∀ t : Fin cfg0.N, win0_4.index t 0 = t.val % 4 ∧ win0_4.index t 1 = 0 :=
  (by decide +kernel : ∀ t : Fin grid0.N, win0_4.index t 0 = t.val % 4 ∧ win0_4.index t 1 = 0)
theorem idx5 : ∀ t : Fin cfg0.N, win0_5.index t 0 = t.val / 4 ∧ win0_5.index t 1 = 0 :=
  (by decide +kernel : ∀ t : Fin grid0.N, win0_5.index t 0 = t.val / 4 ∧ win0_5.index t 1 = 0)

theorem blk0 (c : Dev nD) (t : Fin cfg0.N) (r : Fin 1024) (s : Fin 512) : (iblk m c 0 t : S1024x512.Idx → EReal) (ix2 r s)
    = kX m c ⟨(t.val % 4) * 1024 + r.val, by omega⟩ ⟨512 * (t.val / 4) + s.val, by have := lt8 t.isLt; omega⟩ := by
  have ht := lt8 t.isLt
  unfold kX
  rw [← V_main_arg0 m c]
  blk_ext [iblk, idx0 t]
theorem blk1 (c : Dev nD) (t : Fin cfg0.N) (r : Fin 1024) (s : Fin 512) : (iblk m c 1 t : S1024x512.Idx → EReal) (ix2 r s)
    = kQ m c ⟨(t.val % 4) * 1024 + r.val, by omega⟩ s := by
  have ht := lt8 t.isLt
  rw [← entry_q]
  blk_ext [iblk, idx1 t]
theorem blk2 (c : Dev nD) (t : Fin cfg0.N) (r : Fin 1024) (s : Fin 512) : (iblk m c 2 t : S1024x512.Idx → EReal) (ix2 r s)
    = kK m c ⟨(t.val % 4) * 1024 + r.val, by omega⟩ s := by
  have ht := lt8 t.isLt
  unfold kK
  rw [← V_main_arg2 m c]
  blk_ext [iblk, idx2 t]
theorem blk3 (c : Dev nD) (t : Fin cfg0.N) (r : Fin 1024) (s : Fin 512) : (iblk m c 3 t : S1024x512.Idx → EReal) (ix2 r s)
    = kV m c ⟨(t.val % 4) * 1024 + r.val, by omega⟩ s := by
  have ht := lt8 t.isLt
  unfold kV
  rw [← V_main_arg3 m c]
  blk_ext [iblk, idx3 t]
theorem blk4 (c : Dev nD) (t : Fin cfg0.N) (r : Fin 1024) (s : Fin 1664) : (iblk m c 4 t : S1024x1664.Idx → EReal) (ix2 r s)
    = kL m c ⟨(t.val % 4) * 1024 + r.val, by omega⟩ s := by
  have ht := lt8 t.isLt
  rw [← entry_l]
  blk_ext [iblk, idx4 t]

/-- One block of rows' share of the sum. -/
def part (c : Dev nD) (j : ℕ) (p : Fin 4) (hj : j < 2) (s : Fin 512) (k : Fin 3200) : EReal :=
  ∑ q : Fin 1024, kX m c ⟨p.val * 1024 + q.val, by omega⟩ ⟨512 * j + s.val, by omega⟩ * kD m c ⟨p.val * 1024 + q.val, by omega⟩ k

theorem pay9_apply (v : Vec Ideal S1024x512 .f32) (r : Fin 1024) (s : Fin 512) : k0_pay9 (F := Ideal) v (ix2 r s) = v (ix2 r s) := by
  pointwise [k0_pay9]
theorem pay10_apply (a : Vec Ideal S1024x512 .f32) (b : Vec Ideal S1024x512 .bf16) (r : Fin 512) (s : Fin 512) :
    k0_pay10 (F := Ideal) a b (ix2 r s) = ∑ q : Fin 1024, (a (ix2 q r) * b (ix2 q s) : EReal) := by
  pointwise [k0_pay10, k0_pay9]
theorem pay14_apply (a b : Vec Ideal S1024x512 .f32) (r : Fin 512) (s : Fin 512) :
    k0_pay14 (F := Ideal) a b (ix2 r s) = ∑ q : Fin 1024, (a (ix2 q r) * b (ix2 q s) : EReal) := by
  pointwise [k0_pay14, k0_pay9]
theorem pay1_apply (a b : Vec Ideal S1024x512 .f32) (r : Fin 512) (s : Fin 512) :
    k0_pay1 (F := Ideal) (k0_pay9 (F := Ideal) a) b (ix2 r s) = ∑ q : Fin 1024, (a (ix2 q r) * b (ix2 q s) : EReal) := by
  pointwise [k0_pay1, k0_pay9]
theorem pay5_apply (a : Vec Ideal S1024x512 .f32) (b : Vec Ideal S1024x1664 .bf16) (r : Fin 512) (s : Fin 1664) :
    k0_pay5 (F := Ideal) (k0_pay9 (F := Ideal) a) b (ix2 r s) = ∑ q : Fin 1024, (a (ix2 q r) * b (ix2 q s) : EReal) := by
  pointwise [k0_pay5, k0_pay9]

theorem store_q (a : Vec Ideal S1024x512 .f32) (b : Vec Ideal S1024x512 .bf16) (x : Vec Ideal S512x512 .f32) (r : Fin 512) (s : Fin 512) :
    k0_pay11 (F := Ideal) a b (ix2 r s) = k0_pay10 (F := Ideal) a b (ix2 r s)
      ∧ k0_pay12 (F := Ideal) a b x (ix2 r s) = (x (ix2 r s) + k0_pay10 (F := Ideal) a b (ix2 r s) : EReal)
      ∧ k0_pay13 (F := Ideal) a b x (ix2 r s) = (x (ix2 r s) + k0_pay10 (F := Ideal) a b (ix2 r s) : EReal) := by
  refine ⟨?_, ?_, ?_⟩ <;> pointwise [k0_pay11, k0_pay12, k0_pay13]
theorem store_k (a b : Vec Ideal S1024x512 .f32) (x : Vec Ideal S512x512 .f32) (r : Fin 512) (s : Fin 512) :
    k0_pay15 (F := Ideal) a b (ix2 r s) = k0_pay14 (F := Ideal) a b (ix2 r s)
      ∧ k0_pay16 (F := Ideal) a b x (ix2 r s) = (x (ix2 r s) + k0_pay14 (F := Ideal) a b (ix2 r s) : EReal)
      ∧ k0_pay17 (F := Ideal) a b x (ix2 r s) = (x (ix2 r s) + k0_pay14 (F := Ideal) a b (ix2 r s) : EReal) := by
  refine ⟨?_, ?_, ?_⟩ <;> pointwise [k0_pay15, k0_pay16, k0_pay17]
theorem store_v (a : FVec Ideal S1024x512 .bf16) (b : Vec Ideal S1024x512 .f32) (x : Vec Ideal S512x512 .f32) (r : Fin 512) (s : Fin 512) :
    k0_pay2 (F := Ideal) a b (ix2 r s) = k0_pay1 (F := Ideal) a b (ix2 r s)
      ∧ k0_pay3 (F := Ideal) a b x (ix2 r s) = (x (ix2 r s) + k0_pay1 (F := Ideal) a b (ix2 r s) : EReal)
      ∧ k0_pay4 (F := Ideal) a b x (ix2 r s) = (x (ix2 r s) + k0_pay1 (F := Ideal) a b (ix2 r s) : EReal) := by
  refine ⟨?_, ?_, ?_⟩ <;> pointwise [k0_pay2, k0_pay3, k0_pay4]
theorem store_l (a : FVec Ideal S1024x512 .bf16) (b : Vec Ideal S1024x1664 .bf16) (x : Vec Ideal S512x1664 .f32) (r : Fin 512) (s : Fin 1664) :
    k0_pay6 (F := Ideal) a b (ix2 r s) = k0_pay5 (F := Ideal) a b (ix2 r s)
      ∧ k0_pay7 (F := Ideal) a b x (ix2 r s) = (x (ix2 r s) + k0_pay5 (F := Ideal) a b (ix2 r s) : EReal)
      ∧ k0_pay8 (F := Ideal) a b x (ix2 r s) = (x (ix2 r s) + k0_pay5 (F := Ideal) a b (ix2 r s) : EReal) := by
  refine ⟨?_, ?_, ?_⟩ <;> pointwise [k0_pay6, k0_pay7, k0_pay8]

theorem part_q (c : Dev nD) (t : Fin cfg0.N) (p : Fin 4) (hp : t.val % 4 = p.val) (hj : t.val / 4 < 2) (r : Fin 512) (s : Fin 512) :
    k0_pay10 (F := Ideal) (iblk m c 0 t) (iblk m c 1 t) (ix2 r s) = part m c (t.val / 4) p hj r ⟨0 + s.val, by omega⟩ := by
  refine (pay10_apply _ _ _ _).trans (Finset.sum_congr rfl fun q _ => ?_)
  rw [blk0, blk1, kD, dif_pos (by simp only; omega)]
  have e : (⟨0 + s.val, by omega⟩ : Fin 512) = s := Fin.ext (by simp only; omega)
  simp only [hp, e]
theorem part_k (c : Dev nD) (t : Fin cfg0.N) (p : Fin 4) (hp : t.val % 4 = p.val) (hj : t.val / 4 < 2) (r : Fin 512) (s : Fin 512) :
    k0_pay14 (F := Ideal) (iblk m c 0 t) (iblk m c 2 t) (ix2 r s) = part m c (t.val / 4) p hj r ⟨512 + s.val, by omega⟩ := by
  refine (pay14_apply _ _ _ _).trans (Finset.sum_congr rfl fun q _ => ?_)
  rw [blk0, blk2, kD, dif_neg (by simp only; omega), dif_pos (by simp only; omega)]
  have e : (⟨512 + s.val - 512, by omega⟩ : Fin 512) = s := Fin.ext (by simp only; omega)
  simp only [hp, e]
theorem part_v (c : Dev nD) (t : Fin cfg0.N) (p : Fin 4) (hp : t.val % 4 = p.val) (hj : t.val / 4 < 2) (r : Fin 512) (s : Fin 512) :
    k0_pay1 (F := Ideal) (k0_pay9 (F := Ideal) (iblk m c 0 t)) (iblk m c 3 t) (ix2 r s) = part m c (t.val / 4) p hj r ⟨1024 + s.val, by omega⟩ := by
  refine (pay1_apply _ _ _ _).trans (Finset.sum_congr rfl fun q _ => ?_)
  rw [blk0, blk3, kD, dif_neg (by simp only; omega), dif_neg (by simp only; omega), dif_pos (by simp only; omega)]
  have e : (⟨1024 + s.val - 512 - 512, by omega⟩ : Fin 512) = s := Fin.ext (by simp only; omega)
  simp only [hp, e]
theorem part_l (c : Dev nD) (t : Fin cfg0.N) (p : Fin 4) (hp : t.val % 4 = p.val) (hj : t.val / 4 < 2) (r : Fin 512) (s : Fin 1664) :
    k0_pay5 (F := Ideal) (k0_pay9 (F := Ideal) (iblk m c 0 t)) (iblk m c 4 t) (ix2 r s) = part m c (t.val / 4) p hj r ⟨1536 + s.val, by omega⟩ := by
  refine (pay5_apply _ _ _ _).trans (Finset.sum_congr rfl fun q _ => ?_)
  rw [blk0, blk4, kD, dif_neg (by simp only; omega), dif_neg (by simp only; omega), dif_neg (by simp only; omega)]
  have e : (⟨1536 + s.val - 512 - 512 - 512, by omega⟩ : Fin 1664) = s := Fin.ext (by simp only; omega)
  simp only [hp, e]

/-- Four stores side by side, read at an index. -/
theorem canon4 (w0 w1 w2 : Vec Ideal S512x512 .f32) (w3 : Vec Ideal S512x1664 .f32) (f : Fin 512 → Fin 3200 → EReal)
    (h0 : ∀ (r s : Fin 512), w0 (ix2 r s) = f r ⟨0 + s.val, by omega⟩) (h1 : ∀ (r s : Fin 512), w1 (ix2 r s) = f r ⟨512 + s.val, by omega⟩)
    (h2 : ∀ (r s : Fin 512), w2 (ix2 r s) = f r ⟨1024 + s.val, by omega⟩) (h3 : ∀ (r : Fin 512) (s : Fin 1664), w3 (ix2 r s) = f r ⟨1536 + s.val, by omega⟩)
    (r : Fin 512) (s : Fin 3200) :
    View.canon (Val := Elt Ideal) (s := S512x3200) (e := .f32)
      [⟨Rect.unit (s := S512x3200) ![0, 1536] S512x1664.size inb_S512x3200_S512x1664_0_1536, w3⟩,
       ⟨Rect.unit (s := S512x3200) ![0, 1024] S512x512.size inb_S512x3200_S512x512_0_1024, w2⟩,
       ⟨Rect.unit (s := S512x3200) ![0, 512] S512x512.size inb_S512x3200_S512x512_0_512, w1⟩,
       ⟨Rect.unit (s := S512x3200) ![0, 0] S512x512.size inb_S512x3200_S512x512_0_0, w0⟩] (ix2 r s) = f r s := by
  by_cases hl : 1536 ≤ s.val
  · refine (canon_hit _ _ _ _ (ix2 r ⟨s.val - 1536, by omega⟩) ?_).trans ((h3 _ _).trans (congrArg (f r) (Fin.ext ?_)))
    · intro a; fin_cases a <;> simp; omega
    · simp only; omega
  refine (canon_miss _ _ _ _ 1 (Or.inl (by simpa using hl))).trans ?_
  by_cases hv : 1024 ≤ s.val
  · refine (canon_hit _ _ _ _ (ix2 r ⟨s.val - 1024, by omega⟩) ?_).trans ((h2 _ _).trans (congrArg (f r) (Fin.ext ?_)))
    · intro a; fin_cases a <;> simp; omega
    · simp only; omega
  refine (canon_miss _ _ _ _ 1 (Or.inl (by simpa using hv))).trans ?_
  by_cases hk : 512 ≤ s.val
  · refine (canon_hit _ _ _ _ (ix2 r ⟨s.val - 512, by omega⟩) ?_).trans ((h1 _ _).trans (congrArg (f r) (Fin.ext ?_)))
    · intro a; fin_cases a <;> simp; omega
    · simp only; omega
  refine (canon_miss _ _ _ _ 1 (Or.inl (by simpa using hk))).trans ?_
  refine (canon_hit _ _ _ _ (ix2 r ⟨s.val, by omega⟩) ?_).trans ((h0 _ _).trans (congrArg (f r) (Fin.ext ?_)))
  · intro a; fin_cases a <;> simp
  · simp only; omega

/-- A group of columns read out of the whole. -/
theorem ld_group (x : Vec Ideal S512x3200 .f32) (o n : ℕ) (inb : ∀ a, (![0, o] : Fin 2 → ℕ) a + (![512, n] : Fin 2 → ℕ) a ≤ S512x3200.size a) (hn : o + n ≤ 3200)
    (r : Fin 512) (s : Fin n) :
    View.ld x (Rect.unit (s := S512x3200) ![0, o] ![512, n] inb) (ix2 r s) = x (ix2 r ⟨o + s.val, by omega⟩) := by
  refine View.ld_unit_apply_of _ _ _ _ _ _ fun a => ?_
  fin_cases a <;> simp

theorem first (c : Dev nD) (t : Fin cfg0.N) (h : t.val % 4 = 0) (hj : t.val / 4 < 2) (s : Fin 512) (k : Fin 3200) :
    (outsAt0 m c t.val t.isLt).2 (ix2 s k) = part m c (t.val / 4) 0 hj s k := by
  rw [outsAt0_A m c t h (by omega) (by omega) h (by omega) (by omega) h (by omega) (by omega) h (by omega) (by omega)]
  frame_out
  refine canon4 _ _ _ _ _ (fun r s => ?_) (fun r s => ?_) (fun r s => ?_) (fun r s => ?_) s k
  · exact (store_q _ _ (fun _ => (0 : EReal)) r s).1.trans (part_q m c t 0 h hj r s)
  · exact (store_k _ _ (fun _ => (0 : EReal)) r s).1.trans (part_k m c t 0 h hj r s)
  · exact (store_v _ _ (fun _ => (0 : EReal)) r s).1.trans (part_v m c t 0 h hj r s)
  · exact (store_l _ _ (fun _ => (0 : EReal)) r s).1.trans (part_l m c t 0 h hj r s)
theorem next (c : Dev nD) (t : Fin cfg0.N) (p : Fin 4) (hp : t.val % 4 = p.val) (h : 1 ≤ p.val ∧ p.val ≤ 2) (hj : t.val / 4 < 2) (s : Fin 512) (k : Fin 3200) :
    (outsAt0 m c t.val t.isLt).2 (ix2 s k) = ((outsAt0 m c (t.val - 1) (Nat.lt_of_le_of_lt (Nat.sub_le _ _) t.isLt)).2 (ix2 s k)
      + part m c (t.val / 4) p hj s k : EReal) := by
  rw [outsAt0_B m c t (by omega) (by omega) (by omega) (by omega) (by omega) (by omega) (by omega) (by omega) (by omega) (by omega) (by omega) (by omega)]
  frame_out
  simp only [read_unread_whole]
  refine canon4 _ _ _ _ (fun s k => ((outsAt0 m c (t.val - 1) (Nat.lt_of_le_of_lt (Nat.sub_le _ _) t.isLt)).2 (ix2 s k) + part m c (t.val / 4) p hj s k : EReal)) (fun r s => ?_) (fun r s => ?_) (fun r s => ?_) (fun r s => ?_) s k
  · refine (store_q _ _ _ r s).2.1.trans ?_
    rw [part_q m c t p hp hj r s]
    exact congrArg (· + _) (ld_group _ 0 512 _ (by omega) r s)
  · refine (store_k _ _ _ r s).2.1.trans ?_
    rw [part_k m c t p hp hj r s]
    exact congrArg (· + _) (ld_group _ 512 512 _ (by omega) r s)
  · refine (store_v _ _ _ r s).2.1.trans ?_
    rw [part_v m c t p hp hj r s]
    exact congrArg (· + _) (ld_group _ 1024 512 _ (by omega) r s)
  · refine (store_l _ _ _ r s).2.1.trans ?_
    rw [part_l m c t p hp hj r s]
    exact congrArg (· + _) (ld_group _ 1536 1664 _ (by omega) r s)
theorem last (c : Dev nD) (t : Fin cfg0.N) (h : t.val % 4 = 3) (hj : t.val / 4 < 2) (s : Fin 512) (k : Fin 3200) :
    (outsAt0 m c t.val t.isLt).1 (ix2 s k) = ((outsAt0 m c (t.val - 1) (Nat.lt_of_le_of_lt (Nat.sub_le _ _) t.isLt)).2 (ix2 s k)
      + part m c (t.val / 4) 3 hj s k : EReal) := by
  rw [outsAt0_C m c t (by omega) (by omega) (by omega) (by omega) (by omega) (by omega) (by omega) (by omega) (by omega) (by omega) (by omega) (by omega)]
  frame_out
  simp only [read_unread_whole]
  refine canon4 _ _ _ _ (fun s k => ((outsAt0 m c (t.val - 1) (Nat.lt_of_le_of_lt (Nat.sub_le _ _) t.isLt)).2 (ix2 s k) + part m c (t.val / 4) 3 hj s k : EReal)) (fun r s => ?_) (fun r s => ?_) (fun r s => ?_) (fun r s => ?_) s k
  · refine (store_q _ _ _ r s).2.2.trans ?_
    rw [part_q m c t 3 h hj r s]
    exact congrArg (· + _) (ld_group _ 0 512 _ (by omega) r s)
  · refine (store_k _ _ _ r s).2.2.trans ?_
    rw [part_k m c t 3 h hj r s]
    exact congrArg (· + _) (ld_group _ 512 512 _ (by omega) r s)
  · refine (store_v _ _ _ r s).2.2.trans ?_
    rw [part_v m c t 3 h hj r s]
    exact congrArg (· + _) (ld_group _ 1024 512 _ (by omega) r s)
  · refine (store_l _ _ _ r s).2.2.trans ?_
    rw [part_l m c t 3 h hj r s]
    exact congrArg (· + _) (ld_group _ 1536 1664 _ (by omega) r s)

theorem total (c : Dev nD) (t : Fin cfg0.N) (h : t.val % 4 = 3) (s : Fin 512) (k : Fin 3200) :
    (outsAt0 m c t.val t.isLt).1 (ix2 s k) = G m c (ix2 ⟨512 * (t.val / 4) + s.val, by have := lt8 t.isLt; omega⟩ k) := by
  have h8 := lt8 t.isLt
  have e1 : (t.val - 1) / 4 = t.val / 4 := by omega
  have e2 : (t.val - 1 - 1) / 4 = t.val / 4 := by omega
  have e3 : (t.val - 1 - 1 - 1) / 4 = t.val / 4 := by omega
  have h1 := next m c ⟨t.val - 1, Nat.lt_of_le_of_lt (Nat.sub_le _ _) t.isLt⟩ 2 (show (t.val - 1) % 4 = 2 by omega) (by decide) (by dsimp only; omega) s k
  have h2 := next m c ⟨t.val - 1 - 1, Nat.lt_of_le_of_lt (Nat.sub_le _ _) (Nat.lt_of_le_of_lt (Nat.sub_le _ _) t.isLt)⟩ 1 (show (t.val - 1 - 1) % 4 = 1 by omega) (by decide) (by dsimp only; omega) s k
  have h3 := first m c ⟨t.val - 1 - 1 - 1, Nat.lt_of_le_of_lt (Nat.sub_le _ _) (Nat.lt_of_le_of_lt (Nat.sub_le _ _) (Nat.lt_of_le_of_lt (Nat.sub_le _ _) t.isLt))⟩ (show (t.val - 1 - 1 - 1) % 4 = 0 by omega) (by dsimp only; omega) s k
  dsimp only at h1 h2 h3
  rw [last m c t h (by omega), h1, h2, h3]
  simp only [e1, e2, e3]
  refine (Fin.sum_univ_four (fun p : Fin 4 => part m c (t.val / 4) p (by omega) s k)).symm.trans ?_
  exact Fin.sum_mul_add_congr fun p q hl => rfl

theorem arr (c : Dev nD) : (dats m 0 c).arrAt 5 cfg0.N = (G m c : S1024x3200.Idx → EReal) := by
  refine (dats m 0 c).arrAt_eq_of_covers 5 _ (by decide +kernel) fun t hf y => ?_
  have ht := lt8 t.isLt
  have h3 := (flush0_5 t).mp hf
  blk_simp
  rw [after0_5]
  obtain ⟨r, s, rfl⟩ : ∃ (r : Fin 512) (s : Fin 3200), y = ix2 r s := ⟨y 0, y 1, eq_ix2 y⟩
  have e : ((win0_5.blk t).view.emb (ix2 r s) : S1024x3200.Idx) = ix2 ⟨512 * (t.val / 4) + r.val, by omega⟩ s := by
    blk_ext [idx5 t]
  exact (total m c t h3 r s).trans (congrArg (G m c) e).symm

end Cert.Kernel7Ideal.Prod

namespace Cert.Proof

open Idealize.ShloMosaic Idealize.ShloMosaic.TcCoe Idealize.SL.Sem

theorem algebraic_in_weights : Cert.algebraic_Kernel7Ideal_Reference7Ideal := by
  intro m ρ m' ρ' _ hagree
  refine ⟨fun c => Cert.Kernel7Ideal.Prod.G m c,
    (θ_run _ _ _).mono (fun r h c => ?_) (Cert.Kernel7Ideal.Value.run_blocks m ρ),
    (θ_run _ _ _).mono (fun r h c => ?_) (Cert.Reference7Ideal.Value.run (F := Ideal) m' ρ')⟩
  · obtain ⟨h2, hk⟩ := h c
    exact ⟨h2.trans (Cert.Kernel7Ideal.Prod.arr m c), hk⟩
  · obtain ⟨h2, hk⟩ := h c
    obtain ⟨a0, a1, a2, a3, a4⟩ := hagree c
    refine ⟨h2.trans (funext fun (i : Cert.Kernel7Ideal.S1024x3200.Idx) => ?_), hk⟩
    obtain ⟨r, s, rfl⟩ : ∃ (r : Fin 1024) (s : Fin 3200), i = ix2 r s := ⟨i 0, i 1, eq_ix2 i⟩
    rw [a0, a1, a2, a3, a4]
    pointwise [Cert.Kernel7Ideal.Prod.G, Cert.Kernel7Ideal.Prod.kX, Cert.Kernel7Ideal.Prod.kD, Cert.Kernel7Ideal.Prod.kQ, Cert.Kernel7Ideal.Prod.kK, Cert.Kernel7Ideal.Prod.kV, Cert.Kernel7Ideal.Prod.kL]
    exact Finset.sum_congr rfl fun q _ => mul_comm _ _

end Cert.Proof

end
-- ==== Proof.DownWeights.lean ====
/- The gradient of the down projection: a product accumulated over blocks of rows. -/
module

public import proofs.«01_k».proof.Defs
public import proofs.«01_k».proof.Proof.Gen.Kernel8Ideal.Value
public import proofs.«01_k».proof.Proof.Gen.Reference8Ideal.Run
public import proofs.«01_k».proof.Proof.Whole

@[expose] public section

set_option maxRecDepth 16384

noncomputable section

namespace Cert.Kernel8Ideal.Prod

open Idealize.ShloMosaic Idealize.ShloMosaic.TcCoe Idealize.SL.Sem Cert.Proof Cert.Kernel8Ideal Cert.Kernel8Ideal.Gen
open Idealize.ShloMosaic.Pipeline (Dat)

variable (m : (ℓ : Loc nD τ sig) → Buf (Elt Ideal) ℓ)

/-- The gated activations and the gradient of the product. -/
def kA (c : Dev nD) (r : Fin 4096) (s : Fin 2816) : EReal := m ((c : Thread nD τ).loc main_arg0) (ix2 r s)
def kD (c : Dev nD) (r : Fin 4096) (s : Fin 1024) : EReal := m ((c : Thread nD τ).loc main_arg1) (ix2 r s)

/-- The result. -/
def G (c : Dev nD) (i : S2816x1024.Idx) : EReal := ∑ q : Fin 4096, kA m c q (i 0) * kD m c q (i 1)

theorem entry_a (c : Dev nD) (n : Fin 4096) (k : Fin 2816) : (V m c main_v0 : S4096x2816.Idx → EReal) (ix2 n k) = kA m c n k := by
  entry_read
  unfold kA
  pointwise []
theorem entry_d (c : Dev nD) (n : Fin 4096) (k : Fin 1024) : (V m c main_v1 : S4096x1024.Idx → EReal) (ix2 n k) = kD m c n k := by
  entry_read
  unfold kD
  pointwise []

theorem lt8 {n : ℕ} (h : n < cfg0.N) : n < 8 := lt_of_lt_of_eq h N_0

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

theorem blk0 (c : Dev nD) (t : Fin cfg0.N) (r : Fin 1024) (s : Fin 1408) : (iblk m c 0 t : S1024x1408.Idx → EReal) (ix2 r s)
    = kA m c ⟨(t.val % 4) * 1024 + r.val, by omega⟩ ⟨1408 * (t.val / 4) + s.val, by have := lt8 t.isLt; omega⟩ := by
  have ht := lt8 t.isLt
  rw [← entry_a]
  blk_ext [iblk, idx0 t]
theorem blk1 (c : Dev nD) (t : Fin cfg0.N) (r : Fin 1024) (s : Fin 1024) : (iblk m c 1 t : S1024x1024.Idx → EReal) (ix2 r s)
    = kD m c ⟨(t.val % 4) * 1024 + r.val, by omega⟩ s := by
  have ht := lt8 t.isLt
  rw [← entry_d]
  blk_ext [iblk, idx1 t]

/-- One block of rows' share of the sum. -/
def part (c : Dev nD) (j : ℕ) (p : Fin 4) (s : Fin 1408) (k : Fin 1024) (hj : j < 2) : EReal :=
  ∑ q : Fin 1024, kA m c ⟨p.val * 1024 + q.val, by omega⟩ ⟨1408 * j + s.val, by omega⟩ * kD m c ⟨p.val * 1024 + q.val, by omega⟩ k

theorem pay1_apply (a : Vec Ideal S1024x1408 .bf16) (b : Vec Ideal S1024x1024 .bf16) (r : Fin 1408) (s : Fin 1024) :
    k0_pay1 (F := Ideal) a b (ix2 r s) = ∑ q : Fin 1024, (a (ix2 q r) * b (ix2 q s) : EReal) := by
  pointwise [k0_pay1]
theorem pay2_apply (a : Vec Ideal S1024x1408 .bf16) (b : Vec Ideal S1024x1024 .bf16) (r : Fin 1408) (s : Fin 1024) :
    k0_pay2 (F := Ideal) a b (ix2 r s) = k0_pay1 (F := Ideal) a b (ix2 r s) := by
  pointwise [k0_pay2]
theorem pay3_apply (a : Vec Ideal S1024x1408 .bf16) (b : Vec Ideal S1024x1024 .bf16) (x : Vec Ideal S1408x1024 .f32) (r : Fin 1408) (s : Fin 1024) :
    k0_pay3 (F := Ideal) a b x (ix2 r s) = (x (ix2 r s) + k0_pay1 (F := Ideal) a b (ix2 r s) : EReal) := by
  pointwise [k0_pay3]
theorem pay4_apply (a : Vec Ideal S1024x1408 .bf16) (b : Vec Ideal S1024x1024 .bf16) (x : Vec Ideal S1408x1024 .f32) (r : Fin 1408) (s : Fin 1024) :
    k0_pay4 (F := Ideal) a b x (ix2 r s) = (x (ix2 r s) + k0_pay1 (F := Ideal) a b (ix2 r s) : EReal) := by
  pointwise [k0_pay4]

theorem part_eq (c : Dev nD) (t : Fin cfg0.N) (p : Fin 4) (hp : t.val % 4 = p.val) (s : Fin 1408) (k : Fin 1024) :
    k0_pay1 (F := Ideal) (iblk m c 0 t) (iblk m c 1 t) (ix2 s k) = part m c (t.val / 4) p s k (by have := lt8 t.isLt; omega) := by
  rw [pay1_apply]
  refine Finset.sum_congr rfl fun q _ => ?_
  rw [blk0, blk1]
  simp only [hp]

theorem first (c : Dev nD) (t : Fin cfg0.N) (h : t.val % 4 = 0) (s : Fin 1408) (k : Fin 1024) :
    (outsAt0 m c t.val t.isLt).2 (ix2 s k) = part m c (t.val / 4) 0 s k (by have := lt8 t.isLt; omega) := by
  rw [← part_eq m c t 0 h, ← pay2_apply, outsAt0_A m c t h (by omega) (by omega)]
  frame_out
theorem next (c : Dev nD) (t : Fin cfg0.N) (p : Fin 4) (hp : t.val % 4 = p.val) (h : 1 ≤ p.val ∧ p.val ≤ 2) (s : Fin 1408) (k : Fin 1024) :
    (outsAt0 m c t.val t.isLt).2 (ix2 s k) = ((outsAt0 m c (t.val - 1) (Nat.lt_of_le_of_lt (Nat.sub_le _ _) t.isLt)).2 (ix2 s k)
      + part m c (t.val / 4) p s k (by have := lt8 t.isLt; omega) : EReal) := by
  rw [← part_eq m c t p hp, ← pay3_apply, outsAt0_B m c t (by omega) (by omega) (by omega)]
  frame_out
  simp only [read_unread_whole]
theorem last (c : Dev nD) (t : Fin cfg0.N) (h : t.val % 4 = 3) (s : Fin 1408) (k : Fin 1024) :
    (outsAt0 m c t.val t.isLt).1 (ix2 s k) = ((outsAt0 m c (t.val - 1) (Nat.lt_of_le_of_lt (Nat.sub_le _ _) t.isLt)).2 (ix2 s k)
      + part m c (t.val / 4) 3 s k (by have := lt8 t.isLt; omega) : EReal) := by
  rw [← part_eq m c t 3 h, ← pay4_apply, outsAt0_C m c t (by omega) (by omega) (by omega)]
  frame_out
  simp only [read_unread_whole]

theorem total (c : Dev nD) (t : Fin cfg0.N) (h : t.val % 4 = 3) (s : Fin 1408) (k : Fin 1024) :
    (outsAt0 m c t.val t.isLt).1 (ix2 s k) = G m c (ix2 ⟨1408 * (t.val / 4) + s.val, by have := lt8 t.isLt; omega⟩ k) := by
  have h8 := lt8 t.isLt
  have e1 : (t.val - 1) / 4 = t.val / 4 := by omega
  have e2 : (t.val - 1 - 1) / 4 = t.val / 4 := by omega
  have e3 : (t.val - 1 - 1 - 1) / 4 = t.val / 4 := by omega
  have h1 := next m c ⟨t.val - 1, Nat.lt_of_le_of_lt (Nat.sub_le _ _) t.isLt⟩ 2 (show (t.val - 1) % 4 = 2 by omega) (by decide) s k
  have h2 := next m c ⟨t.val - 1 - 1, Nat.lt_of_le_of_lt (Nat.sub_le _ _) (Nat.lt_of_le_of_lt (Nat.sub_le _ _) t.isLt)⟩ 1 (show (t.val - 1 - 1) % 4 = 1 by omega) (by decide) s k
  have h3 := first m c ⟨t.val - 1 - 1 - 1, Nat.lt_of_le_of_lt (Nat.sub_le _ _) (Nat.lt_of_le_of_lt (Nat.sub_le _ _) (Nat.lt_of_le_of_lt (Nat.sub_le _ _) t.isLt))⟩ (show (t.val - 1 - 1 - 1) % 4 = 0 by omega) s k
  dsimp only at h1 h2 h3
  rw [last m c t h, h1, h2, h3]
  simp only [e1, e2, e3]
  refine (Fin.sum_univ_four (fun p : Fin 4 => part m c (t.val / 4) p s k (by omega))).symm.trans ?_
  exact Fin.sum_mul_add_congr fun p q hl => rfl

theorem arr (c : Dev nD) : (dats m 0 c).arrAt 2 cfg0.N = (G m c : S2816x1024.Idx → EReal) := by
  refine (dats m 0 c).arrAt_eq_of_covers 2 _ (by decide +kernel) fun t hf y => ?_
  have ht := lt8 t.isLt
  have h3 := (flush0_2 t).mp hf
  blk_simp
  rw [after0_2]
  obtain ⟨r, s, rfl⟩ : ∃ (r : Fin 1408) (s : Fin 1024), y = ix2 r s := ⟨y 0, y 1, eq_ix2 y⟩
  have e : ((win0_2.blk t).view.emb (ix2 r s) : S2816x1024.Idx) = ix2 ⟨1408 * (t.val / 4) + r.val, by omega⟩ s := by
    blk_ext [idx2 t]
  exact (total m c t h3 r s).trans (congrArg (G m c) e).symm

end Cert.Kernel8Ideal.Prod

namespace Cert.Proof

open Idealize.ShloMosaic Idealize.ShloMosaic.TcCoe Idealize.SL.Sem

theorem algebraic_down_weights : Cert.algebraic_Kernel8Ideal_Reference8Ideal := by
  intro m ρ m' ρ' _ hagree
  refine ⟨fun c => Cert.Kernel8Ideal.Prod.G m c,
    (θ_run _ _ _).mono (fun r h c => ?_) (Cert.Kernel8Ideal.Value.run_blocks m ρ),
    (θ_run _ _ _).mono (fun r h c => ?_) (Cert.Reference8Ideal.Value.run (F := Ideal) m' ρ')⟩
  · obtain ⟨h2, hk⟩ := h c
    exact ⟨h2.trans (Cert.Kernel8Ideal.Prod.arr m c), hk⟩
  · obtain ⟨h2, hk⟩ := h c
    obtain ⟨a0, a1⟩ := hagree c
    refine ⟨h2.trans (funext fun (i : Cert.Kernel8Ideal.S2816x1024.Idx) => ?_), hk⟩
    obtain ⟨r, s, rfl⟩ : ∃ (r : Fin 2816) (s : Fin 1024), i = ix2 r s := ⟨i 0, i 1, eq_ix2 i⟩
    rw [a0, a1]
    pointwise [Cert.Kernel8Ideal.Prod.G, Cert.Kernel8Ideal.Prod.kA, Cert.Kernel8Ideal.Prod.kD]
    exact Finset.sum_congr rfl fun q _ => mul_comm _ _

end Cert.Proof

end
-- ==== Proof.LnRow.lean ====
/- The layer norm of one row of 1024 elements, over the extended reals. -/
module

public import proofs.«01_k».proof.Proof.NormReal

@[expose] public section

set_option maxRecDepth 16384

noncomputable section

namespace Cert.Proof

open Idealize.ShloMosaic

/-- The number of columns, the norm's small constant and the weight of the residual branch. -/
def lnWidth : EReal := Ideal.ofBits .f32 0x44800000#32
def lnEps : EReal := Ideal.ofBits .f32 0x3727C5AC#32
def lnAlpha : EReal := Ideal.ofBits .f32 0x3F9837F0#32

/-- A row less its mean, the reciprocal deviation, and the normalised row. -/
def lnCent (r : Fin 1024 → EReal) (k : Fin 1024) : EReal := r k - Ideal.div (∑ x : Fin 1024, r x) lnWidth
def lnVar (r : Fin 1024 → EReal) : EReal := Ideal.div (∑ x : Fin 1024, lnCent r x * lnCent r x) lnWidth + lnEps
def lnRstd (r : Fin 1024 → EReal) : EReal := Ideal.rsqrt (lnVar r)
def lnHat (r : Fin 1024 → EReal) (k : Fin 1024) : EReal := lnCent r k * lnRstd r

/-- Of a row of real numbers: the centred row is real with sum zero, the variance is a positive real. -/
theorem lnReal (r : Fin 1024 → EReal) (h : ∀ k, Real' (r k)) :
    ∃ (d : Fin 1024 → ℝ) (v : ℝ), (∀ k, lnCent r k = (d k : EReal)) ∧ ∑ k, d k = 0 ∧ lnVar r = (v : EReal) ∧ 0 < v := by
  obtain ⟨d, hd, hs⟩ := centred r h
  obtain ⟨v, hv, hpos⟩ := variance (lnCent r) d hd
  exact ⟨d, v, hd, hs, hv, hpos⟩

/-- The normalised row of a row of real numbers is real. -/
theorem lnHat_real (r : Fin 1024 → EReal) (h : ∀ k, Real' (r k)) (k : Fin 1024) : Real' (lnHat r k) := by
  obtain ⟨d, v, hd, _, hv, hpos⟩ := lnReal r h
  refine Real'.mul ⟨d k, hd k⟩ ⟨(Real.sqrt v)⁻¹, ?_⟩
  rw [lnRstd, hv]
  exact rsqrt_pos hpos

end Cert.Proof

end
-- ==== Proof.LossSpec.lean ====
/- The down projection, the second layer norm and the loss: what the call computes, its arguments and blocks. -/
module

public import proofs.«01_k».proof.Defs
public import proofs.«01_k».proof.Proof.Gen.Kernel9Ideal.Value
public import proofs.«01_k».proof.Proof.LnRow

@[expose] public section

set_option maxRecDepth 16384

noncomputable section

namespace Cert.Kernel9Ideal.Loss

open Idealize.ShloMosaic Idealize.ShloMosaic.TcCoe Idealize.SL.Sem Cert.Proof Cert.Kernel9Ideal Cert.Kernel9Ideal.Gen
open Idealize.ShloMosaic.Pipeline (Dat)

variable (m : (ℓ : Loc nD τ sig) → Buf (Elt Ideal) ℓ)

/-- The first residual sum, the gated branch, the down projection, the two norms' gains and shifts, and the target. -/
def kR (c : Dev nD) (n : Fin 4096) (k : Fin 1024) : EReal := m ((c : Thread nD τ).loc main_arg0) (ix2 n k)
def kM (c : Dev nD) (n : Fin 4096) (j : Fin 2816) : EReal := m ((c : Thread nD τ).loc main_arg1) (ix2 n j)
def kW (c : Dev nD) (j : Fin 2816) (k : Fin 1024) : EReal := m ((c : Thread nD τ).loc main_arg2) (ix2 j k)
def kG1 (c : Dev nD) (k : Fin 1024) : EReal := m ((c : Thread nD τ).loc main_arg3) (ix1 k)
def kB1 (c : Dev nD) (k : Fin 1024) : EReal := m ((c : Thread nD τ).loc main_arg4) (ix1 k)
def kG2 (c : Dev nD) (k : Fin 1024) : EReal := m ((c : Thread nD τ).loc main_arg5) (ix1 k)
def kB2 (c : Dev nD) (k : Fin 1024) : EReal := m ((c : Thread nD τ).loc main_arg6) (ix1 k)
def kT (c : Dev nD) (n : Fin 4096) (k : Fin 1024) : EReal := m ((c : Thread nD τ).loc main_arg7) (ix2 n k)

/-- The first norm's output, the second residual sum, the error, its gradient and that times the second gain. -/
def h1 (c : Dev nD) (n : Fin 4096) (k : Fin 1024) : EReal := lnHat (kR m c n) k * kG1 m c k + kB1 m c k
def r2 (c : Dev nD) (n : Fin 4096) (k : Fin 1024) : EReal := lnAlpha * h1 m c n k + ∑ j : Fin 2816, kM m c n j * kW m c j k
def err (c : Dev nD) (n : Fin 4096) (k : Fin 1024) : EReal := lnHat (r2 m c n) k * kG2 m c k + kB2 m c k - kT m c n k
def dy (c : Dev nD) (n : Fin 4096) (k : Fin 1024) : EReal := err m c n k * Ideal.ofBits .f32 0x3A800000#32
def dyg (c : Dev nD) (n : Fin 4096) (k : Fin 1024) : EReal := dy m c n k * kG2 m c k

/-- The results: the gradient of the second residual sum, the loss, the gradients of the gain and the shift. -/
def G0 (c : Dev nD) (i : S4096x1024.Idx) : EReal :=
  lnRstd (r2 m c (i 0)) * ((dyg m c (i 0) (i 1) - Ideal.div (∑ k : Fin 1024, dyg m c (i 0) k) lnWidth)
    - lnHat (r2 m c (i 0)) (i 1) * Ideal.div (∑ k : Fin 1024, dyg m c (i 0) k * lnHat (r2 m c (i 0)) k) lnWidth)
def lossOf (c : Dev nD) (t : Fin 16) : EReal :=
  Ideal.div (Ideal.ofBits .f32 0x3F000000#32 * ∑ r : Fin 256, ∑ k : Fin 1024,
    err m c ⟨t.val * 256 + r.val, by omega⟩ k * err m c ⟨t.val * 256 + r.val, by omega⟩ k) lnWidth
def G2 (c : Dev nD) (i : S1x1.Idx) : EReal := ∑ t : Fin 16, lossOf m c t
def G3 (c : Dev nD) (i : S1x1024.Idx) : EReal := ∑ n : Fin 4096, dy m c n (i 1) * lnHat (r2 m c n) (i 1)
def G4 (c : Dev nD) (i : S1x1024.Idx) : EReal := ∑ n : Fin 4096, dy m c n (i 1)

theorem entry_m (c : Dev nD) (n : Fin 4096) (j : Fin 2816) : (V m c main_v18 : S4096x2816.Idx → EReal) (ix2 n j) = kM m c n j := by
  entry_read
  unfold kM
  pointwise []
theorem entry_w (c : Dev nD) (j : Fin 2816) (k : Fin 1024) : (V m c main_v19 : S2816x1024.Idx → EReal) (ix2 j k) = kW m c j k := by
  entry_read
  unfold kW
  pointwise []
theorem entry_x (c : Dev nD) (n : Fin 4096) (k : Fin 1024) : (V m c main_v17 : S4096x1024.Idx → EReal) (ix2 n k) = lnHat (kR m c n) k := by
  entry_read
  unfold lnHat lnRstd lnVar lnCent kR lnWidth lnEps
  pointwise []
theorem entry_g1 (c : Dev nD) (k : Fin 1024) : (V m c main_v20 : S1x1024.Idx → EReal) (ix2 0 k) = kG1 m c k := by
  entry_read
  unfold kG1
  pointwise []
theorem entry_b1 (c : Dev nD) (k : Fin 1024) : (V m c main_v21 : S1x1024.Idx → EReal) (ix2 0 k) = kB1 m c k := by
  entry_read
  unfold kB1
  pointwise []
theorem entry_g2 (c : Dev nD) (k : Fin 1024) : (V m c main_v22 : S1x1024.Idx → EReal) (ix2 0 k) = kG2 m c k := by
  entry_read
  unfold kG2
  pointwise []
theorem entry_b2 (c : Dev nD) (k : Fin 1024) : (V m c main_v23 : S1x1024.Idx → EReal) (ix2 0 k) = kB2 m c k := by
  entry_read
  unfold kB2
  pointwise []

theorem lt16 {n : ℕ} (h : n < cfg0.N) : n < 16 := lt_of_lt_of_eq h N_0

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)

theorem blk0 (c : Dev nD) (t : Fin cfg0.N) (r : Fin 256) (j : Fin 2816) : (iblk m c 0 t : S256x2816.Idx → EReal) (ix2 r j)
    = kM m c ⟨t.val * 256 + r.val, by have := lt16 t.isLt; omega⟩ j := by
  have ht := lt16 t.isLt
  rw [← entry_m]
  blk_ext [iblk, idx0 t]
theorem blk1 (c : Dev nD) (t : Fin cfg0.N) (j : Fin 2816) (k : Fin 1024) : (iblk m c 1 t : S2816x1024.Idx → EReal) (ix2 j k) = kW m c j k := by
  have ht := lt16 t.isLt
  rw [← entry_w]
  blk_ext [iblk, idx1 t]
theorem blk2 (c : Dev nD) (t : Fin cfg0.N) (r : Fin 256) (k : Fin 1024) : (iblk m c 2 t : S256x1024.Idx → EReal) (ix2 r k)
    = lnHat (kR m c ⟨t.val * 256 + r.val, by have := lt16 t.isLt; omega⟩) k := by
  have ht := lt16 t.isLt
  rw [← entry_x]
  blk_ext [iblk, idx2 t]
theorem blk3 (c : Dev nD) (t : Fin cfg0.N) (k : Fin 1024) : (iblk m c 3 t : S1x1024.Idx → EReal) (ix2 0 k) = kG1 m c k := by
  have ht := lt16 t.isLt
  rw [← entry_g1]
  blk_ext [iblk, idx3 t]
theorem blk4 (c : Dev nD) (t : Fin cfg0.N) (k : Fin 1024) : (iblk m c 4 t : S1x1024.Idx → EReal) (ix2 0 k) = kB1 m c k := by
  have ht := lt16 t.isLt
  rw [← entry_b1]
  blk_ext [iblk, idx4 t]
theorem blk5 (c : Dev nD) (t : Fin cfg0.N) (k : Fin 1024) : (iblk m c 5 t : S1x1024.Idx → EReal) (ix2 0 k) = kG2 m c k := by
  have ht := lt16 t.isLt
  rw [← entry_g2]
  blk_ext [iblk, idx5 t]
theorem blk6 (c : Dev nD) (t : Fin cfg0.N) (k : Fin 1024) : (iblk m c 6 t : S1x1024.Idx → EReal) (ix2 0 k) = kB2 m c k := by
  have ht := lt16 t.isLt
  rw [← entry_b2]
  blk_ext [iblk, idx6 t]
theorem blk7 (c : Dev nD) (t : Fin cfg0.N) (r : Fin 256) (k : Fin 1024) : (iblk m c 7 t : S256x1024.Idx → EReal) (ix2 r k)
    = kT m c ⟨t.val * 256 + r.val, by have := lt16 t.isLt; omega⟩ k := by
  have ht := lt16 t.isLt
  unfold kT
  rw [← V_main_arg7 m c]
  blk_ext [iblk, idx7 t]

end Cert.Kernel9Ideal.Loss

end
-- ==== Proof.LossTile.lean ====
/- The down projection, the second layer norm and the loss: the five result arrays of the call. -/
module

public import proofs.«01_k».proof.Proof.LossSpec

@[expose] public section

set_option maxRecDepth 16384

noncomputable section

namespace Cert.Kernel9Ideal.Loss

open Idealize.ShloMosaic Idealize.ShloMosaic.TcCoe Idealize.SL.Sem Cert.Proof Cert.Kernel9Ideal Cert.Kernel9Ideal.Gen
open Idealize.ShloMosaic.Pipeline (Dat)

variable (m : (ℓ : Loc nD τ sig) → Buf (Elt Ideal) ℓ)

section
variable (x : Vec Ideal S256x1024 .f32) (g b : Vec Ideal S1x1024 .f32) (u : Vec Ideal S256x2816 .bf16) (w : Vec Ideal S2816x1024 .bf16) (r : Fin 256) (k : Fin 1024)

/-- A tile's row before the second norm. -/
def rowOf (x : Vec Ideal S256x1024 .f32) (g b : Vec Ideal S1x1024 .f32) (u : Vec Ideal S256x2816 .bf16) (w : Vec Ideal S2816x1024 .bf16)
    (r : Fin 256) (k : Fin 1024) : EReal :=
  lnAlpha * (x (ix2 r k) * g (ix2 0 k) + b (ix2 0 k)) + ∑ j : Fin 2816, (u (ix2 r j) * w (ix2 j k) : EReal)

theorem pay6_apply : k0_pay6 (F := Ideal) x g b u w (ix2 r k) = lnCent (rowOf x g b u w r) k := by
  unfold lnCent rowOf lnAlpha lnWidth
  pointwise [k0_pay6]
theorem pay7_apply : k0_pay7 (F := Ideal) x g b u w (ix2 r 0) = lnRstd (rowOf x g b u w r) := by
  have e : (∑ q : Fin 1024, (k0_pay6 (F := Ideal) x g b u w (ix2 r q) * k0_pay6 (F := Ideal) x g b u w (ix2 r q) : EReal))
      = ∑ q : Fin 1024, lnCent (rowOf x g b u w r) q * lnCent (rowOf x g b u w r) q :=
    Finset.sum_congr rfl fun q _ => congrArg₂ (· * ·) (pay6_apply x g b u w r q) (pay6_apply x g b u w r q)
  unfold lnRstd lnVar
  rw [← e]
  unfold k0_pay7 lnWidth lnEps
  pointwise []
theorem pay8_apply : k0_pay8 (F := Ideal) x g b u w (ix2 r k) = lnHat (rowOf x g b u w r) k := by
  unfold lnHat
  rw [← pay6_apply, ← pay7_apply]
  unfold k0_pay8
  pointwise []
end

section
variable (x : FVec Ideal S256x1024 .f32) (g b z : Vec Ideal S1x1024 .f32) (y : Vec Ideal S256x1024 .f32) (s : FVec Ideal S256x1 .f32) (d : FVec Ideal S256x1024 .f32)
  (l : Vec Ideal S1x1 .f32) (r : Fin 256) (k : Fin 1024)

theorem pay9_apply : k0_pay9 (F := Ideal) x g b y (ix2 r k) = (x (ix2 r k) * g (ix2 0 k) + b (ix2 0 k) - y (ix2 r k) : EReal) := by
  pointwise [k0_pay9]
theorem pay10_apply : k0_pay10 (F := Ideal) x g b y l (ix2 0 0) = l (ix2 0 0) + Ideal.div (Ideal.ofBits .f32 0x3F000000#32
    * ∑ r : Fin 256, ∑ k : Fin 1024, (k0_pay9 (F := Ideal) x g b y (ix2 r k) * k0_pay9 (F := Ideal) x g b y (ix2 r k) : EReal)) lnWidth := by
  unfold k0_pay10 lnWidth
  pointwise []
theorem pay11_apply : k0_pay11 (F := Ideal) x g b y (ix2 r k) = (k0_pay9 (F := Ideal) x g b y (ix2 r k) * Ideal.ofBits .f32 0x3A800000#32 : EReal) := by
  unfold k0_pay11
  pointwise []
theorem pay12_apply : k0_pay12 (F := Ideal) x g b y z (ix2 0 k)
    = z (ix2 0 k) + ∑ r : Fin 256, (k0_pay11 (F := Ideal) x g b y (ix2 r k) * x (ix2 r k) : EReal) := by
  unfold k0_pay12
  pointwise []
theorem pay13_apply : k0_pay13 (F := Ideal) x g b y z (ix2 0 k) = z (ix2 0 k) + ∑ r : Fin 256, (k0_pay11 (F := Ideal) x g b y (ix2 r k) : EReal) := by
  unfold k0_pay13
  pointwise []
theorem pay1_apply : k0_pay1 (F := Ideal) s x d g (ix2 r k)
    = s (ix2 r 0) * ((d (ix2 r k) * g (ix2 0 k) - Ideal.div (∑ q : Fin 1024, (d (ix2 r q) * g (ix2 0 q) : EReal)) lnWidth)
        - x (ix2 r k) * Ideal.div (∑ q : Fin 1024, (d (ix2 r q) * g (ix2 0 q) * x (ix2 r q) : EReal)) lnWidth) := by
  unfold lnWidth
  pointwise [k0_pay1]
theorem pay2_apply : k0_pay2 (F := Ideal) s x d g (ix2 r k) = k0_pay1 (F := Ideal) s x d g (ix2 r k) := by
  unfold k0_pay2
  pointwise []
end

theorem pay3_apply : k0_pay3 (F := Ideal) (ix2 0 0) = (0 : EReal) := by pointwise [k0_pay3]
theorem pay4_apply (k : Fin 1024) : k0_pay4 (F := Ideal) (ix2 0 k) = (0 : EReal) := by pointwise [k0_pay4]
theorem pay5_apply (k : Fin 1024) : k0_pay5 (F := Ideal) (ix2 0 k) = (0 : EReal) := by pointwise [k0_pay5]

/-- A tile's normalised rows and reciprocal deviations. -/
def tileX (c : Dev nD) (t : Fin cfg0.N) : FVec Ideal S256x1024 .f32 := k0_pay8 (F := Ideal) (iblk m c 2 t) (iblk m c 3 t) (iblk m c 4 t) (iblk m c 0 t) (iblk m c 1 t)
def tileS (c : Dev nD) (t : Fin cfg0.N) : FVec Ideal S256x1 .f32 := k0_pay7 (F := Ideal) (iblk m c 2 t) (iblk m c 3 t) (iblk m c 4 t) (iblk m c 0 t) (iblk m c 1 t)
def tileD (c : Dev nD) (t : Fin cfg0.N) : FVec Ideal S256x1024 .f32 := k0_pay11 (F := Ideal) (tileX m c t) (iblk m c 5 t) (iblk m c 6 t) (iblk m c 7 t)

theorem tile_row (c : Dev nD) (t : Fin cfg0.N) (r : Fin 256) : rowOf (iblk m c 2 t) (iblk m c 3 t) (iblk m c 4 t) (iblk m c 0 t) (iblk m c 1 t) r
    = r2 m c ⟨t.val * 256 + r.val, by have := lt16 t.isLt; omega⟩ := by
  funext k
  refine congrArg₂ (· + ·) (congrArg (lnAlpha * ·) (congrArg₂ (· + ·) (congrArg₂ (· * ·) (blk2 m c t r k) (blk3 m c t k)) (blk4 m c t k))) ?_
  exact Finset.sum_congr rfl fun j _ => congrArg₂ (· * ·) (blk0 m c t r j) (blk1 m c t j k)
theorem tile_x (c : Dev nD) (t : Fin cfg0.N) (r : Fin 256) (k : Fin 1024) : tileX m c t (ix2 r k)
    = lnHat (r2 m c ⟨t.val * 256 + r.val, by have := lt16 t.isLt; omega⟩) k :=
  (pay8_apply _ _ _ _ _ r k).trans (congrArg (fun z => lnHat z k) (tile_row m c t r))
theorem tile_s (c : Dev nD) (t : Fin cfg0.N) (r : Fin 256) : tileS m c t (ix2 r 0)
    = lnRstd (r2 m c ⟨t.val * 256 + r.val, by have := lt16 t.isLt; omega⟩) :=
  (pay7_apply _ _ _ _ _ r).trans (congrArg lnRstd (tile_row m c t r))
theorem tile_e (c : Dev nD) (t : Fin cfg0.N) (r : Fin 256) (k : Fin 1024) : k0_pay9 (F := Ideal) (tileX m c t) (iblk m c 5 t) (iblk m c 6 t) (iblk m c 7 t) (ix2 r k)
    = err m c ⟨t.val * 256 + r.val, by have := lt16 t.isLt; omega⟩ k := by
  refine (pay9_apply _ _ _ _ r k).trans ?_
  refine congrArg₂ (· - ·) (congrArg₂ (· + ·) (congrArg₂ (· * ·) (tile_x m c t r k) (blk5 m c t k)) (blk6 m c t k)) (blk7 m c t r k)
theorem tile_d (c : Dev nD) (t : Fin cfg0.N) (r : Fin 256) (k : Fin 1024) : tileD m c t (ix2 r k)
    = dy m c ⟨t.val * 256 + r.val, by have := lt16 t.isLt; omega⟩ k :=
  (pay11_apply _ _ _ _ r k).trans (congrArg (fun z : EReal => z * Ideal.ofBits .f32 0x3A800000#32) (tile_e m c t r k))

/-- A tile's part of the three sums. -/
def term2 (c : Dev nD) (t : Fin cfg0.N) (i : S1x1.Idx) : EReal := lossOf m c ⟨t.val, lt16 t.isLt⟩
def term3 (c : Dev nD) (t : Fin cfg0.N) (i : S1x1024.Idx) : EReal :=
  ∑ r : Fin 256, dy m c ⟨t.val * 256 + r.val, by have := lt16 t.isLt; omega⟩ (i 1) * lnHat (r2 m c ⟨t.val * 256 + r.val, by have := lt16 t.isLt; omega⟩) (i 1)
def term4 (c : Dev nD) (t : Fin cfg0.N) (i : S1x1024.Idx) : EReal :=
  ∑ r : Fin 256, dy m c ⟨t.val * 256 + r.val, by have := lt16 t.isLt; omega⟩ (i 1)

theorem step2 (c : Dev nD) (t : Fin cfg0.N) (l : Vec Ideal S1x1 .f32) :
    k0_pay10 (F := Ideal) (tileX m c t) (iblk m c 5 t) (iblk m c 6 t) (iblk m c 7 t) l (ix2 0 0) = l (ix2 0 0) + term2 m c t (ix2 0 0) := by
  refine (pay10_apply _ _ _ _ _).trans (congrArg (fun z : EReal => (l (ix2 0 0) : EReal) + Ideal.div (Ideal.ofBits .f32 0x3F000000#32 * z) lnWidth) ?_)
  exact Finset.sum_congr rfl fun r _ => Finset.sum_congr rfl fun k _ => congrArg₂ (· * ·) (tile_e m c t r k) (tile_e m c t r k)
theorem step3 (c : Dev nD) (t : Fin cfg0.N) (z : Vec Ideal S1x1024 .f32) (k : Fin 1024) :
    k0_pay12 (F := Ideal) (tileX m c t) (iblk m c 5 t) (iblk m c 6 t) (iblk m c 7 t) z (ix2 0 k) = z (ix2 0 k) + term3 m c t (ix2 0 k) := by
  refine (pay12_apply _ _ _ _ _ k).trans (congrArg (z (ix2 0 k) + ·) ?_)
  exact Finset.sum_congr rfl fun r _ => congrArg₂ (· * ·) (tile_d m c t r k) (tile_x m c t r k)
theorem step4 (c : Dev nD) (t : Fin cfg0.N) (z : Vec Ideal S1x1024 .f32) (k : Fin 1024) :
    k0_pay13 (F := Ideal) (tileX m c t) (iblk m c 5 t) (iblk m c 6 t) (iblk m c 7 t) z (ix2 0 k) = z (ix2 0 k) + term4 m c t (ix2 0 k) := by
  refine (pay13_apply _ _ _ _ _ k).trans (congrArg (z (ix2 0 k) + ·) ?_)
  exact Finset.sum_congr rfl fun r _ => tile_d m c t r k

theorem first2 (c : Dev nD) (t : Fin cfg0.N) (h : t.val % 16 = 0) (i : S1x1.Idx) :
    (outsAt0 m c t.val t.isLt).2.2.1 i = (fun _ => 0 : S1x1.Idx → EReal) i + term2 m c t i := by
  obtain ⟨z, k, rfl⟩ : ∃ (z k : Fin 1), i = ix2 z k := ⟨i 0, i 1, eq_ix2 i⟩
  obtain rfl : z = 0 := Subsingleton.elim _ _
  obtain rfl : k = 0 := Subsingleton.elim _ _
  rw [outsAt0_A m c t h]
  frame_out
  exact (step2 m c t _).trans (congrArg (· + term2 m c t (ix2 0 0)) pay3_apply)
theorem next2 (c : Dev nD) (t : Fin cfg0.N) (h : ¬t.val % 16 = 0) (i : S1x1.Idx) :
    (outsAt0 m c t.val t.isLt).2.2.1 i = (show EReal from (outsAt0 m c (t.val - 1) (Nat.lt_of_le_of_lt (Nat.sub_le _ _) t.isLt)).2.2.1 i) + term2 m c t i := by
  obtain ⟨z, k, rfl⟩ : ∃ (z k : Fin 1), i = ix2 z k := ⟨i 0, i 1, eq_ix2 i⟩
  obtain rfl : z = 0 := Subsingleton.elim _ _
  obtain rfl : k = 0 := Subsingleton.elim _ _
  rw [outsAt0_B m c t h]
  frame_out
  exact step2 m c t _
theorem total2 (c : Dev nD) (t : Fin cfg0.N) (h : t.val % 16 = 15) (i : S1x1.Idx) : (outsAt0 m c t.val t.isLt).2.2.1 i = G2 m c i := by
  have ht := lt16 t.isLt
  refine (Pipeline.eq_sum_fin_of_reset_step_apply_of_flush (M := EReal) (fun n h => (outsAt0 m c n h).2.2.1) 16 (fun _ => 0) (term2 m c) (first2 m c) (next2 m c) t h i).trans ?_
  refine (zero_add _).trans ?_
  refine Finset.sum_congr rfl fun p _ => ?_
  exact congrArg (lossOf m c) (Fin.ext (by simp only; omega))
theorem arr2 (c : Dev nD) : (dats m 0 c).arrAt 10 cfg0.N = (G2 m c : S1x1.Idx → EReal) := by
  refine (dats m 0 c).arrAt_eq_of_covers 10 _ (by decide +kernel) fun t hf y => ?_
  have h3 := (flush0_10 t).mp hf
  have ht := lt16 t.isLt
  blk_simp
  rw [after0_10]
  exact total2 m c t (by omega) y

theorem first3 (c : Dev nD) (t : Fin cfg0.N) (h : t.val % 16 = 0) (i : S1x1024.Idx) :
    (outsAt0 m c t.val t.isLt).2.2.2.1 i = (fun _ => 0 : S1x1024.Idx → EReal) i + term3 m c t i := by
  obtain ⟨z, k, rfl⟩ : ∃ (z : Fin 1) (k : Fin 1024), i = ix2 z k := ⟨i 0, i 1, eq_ix2 i⟩
  obtain rfl : z = 0 := Subsingleton.elim _ _
  rw [outsAt0_A m c t h]
  frame_out
  exact (step3 m c t _ k).trans (congrArg (· + term3 m c t (ix2 0 k)) (pay4_apply k))
theorem next3 (c : Dev nD) (t : Fin cfg0.N) (h : ¬t.val % 16 = 0) (i : S1x1024.Idx) :
    (outsAt0 m c t.val t.isLt).2.2.2.1 i = (show EReal from (outsAt0 m c (t.val - 1) (Nat.lt_of_le_of_lt (Nat.sub_le _ _) t.isLt)).2.2.2.1 i) + term3 m c t i := by
  obtain ⟨z, k, rfl⟩ : ∃ (z : Fin 1) (k : Fin 1024), i = ix2 z k := ⟨i 0, i 1, eq_ix2 i⟩
  obtain rfl : z = 0 := Subsingleton.elim _ _
  rw [outsAt0_B m c t h]
  frame_out
  exact step3 m c t _ k
theorem total3 (c : Dev nD) (t : Fin cfg0.N) (h : t.val % 16 = 15) (i : S1x1024.Idx) : (outsAt0 m c t.val t.isLt).2.2.2.1 i = G3 m c i := by
  have ht := lt16 t.isLt
  refine (Pipeline.eq_sum_fin_of_reset_step_apply_of_flush (M := EReal) (fun n h => (outsAt0 m c n h).2.2.2.1) 16 (fun _ => 0) (term3 m c) (first3 m c) (next3 m c) t h i).trans ?_
  refine (zero_add _).trans ?_
  refine Fin.sum_mul_add_congr fun p q hl => ?_
  have e : (⟨(16 * (t.val / 16) + p.val) * 256 + q.val, by omega⟩ : Fin 4096) = ⟨p.val * 256 + q.val, hl⟩ := Fin.ext (by simp only; omega)
  exact congrArg (fun z => dy m c z (i 1) * lnHat (r2 m c z) (i 1)) e
theorem arr3 (c : Dev nD) : (dats m 0 c).arrAt 11 cfg0.N = (G3 m c : S1x1024.Idx → EReal) := by
  refine (dats m 0 c).arrAt_eq_of_covers 11 _ (by decide +kernel) fun t hf y => ?_
  have h3 := (flush0_11 t).mp hf
  have ht := lt16 t.isLt
  blk_simp
  rw [after0_11]
  have e : ((win0_11.blk t).view.emb y : S1x1024.Idx) = y := by
    obtain ⟨z, k, rfl⟩ : ∃ (z : Fin 1) (k : Fin 1024), y = ix2 z k := ⟨y 0, y 1, eq_ix2 y⟩
    blk_ext [idx11 t]
  exact (total3 m c t (by omega) y).trans (congrArg (G3 m c) e).symm

theorem first4 (c : Dev nD) (t : Fin cfg0.N) (h : t.val % 16 = 0) (i : S1x1024.Idx) :
    (outsAt0 m c t.val t.isLt).2.2.2.2 i = (fun _ => 0 : S1x1024.Idx → EReal) i + term4 m c t i := by
  obtain ⟨z, k, rfl⟩ : ∃ (z : Fin 1) (k : Fin 1024), i = ix2 z k := ⟨i 0, i 1, eq_ix2 i⟩
  obtain rfl : z = 0 := Subsingleton.elim _ _
  rw [outsAt0_A m c t h]
  frame_out
  exact (step4 m c t _ k).trans (congrArg (· + term4 m c t (ix2 0 k)) (pay5_apply k))
theorem next4 (c : Dev nD) (t : Fin cfg0.N) (h : ¬t.val % 16 = 0) (i : S1x1024.Idx) :
    (outsAt0 m c t.val t.isLt).2.2.2.2 i = (show EReal from (outsAt0 m c (t.val - 1) (Nat.lt_of_le_of_lt (Nat.sub_le _ _) t.isLt)).2.2.2.2 i) + term4 m c t i := by
  obtain ⟨z, k, rfl⟩ : ∃ (z : Fin 1) (k : Fin 1024), i = ix2 z k := ⟨i 0, i 1, eq_ix2 i⟩
  obtain rfl : z = 0 := Subsingleton.elim _ _
  rw [outsAt0_B m c t h]
  frame_out
  exact step4 m c t _ k
theorem total4 (c : Dev nD) (t : Fin cfg0.N) (h : t.val % 16 = 15) (i : S1x1024.Idx) : (outsAt0 m c t.val t.isLt).2.2.2.2 i = G4 m c i := by
  have ht := lt16 t.isLt
  refine (Pipeline.eq_sum_fin_of_reset_step_apply_of_flush (M := EReal) (fun n h => (outsAt0 m c n h).2.2.2.2) 16 (fun _ => 0) (term4 m c) (first4 m c) (next4 m c) t h i).trans ?_
  refine (zero_add _).trans ?_
  refine Fin.sum_mul_add_congr fun p q hl => ?_
  have e : (⟨(16 * (t.val / 16) + p.val) * 256 + q.val, by omega⟩ : Fin 4096) = ⟨p.val * 256 + q.val, hl⟩ := Fin.ext (by simp only; omega)
  exact congrArg (fun z => dy m c z (i 1)) e
theorem arr4 (c : Dev nD) : (dats m 0 c).arrAt 12 cfg0.N = (G4 m c : S1x1024.Idx → EReal) := by
  refine (dats m 0 c).arrAt_eq_of_covers 12 _ (by decide +kernel) fun t hf y => ?_
  have h3 := (flush0_12 t).mp hf
  have ht := lt16 t.isLt
  blk_simp
  rw [after0_12]
  have e : ((win0_12.blk t).view.emb y : S1x1024.Idx) = y := by
    obtain ⟨z, k, rfl⟩ : ∃ (z : Fin 1) (k : Fin 1024), y = ix2 z k := ⟨y 0, y 1, eq_ix2 y⟩
    blk_ext [idx12 t]
  exact (total4 m c t (by omega) y).trans (congrArg (G4 m c) e).symm

theorem tile0 (c : Dev nD) (t : Fin cfg0.N) (r : Fin 256) (k : Fin 1024) :
    k0_pay1 (F := Ideal) (tileS m c t) (tileX m c t) (tileD m c t) (iblk m c 5 t) (ix2 r k)
    = G0 m c (ix2 ⟨t.val * 256 + r.val, by have := lt16 t.isLt; omega⟩ k) := by
  generalize hu : (iblk m c 5 t : Vec Ideal S1x1024 .f32) = u
  have hu' (q : Fin 1024) : u (ix2 0 q) = kG2 m c q := hu ▸ blk5 m c t q
  refine (pay1_apply _ _ _ _ r k).trans ?_
  rw [tile_s, tile_x, tile_d, hu']
  have e1 : (∑ q : Fin 1024, (tileD m c t (ix2 r q) * u (ix2 0 q) : EReal)) = ∑ q : Fin 1024, dyg m c ⟨t.val * 256 + r.val, by have := lt16 t.isLt; omega⟩ q :=
    Finset.sum_congr rfl fun q _ => congrArg₂ (· * ·) (tile_d m c t r q) (hu' q)
  have e2 : (∑ q : Fin 1024, (tileD m c t (ix2 r q) * u (ix2 0 q) * tileX m c t (ix2 r q) : EReal))
      = ∑ q : Fin 1024, dyg m c ⟨t.val * 256 + r.val, by have := lt16 t.isLt; omega⟩ q * lnHat (r2 m c ⟨t.val * 256 + r.val, by have := lt16 t.isLt; omega⟩) q :=
    Finset.sum_congr rfl fun q _ => congrArg₂ (· * ·) (congrArg₂ (· * ·) (tile_d m c t r q) (hu' q)) (tile_x m c t r q)
  rw [e1, e2]
  rfl

theorem out0 (c : Dev nD) (t : Fin cfg0.N) (r : Fin 256) (k : Fin 1024) :
    (outsAt0 m c t.val t.isLt).1 (ix2 r k) = G0 m c (ix2 ⟨t.val * 256 + r.val, by have := lt16 t.isLt; omega⟩ k) := by
  by_cases h : t.val % 16 = 0
  · rw [outsAt0_A m c t h]
    frame_out
    exact tile0 m c t r k
  · rw [outsAt0_B m c t h]
    frame_out
    exact tile0 m c t r k
theorem out1 (c : Dev nD) (t : Fin cfg0.N) (r : Fin 256) (k : Fin 1024) :
    (outsAt0 m c t.val t.isLt).2.1 (ix2 r k) = G0 m c (ix2 ⟨t.val * 256 + r.val, by have := lt16 t.isLt; omega⟩ k) := by
  by_cases h : t.val % 16 = 0
  · rw [outsAt0_A m c t h]
    frame_out
    exact (pay2_apply _ _ _ _ r k).trans (tile0 m c t r k)
  · rw [outsAt0_B m c t h]
    frame_out
    exact (pay2_apply _ _ _ _ r k).trans (tile0 m c t r k)

theorem arr0 (c : Dev nD) : (dats m 0 c).arrAt 8 cfg0.N = (G0 m c : S4096x1024.Idx → EReal) := by
  refine (dats m 0 c).arrAt_eq_of_covers 8 _ (by decide +kernel) fun t hf y => ?_
  have ht := lt16 t.isLt
  blk_simp
  rw [after0_8]
  obtain ⟨r, s, rfl⟩ : ∃ (r : Fin 256) (s : Fin 1024), y = ix2 r s := ⟨y 0, y 1, eq_ix2 y⟩
  have e : ((win0_8.blk t).view.emb (ix2 r s) : S4096x1024.Idx) = ix2 ⟨t.val * 256 + r.val, by omega⟩ s := by
    blk_ext [idx8 t]
  exact (out0 m c t r s).trans (congrArg (G0 m c) e).symm
theorem arr1 (c : Dev nD) : (dats m 0 c).arrAt 9 cfg0.N = (G0 m c : S4096x1024.Idx → EReal) := by
  refine (dats m 0 c).arrAt_eq_of_covers 9 _ (by decide +kernel) fun t hf y => ?_
  have ht := lt16 t.isLt
  blk_simp
  rw [after0_9]
  obtain ⟨r, s, rfl⟩ : ∃ (r : Fin 256) (s : Fin 1024), y = ix2 r s := ⟨y 0, y 1, eq_ix2 y⟩
  have e : ((win0_9.blk t).view.emb (ix2 r s) : S4096x1024.Idx) = ix2 ⟨t.val * 256 + r.val, by omega⟩ s := by
    blk_ext [idx9 t]
  exact (out1 m c t r s).trans (congrArg (G0 m c) e).symm

end Cert.Kernel9Ideal.Loss

end
-- ==== Proof.LossRef.lean ====
/- The down projection, the second layer norm and the loss: what the reference computes, at an index. -/
module

public import proofs.«01_k».proof.Proof.LossSpec
public import proofs.«01_k».proof.Proof.Gen.Reference9Ideal.Run

@[expose] public section

set_option maxRecDepth 16384

noncomputable section

namespace Cert.Proof

open Idealize.ShloMosaic Idealize.ShloMosaic.TcCoe Idealize.SL.Sem Cert.Kernel9Ideal.Loss

variable (m : (ℓ : Loc Cert.Kernel9Ideal.nD Cert.Kernel9Ideal.τ Cert.Kernel9Ideal.sig) → Buf (Elt Ideal) ℓ) (c : Dev Cert.Kernel9Ideal.nD)
  (V : Valuation Cert.Reference9Ideal.τ Cert.Reference9Ideal.sig (Elt Ideal))

/-- The reference's arguments are those of the kernel. -/
structure SameArgs : Prop where
  a0 : ∀ n k, (V (Proc.devRef .tc Cert.Reference9Ideal.main_arg0) : Cert.Reference9Ideal.S4096x1024.Idx → EReal) (ix2 n k) = kR m c n k
  a1 : ∀ n j, (V (Proc.devRef .tc Cert.Reference9Ideal.main_arg1) : Cert.Reference9Ideal.S4096x2816.Idx → EReal) (ix2 n j) = kM m c n j
  a2 : ∀ j k, (V (Proc.devRef .tc Cert.Reference9Ideal.main_arg2) : Cert.Reference9Ideal.S2816x1024.Idx → EReal) (ix2 j k) = kW m c j k
  a3 : ∀ k, (V (Proc.devRef .tc Cert.Reference9Ideal.main_arg3) : Cert.Reference9Ideal.S1024.Idx → EReal) (ix1 k) = kG1 m c k
  a4 : ∀ k, (V (Proc.devRef .tc Cert.Reference9Ideal.main_arg4) : Cert.Reference9Ideal.S1024.Idx → EReal) (ix1 k) = kB1 m c k
  a5 : ∀ k, (V (Proc.devRef .tc Cert.Reference9Ideal.main_arg5) : Cert.Reference9Ideal.S1024.Idx → EReal) (ix1 k) = kG2 m c k
  a6 : ∀ k, (V (Proc.devRef .tc Cert.Reference9Ideal.main_arg6) : Cert.Reference9Ideal.S1024.Idx → EReal) (ix1 k) = kB2 m c k
  a7 : ∀ n k, (V (Proc.devRef .tc Cert.Reference9Ideal.main_arg7) : Cert.Reference9Ideal.S4096x1024.Idx → EReal) (ix2 n k) = kT m c n k

variable {m c V} (h : SameArgs m c V) (n : Fin 4096) (k : Fin 1024)
include h

open Cert.Reference9Ideal.Value

theorem ref3 : res_main_v3 (F := Ideal) V (ix2 n 0) = Ideal.div (∑ x : Fin 1024, kR m c n x) lnWidth := by
  unfold res_main_v3 lnWidth
  pointwise [h.a0]
theorem ref5 : res_main_v5 (F := Ideal) V (ix2 n k) = lnCent (kR m c n) k := by
  unfold res_main_v5 lnCent
  pointwise [ref3 h, h.a0]
theorem ref27 : res_main_v27 (F := Ideal) V (ix2 n k) = r2 m c n k := by
  unfold res_main_v27 r2 h1 lnHat lnRstd lnVar lnAlpha lnEps
  pointwise [ref5 h, ref3 h, h.a0, h.a1, h.a2, h.a3, h.a4, lnCent, lnWidth]
theorem ref31 : res_main_v31 (F := Ideal) V (ix2 n 0) = Ideal.div (∑ x : Fin 1024, r2 m c n x) lnWidth := by
  unfold res_main_v31 lnWidth
  pointwise [ref27 h]
theorem ref33 : res_main_v33 (F := Ideal) V (ix2 n k) = lnCent (r2 m c n) k := by
  unfold res_main_v33 lnCent
  pointwise [ref27 h, ref31 h]
theorem ref42 : res_main_v42 (F := Ideal) V (ix2 n k) = lnCent (r2 m c n) k := by
  unfold res_main_v42 lnCent
  pointwise [ref27 h, ref31 h]
theorem ref44 : res_main_v44 (F := Ideal) V (ix2 n 0) = lnVar (r2 m c n) := by
  unfold res_main_v44 lnVar lnWidth lnEps
  pointwise [ref33 h]
theorem ref45 : res_main_v45 (F := Ideal) V (ix2 n 0) = lnRstd (r2 m c n) := by
  unfold res_main_v45 lnRstd
  pointwise [ref44 h]
theorem ref50 : res_main_v50 (F := Ideal) V (ix2 n k) = lnHat (r2 m c n) k := by
  unfold res_main_v50 lnHat
  pointwise [ref42 h, ref45 h]
theorem ref51 : res_main_v51 (F := Ideal) V (ix2 0 k) = kG2 m c k := by
  unfold res_main_v51
  pointwise [h.a5]
theorem ref57 : res_main_v57 (F := Ideal) V (ix2 n k) = err m c n k := by
  unfold res_main_v57 err
  pointwise [ref50 h, ref51 h, h.a6, h.a7]

omit h in
theorem word_half : Ideal.ofBits .f32 0x3F000000#32 = ((1 / 2 : ℝ) : EReal) := by
  simp [Ideal.ofBits, Ideal.ieee, -EReal.coe_mul]; norm_num
omit h in
theorem word_one : Ideal.ofBits .f32 0x3F800000#32 = ((1 : ℝ) : EReal) := by
  simp [Ideal.ofBits, Ideal.ieee, -EReal.coe_mul]; norm_num
omit h in
theorem word_inv_1024 : Ideal.ofBits .f32 0x3A800000#32 = ((1 / 1024 : ℝ) : EReal) := by
  simp [Ideal.ofBits, Ideal.ieee, -EReal.coe_mul]; norm_num

omit h in
/-- Half the derivative of a mean of squares: twice the error over twice the number of columns. -/
theorem half_square (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [word_half, word_one, word_1024, word_2, word_inv_1024, Ideal.div_coe (show (1024 : ℝ) ≠ 0 by norm_num), ← mul_assoc, mul_comm e]
  simp only [← EReal.coe_mul]
  congr 2
  norm_num

theorem ref71 : res_main_v71 (F := Ideal) V (ix2 n k) = dy m c n k := by
  refine Eq.trans ?_ (half_square (err m c n k))
  unfold res_main_v71
  pointwise [ref57 h]
theorem ref79 : res_main_v79 (F := Ideal) V (ix2 n k) = dyg m c n k := by
  unfold res_main_v79 dyg
  pointwise [ref71 h, ref51 h]
theorem ref85 : res_main_v85 (F := Ideal) V (ix2 n k) = dyg m c n k * lnRstd (r2 m c n) := by
  unfold res_main_v85
  pointwise [ref79 h, ref45 h]
theorem ref94 : res_main_v94 (F := Ideal) V (ix2 n k)
    = Ideal.div ((∑ x, lnCent (r2 m c n) x * dyg m c n x) * (Ideal.ofBits .f32 0xBF000000#32 * Ideal.div (lnRstd (r2 m c n)) (lnVar (r2 m c n)))) lnWidth
      * (Ideal.ofBits .f32 0x40000000#32 * lnCent (r2 m c n) k) := by
  unfold res_main_v94 lnWidth
  pointwise [ref33 h, ref42 h, ref79 h, ref44 h, ref45 h, Fin.sum_univ_one]

end Cert.Proof

end
-- ==== Proof.LossClaim.lean ====
/- The down projection, the second layer norm and the loss: the value claim. -/
module

public import proofs.«01_k».proof.Proof.LossTile
public import proofs.«01_k».proof.Proof.LossRef
public import proofs.«01_k».proof.Proof.NormClaim
public import proofs.«01_k».proof.Proof.Gen.Pre_finite9

@[expose] public section

set_option maxRecDepth 16384

noncomputable section

namespace Cert.Proof

open Idealize.ShloMosaic Idealize.ShloMosaic.TcCoe Idealize.SL.Sem Cert.Kernel9Ideal.Loss

theorem finite_args9 (a : FVec Ideal Cert.Kernel9Ideal.S4096x1024 .f32) (u : FVec Ideal Cert.Kernel9Ideal.S4096x2816 .f32) (w : FVec Ideal Cert.Kernel9Ideal.S2816x1024 .f32)
    (g b g' b' : FVec Ideal Cert.Kernel9Ideal.S1024 .f32) (y : FVec Ideal Cert.Kernel9Ideal.S4096x1024 .f32)
    (h : ∀ i, Cert.Pre_finite9.fn (F := Ideal) a u w g b g' b' y i = 1#1) :
    (∀ i, Real' (a i)) ∧ (∀ i, Real' (u i)) ∧ (∀ i, Real' (w i)) ∧ (∀ i, Real' (g i)) ∧ (∀ i, Real' (b i)) ∧ (∀ i, Real' (g' i)) ∧ (∀ i, Real' (b' i)) ∧ (∀ i, Real' (y i)) := by
  haveI : Subsingleton Cert.Pre_finite9.S_.Idx := ⟨fun x y => funext fun k => k.elim0⟩
  have e := h (fun k => k.elim0)
  obtain ⟨e, h8⟩ := IntOp.andi_eq_one.1 (show IntOp.andi _ _ = 1#1 from e)
  obtain ⟨e, h7⟩ := IntOp.andi_eq_one.1 (show IntOp.andi _ _ = 1#1 from e)
  obtain ⟨e, h6⟩ := IntOp.andi_eq_one.1 (show IntOp.andi _ _ = 1#1 from e)
  obtain ⟨e, h5⟩ := IntOp.andi_eq_one.1 (show IntOp.andi _ _ = 1#1 from e)
  obtain ⟨e, h4⟩ := IntOp.andi_eq_one.1 (show IntOp.andi _ _ = 1#1 from e)
  obtain ⟨e, h3⟩ := IntOp.andi_eq_one.1 (show IntOp.andi _ _ = 1#1 from e)
  obtain ⟨h1, h2⟩ := IntOp.andi_eq_one.1 (show IntOp.andi _ _ = 1#1 from e)
  have hz : Ideal.ofBits .f32 0x00000000#32 = 0 := Ideal.ofBits_zero_f32
  exact ⟨real_of_all a _ (fun _ => hz) _ _ _ _ h1, real_of_all u _ (fun _ => hz) _ _ _ _ h2, real_of_all w _ (fun _ => hz) _ _ _ _ h3,
    real_of_all g _ (fun _ => hz) _ _ _ _ h4, real_of_all b _ (fun _ => hz) _ _ _ _ h5, real_of_all g' _ (fun _ => hz) _ _ _ _ h6,
    real_of_all b' _ (fun _ => hz) _ _ _ _ h7, real_of_all y _ (fun _ => hz) _ _ _ _ h8⟩

/-- Half the sum of the rows' mean squares, tile by tile: each tile's sum of squares is halved and divided once. -/
theorem sum_tiles (e : Fin 4096 → Fin 1024 → EReal) (he : ∀ n k, Real' (e n k)) :
    Ideal.ofBits .f32 0x3F000000#32 * ∑ n : Fin 4096, Ideal.div (∑ k : Fin 1024, e n k * e n k) (Ideal.ofBits .f32 0x44800000#32)
    = ∑ t : Fin 16, Ideal.div (Ideal.ofBits .f32 0x3F000000#32 * ∑ r : Fin 256, ∑ k : Fin 1024,
        e ⟨t.val * 256 + r.val, by omega⟩ k * e ⟨t.val * 256 + r.val, by omega⟩ k) (Ideal.ofBits .f32 0x44800000#32) := by
  choose e' he' using he
  obtain rfl : e = fun n k => (e' n k : EReal) := funext fun n => funext fun k => he' n k
  have hs : ∑ t : Fin 16, ∑ r : Fin 256, (∑ k : Fin 1024, e' ⟨t.val * 256 + r.val, by omega⟩ k * e' ⟨t.val * 256 + r.val, by omega⟩ k)
      = ∑ n : Fin 4096, (∑ k : Fin 1024, e' n k * e' n k : ℝ) := Fin.sum_mul_add_congr fun _ _ _ => rfl
  simp only [word_half, word_1024, Ideal.div_coe (show (1024 : ℝ) ≠ 0 by norm_num), ← EReal.coe_mul, ← coe_sum]
  refine congrArg (fun r : ℝ => (r : EReal)) ?_
  rw [← Finset.sum_mul, ← Finset.sum_mul, ← Finset.mul_sum, hs, mul_assoc]

theorem algebraic_loss : Cert.algebraic_Kernel9Ideal_Reference9Ideal_pre_finite9 := by
  intro m ρ m' ρ' hpre hagree
  refine ⟨fun c => G0 m c, fun c => G0 m c, fun c => G2 m c, fun c => G3 m c, fun c => G4 m c,
    (θ_run _ _ _).mono (fun r h c => ?_) (Cert.Kernel9Ideal.Value.run_blocks m ρ),
    (θ_run _ _ _).mono (fun r h c => ?_) (Cert.Reference9Ideal.Value.run (F := Ideal) m' ρ')⟩
  · obtain ⟨h0, h1, h2, h3, h4, hk⟩ := h c
    exact ⟨h0.trans (arr0 m c), h1.trans (arr1 m c), h2.trans (arr2 m c), h3.trans (arr3 m c), h4.trans (arr4 m c), hk⟩
  · obtain ⟨h0, h1, h2, h3, h4, hk⟩ := h c
    obtain ⟨a0, a1, a2, a3, a4, a5, a6, a7⟩ := hagree c
    obtain ⟨f0, f1, f2, f3, f4, f5, f6, f7⟩ := finite_args9 _ _ _ _ _ _ _ _ (fun i => congrFun (hpre c) i)
    have hs : SameArgs m c (StableHlo.launchContents m' c) :=
      ⟨fun n k => congrFun a0 (ix2 n k), fun n j => congrFun a1 (ix2 n j), fun j k => congrFun a2 (ix2 j k), fun k => congrFun a3 (ix1 k),
        fun k => congrFun a4 (ix1 k), fun k => congrFun a5 (ix1 k), fun k => congrFun a6 (ix1 k), fun n k => congrFun a7 (ix2 n k)⟩
    have hr2 (n : Fin 4096) (k : Fin 1024) : Real' (r2 m c n k) :=
      (word_alpha.mul (((lnHat_real _ (fun x => f0 (ix2 n x)) k).mul (f3 (ix1 k))).add (f4 (ix1 k)))).add
        (Real'.sum _ fun j => (f1 (ix2 n j)).mul (f2 (ix2 j k)))
    have herr (n : Fin 4096) (k : Fin 1024) : Real' (err m c n k) := by
      obtain ⟨a, ha⟩ := ((lnHat_real _ (hr2 n) k).mul (f5 (ix1 k))).add (f6 (ix1 k))
      obtain ⟨b, hb⟩ := f7 (ix2 n k)
      refine ⟨a - b, ?_⟩
      rw [EReal.coe_sub, ← ha, ← hb]
      rfl
    have hdyg (n : Fin 4096) (k : Fin 1024) : Real' (dyg m c n k) := ((herr n k).mul ⟨_, word_inv_1024⟩).mul (f5 (ix1 k))
    refine ⟨h0.trans (funext fun (i : Cert.Kernel9Ideal.S4096x1024.Idx) => ?_), h1.trans (funext fun (i : Cert.Kernel9Ideal.S4096x1024.Idx) => ?_),
      h2.trans (funext fun (i : Cert.Kernel9Ideal.S1x1.Idx) => ?_), h3.trans (funext fun (i : Cert.Kernel9Ideal.S1x1024.Idx) => ?_),
      h4.trans (funext fun (i : Cert.Kernel9Ideal.S1x1024.Idx) => ?_), hk⟩
    · obtain ⟨n, k, rfl⟩ : ∃ (n : Fin 4096) (k : Fin 1024), i = ix2 n k := ⟨i 0, i 1, eq_ix2 i⟩
      obtain ⟨d', v', hd, hz, hv, hpos⟩ := lnReal (r2 m c n) (hr2 n)
      refine Eq.trans ?_ (norm_grad (lnCent (r2 m c n)) (dyg m c n) _ d' v' hd (hdyg n) hv hpos hz k)
      pointwise [ref85 hs, ref94 hs, Fin.sum_univ_one, lnRstd, lnWidth]
    · obtain ⟨n, k, rfl⟩ : ∃ (n : Fin 4096) (k : Fin 1024), i = ix2 n k := ⟨i 0, i 1, eq_ix2 i⟩
      obtain ⟨d', v', hd, hz, hv, hpos⟩ := lnReal (r2 m c n) (hr2 n)
      refine Eq.trans ?_ (norm_grad (lnCent (r2 m c n)) (dyg m c n) _ d' v' hd (hdyg n) hv hpos hz k)
      pointwise [ref85 hs, ref94 hs, Fin.sum_univ_one, lnRstd, lnWidth]
    · obtain ⟨z, k, rfl⟩ : ∃ (z k : Fin 1), i = ix2 z k := ⟨i 0, i 1, eq_ix2 i⟩
      refine Eq.trans ?_ (sum_tiles (err m c) herr)
      pointwise [ref57 hs]
    · obtain ⟨z, k, rfl⟩ : ∃ (z : Fin 1) (k : Fin 1024), i = ix2 z k := ⟨i 0, i 1, eq_ix2 i⟩
      unfold G3
      pointwise [ref50 hs, ref71 hs, Fin.sum_univ_one]
      exact Finset.sum_congr rfl fun _ _ => mul_comm _ _
    · obtain ⟨z, k, rfl⟩ : ∃ (z : Fin 1) (k : Fin 1024), i = ix2 z k := ⟨i 0, i 1, eq_ix2 i⟩
      unfold G4
      pointwise [ref71 hs, Fin.sum_univ_one]

end Cert.Proof

end
-- ==== Proof.OutNorm.lean ====
/- The output projection and the first layer norm: the value claim. -/
module

public import proofs.«01_k».proof.Defs
public import proofs.«01_k».proof.Proof.Gen.Kernel10Ideal.Value
public import proofs.«01_k».proof.Proof.Gen.Reference10Ideal.Run
public import proofs.«01_k».proof.Proof.LnRow

@[expose] public section

set_option maxRecDepth 16384

noncomputable section

namespace Cert.Kernel10Ideal.OutNorm

open Idealize.ShloMosaic Idealize.ShloMosaic.TcCoe Idealize.SL.Sem Cert.Proof Cert.Kernel10Ideal Cert.Kernel10Ideal.Gen
open Idealize.ShloMosaic.Pipeline (Dat)

variable (m : (ℓ : Loc nD τ sig) → Buf (Elt Ideal) ℓ)

/-- The two branches, the step's input, the output projection, the norm's gain and shift. -/
def kS (c : Dev nD) (n : Fin 4096) (j : Fin 512) : EReal := m ((c : Thread nD τ).loc main_arg0) (ix2 n j)
def kL (c : Dev nD) (n : Fin 4096) (j : Fin 512) : EReal := m ((c : Thread nD τ).loc main_arg1) (ix2 n j)
def kX (c : Dev nD) (n : Fin 4096) (k : Fin 1024) : EReal := m ((c : Thread nD τ).loc main_arg2) (ix2 n k)
def kW (c : Dev nD) (j k : Fin 1024) : EReal := m ((c : Thread nD τ).loc main_arg3) (ix2 j k)
def kG (c : Dev nD) (k : Fin 1024) : EReal := m ((c : Thread nD τ).loc main_arg4) (ix1 k)
def kB (c : Dev nD) (k : Fin 1024) : EReal := m ((c : Thread nD τ).loc main_arg5) (ix1 k)

/-- The branches side by side, the residual sum and the results. -/
def kC (c : Dev nD) (n : Fin 4096) (j : Fin 1024) : EReal :=
  if h : j.val < 512 then kS m c n ⟨j.val, h⟩ else kL m c n ⟨j.val - 512, by omega⟩
def r (c : Dev nD) (n : Fin 4096) (k : Fin 1024) : EReal := lnAlpha * kX m c n k + ∑ j : Fin 1024, kC m c n j * kW m c j k
def G0 (c : Dev nD) (i : S4096x1024.Idx) : EReal := lnHat (r m c (i 0)) (i 1)
def G1 (c : Dev nD) (i : S4096x1.Idx) : EReal := lnRstd (r m c (i 0))
def G2 (c : Dev nD) (i : S4096x1024.Idx) : EReal := lnHat (r m c (i 0)) (i 1) * kG m c (i 1) + kB m c (i 1)

/-- The product of the branches side by side is the sum of the two branches' products. -/
theorem sum_halves (c : Dev nD) (n : Fin 4096) (k : Fin 1024) : ∑ j : Fin 1024, kC m c n j * kW m c j k
    = ∑ j : Fin 512, kS m c n j * kW m c ⟨j.val, by omega⟩ k + ∑ j : Fin 512, kL m c n j * kW m c ⟨512 + j.val, by omega⟩ k := by
  refine (Fin.sum_univ_add (a := 512) (b := 512) (fun j : Fin (512 + 512) => kC m c n j * kW m c j k)).trans ?_
  refine congrArg₂ (· + ·) (Finset.sum_congr rfl fun j _ => ?_) (Finset.sum_congr rfl fun j _ => ?_)
  · exact congrArg (fun z : EReal => z * kW m c ⟨j.val, by omega⟩ k) (dif_pos j.isLt)
  · refine congrArg (fun z : EReal => z * kW m c ⟨512 + j.val, by omega⟩ k) ((dif_neg (by simp)).trans ?_)
    exact congrArg (kL m c n) (Fin.ext (by simp))

theorem entry_s (c : Dev nD) (n : Fin 4096) (j : Fin 512) : (V m c main_v0 : S4096x512.Idx → EReal) (ix2 n j) = kS m c n j := by
  entry_read
  unfold kS
  pointwise []
theorem entry_l (c : Dev nD) (n : Fin 4096) (j : Fin 512) : (V m c main_v1 : S4096x512.Idx → EReal) (ix2 n j) = kL m c n j := by
  entry_read
  unfold kL
  pointwise []
theorem entry_w (c : Dev nD) (j k : Fin 1024) : (V m c main_v2 : S1024x1024.Idx → EReal) (ix2 j k) = kW m c j k := by
  entry_read
  unfold kW
  pointwise []
theorem entry_g (c : Dev nD) (k : Fin 1024) : (V m c main_v3 : S1x1024.Idx → EReal) (ix2 0 k) = kG m c k := by
  entry_read
  unfold kG
  pointwise []
theorem entry_b (c : Dev nD) (k : Fin 1024) : (V m c main_v4 : S1x1024.Idx → EReal) (ix2 0 k) = kB m c k := by
  entry_read
  unfold kB
  pointwise []

theorem lt16 {n : ℕ} (h : n < cfg0.N) : n < 16 := lt_of_lt_of_eq h N_0

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)

section
variable (c : Dev nD) (t : Fin cfg0.N) (p : Fin 256)

/-- Row `p` of tile `t`. -/
def row (t : Fin cfg0.N) (p : Fin 256) : Fin 4096 := ⟨t.val * 256 + p.val, by have := lt16 t.isLt; omega⟩

theorem blk0 (j : Fin 512) : (iblk m c 0 t : S256x512.Idx → EReal) (ix2 p j) = kS m c (row t p) j := by
  have ht := lt16 t.isLt
  rw [← entry_s]
  unfold row
  blk_ext [iblk, idx0 t]
theorem blk1 (j : Fin 512) : (iblk m c 1 t : S256x512.Idx → EReal) (ix2 p j) = kL m c (row t p) j := by
  have ht := lt16 t.isLt
  rw [← entry_l]
  unfold row
  blk_ext [iblk, idx1 t]
theorem blk2 (k : Fin 1024) : (iblk m c 2 t : S256x1024.Idx → EReal) (ix2 p k) = kX m c (row t p) k := by
  have ht := lt16 t.isLt
  unfold kX row
  rw [← V_main_arg2 m c]
  blk_ext [iblk, idx2 t]
theorem blk3 (j k : Fin 1024) : (iblk m c 3 t : S1024x1024.Idx → EReal) (ix2 j k) = kW m c j k := by
  have ht := lt16 t.isLt
  rw [← entry_w]
  blk_ext [iblk, idx3 t]
theorem blk4 (k : Fin 1024) : (iblk m c 4 t : S1x1024.Idx → EReal) (ix2 0 k) = kG m c k := by
  have ht := lt16 t.isLt
  rw [← entry_g]
  blk_ext [iblk, idx4 t]
theorem blk5 (k : Fin 1024) : (iblk m c 5 t : S1x1024.Idx → EReal) (ix2 0 k) = kB m c k := by
  have ht := lt16 t.isLt
  rw [← entry_b]
  blk_ext [iblk, idx5 t]
end

section
variable (a : Vec Ideal S256x512 .bf16) (u : Vec Ideal S512x1024 .bf16) (b : Vec Ideal S256x512 .bf16) (w : Vec Ideal S512x1024 .bf16) (x : Vec Ideal S256x1024 .f32)
  (p : Fin 256) (k : Fin 1024)

/-- A tile's row before the norm. -/
def rowOf (a : Vec Ideal S256x512 .bf16) (u : Vec Ideal S512x1024 .bf16) (b : Vec Ideal S256x512 .bf16) (w : Vec Ideal S512x1024 .bf16) (x : Vec Ideal S256x1024 .f32)
    (p : Fin 256) (k : Fin 1024) : EReal :=
  lnAlpha * x (ix2 p k) + (∑ j : Fin 512, (a (ix2 p j) * u (ix2 j k) : EReal) + ∑ j : Fin 512, (b (ix2 p j) * w (ix2 j k) : EReal))

theorem pay2_apply : k0_pay2 (F := Ideal) a u b w x (ix2 p k) = lnCent (rowOf a u b w x p) k := by
  unfold lnCent rowOf lnAlpha lnWidth
  pointwise [k0_pay2]
theorem pay3_apply : k0_pay3 (F := Ideal) a u b w x (ix2 p 0) = lnRstd (rowOf a u b w x p) := by
  have e : (∑ q : Fin 1024, (k0_pay2 (F := Ideal) a u b w x (ix2 p q) * k0_pay2 (F := Ideal) a u b w x (ix2 p q) : EReal))
      = ∑ q : Fin 1024, lnCent (rowOf a u b w x p) q * lnCent (rowOf a u b w x p) q :=
    Finset.sum_congr rfl fun q _ => congrArg₂ (· * ·) (pay2_apply a u b w x p q) (pay2_apply a u b w x p q)
  unfold lnRstd lnVar
  rw [← e]
  unfold k0_pay3 lnWidth lnEps
  pointwise []
theorem pay4_apply : k0_pay4 (F := Ideal) a u b w x (ix2 p k) = lnHat (rowOf a u b w x p) k := by
  unfold lnHat
  rw [← pay2_apply, ← pay3_apply]
  unfold k0_pay4
  pointwise []
theorem pay1_apply (v : FVec Ideal S256x1024 .f32) (g s : Vec Ideal S1x1024 .f32) :
    k0_pay1 (F := Ideal) v g s (ix2 p k) = (v (ix2 p k) * g (ix2 0 k) + s (ix2 0 k) : EReal) := by
  pointwise [k0_pay1]
end

theorem zero2 : (![0, 0] : Fin 2 → ℕ) = fun _ => 0 := by funext a; fin_cases a <;> rfl

theorem ld_w (c : Dev nD) (t : Fin cfg0.N) (o : ℕ) (ho : o + 512 ≤ 1024) (inb : ∀ a, (![o, 0] : Fin 2 → ℕ) a + (![512, 1024] : Fin 2 → ℕ) a ≤ S1024x1024.size a)
    (w : Vec Ideal S512x1024 .bf16) (hw : w = View.ld (iblk m c 3 t) (Rect.unit (s := S1024x1024) ![o, 0] ![512, 1024] inb)) (j : Fin 512) (k : Fin 1024) :
    (w (ix2 j k) : EReal) = kW m c ⟨o + j.val, by omega⟩ k := by
  rw [hw]
  refine (View.ld_unit_apply_of _ _ _ _ _ (ix2 ⟨o + j.val, by omega⟩ k) fun a => ?_).trans (blk3 m c t ⟨o + j.val, by omega⟩ k)
  fin_cases a <;> simp

theorem tile_row (c : Dev nD) (t : Fin cfg0.N) (p : Fin 256) :
    rowOf (iblk m c 0 t) (View.ld (iblk m c 3 t) r0_1) (iblk m c 1 t) (View.ld (iblk m c 3 t) r0_2) (iblk m c 2 t) p = r m c (row t p) := by
  funext k
  refine (congrArg₂ (· + ·) (congrArg (lnAlpha * ·) (blk2 m c t p k)) (congrArg₂ (· + ·) ?_ ?_)).trans (congrArg (lnAlpha * kX m c (row t p) k + ·) (sum_halves m c (row t p) k)).symm
  · refine Finset.sum_congr rfl fun j _ => congrArg₂ (· * ·) (blk0 m c t p j) ((ld_w m c t 0 (by omega) _ _ rfl j k).trans ?_)
    exact congrArg (fun z => kW m c z k) (Fin.ext (by simp))
  · exact Finset.sum_congr rfl fun j _ => congrArg₂ (· * ·) (blk1 m c t p j) (ld_w m c t 512 (by omega) _ _ rfl j k)

theorem arr0 (c : Dev nD) : (dats m 0 c).arrAt 6 cfg0.N = (G0 m c : S4096x1024.Idx → EReal) := by
  refine (dats m 0 c).arrAt_eq_of_covers 6 _ (by decide +kernel) fun t hf y => ?_
  have ht := lt16 t.isLt
  blk_simp
  rw [after0_6]
  obtain ⟨p, s, rfl⟩ : ∃ (p : Fin 256) (s : Fin 1024), y = ix2 p s := ⟨y 0, y 1, eq_ix2 y⟩
  have e : ((win0_6.blk t).view.emb (ix2 p s) : S4096x1024.Idx) = ix2 (row t p) s := by
    unfold row
    blk_ext [idx6 t]
  unfold out0_6 r0_0 r0_3
  rw [View.ld_unit_zero (S := S256x512) zero2, View.ld_unit_zero (S := S256x512) zero2, View.ld_unit_zero (S := S256x1024) zero2, View.canon_unit_zero zero2]
  exact ((pay4_apply _ _ _ _ _ p s).trans (congrArg (fun z => lnHat z s) (tile_row m c t p))).trans (congrArg (G0 m c) e).symm
theorem arr1 (c : Dev nD) : (dats m 0 c).arrAt 7 cfg0.N = (G1 m c : S4096x1.Idx → EReal) := by
  refine (dats m 0 c).arrAt_eq_of_covers 7 _ (by decide +kernel) fun t hf y => ?_
  have ht := lt16 t.isLt
  blk_simp
  rw [after0_7]
  obtain ⟨p, s, rfl⟩ : ∃ (p : Fin 256) (s : Fin 1), y = ix2 p s := ⟨y 0, y 1, eq_ix2 y⟩
  obtain rfl : s = 0 := Subsingleton.elim _ _
  have e : ((win0_7.blk t).view.emb (ix2 p 0) : S4096x1.Idx) = ix2 (row t p) 0 := by
    unfold row
    blk_ext [idx7 t]
  unfold out0_7 r0_0 r0_3 r0_4
  rw [View.ld_unit_zero (S := S256x512) zero2, View.ld_unit_zero (S := S256x512) zero2, View.ld_unit_zero (S := S256x1024) zero2, View.canon_unit_zero zero2]
  exact ((pay3_apply _ _ _ _ _ p).trans (congrArg lnRstd (tile_row m c t p))).trans (congrArg (G1 m c) e).symm
theorem arr2 (c : Dev nD) : (dats m 0 c).arrAt 8 cfg0.N = (G2 m c : S4096x1024.Idx → EReal) := by
  refine (dats m 0 c).arrAt_eq_of_covers 8 _ (by decide +kernel) fun t hf y => ?_
  have ht := lt16 t.isLt
  blk_simp
  rw [after0_8]
  obtain ⟨p, s, rfl⟩ : ∃ (p : Fin 256) (s : Fin 1024), y = ix2 p s := ⟨y 0, y 1, eq_ix2 y⟩
  have e : ((win0_8.blk t).view.emb (ix2 p s) : S4096x1024.Idx) = ix2 (row t p) s := by
    unfold row
    blk_ext [idx8 t]
  unfold out0_8 r0_0 r0_3 r0_5
  rw [View.ld_unit_zero (S := S256x512) zero2, View.ld_unit_zero (S := S256x512) zero2, View.ld_unit_zero (S := S256x1024) zero2,
    View.ld_unit_zero (S := S1x1024) zero2, View.ld_unit_zero (S := S1x1024) zero2, View.canon_unit_zero zero2]
  refine Eq.trans ?_ (congrArg (G2 m c) e).symm
  refine (pay1_apply p s _ _ _).trans (congrArg₂ (· + ·) (congrArg₂ (· * ·) ?_ (blk4 m c t s)) (blk5 m c t s))
  exact (pay4_apply _ _ _ _ _ p s).trans (congrArg (fun z => lnHat z s) (tile_row m c t p))

end Cert.Kernel10Ideal.OutNorm

namespace Cert.Proof

open Idealize.ShloMosaic Idealize.ShloMosaic.TcCoe Idealize.SL.Sem Cert.Kernel10Ideal.OutNorm

theorem algebraic_out_norm : Cert.algebraic_Kernel10Ideal_Reference10Ideal := by
  intro m ρ m' ρ' _ hagree
  refine ⟨fun c => G0 m c, fun c => G1 m c, fun c => G2 m c,
    (θ_run _ _ _).mono (fun r h c => ?_) (Cert.Kernel10Ideal.Value.run_blocks m ρ),
    (θ_run _ _ _).mono (fun r h c => ?_) (Cert.Reference10Ideal.Value.run (F := Ideal) m' ρ')⟩
  · obtain ⟨h0, h1, h2, hk⟩ := h c
    exact ⟨h0.trans (arr0 m c), h1.trans (arr1 m c), h2.trans (arr2 m c), hk⟩
  · obtain ⟨h0, h1, h2, hk⟩ := h c
    obtain ⟨a0, a1, a2, a3, a4, a5⟩ := hagree c
    refine ⟨h0.trans (funext fun (i : Cert.Kernel10Ideal.S4096x1024.Idx) => ?_), h1.trans (funext fun (i : Cert.Kernel10Ideal.S4096x1.Idx) => ?_), h2.trans (funext fun (i : Cert.Kernel10Ideal.S4096x1024.Idx) => ?_), hk⟩
    · obtain ⟨n, k, rfl⟩ : ∃ (n : Fin 4096) (k : Fin 1024), i = ix2 n k := ⟨i 0, i 1, eq_ix2 i⟩
      rw [a0, a1, a2, a3]
      unfold G0 lnHat lnRstd lnVar lnCent Cert.Kernel10Ideal.OutNorm.r kC kS kL kX kW lnAlpha lnWidth lnEps
      pointwise []
    · obtain ⟨n, z, rfl⟩ : ∃ (n : Fin 4096) (z : Fin 1), i = ix2 n z := ⟨i 0, i 1, eq_ix2 i⟩
      rw [a0, a1, a2, a3]
      unfold G1 lnRstd lnVar lnCent Cert.Kernel10Ideal.OutNorm.r kC kS kL kX kW lnAlpha lnWidth lnEps
      pointwise []
    · obtain ⟨n, k, rfl⟩ : ∃ (n : Fin 4096) (k : Fin 1024), i = ix2 n k := ⟨i 0, i 1, eq_ix2 i⟩
      unfold Cert.Reference10Ideal.Value.res_main_v47
      rw [a0, a1, a2, a3, a4, a5]
      unfold G2 lnHat lnRstd lnVar lnCent Cert.Kernel10Ideal.OutNorm.r kC kS kL kX kW kG kB lnAlpha lnWidth lnEps
      pointwise []

end Cert.Proof

end
-- ==== Proof.ConvForward.lean ====
/- The convolution's forward kernel and its reference compute the same array: each of the two halves is convolved, and the
   first half's exact GELU times the second is the result. -/
module

public import proofs.«01_k».proof.Defs
public import proofs.«01_k».proof.Proof.Gen.Kernel11Ideal.Value
public import proofs.«01_k».proof.Proof.Gen.Reference11Ideal.Run
public import proofs.«01_k».proof.Proof.ConvArr
public import proofs.«01_k».proof.Proof.ConvRef

@[expose] public section

set_option maxRecDepth 16384

noncomputable section

namespace Cert.Kernel11Ideal.ConvForward

open Idealize.ShloMosaic Idealize.ShloMosaic.TcCoe Idealize.SL.Sem Cert.Kernel11Ideal Cert.Kernel11Ideal.Gen Cert.Conv
open Idealize.ShloMosaic.Pipeline (Dat)
open Cert.Kernel2Ideal.Conv (ld_half flag_eq)

/-- The gated value at row `n`. -/
def gated (x : Fin 4096 → Fin 5632 → EReal) (w : Fin 3 → Fin 5632 → EReal) (b : Fin 5632 → EReal) (n : ℕ) (k : Fin 2816) : EReal :=
  u x w b n (col 0 k) * cdf (u x w b n (col 0 k)) * u x w b n (col 1 k)

section
variable (X : Fin 4096 → Fin 5632 → EReal) (W : Fin 3 → Fin 5632 → EReal) (B : Fin 5632 → EReal) (rb : ℕ) (cs : Fin 256 → Fin 2816)

/-- Sixteen rows before a block, times a flag, and the block's 1024 rows. -/
def rows (f : Ideal .f32) (p : Vec Ideal S1x16x256 .bf16) (q : Vec Ideal S1x1024x256 .bf16) : FVec Ideal S1040x256 .f32 :=
  concatenate S1040x256 0 [⟨S16x256, mulf (extf .f32 (shapeCast S16x256 p shapeCasts_S1x16x256_S16x256) bitsLt_bf16_f32) (broadcast S16x256 f)⟩,
    ⟨S1024x256, extf .f32 (shapeCast S1024x256 q shapeCasts_S1x1024x256_S1024x256) bitsLt_bf16_f32⟩] concatenates_S16x256_S1024x256_S1040x256_d0

/-- The three taps over those rows, rotated by two, one and no rows, and the bias, at the block's rows. -/
def taps (T : FVec Ideal S1040x256 .f32) (v0 v1 v2 vb : Vec Ideal S1x1x256 .f32) : FVec Ideal S1024x256 .f32 :=
  extractStridedSlice S1024x256 ![16, 0] (addf (addf (addf
    (mulf (broadcastTo S1040x256 (shapeCast S1x256 v0 shapeCasts_S1x1x256_S1x256) broadcasts_S1x256_S1040x256) (dynamicRotate 0 2#32 none T rotates_S1040x256_d0))
    (mulf (broadcastTo S1040x256 (shapeCast S1x256 v1 shapeCasts_S1x1x256_S1x256) broadcasts_S1x256_S1040x256) (dynamicRotate 0 1#32 none T rotates_S1040x256_d0)))
    (mulf (broadcastTo S1040x256 (shapeCast S1x256 v2 shapeCasts_S1x1x256_S1x256) broadcasts_S1x256_S1040x256) T))
    (broadcastTo S1040x256 (shapeCast S1x256 vb shapeCasts_S1x1x256_S1x256) broadcasts_S1x256_S1040x256)) slices_S1040x256_o16_0_S1024x256

theorem pay2_eq (i : grid0.Coords) (p : Vec Ideal S1x16x256 .bf16) (q : Vec Ideal S1x1024x256 .bf16) (v0 v1 v2 vb : Vec Ideal S1x1x256 .f32) :
    k0_pay2 (F := Ideal) i p q v0 v1 v2 vb = taps (rows (k0_pay1 i) p q) v0 v1 v2 vb := rfl

/-- What the loads of the rows before and in the block hold. -/
def HPrev (g : Fin 2) (v : Vec Ideal S1x16x256 .bf16) : Prop :=
  0 < rb → ∀ (r : Fin 16) (s : Fin 256), v (ix3 0 r s) = past X (1024 * rb + r.val - 14) (col g (cs s))
def HCur (g : Fin 2) (v : Vec Ideal S1x1024x256 .bf16) : Prop :=
  ∀ (r : Fin 1024) (s : Fin 256), v (ix3 0 r s) = past X (1024 * rb + r.val + 2) (col g (cs s))
/-- What a load of one tap's row, or of the bias, holds. -/
def HRow (g : Fin 2) (f : Fin 5632 → EReal) (v : Vec Ideal S1x1x256 .f32) : Prop :=
  ∀ s : Fin 256, v (ix3 0 0 s) = f (col g (cs s))

theorem rows_apply (g : Fin 2) (f : Ideal .f32) (hf : f = if rb = 0 then (0 : EReal) else 1) (p : Vec Ideal S1x16x256 .bf16) (q : Vec Ideal S1x1024x256 .bf16)
    (hp : HPrev X rb cs g p) (hq : HCur X rb cs g q) (r : Fin 1040) (s : Fin 256) (hr : 14 ≤ r.val) :
    (rows f p q (ix2 r s) : EReal) = past X (1024 * rb + r.val - 14) (col g (cs s)) := by
  pointwise [rows]
  by_cases h : r.val < 16
  · rw [dif_pos h]
    by_cases h0 : rb = 0
    · rw [hf, if_pos h0, mul_zero, past, dif_neg (by omega)]
    · rw [hf, if_neg h0, mul_one, hp (by omega)]
  · rw [dif_neg h, hq]
    congr 1
    show 1024 * rb + (r.val - 16) + 2 = _
    omega

theorem rot_1 (T : FVec Ideal S1040x256 .f32) (r : Fin 1040) (s : Fin 256) (h : 1 ≤ r.val) :
    dynamicRotate 0 1#32 none T rotates_S1040x256_d0 (ix2 r s) = T (ix2 ⟨r.val - 1, by omega⟩ s) := by
  pointwise
  congr 2
  apply Fin.ext
  show (r.val + 1040 - 1) % 1040 = r.val - 1
  omega
theorem rot_2 (T : FVec Ideal S1040x256 .f32) (r : Fin 1040) (s : Fin 256) (h : 2 ≤ r.val) :
    dynamicRotate 0 2#32 none T rotates_S1040x256_d0 (ix2 r s) = T (ix2 ⟨r.val - 2, by omega⟩ s) := by
  pointwise
  congr 2
  apply Fin.ext
  show (r.val + 1040 - 2) % 1040 = r.val - 2
  omega

/-- The row of the 1040 that row `p` of the block is. -/
def behind (p : Fin 1024) : Fin 1040 := ⟨16 + p.val, by omega⟩

theorem taps_rot (T : FVec Ideal S1040x256 .f32) (v0 v1 v2 vb : Vec Ideal S1x1x256 .f32) (p : Fin 1024) (s : Fin 256) :
    taps T v0 v1 v2 vb (ix2 p s) = (v0 (ix3 0 0 s) * dynamicRotate 0 2#32 none T rotates_S1040x256_d0 (ix2 (behind p) s)
      + v1 (ix3 0 0 s) * dynamicRotate 0 1#32 none T rotates_S1040x256_d0 (ix2 (behind p) s)
      + v2 (ix3 0 0 s) * T (ix2 (behind p) s) + vb (ix3 0 0 s) : EReal) := by
  unfold behind
  pointwise [taps]

theorem taps_apply (g : Fin 2) (T : FVec Ideal S1040x256 .f32)
    (hT : ∀ (r : Fin 1040) (s : Fin 256), 14 ≤ r.val → (T (ix2 r s) : EReal) = past X (1024 * rb + r.val - 14) (col g (cs s)))
    (v0 v1 v2 vb : Vec Ideal S1x1x256 .f32) (h0 : HRow cs g (W 0) v0) (h1 : HRow cs g (W 1) v1) (h2 : HRow cs g (W 2) v2) (hb : HRow cs g B vb)
    (p : Fin 1024) (s : Fin 256) : (taps T v0 v1 v2 vb (ix2 p s) : EReal) = u X W B (1024 * rb + p.val) (col g (cs s)) := by
  rw [taps_rot, rot_2 _ _ _ (by show 2 ≤ 16 + p.val; omega), rot_1 _ _ _ (by show 1 ≤ 16 + p.val; omega),
    hT _ _ (by show 14 ≤ 16 + p.val - 2; omega), hT _ _ (by show 14 ≤ 16 + p.val - 1; omega), hT _ _ (by show 14 ≤ 16 + p.val; omega), h0, h1, h2, hb]
  have e2 : 1024 * rb + (16 + p.val - 2) - 14 = 1024 * rb + p.val := by omega
  have e1 : 1024 * rb + (16 + p.val - 1) - 14 = 1024 * rb + p.val + 1 := by omega
  have e0 : 1024 * rb + (16 + p.val) - 14 = 1024 * rb + p.val + 2 := by omega
  show W 0 _ * past X (1024 * rb + (16 + p.val - 2) - 14) _ + W 1 _ * past X (1024 * rb + (16 + p.val - 1) - 14) _
    + W 2 _ * past X (1024 * rb + (16 + p.val) - 14) _ + _ = _
  rw [e2, e1, e0]
  rfl

theorem named_inv_sqrt2 : Named.named (F := Ideal) (φ := .f32) κ "inv_sqrt2" 0x3F3504F3#32 = (((Real.sqrt 2)⁻¹ : ℝ) : EReal) :=
  IdealRules.named_const.ideal_named_scalar _ _ _ _ rfl

/-- The gate on a block: the kernel halves before it multiplies by one plus the error function. -/
def gate (a e : FVec Ideal S1024x256 .f32) : FVec Ideal S1024x256 .bf16 :=
  truncf .bf16 (mulf (mulf (mulf (broadcast S1024x256 (Scalar.ofBits .f32 0x3F000000#32)) a) (addf (broadcast S1024x256 (Scalar.ofBits .f32 0x3F800000#32))
    (erf (mulf a (broadcast S1024x256 (Named.named κ "inv_sqrt2" 0x3F3504F3#32)))))) e) bitsLt_bf16_f32

theorem gate_apply (a e : FVec Ideal S1024x256 .f32) (p : Fin 1024) (s : Fin 256) :
    (gate a e (ix2 p s) : EReal) = a (ix2 p s) * cdf (a (ix2 p s)) * e (ix2 p s) := by
  pointwise [gate, cdf]
  rw [named_inv_sqrt2, mul_comm (G := EReal) (Ideal.ofBits .f32 0x3F000000#32) (a (ix2 p s)), mul_assoc (G := EReal) (a (ix2 p s))]
  rfl

theorem pay3_eq (f : Ideal .f32) (a : FVec Ideal S1024x256 .f32) (p : Vec Ideal S1x16x256 .bf16) (q : Vec Ideal S1x1024x256 .bf16) (v0 v1 v2 vb : Vec Ideal S1x1x256 .f32) :
    k0_pay3 (F := Ideal) f a p q v0 v1 v2 vb = gate a (taps (rows f p q) v0 v1 v2 vb) := rfl
end

variable (m : (ℓ : Loc nD τ sig) → Buf (Elt Ideal) ℓ)

/-- The three arguments. -/
def kX (c : Dev nD) (r : Fin 4096) (s : Fin 5632) : EReal := m ((c : Thread nD τ).loc main_arg0) (ix2 r s)
def kW (c : Dev nD) (q : Fin 3) (s : Fin 5632) : EReal := m ((c : Thread nD τ).loc main_arg1) (ix2 q s)
def kB (c : Dev nD) (s : Fin 5632) : EReal := m ((c : Thread nD τ).loc main_arg2) (ix1 s)

/-- The result. -/
def G (c : Dev nD) (i : S4096x2816.Idx) : EReal := gated (kX m c) (kW m c) (kB m c) (i 0).val (i 1)

theorem entry_x (c : Dev nD) (g : Fin 2) (n : Fin 4096) (k : Fin 2816) : (V m c main_v2 : S2x4096x2816.Idx → EReal) (ix3 g n k) = kX m c n (col g k) := by
  entry_read
  unfold kX col
  pointwise []
  blk_ext []
theorem entry_w (c : Dev nD) (g : Fin 2) (q : Fin 3) (k : Fin 2816) : (V m c main_v4 : S2x3x2816.Idx → EReal) (ix3 g q k) = kW m c q (col g k) := by
  entry_read
  unfold kW col
  pointwise []
  blk_ext []
theorem entry_b (c : Dev nD) (g : Fin 2) (k : Fin 2816) : (V m c main_v5 : S2x1x2816.Idx → EReal) (ix3 g 0 k) = kB m c (col g k) := by
  entry_read
  unfold kB col
  pointwise []
  blk_ext []

theorem lt44 (t : Fin cfg0.N) : t.val < 44 := lt_of_lt_of_eq t.isLt N_0

/-- The row block and the columns of a grid point. -/
def rbt (t : Fin cfg0.N) : ℕ := t.val % 4
def cst (t : Fin cfg0.N) (s : Fin 256) : Fin 2816 := ⟨256 * (t.val / 4) + s.val, by have := lt44 t; omega⟩
/-- Row `p` of the row block. -/
def row (t : Fin cfg0.N) (p : Fin 1024) : Fin 4096 := ⟨1024 * rbt t + p.val, by unfold rbt; omega⟩

theorem idx0 : ∀ t : Fin cfg0.N, win0_0.index t 0 = 0 ∧ win0_0.index t 1 = t.val % 4 ∧ win0_0.index t 2 = t.val / 4 :=
  (by decide +kernel : ∀ t : Fin grid0.N, win0_0.index t 0 = 0 ∧ win0_0.index t 1 = t.val % 4 ∧ win0_0.index t 2 = t.val / 4)
theorem idx1 : ∀ t : Fin cfg0.N, win0_1.index t 0 = 0 ∧ win0_1.index t 1 = 64 * (t.val % 4) - 1 ∧ win0_1.index t 2 = t.val / 4 :=
  (by decide +kernel : ∀ t : Fin grid0.N, win0_1.index t 0 = 0 ∧ win0_1.index t 1 = 64 * (t.val % 4) - 1 ∧ win0_1.index t 2 = t.val / 4)
theorem idx2 : ∀ t : Fin cfg0.N, win0_2.index t 0 = 0 ∧ win0_2.index t 1 = 0 ∧ win0_2.index t 2 = t.val / 4 :=
  (by decide +kernel : ∀ t : Fin grid0.N, win0_2.index t 0 = 0 ∧ win0_2.index t 1 = 0 ∧ win0_2.index t 2 = t.val / 4)
theorem idx3 : ∀ t : Fin cfg0.N, win0_3.index t 0 = 0 ∧ win0_3.index t 1 = 0 ∧ win0_3.index t 2 = t.val / 4 :=
  (by decide +kernel : ∀ t : Fin grid0.N, win0_3.index t 0 = 0 ∧ win0_3.index t 1 = 0 ∧ win0_3.index t 2 = t.val / 4)
theorem idx4 : ∀ t : Fin cfg0.N, win0_4.index t 0 = t.val % 4 ∧ win0_4.index t 1 = t.val / 4 :=
  (by decide +kernel : ∀ t : Fin grid0.N, win0_4.index t 0 = t.val % 4 ∧ win0_4.index t 1 = t.val / 4)
theorem coord1 : ∀ t : Fin cfg0.N, (grid0.coords t 1).val = t.val % 4 :=
  (by decide +kernel : ∀ t : Fin grid0.N, (grid0.coords t 1).val = t.val % 4)

theorem prev_eq (t : Fin cfg0.N) : k0_pay1 (F := Ideal) (grid0.coords t) = if rbt t = 0 then (0 : EReal) else 1 := by
  have h := coord1 t
  unfold k0_pay1 rbt
  dsimp only
  rw [flag_eq, h]
  have h4 : t.val % 4 < 4 := Nat.mod_lt _ (by omega)
  generalize t.val % 4 = n at h4 ⊢
  interval_cases n <;> simp [Scalar.cmpi, IntOp.cmpi]

section
variable (c : Dev nD) (t : Fin cfg0.N)

theorem blk0 (g : Fin 2) (r : Fin 1024) (s : Fin 256) : (iblk m c 0 t : S2x1024x256.Idx → EReal) (ix3 g r s) = past (kX m c) (1024 * rbt t + r.val + 2) (col g (cst t s)) := by
  have ht := lt44 t
  unfold rbt past
  rw [dif_pos (by omega), ← entry_x]
  unfold cst
  blk_ext [iblk, idx0 t]
theorem blk1 (h : 0 < rbt t) (g : Fin 2) (r : Fin 16) (s : Fin 256) : (iblk m c 1 t : S2x16x256.Idx → EReal) (ix3 g r s) = past (kX m c) (1024 * rbt t + r.val - 14) (col g (cst t s)) := by
  have ht := lt44 t
  unfold rbt at *
  unfold past
  rw [dif_pos (by omega), ← entry_x]
  unfold cst
  blk_ext [iblk, idx1 t]
theorem blk2 (g : Fin 2) (q : Fin 3) (s : Fin 256) : (iblk m c 2 t : S2x3x256.Idx → EReal) (ix3 g q s) = kW m c q (col g (cst t s)) := by
  have ht := lt44 t
  rw [← entry_w]
  unfold cst
  blk_ext [iblk, idx2 t]
theorem blk3 (g : Fin 2) (s : Fin 256) : (iblk m c 3 t : S2x1x256.Idx → EReal) (ix3 g 0 s) = kB m c (col g (cst t s)) := by
  have ht := lt44 t
  rw [← entry_b]
  unfold cst
  blk_ext [iblk, idx3 t]

theorem ld_cur (g : Fin 2) (inb) : HCur (kX m c) (rbt t) (cst t) g (View.ld (Val := Elt Ideal) (iblk m c 0 t) (Rect.unit (s := S2x1024x256) ![g.val, 0, 0] ![1, 1024, 256] inb)) := fun r s => by
  rw [ld_half (iblk m c 0 t) g 0 inb r s (by omega)]
  refine (blk0 m c t g _ s).trans ?_
  simp
theorem ld_prev (g : Fin 2) (inb) : HPrev (kX m c) (rbt t) (cst t) g (View.ld (Val := Elt Ideal) (iblk m c 1 t) (Rect.unit (s := S2x16x256) ![g.val, 0, 0] ![1, 16, 256] inb)) := fun h r s => by
  rw [ld_half (iblk m c 1 t) g 0 inb r s (by omega)]
  refine (blk1 m c t h g _ s).trans ?_
  simp
theorem ld_tap (g : Fin 2) (q : Fin 3) (inb) : HRow (cst t) g (kW m c q) (View.ld (Val := Elt Ideal) (iblk m c 2 t) (Rect.unit (s := S2x3x256) ![g.val, q.val, 0] ![1, 1, 256] inb)) := fun s => by
  rw [ld_half (iblk m c 2 t) g q.val inb 0 s (by simp)]
  exact blk2 m c t g q s
theorem ld_bias (g : Fin 2) (inb) : HRow (cst t) g (kB m c) (View.ld (Val := Elt Ideal) (iblk m c 3 t) (Rect.unit (s := S2x1x256) ![g.val, 0, 0] ![1, 1, 256] inb)) := fun s => by
  rw [ld_half (iblk m c 3 t) g 0 inb 0 s (by simp)]
  exact blk3 m c t g s

/-- The convolution of half `g` at a grid point. -/
theorem half (g : Fin 2) (i0 i1 i2 i3 i4 i5) (p : Fin 1024) (s : Fin 256) :
    (taps (rows (k0_pay1 (grid0.coords t)) (View.ld (Val := Elt Ideal) (iblk m c 1 t) (Rect.unit (s := S2x16x256) ![g.val, 0, 0] ![1, 16, 256] i0))
        (View.ld (Val := Elt Ideal) (iblk m c 0 t) (Rect.unit (s := S2x1024x256) ![g.val, 0, 0] ![1, 1024, 256] i1)))
      (View.ld (Val := Elt Ideal) (iblk m c 2 t) (Rect.unit (s := S2x3x256) ![g.val, (0 : Fin 3).val, 0] ![1, 1, 256] i2))
      (View.ld (Val := Elt Ideal) (iblk m c 2 t) (Rect.unit (s := S2x3x256) ![g.val, (1 : Fin 3).val, 0] ![1, 1, 256] i3))
      (View.ld (Val := Elt Ideal) (iblk m c 2 t) (Rect.unit (s := S2x3x256) ![g.val, (2 : Fin 3).val, 0] ![1, 1, 256] i4))
      (View.ld (Val := Elt Ideal) (iblk m c 3 t) (Rect.unit (s := S2x1x256) ![g.val, 0, 0] ![1, 1, 256] i5)) (ix2 p s) : EReal)
      = u (kX m c) (kW m c) (kB m c) (1024 * rbt t + p.val) (col g (cst t s)) :=
  taps_apply (kX m c) (kW m c) (kB m c) (rbt t) (cst t) g _
    (fun r s hr => rows_apply (kX m c) (rbt t) (cst t) g _ (prev_eq t) _ _ (ld_prev m c t g i0) (ld_cur m c t g i1) r s hr)
    _ _ _ _ (ld_tap m c t g 0 i2) (ld_tap m c t g 1 i3) (ld_tap m c t g 2 i4) (ld_bias m c t g i5) p s
end

theorem zero2 : (![0, 0] : Fin 2 → ℕ) = fun _ => 0 := by funext a; fin_cases a <;> rfl

theorem arr (c : Dev nD) : (dats m 0 c).arrAt 4 cfg0.N = (G m c : S4096x2816.Idx → EReal) := by
  refine (dats m 0 c).arrAt_eq_of_covers 4 _ (by decide +kernel) fun t hf y => ?_
  have ht := lt44 t
  blk_simp
  rw [after0_4]
  obtain ⟨p, s, rfl⟩ : ∃ (p : Fin 1024) (s : Fin 256), y = ix2 p s := ⟨y 0, y 1, eq_ix2 y⟩
  have e : ((win0_4.blk t).view.emb (ix2 p s) : S4096x2816.Idx) = ix2 (row t p) (cst t s) := by
    unfold row rbt cst
    blk_ext [idx4 t]
  unfold out0_4
  rw [View.canon_unit_zero zero2, pay3_eq, pay2_eq]
  refine Eq.trans ?_ (congrArg (G m c) e).symm
  refine (gate_apply _ _ p s).trans ?_
  have h0 := half m c t 0 inb_S2x16x256_S1x16x256_0_0_0 inb_S2x1024x256_S1x1024x256_0_0_0 inb_S2x3x256_S1x1x256_0_0_0 inb_S2x3x256_S1x1x256_0_1_0 inb_S2x3x256_S1x1x256_0_2_0 inb_S2x1x256_S1x1x256_0_0_0 p s
  have h1 := half m c t 1 inb_S2x16x256_S1x16x256_1_0_0 inb_S2x1024x256_S1x1024x256_1_0_0 inb_S2x3x256_S1x1x256_1_0_0 inb_S2x3x256_S1x1x256_1_1_0 inb_S2x3x256_S1x1x256_1_2_0 inb_S2x1x256_S1x1x256_1_0_0 p s
  exact congrArg₂ (· * ·) (congrArg (fun z : EReal => z * cdf z) h0) h1

end Cert.Kernel11Ideal.ConvForward

namespace Cert.Reference11Ideal.ConvForward

open Idealize.ShloMosaic Idealize.ShloMosaic.TcCoe Cert.Reference11Ideal Cert.Reference11Ideal.Gen Cert.Conv
open Cert.Reference2Ideal.Conv (hA hC hCdf hA_apply hC_apply hCdf_apply)

variable (m : (ℓ : Loc nD τ sig) → Buf (Elt Ideal) ℓ) (c : Dev nD)

/-- The three arguments. -/
abbrev aX : FVec Ideal S4096x5632 .f32 := m ((c.tc : Thread nD τ).loc main_arg0)
abbrev aW : FVec Ideal S3x5632 .f32 := m ((c.tc : Thread nD τ).loc main_arg1)
abbrev aB : FVec Ideal S5632 .f32 := m ((c.tc : Thread nD τ).loc main_arg2)

theorem out_eq : Cert.Reference11Ideal.Value.res_main_v31 (F := Ideal) m c
    = truncf .bf16 (mulf (mulf (hA (aX m c) (aW m c) (aB m c)) (hCdf (hA (aX m c) (aW m c) (aB m c)))) (hC (aX m c) (aW m c) (aB m c))) bitsLt_bf16_f32 := rfl

theorem out_apply (n : Fin 4096) (k : Fin 2816) : Cert.Reference11Ideal.Value.res_main_v31 (F := Ideal) m c (ix2 n k)
    = Cert.Kernel11Ideal.ConvForward.gated (fun r s => aX m c (ix2 r s)) (fun r s => aW m c (ix2 r s)) (fun s => aB m c (ix1 s)) n.val k := by
  rw [out_eq]
  unfold Cert.Kernel11Ideal.ConvForward.gated
  pointwise []
  rw [hCdf_apply, hA_apply, hC_apply]

end Cert.Reference11Ideal.ConvForward

namespace Cert.Proof

open Idealize.ShloMosaic Idealize.ShloMosaic.TcCoe Idealize.SL.Sem Cert.Kernel11Ideal.ConvForward

theorem algebraic_conv_forward : Cert.algebraic_Kernel11Ideal_Reference11Ideal := by
  intro m ρ m' ρ' _ hagree
  refine ⟨fun c => G m c, (θ_run _ _ _).mono (fun r h c => ?_) (Cert.Kernel11Ideal.Value.run_blocks m ρ),
    (θ_run _ _ _).mono (fun r h c => ?_) (Cert.Reference11Ideal.Value.run (F := Ideal) m' ρ')⟩
  · obtain ⟨h0, hk⟩ := h c
    exact ⟨h0.trans (arr m c), hk⟩
  · obtain ⟨h0, hk⟩ := h c
    obtain ⟨a0, a1, a2⟩ := hagree c
    have eX : (fun r s => Cert.Reference11Ideal.ConvForward.aX m' c (ix2 r s)) = kX m c := funext fun r => funext fun s => congrFun a0 (ix2 r s)
    have eW : (fun r s => Cert.Reference11Ideal.ConvForward.aW m' c (ix2 r s)) = kW m c := funext fun r => funext fun s => congrFun a1 (ix2 r s)
    have eB : (fun s => Cert.Reference11Ideal.ConvForward.aB m' c (ix1 s)) = kB m c := funext fun s => congrFun a2 (ix1 s)
    refine ⟨h0.trans (funext fun (i : Cert.Kernel11Ideal.S4096x2816.Idx) => ?_), hk⟩
    obtain ⟨n, k, rfl⟩ : ∃ (n : Fin 4096) (k : Fin 2816), i = ix2 n k := ⟨i 0, i 1, eq_ix2 i⟩
    refine (Cert.Reference11Ideal.ConvForward.out_apply m' c n k).trans ?_
    rw [eX, eW, eB]
    rfl

end Cert.Proof

end
-- ==== Proof.OptimiserStep.lean ====
/- The optimiser's step on four of the weights: the kernel multiplies by the reciprocals of the two bias corrections, the
   reference divides by the corrections. -/
module

public import Idealize.ShloMosaic.Lib.Pointwise
public import Idealize.ShloMosaic.Lib.Pipeline.ValueKit.Point
public import Idealize.ShloMosaic.Lib.Pipeline.ValueKit.Tiles
public import proofs.«01_k».proof.Defs
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run

@[expose] public section

set_option maxRecDepth 16384

noncomputable section

namespace Cert.Step

open Idealize.ShloMosaic Idealize.ShloMosaic.TcCoe

/-- The two bias corrections. -/
def corr1 : ℝ := 5463681 / 8388608
def corr2 : ℝ := 2672307 / 268435456

/-- The next first and second moment of a gradient `g`, and the weight's change. -/
def mom (g a : EReal) : EReal := Ideal.ofBits .f32 0x3F666666#32 * a + Ideal.ofBits .f32 0x3DCCCCCD#32 * g
def vel (g b : EReal) : EReal := Ideal.ofBits .f32 0x3F7FBE77#32 * b + Ideal.ofBits .f32 0x3A83126F#32 * (g * g)
def upd (w g a b : EReal) : EReal :=
  Ideal.ofBits .f32 0xBA83126F#32 * (Ideal.div (mom g a * ((corr1⁻¹ : ℝ) : EReal))
    (Ideal.sqrt (vel g b * ((corr2⁻¹ : ℝ) : EReal)) + Ideal.ofBits .f32 0x322BCC77#32) + Ideal.ofBits .f32 0x3C23D70A#32 * w)

theorem corr1_word : Ideal.ofBits .f32 0x3F26BD02#32 = (corr1 : EReal) := by
  unfold corr1
  simp [Ideal.ofBits, Ideal.ieee, -EReal.coe_mul]; norm_num
theorem corr2_word : Ideal.ofBits .f32 0x3C231ACC#32 = (corr2 : EReal) := by
  unfold corr2
  simp [Ideal.ofBits, Ideal.ieee, -EReal.coe_mul]; norm_num

/-- The change as the reference writes it. -/
theorem upd_eq (w g a b : EReal) : upd w g a b =
    Ideal.ofBits .f32 0xBA83126F#32 * (Ideal.div (Ideal.div (mom g a) (Ideal.ofBits .f32 0x3F26BD02#32))
      (Ideal.sqrt (Ideal.div (vel g b) (Ideal.ofBits .f32 0x3C231ACC#32)) + Ideal.ofBits .f32 0x322BCC77#32) + Ideal.ofBits .f32 0x3C23D70A#32 * w) := by
  have h1 : corr1 ≠ 0 := by unfold corr1; norm_num
  have h2 : corr2 ≠ 0 := by unfold corr2; norm_num
  rw [corr1_word, corr2_word, Ideal.div_coe h1, Ideal.div_coe h2, one_div, one_div]
  rfl

/-- The change as the kernel writes it, its two named constants being the reciprocals. -/
theorem upd_named (w g a b r1 r2 : EReal) (h1 : r1 = ((corr1⁻¹ : ℝ) : EReal)) (h2 : r2 = ((corr2⁻¹ : ℝ) : EReal)) :
    Ideal.ofBits .f32 0xBA83126F#32 * (Ideal.div (mom g a * r1) (Ideal.sqrt (vel g b * r2) + Ideal.ofBits .f32 0x322BCC77#32)
      + Ideal.ofBits .f32 0x3C23D70A#32 * w) = upd w g a b := by
  rw [h1, h2]
  rfl

end Cert.Step

namespace Cert.Kernel12Ideal.Step

open Idealize.ShloMosaic Idealize.ShloMosaic.TcCoe Idealize.SL.Sem Cert.Kernel12Ideal Cert.Kernel12Ideal.Gen Cert.Step
open Idealize.ShloMosaic.Pipeline (Dat)

variable (m : (ℓ : Loc nD τ sig) → Buf (Elt Ideal) ℓ)

/-- The weight, the gradient and the two moments. -/
def kW (c : Dev nD) (n : Fin 1024) (k : Fin 772) : EReal := m ((c : Thread nD τ).loc main_arg0) (ix2 n k)
def kG (c : Dev nD) (n : Fin 1024) (k : Fin 772) : EReal := m ((c : Thread nD τ).loc main_arg1) (ix2 n k)
def kA (c : Dev nD) (n : Fin 1024) (k : Fin 772) : EReal := m ((c : Thread nD τ).loc main_arg2) (ix2 n k)
def kB (c : Dev nD) (n : Fin 1024) (k : Fin 772) : EReal := m ((c : Thread nD τ).loc main_arg3) (ix2 n k)

def G0 (c : Dev nD) (i : S772x1024.Idx) : EReal := upd (kW m c (i 1) (i 0)) (kG m c (i 1) (i 0)) (kA m c (i 1) (i 0)) (kB m c (i 1) (i 0))
def G1 (c : Dev nD) (i : S772x1024.Idx) : EReal := mom (kG m c (i 1) (i 0)) (kA m c (i 1) (i 0))
def G2 (c : Dev nD) (i : S772x1024.Idx) : EReal := vel (kG m c (i 1) (i 0)) (kB m c (i 1) (i 0))

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

section
variable (c : Dev nD) (t : Fin cfg0.N) (k : Fin 772) (n : Fin 1024)

theorem entry0 : (V m c main_v0 : S772x1024.Idx → EReal) (ix2 k n) = kW m c n k := by
  entry_read
  unfold kW
  pointwise []
theorem entry1 : (V m c main_v1 : S772x1024.Idx → EReal) (ix2 k n) = kG m c n k := by
  entry_read
  unfold kG
  pointwise []
theorem entry2 : (V m c main_v2 : S772x1024.Idx → EReal) (ix2 k n) = kA m c n k := by
  entry_read
  unfold kA
  pointwise []
theorem entry3 : (V m c main_v3 : S772x1024.Idx → EReal) (ix2 k n) = kB m c n k := by
  entry_read
  unfold kB
  pointwise []

theorem blk0 : (iblk m c 0 t : S772x1024.Idx → EReal) (ix2 k n) = kW m c n k := by
  rw [← entry0]
  blk_ext [iblk, idx0 t]
theorem blk1 : (iblk m c 1 t : S772x1024.Idx → EReal) (ix2 k n) = kG m c n k := by
  rw [← entry1]
  blk_ext [iblk, idx1 t]
theorem blk2 : (iblk m c 2 t : S772x1024.Idx → EReal) (ix2 k n) = kA m c n k := by
  rw [← entry2]
  blk_ext [iblk, idx2 t]
theorem blk3 : (iblk m c 3 t : S772x1024.Idx → EReal) (ix2 k n) = kB m c n k := by
  rw [← entry3]
  blk_ext [iblk, idx3 t]
end

theorem named1 : Named.named (F := Ideal) (φ := .f32) κ "bias1" 0x3FC48605#32 = ((corr1⁻¹ : ℝ) : EReal) :=
  IdealRules.named_const.ideal_named_scalar _ _ _ _ rfl
theorem named2 : Named.named (F := Ideal) (φ := .f32) κ "bias2" 0x42C8E6D3#32 = ((corr2⁻¹ : ℝ) : EReal) :=
  IdealRules.named_const.ideal_named_scalar _ _ _ _ rfl

section
variable (w g a b : Vec Ideal S772x1024 .f32) (k : Fin 772) (n : Fin 1024)

theorem pay2_apply : k0_pay2 (F := Ideal) g a (ix2 k n) = mom (g (ix2 k n)) (a (ix2 k n)) := by
  unfold mom
  pointwise [k0_pay2, k0_pay1]
theorem pay3_apply : k0_pay3 (F := Ideal) g b (ix2 k n) = vel (g (ix2 k n)) (b (ix2 k n)) := by
  unfold vel
  pointwise [k0_pay3, k0_pay1]
theorem pay4_apply : k0_pay4 (F := Ideal) g a b w (ix2 k n) = upd (w (ix2 k n)) (g (ix2 k n)) (a (ix2 k n)) (b (ix2 k n)) := by
  unfold upd
  rw [← pay2_apply, ← pay3_apply, ← named1, ← named2]
  unfold k0_pay4
  pointwise []
end

theorem zero2 : (![0, 0] : Fin 2 → ℕ) = fun _ => 0 := by funext a; fin_cases a <;> rfl

theorem arr0 (c : Dev nD) : (dats m 0 c).arrAt 4 cfg0.N = (G0 m c : S772x1024.Idx → EReal) := by
  refine (dats m 0 c).arrAt_eq_of_covers 4 _ (by decide +kernel) fun t hf y => ?_
  blk_simp
  rw [after0_4]
  obtain ⟨k, n, rfl⟩ : ∃ (k : Fin 772) (n : Fin 1024), y = ix2 k n := ⟨y 0, y 1, eq_ix2 y⟩
  have e : ((win0_4.blk t).view.emb (ix2 k n) : S772x1024.Idx) = ix2 k n := by
    blk_ext [idx4 t]
  unfold out0_4 r0_0
  rw [View.ld_unit_zero (S := S772x1024) zero2, View.ld_unit_zero (S := S772x1024) zero2, View.ld_unit_zero (S := S772x1024) zero2,
    View.ld_unit_zero (S := S772x1024) zero2, View.canon_unit_zero zero2]
  refine ((pay4_apply _ _ _ _ k n).trans ?_).trans (congrArg (G0 m c) e).symm
  rw [blk0, blk1, blk2, blk3]
  rfl
theorem arr1 (c : Dev nD) : (dats m 0 c).arrAt 5 cfg0.N = (G1 m c : S772x1024.Idx → EReal) := by
  refine (dats m 0 c).arrAt_eq_of_covers 5 _ (by decide +kernel) fun t hf y => ?_
  blk_simp
  rw [after0_5]
  obtain ⟨k, n, rfl⟩ : ∃ (k : Fin 772) (n : Fin 1024), y = ix2 k n := ⟨y 0, y 1, eq_ix2 y⟩
  have e : ((win0_5.blk t).view.emb (ix2 k n) : S772x1024.Idx) = ix2 k n := by
    blk_ext [idx5 t]
  unfold out0_5 r0_0
  rw [View.ld_unit_zero (S := S772x1024) zero2, View.ld_unit_zero (S := S772x1024) zero2, View.canon_unit_zero zero2]
  refine ((pay2_apply _ _ k n).trans ?_).trans (congrArg (G1 m c) e).symm
  rw [blk1, blk2]
  rfl
theorem arr2 (c : Dev nD) : (dats m 0 c).arrAt 6 cfg0.N = (G2 m c : S772x1024.Idx → EReal) := by
  refine (dats m 0 c).arrAt_eq_of_covers 6 _ (by decide +kernel) fun t hf y => ?_
  blk_simp
  rw [after0_6]
  obtain ⟨k, n, rfl⟩ : ∃ (k : Fin 772) (n : Fin 1024), y = ix2 k n := ⟨y 0, y 1, eq_ix2 y⟩
  have e : ((win0_6.blk t).view.emb (ix2 k n) : S772x1024.Idx) = ix2 k n := by
    blk_ext [idx6 t]
  unfold out0_6 r0_0
  rw [View.ld_unit_zero (S := S772x1024) zero2, View.ld_unit_zero (S := S772x1024) zero2, View.canon_unit_zero zero2]
  refine ((pay3_apply _ _ k n).trans ?_).trans (congrArg (G2 m c) e).symm
  rw [blk1, blk3]
  rfl

end Cert.Kernel12Ideal.Step

namespace Cert.Proof

open Idealize.ShloMosaic Idealize.ShloMosaic.TcCoe Idealize.SL.Sem Cert.Step

theorem algebraic_step_in : Cert.algebraic_Kernel12Ideal_Reference12Ideal := by
  intro m ρ m' ρ' _ hagree
  refine ⟨fun c => Cert.Kernel12Ideal.Step.G0 m c, fun c => Cert.Kernel12Ideal.Step.G1 m c, fun c => Cert.Kernel12Ideal.Step.G2 m c,
    (θ_run _ _ _).mono (fun r h c => ?_) (Cert.Kernel12Ideal.Value.run_blocks m ρ),
    (θ_run _ _ _).mono (fun r h c => ?_) (Cert.Reference12Ideal.Value.run (F := Ideal) m' ρ')⟩
  · obtain ⟨h0, h1, h2, hk⟩ := h c
    exact ⟨h0.trans (Cert.Kernel12Ideal.Step.arr0 m c), h1.trans (Cert.Kernel12Ideal.Step.arr1 m c), h2.trans (Cert.Kernel12Ideal.Step.arr2 m c), hk⟩
  · obtain ⟨h0, h1, h2, hk⟩ := h c
    obtain ⟨a0, a1, a2, a3⟩ := hagree c
    have hi : ∀ i : Cert.Kernel12Ideal.S772x1024.Idx, ∃ (k : Fin 772) (n : Fin 1024), i = ix2 k n := fun i => ⟨i 0, i 1, eq_ix2 i⟩
    refine ⟨h0.trans (funext fun (i : Cert.Kernel12Ideal.S772x1024.Idx) => ?_), h1.trans (funext fun (i : Cert.Kernel12Ideal.S772x1024.Idx) => ?_),
      h2.trans (funext fun (i : Cert.Kernel12Ideal.S772x1024.Idx) => ?_), hk⟩
    · obtain ⟨k, n, rfl⟩ := hi i
      rw [a0, a1, a2, a3]
      refine Eq.trans ?_ (upd_eq _ _ _ _).symm
      unfold mom vel Cert.Kernel12Ideal.Step.kW Cert.Kernel12Ideal.Step.kG Cert.Kernel12Ideal.Step.kA Cert.Kernel12Ideal.Step.kB
      pointwise []
    · obtain ⟨k, n, rfl⟩ := hi i
      rw [a1, a2]
      unfold Cert.Kernel12Ideal.Step.G1 Cert.Kernel12Ideal.Step.kG Cert.Kernel12Ideal.Step.kA mom
      pointwise []
    · obtain ⟨k, n, rfl⟩ := hi i
      rw [a1, a3]
      unfold Cert.Kernel12Ideal.Step.G2 Cert.Kernel12Ideal.Step.kG Cert.Kernel12Ideal.Step.kB vel
      pointwise []

theorem algebraic_step_out : Cert.algebraic_Kernel13Ideal_Reference13Ideal := by
  intro m ρ m' ρ' _ hagree
  refine ⟨fun c => _, fun c => _, fun c => _, (θ_run _ _ _).mono (fun r h c => h c) (Cert.Kernel13Ideal.Value.run (F := Ideal) m ρ),
    (θ_run _ _ _).mono (fun r h c => ?_) (Cert.Reference13Ideal.Value.run (F := Ideal) m' ρ')⟩
  obtain ⟨h0, h1, h2, hk⟩ := h c
  obtain ⟨a0, a1, a2, a3⟩ := hagree c
  rw [a0, a1, a2, a3] at h0
  rw [a1, a2] at h1
  rw [a1, a3] at h2
  refine ⟨h0.trans (funext fun i => (upd_eq _ _ _ _).symm.trans (upd_named _ _ _ _ _ _ ?_ ?_).symm), h1, h2, hk⟩
  · exact IdealRules.named_const.ideal_named_scalar _ _ _ _ rfl
  · exact IdealRules.named_const.ideal_named_scalar _ _ _ _ rfl

theorem algebraic_step_up : Cert.algebraic_Kernel14Ideal_Reference14Ideal := by
  intro m ρ m' ρ' _ hagree
  refine ⟨fun c => _, fun c => _, fun c => _, (θ_run _ _ _).mono (fun r h c => h c) (Cert.Kernel14Ideal.Value.run (F := Ideal) m ρ),
    (θ_run _ _ _).mono (fun r h c => ?_) (Cert.Reference14Ideal.Value.run (F := Ideal) m' ρ')⟩
  obtain ⟨h0, h1, h2, hk⟩ := h c
  obtain ⟨a0, a1, a2, a3⟩ := hagree c
  rw [a0, a1, a2, a3] at h0
  rw [a1, a2] at h1
  rw [a1, a3] at h2
  refine ⟨h0.trans (funext fun i => (upd_eq _ _ _ _).symm.trans (upd_named _ _ _ _ _ _ ?_ ?_).symm), h1, h2, hk⟩
  · exact IdealRules.named_const.ideal_named_scalar _ _ _ _ rfl
  · exact IdealRules.named_const.ideal_named_scalar _ _ _ _ rfl

theorem algebraic_step_down : Cert.algebraic_Kernel15Ideal_Reference15Ideal := by
  intro m ρ m' ρ' _ hagree
  refine ⟨fun c => _, fun c => _, fun c => _, (θ_run _ _ _).mono (fun r h c => h c) (Cert.Kernel15Ideal.Value.run (F := Ideal) m ρ),
    (θ_run _ _ _).mono (fun r h c => ?_) (Cert.Reference15Ideal.Value.run (F := Ideal) m' ρ')⟩
  obtain ⟨h0, h1, h2, hk⟩ := h c
  obtain ⟨a0, a1, a2, a3⟩ := hagree c
  rw [a0, a1, a2, a3] at h0
  rw [a1, a2] at h1
  rw [a1, a3] at h2
  refine ⟨h0.trans (funext fun i => (upd_eq _ _ _ _).symm.trans (upd_named _ _ _ _ _ _ ?_ ?_).symm), h1, h2, hk⟩
  · exact IdealRules.named_const.ideal_named_scalar _ _ _ _ rfl
  · exact IdealRules.named_const.ideal_named_scalar _ _ _ _ rfl

end Cert.Proof

end
-- ==== Proof.GateSpec.lean ====
/- The gated linear attention's output gate and head norm: the spec functions and what the tile's stores hold. -/
module

public import proofs.«01_k».proof.Proof.Gen.KernelIdeal.Value
public import proofs.«01_k».proof.Proof.Whole

@[expose] public section

set_option maxRecDepth 16384

noncomputable section

namespace Cert.Proof

open Idealize.ShloMosaic

/-- The words of the head's width and of the norm's epsilon. -/
def headWidth : EReal := Ideal.ofBits .f32 0x43000000#32
def rmsEps : EReal := Ideal.ofBits .f32 0x358637BD#32

/-- The logistic function, a head's reciprocal root mean square, and the normed head. -/
def gateSig (z : EReal) : EReal := Ideal.div 1 (1 + Ideal.exp (-z))
def rms (x : Fin 128 → EReal) : EReal := Ideal.rsqrt (Ideal.div (∑ q : Fin 128, x q * x q) headWidth + rmsEps)
def normed (x : Fin 128 → EReal) (j : Fin 128) : EReal := x j * rms x

/-- The gate's gradient at one element, and the term it gives the gain's gradient: of the head, the gate's input, the cotangent and the gain. -/
def gateGrad (x : Fin 128 → EReal) (z d g : EReal) (j : Fin 128) : EReal :=
  d * normed x j * g * (gateSig z * (1 + z * (1 - gateSig z)))
def gainTerm (x : Fin 128 → EReal) (z d : EReal) (j : Fin 128) : EReal := d * (z * gateSig z) * normed x j

end Cert.Proof

namespace Cert.KernelIdeal.Gate

open Idealize.ShloMosaic Idealize.ShloMosaic.TcCoe Idealize.SL.Sem Cert.Proof Cert.KernelIdeal Cert.KernelIdeal.Gen

section
variable (g : Vec Ideal S1x128 .f32) (x z d : Vec Ideal S256x128 .f32) (p : Fin 256) (j : Fin 128)

theorem store0 : (k0_pay47 (F := Ideal) g (k0_pay44 x) z d (ix2 p j) : EReal) = gateGrad (fun q => x (ix2 p q)) (z (ix2 p j)) (d (ix2 p j)) (g (ix2 0 j)) j := by
  unfold gateGrad normed rms gateSig headWidth rmsEps
  pointwise [k0_pay47, k0_pay44, k0_pay43, k0_pay45]
  simp only [zero_sub]
theorem store1 : (k0_pay55 (F := Ideal) g x (k0_pay50 x) z d (ix2 p j) : EReal) = gateGrad (fun q => x (ix2 p q)) (z (ix2 p j)) (d (ix2 p j)) (g (ix2 0 j)) j := by
  unfold gateGrad normed rms gateSig headWidth rmsEps
  pointwise [k0_pay55, k0_pay50, k0_pay51, k0_pay52, k0_pay53]
  simp only [zero_sub]
theorem store2 : (k0_pay105 (F := Ideal) z (k0_pay101 z) (k0_pay103 x d) (k0_pay104 g) (ix2 p j) : EReal) = gateGrad (fun q => x (ix2 p q)) (z (ix2 p j)) (d (ix2 p j)) (g (ix2 0 j)) j := by
  unfold gateGrad normed rms gateSig headWidth rmsEps
  pointwise [k0_pay105, k0_pay101, k0_pay103, k0_pay104, k0_pay100, k0_pay99]
  simp only [zero_sub]
theorem store3 : (k0_pay113 (F := Ideal) g (k0_pay109 x) z (k0_pay110 z) (FloatOps.ofBits FTy.f32 1065353216#32) d (ix2 p j) : EReal) = gateGrad (fun q => x (ix2 p q)) (z (ix2 p j)) (d (ix2 p j)) (g (ix2 0 j)) j := by
  unfold gateGrad normed rms gateSig headWidth rmsEps
  pointwise [k0_pay113, k0_pay109, k0_pay108, k0_pay110, k0_pay111]
  simp only [zero_sub]
end

section
variable (a : Vec Ideal S1x128 .f32) (x z d : Vec Ideal S256x128 .f32) (j : Fin 128)

/-- A head's term of the gain's gradient, summed over the tile's rows. -/
def headSum (x z d : Vec Ideal S256x128 .f32) (j : Fin 128) : EReal :=
  ∑ p : Fin 256, gainTerm (fun q => x (ix2 p q)) (z (ix2 p j)) (d (ix2 p j)) j

theorem gain0 : (k0_pay48 (F := Ideal) a (k0_pay44 x) z d (ix2 0 j) : EReal) = a (ix2 0 j) + headSum x z d j := by
  unfold headSum gainTerm normed rms gateSig headWidth rmsEps
  pointwise [k0_pay48, k0_pay44, k0_pay43, k0_pay45, k0_pay46]
  simp only [zero_sub]
theorem gain1 : (k0_pay56 (F := Ideal) a x (k0_pay50 x) z d (ix2 0 j) : EReal) = a (ix2 0 j) + headSum x z d j := by
  unfold headSum gainTerm normed rms gateSig headWidth rmsEps
  pointwise [k0_pay56, k0_pay50, k0_pay51, k0_pay52, k0_pay53, k0_pay54]
  simp only [zero_sub]
theorem gain2 : (k0_pay106 (F := Ideal) a (k0_pay100 x) (k0_pay102 z) d (ix2 0 j) : EReal) = a (ix2 0 j) + headSum x z d j := by
  unfold headSum gainTerm normed rms gateSig headWidth rmsEps
  pointwise [k0_pay106, k0_pay100, k0_pay99, k0_pay102, k0_pay101]
  simp only [zero_sub]
theorem gain3 : (k0_pay114 (F := Ideal) a (k0_pay109 x) z (k0_pay110 z) (FloatOps.ofBits FTy.f32 1065353216#32) d (ix2 0 j) : EReal) = a (ix2 0 j) + headSum x z d j := by
  unfold headSum gainTerm normed rms gateSig headWidth rmsEps
  pointwise [k0_pay114, k0_pay109, k0_pay108, k0_pay110, k0_pay111, k0_pay112]
  simp only [zero_sub]
theorem gain_zero : (k0_pay26 (F := Ideal) (ix2 0 j) : EReal) = 0 := by
  pointwise [k0_pay26]
theorem gain_reset : (k0_pay6 (F := Ideal) (ix2 0 j) : EReal) = 0 := by
  pointwise [k0_pay6]
theorem gain_next (b : Vec Ideal S1x128 .f32) : (k0_pay240 (F := Ideal) a b (ix2 0 j) : EReal) = b (ix2 0 j) + a (ix2 0 j) := by
  pointwise [k0_pay240]
end

end Cert.KernelIdeal.Gate
-- ==== Proof.GlaMask.lean ====
/- The gated linear attention's masks: the words the kernel builds them from, and what they hold at each place. -/
module
public import proofs.«01_k».proof.Proof.GateSpec
public import Idealize.ShloMosaic.Lib.WordCmp
@[expose] public section
set_option maxRecDepth 16384
noncomputable section
namespace Cert.KernelIdeal.Gate
open Idealize.ShloMosaic Idealize.ShloMosaic.TcCoe Idealize.SL.Sem Cert.Proof Cert.KernelIdeal Cert.KernelIdeal.Gen

/-- The row and the column numbers of a tile's masks. -/
abbrev rowWord : IVec S256x256 32 := iota Kind.tc S256x256 32 [0] iota_S256x256_d0_w32
abbrev colWord : IVec S256x256 32 := iota Kind.tc S256x256 32 [1] iota_S256x256_d1_w32
abbrev laneWord : IVec S1x128 32 := iota Kind.tc S1x128 32 [1] iota_S1x128_d1_w32
abbrev stack : FVec Ideal S768x256 .bf16 := k0_pay13 rowWord colWord k0_pay7 (64#32) k0_pay8 k0_pay9 k0_pay10

theorem row_chunk (p s : Fin 256) : k0_pay7 (ix2 p s) = BitVec.ofNat 32 (p.val / 64) := by
  have key : ∀ p : Fin 256, k0_pay7 (ix2 p (0 : Fin 256)) = BitVec.ofNat 32 (p.val / 64) := by decide +kernel
  exact (show k0_pay7 (ix2 p s) = k0_pay7 (ix2 p (0 : Fin 256)) from rfl).trans (key p)

theorem same_chunk (p s : Fin 256) : k0_pay11 colWord k0_pay7 (64#32) k0_pay8 k0_pay9 k0_pay10 (ix2 p s) = BitVec.ofBool (decide (p.val / 64 = s.val / 64)) := by
  have key : ∀ (n : Fin 4) (s : Fin 256), (k0_pay11 colWord (fun _ => BitVec.ofNat 32 n) (64#32) k0_pay8 k0_pay9 k0_pay10 (ix2 (0 : Fin 256) s)) = BitVec.ofBool (decide (n.val = s.val / 64)) := by decide +kernel
  have e := key ⟨p.val / 64, by omega⟩ s
  refine Eq.trans ?_ e
  show IntOp.cmpi .eq (k0_pay7 (ix2 p s)) _ = IntOp.cmpi .eq (BitVec.ofNat 32 (p.val / 64)) _
  rw [row_chunk]
  rfl
theorem both_bits : ∀ a b : Bool, IntOp.andi (BitVec.ofBool a) (BitVec.ofBool b) = BitVec.ofBool (a && b) := by decide
theorem causal (p s : Fin 256) : k0_pay12 rowWord colWord k0_pay7 (64#32) k0_pay8 k0_pay9 k0_pay10 (ix2 p s)
    = BitVec.ofBool (decide (p.val / 64 = s.val / 64 ∧ s.val ≤ p.val)) := by
  pointwise [k0_pay12]
  rw [same_chunk, WordCmp.cmpi_sle_ofNat (by omega) (by omega), both_bits]
  simp only [Bool.decide_and]
theorem lane_first (l : Fin 128) : k0_pay66 laneWord (ix2 0 l) = BitVec.ofBool (decide (l.val < 64)) := by
  have key : ∀ l : Fin 128, k0_pay66 laneWord (ix2 (0 : Fin 1) l) = BitVec.ofBool (decide (l.val < 64)) := by decide +kernel
  exact key l
theorem lane_second (l : Fin 128) : k0_pay73 (k0_pay72 laneWord) 1#32 (ix2 0 l) = BitVec.ofBool (decide (¬l.val < 64)) := by
  have key : ∀ l : Fin 128, k0_pay73 (k0_pay72 laneWord) 1#32 (ix2 (0 : Fin 1) l) = BitVec.ofBool (decide (¬l.val < 64)) := by decide +kernel
  exact key l
theorem lane_first' (l : Fin 128) : k0_pay123 laneWord 64#32 (k0_pay122 laneWord) (ix2 0 l) = BitVec.ofBool (decide (l.val < 64)) := by
  have key : ∀ l : Fin 128, k0_pay123 laneWord 64#32 (k0_pay122 laneWord) (ix2 (0 : Fin 1) l) = BitVec.ofBool (decide (l.val < 64)) := by decide +kernel
  exact key l
theorem lane_second' (l : Fin 128) : k0_pay131 laneWord (ix2 0 l) = BitVec.ofBool (decide (¬l.val < 64)) := by
  have key : ∀ l : Fin 128, k0_pay131 laneWord (ix2 (0 : Fin 1) l) = BitVec.ofBool (decide (¬l.val < 64)) := by decide +kernel
  exact key l

theorem word_bit (b : Bool) : (FloatOps.sitofp (F := Ideal) FTy.f32 (BitVec.setWidth 32 (BitVec.ofBool b)) : EReal) = if b = true then 1 else 0 := by
  cases b
  · show (((0#32 : BitVec 32).toInt : ℝ) : EReal) = _
    simp
  · show (((1#32 : BitVec 32).toInt : ℝ) : EReal) = _
    simp

/-- The rows of the masks' stack: a chunk's rows up to the row, and its first half. -/
theorem stack_row (p s : Fin 256) : (stack (ix2 ⟨p.val, by omega⟩ s) : EReal) = if p.val / 64 = s.val / 64 ∧ s.val ≤ p.val then 1 else 0 := by
  unfold stack
  pointwise [k0_pay13]
  rw [causal, word_bit]
  simp only [decide_eq_true_eq]
theorem stack_mid (p s : Fin 256) : (stack (ix2 ⟨256 + p.val, by omega⟩ s) : EReal) = if p.val / 64 = s.val / 64 ∧ s.val % 64 ≤ 31 then 1 else 0 := by
  have key : ∀ s : Fin 256, (IntOp.cmpi CmpIPredicate.sle
            (Scalar.select
              (IntOp.andi
                (IntOp.xori
                  (IntOp.cmpi CmpIPredicate.slt
                    (IntOp.remsi ArithUnit.vector (BitVec.ofNat 32 s.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 s.val)
                    (Scalar.select (Scalar.cmpi CmpIPredicate.eq 64#32 0#32) 1#32 64#32))
                  0#32))
              (IntOp.addi
                (IntOp.remsi ArithUnit.vector (BitVec.ofNat 32 s.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 s.val)
                (Scalar.select (Scalar.cmpi CmpIPredicate.eq 64#32 0#32) 1#32 64#32)))
            31#32) = BitVec.ofBool (decide (s.val % 64 ≤ 31)) := by decide +kernel
  unfold stack
  pointwise [k0_pay13]
  rw [key s, same_chunk, both_bits, word_bit]
  simp only [Bool.and_eq_true, decide_eq_true_eq]
end Cert.KernelIdeal.Gate
end
-- ==== Proof.GlaSpec.lean ====
/- The gated linear attention's queries: the spec functions and what the tile's payloads hold. -/
module
public import proofs.«01_k».proof.Proof.GlaMask
@[expose] public section
set_option maxRecDepth 16384
noncomputable section
namespace Cert.Proof
open Idealize.ShloMosaic

/-- A chunk's running sum of log decays. -/
def decay (g : Fin 64 → EReal) (t : Fin 64) : EReal := ∑ u : Fin 64, if u.val ≤ t.val then g u else 0

/-- The query's gradient at row `t` of a chunk and one of its lanes: of the lane's log decays, keys and state, the head's values and the row's cotangent. -/
def queryGrad (g k : Fin 64 → EReal) (v : Fin 64 → Fin 128 → EReal) (d s : Fin 128 → EReal) (t : Fin 64) : EReal :=
  ((∑ u : Fin 64, (if u.val ≤ t.val then ∑ w : Fin 128, d w * v u w else 0) * (k u * Ideal.exp (decay g 31 - decay g u))) * Ideal.exp (decay g t - decay g 31)
    + (∑ w : Fin 128, d w * s w) * Ideal.exp (decay g t)) * Ideal.ofBits .f32 0x3E000000#32

/-- The cotangent of the gate's normed head, and of the head itself by the kernel's form of the norm's derivative: of the head, the gate's inputs, the cotangents and the gain. -/
def outGrad (z d g : Fin 128 → EReal) (w : Fin 128) : EReal := d w * (z w * gateSig (z w)) * g w
def headGrad (x z d g : Fin 128 → EReal) (w : Fin 128) : EReal :=
  rms x * (outGrad z d g w - normed x w * Ideal.div (∑ q : Fin 128, outGrad z d g q * normed x q) headWidth)

/-- The log decay of a gate's input: the logarithm of its logistic function, over the temperature. -/
def logDecay (x : EReal) : EReal :=
  Ideal.div (min x 0 - Ideal.log (1 + Ideal.exp (-max x (-x)))) (Ideal.ofBits .f32 0x41800000#32)

/-- Row `t` of chunk `n` of a tile, and column `w` of half `h` of a pair's. -/
def tok (n : Fin 4) (t : Fin 64) : Fin 256 := ⟨n.val * 64 + t.val, by omega⟩
def col (h : Fin 2) (w : Fin 128) : Fin 256 := ⟨h.val * 128 + w.val, by omega⟩

/-- A mask of zeros and ones takes a number's three parts to what it takes the number to. -/
theorem three_parts (b : Prop) [Decidable b] (x : EReal) (h : x ≠ ⊤) :
    (if b then (1 : EReal) else 0) * x + (if b then (1 : EReal) else 0) * (x - x) + (if b then (1 : EReal) else 0) * (x - x - (x - x)) = if b then x else 0 := by
  by_cases hb : b
  · simp only [hb, if_true, one_mul]
    induction x with
    | bot => simp
    | top => exact absurd rfl h
    | coe r => rw [EReal.sub_self (EReal.coe_ne_top r) (EReal.coe_ne_bot r)]; simp
  · simp only [hb, if_false, zero_mul, add_zero]

/-- A sum over a tile's rows of what is zero outside a chunk is the chunk's. -/
theorem sum_chunk (n : Fin 4) (f : Fin 256 → EReal) (h : ∀ s : Fin 256, n.val ≠ s.val / 64 → f s = 0) : ∑ s : Fin 256, f s = ∑ u : Fin 64, f (tok n u) := by
  refine (Fin.sum_mul_add_congr (S := 4) (n := 64) (F := fun q p => f (tok q p)) fun q p hl => rfl).symm.trans ?_
  refine Finset.sum_eq_single (M := EReal) n (fun q _ hq => Finset.sum_eq_zero fun p _ => h _ fun e => hq (Fin.ext ?_)) fun hn => absurd (Finset.mem_univ n) hn
  have : (tok q p).val = q.val * 64 + p.val := rfl
  omega
theorem sum_half (h : Fin 2) (f : Fin 256 → EReal) (hz : ∀ s : Fin 256, h.val ≠ s.val / 128 → f s = 0) : ∑ s : Fin 256, f s = ∑ w : Fin 128, f (col h w) := by
  refine (Fin.sum_mul_add_congr (S := 2) (n := 128) (F := fun q p => f (col q p)) fun q p hl => rfl).symm.trans ?_
  refine Finset.sum_eq_single (M := EReal) h (fun q _ hq => Finset.sum_eq_zero fun p _ => hz _ fun e => hq (Fin.ext ?_)) fun hn => absurd (Finset.mem_univ h) hn
  have : (col q p).val = q.val * 128 + p.val := rfl
  omega

end Cert.Proof

namespace Cert.KernelIdeal.Gate
open Idealize.ShloMosaic Idealize.ShloMosaic.TcCoe Idealize.SL.Sem Cert.Proof Cert.KernelIdeal Cert.KernelIdeal.Gen

section
variable (g k : Vec Ideal S256x128 .f32) (vv : Vec Ideal S256x256 .f32) (dd : Vec Ideal S256x256 .bf16) (S : Fin 4 → Vec Ideal S1x1x128x256 .f32)
  (n : Fin 4) (t : Fin 64) (l : Fin 128)

/-- The running sums that the masks' stack makes. -/
theorem run_row (hg : ∀ s, (g (ix2 s l) : EReal) ≠ ⊤) : (k0_pay29 (F := Ideal) stack g (ix2 (tok n t) l) : EReal) = decay (fun u => g (ix2 (tok n u) l)) t := by
  pointwise [k0_pay29, k0_pay28]
  simp only [← Finset.sum_add_distrib (M := EReal)]
  refine (Finset.sum_congr (M := EReal) rfl fun s _ => (by rw [stack_row]; exact three_parts _ _ (hg s))).trans ((sum_chunk n _ fun s hs => if_neg fun e => hs ?_).trans ?_)
  · have : (tok n t).val = n.val * 64 + t.val := rfl
    omega
  · refine Finset.sum_congr (M := EReal) rfl fun u _ => if_congr ?_ rfl rfl
    simp only [tok]
    omega
theorem run_mid (hg : ∀ s, (g (ix2 s l) : EReal) ≠ ⊤) : (k0_pay30 (F := Ideal) stack g (ix2 (tok n t) l) : EReal) = decay (fun u => g (ix2 (tok n u) l)) 31 := by
  pointwise [k0_pay30, k0_pay28]
  simp only [← Finset.sum_add_distrib (M := EReal)]
  refine (Finset.sum_congr (M := EReal) rfl fun s _ => (by rw [stack_mid]; exact three_parts _ _ (hg s))).trans ((sum_chunk n _ fun s hs => if_neg fun e => hs ?_).trans ?_)
  · have : (tok n t).val = n.val * 64 + t.val := rfl
    omega
  · refine Finset.sum_congr (M := EReal) rfl fun u _ => if_congr ?_ rfl rfl
    simp only [tok]
    show _ ↔ u.val ≤ 31
    omega

/-- The two halves' scores and keys, and the sum over the chunk's rows. -/
def half (l : Fin 128) : Fin 2 := ⟨l.val / 64, by omega⟩

theorem score0 (p s : Fin 256) : (k0_pay68 (F := Ideal) (k0_pay12 rowWord colWord k0_pay7 (64#32) k0_pay8 k0_pay9 k0_pay10) (k0_pay42 vv) dd (ix2 p s) : EReal)
    = if p.val / 64 = s.val / 64 ∧ s.val ≤ p.val then ∑ w : Fin 128, dd (ix2 p (col 0 w)) * vv (ix2 s (col 0 w)) else 0 := by
  pointwise [k0_pay68, k0_pay42]
  rw [causal]
  have e : ∀ w : Fin 128, col 0 w = ⟨w.val, by omega⟩ := fun w => Fin.ext (show 0 * 128 + w.val = w.val by omega)
  simp only [e]
  by_cases h : p.val / 64 = s.val / 64 ∧ s.val ≤ p.val
  · rw [if_pos h, decide_eq_true h]; rfl
  · rw [if_neg h, decide_eq_false h]; rfl
theorem score1 (p s : Fin 256) : (k0_pay74 (F := Ideal) (k0_pay12 rowWord colWord k0_pay7 (64#32) k0_pay8 k0_pay9 k0_pay10) (k0_pay42 vv) dd (ix2 p s) : EReal)
    = if p.val / 64 = s.val / 64 ∧ s.val ≤ p.val then ∑ w : Fin 128, dd (ix2 p (col 1 w)) * vv (ix2 s (col 1 w)) else 0 := by
  pointwise [k0_pay74, k0_pay42]
  rw [causal]
  have e : ∀ w : Fin 128, col 1 w = ⟨128 + w.val, by omega⟩ := fun w => Fin.ext (show 1 * 128 + w.val = 128 + w.val by omega)
  simp only [e]
  by_cases h : p.val / 64 = s.val / 64 ∧ s.val ≤ p.val
  · rw [if_pos h, decide_eq_true h]; rfl
  · rw [if_neg h, decide_eq_false h]; rfl
theorem key (hg : ∀ s, (g (ix2 s l) : EReal) ≠ ⊤) : (k0_pay39 (F := Ideal) stack g k (ix2 (tok n t) l) : EReal)
    = k (ix2 (tok n t) l) * Ideal.exp (decay (fun u => g (ix2 (tok n u) l)) 31 - decay (fun u => g (ix2 (tok n u) l)) t) := by
  pointwise [k0_pay39, k0_pay34]
  rw [run_row g n t l hg, run_mid g n t l hg]

theorem chunk_rows (h : Fin 2) (hg : ∀ s, (g (ix2 s l) : EReal) ≠ ⊤) :
    ∑ s : Fin 256, (if (tok n t).val / 64 = s.val / 64 ∧ s.val ≤ (tok n t).val then ∑ w : Fin 128, (dd (ix2 (tok n t) (col h w)) * vv (ix2 s (col h w)) : EReal) else 0)
      * (k0_pay39 (F := Ideal) stack g k (ix2 s l) : EReal)
    = ∑ u : Fin 64, (if u.val ≤ t.val then ∑ w : Fin 128, (dd (ix2 (tok n t) (col h w)) * vv (ix2 (tok n u) (col h w)) : EReal) else 0)
      * (k (ix2 (tok n u) l) * Ideal.exp (decay (fun u => g (ix2 (tok n u) l)) 31 - decay (fun u => g (ix2 (tok n u) l)) u)) := by
  refine (sum_chunk n _ fun s hs => ?_).trans ?_
  · rw [if_neg fun e => hs ?_, zero_mul]
    have : (tok n t).val = n.val * 64 + t.val := rfl
    omega
  · refine Finset.sum_congr (M := EReal) rfl fun u _ => congrArg₂ (· * ·) (if_congr ?_ rfl rfl) (key g k n u l hg)
    simp only [tok]
    omega

theorem pick_true (x y : EReal) : Scalar.select (BitVec.ofBool true) x y = x := rfl
theorem pick_false (x y : EReal) : Scalar.select (BitVec.ofBool false) x y = y := rfl
theorem inner (hg : ∀ s, (g (ix2 s l) : EReal) ≠ ⊤) :
    (k0_pay76 (F := Ideal) (k0_pay12 rowWord colWord k0_pay7 (64#32) k0_pay8 k0_pay9 k0_pay10) (k0_pay42 vv) dd (k0_pay61 (k0_pay39 stack g k))
      (k0_pay70 (k0_pay12 rowWord colWord k0_pay7 (64#32) k0_pay8 k0_pay9 k0_pay10) (k0_pay42 vv) dd (k0_pay61 (k0_pay39 stack g k)) k0_pay64 (k0_pay66 laneWord))
      (k0_pay72 laneWord) 1#32 (ix2 (tok n t) l) : EReal)
    = ∑ u : Fin 64, (if u.val ≤ t.val then ∑ w : Fin 128, (dd (ix2 (tok n t) (col (half l) w)) * vv (ix2 (tok n u) (col (half l) w)) : EReal) else 0)
      * (k (ix2 (tok n u) l) * Ideal.exp (decay (fun u => g (ix2 (tok n u) l)) 31 - decay (fun u => g (ix2 (tok n u) l)) u)) := by
  pointwise [k0_pay76, k0_pay70, k0_pay64, k0_pay61]
  rw [lane_first, lane_second]
  by_cases h : l.val < 64
  · have e : half l = 0 := Fin.ext (show l.val / 64 = 0 by omega)
    rw [e, ← chunk_rows g k vv dd n t l 0 hg]
    simp only [h, not_true, decide_true, decide_false]
    refine (congrArg₂ (· + ·) (pick_true _ _) (pick_false _ _)).trans ((add_zero _).trans ?_)
    exact Finset.sum_congr (M := EReal) rfl fun s _ => congrArg₂ (· * ·) (score0 vv dd _ s) rfl
  · have e : half l = 1 := Fin.ext (show l.val / 64 = 1 by omega)
    rw [e, ← chunk_rows g k vv dd n t l 1 hg]
    simp only [h, not_false_eq_true, decide_true, decide_false]
    refine (congrArg₂ (· + ·) (pick_false _ _) (pick_true _ _)).trans ((zero_add _).trans ?_)
    exact Finset.sum_congr (M := EReal) rfl fun s _ => congrArg₂ (· * ·) (score1 vv dd _ s) rfl

/-- The state's part. -/
theorem outer_all : (k0_pay213 (F := Ideal) (k0_pay143 dd (S 3)) (k0_pay160 dd (S 2)) (k0_pay177 dd (S 1)) (k0_pay195 dd (S 0)) (ix2 (tok n t) l) : EReal)
    = ∑ x : Fin 256, dd (ix2 (tok n t) x) * S n (ix4 0 0 l x) := by
  obtain rfl | rfl | rfl | rfl : n = 0 ∨ n = 1 ∨ n = 2 ∨ n = 3 := by omega
  all_goals
    unfold tok
    pointwise [k0_pay213, k0_pay143, k0_pay160, k0_pay177, k0_pay195, k0_pay140, k0_pay157, k0_pay174, k0_pay192]
  all_goals
    split_ifs <;> first
      | omega
      | refine Finset.sum_congr (M := EReal) rfl fun x _ => congrArg (fun a : Fin 256 => (dd (ix2 a x) * _ : EReal)) (Fin.ext ?_)
        first
          | omega
          | (simp; done)
          | (simp; omega)
theorem outer (hz : ∀ x : Fin 256, (half l).val ≠ x.val / 128 → (S n (ix4 0 0 l x) : EReal) = 0) :
    (k0_pay213 (F := Ideal) (k0_pay143 dd (S 3)) (k0_pay160 dd (S 2)) (k0_pay177 dd (S 1)) (k0_pay195 dd (S 0)) (ix2 (tok n t) l) : EReal)
    = ∑ w : Fin 128, dd (ix2 (tok n t) (col (half l) w)) * S n (ix4 0 0 l (col (half l) w)) :=
  (outer_all dd S n t l).trans (sum_half (half l) _ fun x hx => (congrArg (fun z : EReal => dd (ix2 (tok n t) x) * z) (hz x hx)).trans (mul_zero _))

/-- The queries' gradient of a pair of heads. -/
theorem query0 (hg : ∀ s, (g (ix2 s l) : EReal) ≠ ⊤) (hz : ∀ x : Fin 256, (half l).val ≠ x.val / 128 → (S n (ix4 0 0 l x) : EReal) = 0) :
    (k0_pay224 (F := Ideal) (k0_pay215 (k0_pay33 stack g) (k0_pay36 stack g)
      (k0_pay76 (k0_pay12 rowWord colWord k0_pay7 (64#32) k0_pay8 k0_pay9 k0_pay10) (k0_pay42 vv) dd (k0_pay61 (k0_pay39 stack g k))
        (k0_pay70 (k0_pay12 rowWord colWord k0_pay7 (64#32) k0_pay8 k0_pay9 k0_pay10) (k0_pay42 vv) dd (k0_pay61 (k0_pay39 stack g k)) k0_pay64 (k0_pay66 laneWord))
        (k0_pay72 laneWord) 1#32)
      (k0_pay143 dd (S 3)) (k0_pay160 dd (S 2)) (k0_pay177 dd (S 1)) (k0_pay195 dd (S 0))) (ix2 (tok n t) l) : EReal)
    = queryGrad (fun u => g (ix2 (tok n u) l)) (fun u => k (ix2 (tok n u) l)) (fun u w => vv (ix2 (tok n u) (col (half l) w)))
      (fun w => dd (ix2 (tok n t) (col (half l) w))) (fun w => S n (ix4 0 0 l (col (half l) w))) t := by
  unfold queryGrad
  pointwise [k0_pay224, k0_pay215, k0_pay33, k0_pay36]
  rw [inner g k vv dd n t l hg, outer dd S n t l hz, run_row g n t l hg, run_mid g n t l hg]
section
variable (c : IVec S256x256 1) (v : Vec Ideal S256x256 .bf16) (i : Vec Ideal S256x128 .bf16) (M : Vec Ideal S768x256 .bf16) (G : Vec Ideal S256x256 .f32)
/-- The second pair's payloads are the first's. -/
theorem second_sums : k0_pay84 (F := Ideal) M (k0_pay82 G) (k0_pay83 M G) = k0_pay28 M (k0_pay78 G) := rfl
theorem second_row : k0_pay85 (F := Ideal) M (k0_pay82 G) (k0_pay83 M G) = k0_pay29 M (k0_pay78 G) := by
  unfold k0_pay85 k0_pay29; rw [second_sums]
theorem second_mid : k0_pay86 (F := Ideal) M (k0_pay82 G) (k0_pay83 M G) = k0_pay30 M (k0_pay78 G) := by
  unfold k0_pay86 k0_pay30; rw [second_sums]
theorem second_q : k0_pay89 (F := Ideal) M (k0_pay82 G) (k0_pay83 M G) = k0_pay33 M (k0_pay78 G) := by
  unfold k0_pay89 k0_pay33; rw [second_row, second_mid]
theorem second_b : k0_pay92 (F := Ideal) M (k0_pay82 G) (k0_pay83 M G) = k0_pay36 M (k0_pay78 G) := by
  unfold k0_pay92 k0_pay36; rw [second_row]
theorem second_key : k0_pay117 (F := Ideal) (k0_pay95 M k (k0_pay82 G) (k0_pay83 M G)) = k0_pay61 (k0_pay39 M (k0_pay78 G) k) := by
  unfold k0_pay117 k0_pay61 k0_pay95 k0_pay39 k0_pay90 k0_pay34; rw [second_row, second_mid]
theorem second_value : k0_pay98 (F := Ideal) vv = k0_pay42 vv := rfl
theorem second_lane0 : k0_pay123 laneWord 64#32 (k0_pay122 laneWord) = k0_pay66 laneWord := rfl
theorem second_lane1 : k0_pay131 laneWord = k0_pay73 (k0_pay72 laneWord) 1#32 := rfl
theorem second_inner : k0_pay136 (F := Ideal) c i (k0_pay129 k0_pay120 (k0_pay126 c v dd i) (k0_pay127 laneWord 64#32 (k0_pay122 laneWord)) k0_pay128) (k0_pay131 laneWord) (k0_pay133 v dd)
    = k0_pay76 c v dd i (k0_pay70 c v dd i k0_pay64 (k0_pay66 laneWord)) (k0_pay72 laneWord) 1#32 := by
  unfold k0_pay136 k0_pay76 k0_pay127
  rw [second_lane0, second_lane1]
  rfl
theorem second_outer (a b d e : Vec Ideal S1x1x128x256 .f32) : k0_pay229 (F := Ideal) (k0_pay152 dd a) (k0_pay168 dd b) (k0_pay187 dd d) (k0_pay204 dd e)
    = k0_pay213 (k0_pay143 dd a) (k0_pay160 dd b) (k0_pay177 dd d) (k0_pay195 dd e) := rfl
theorem second_pair (s0 s1 s2 s3 : Vec Ideal S1x1x128x256 .f32) :
    k0_pay235 (F := Ideal) (k0_pay231 (k0_pay89 stack (k0_pay82 G) (k0_pay83 stack G)) (k0_pay92 stack (k0_pay82 G) (k0_pay83 stack G))
      (k0_pay136 (k0_pay12 rowWord colWord k0_pay7 (64#32) k0_pay8 k0_pay9 k0_pay10) (k0_pay117 (k0_pay95 stack k (k0_pay82 G) (k0_pay83 stack G)))
        (k0_pay129 k0_pay120 (k0_pay126 (k0_pay12 rowWord colWord k0_pay7 (64#32) k0_pay8 k0_pay9 k0_pay10) (k0_pay98 vv) dd (k0_pay117 (k0_pay95 stack k (k0_pay82 G) (k0_pay83 stack G))))
          (k0_pay127 laneWord 64#32 (k0_pay122 laneWord)) k0_pay128)
        (k0_pay131 laneWord) (k0_pay133 (k0_pay98 vv) dd))
      (k0_pay152 dd s3) (k0_pay168 dd s2) (k0_pay187 dd s1) (k0_pay204 dd s0))
    = k0_pay224 (k0_pay215 (k0_pay33 stack (k0_pay78 G)) (k0_pay36 stack (k0_pay78 G))
      (k0_pay76 (k0_pay12 rowWord colWord k0_pay7 (64#32) k0_pay8 k0_pay9 k0_pay10) (k0_pay42 vv) dd (k0_pay61 (k0_pay39 stack (k0_pay78 G) k))
        (k0_pay70 (k0_pay12 rowWord colWord k0_pay7 (64#32) k0_pay8 k0_pay9 k0_pay10) (k0_pay42 vv) dd (k0_pay61 (k0_pay39 stack (k0_pay78 G) k)) k0_pay64 (k0_pay66 laneWord))
        (k0_pay72 laneWord) 1#32)
      (k0_pay143 dd s3) (k0_pay160 dd s2) (k0_pay177 dd s1) (k0_pay195 dd s0)) := by
  rw [second_key, second_q, second_b, second_inner, second_value]
  unfold k0_pay235 k0_pay224 k0_pay231 k0_pay215
  rw [second_outer]
end
theorem query1 (G : Vec Ideal S256x256 .f32) (hg : ∀ s, (k0_pay78 (F := Ideal) G (ix2 s l) : EReal) ≠ ⊤) (hz : ∀ x : Fin 256, (half l).val ≠ x.val / 128 → (S n (ix4 0 0 l x) : EReal) = 0) :
    (k0_pay235 (F := Ideal) (k0_pay231 (k0_pay89 stack (k0_pay82 G) (k0_pay83 stack G)) (k0_pay92 stack (k0_pay82 G) (k0_pay83 stack G))
      (k0_pay136 (k0_pay12 rowWord colWord k0_pay7 (64#32) k0_pay8 k0_pay9 k0_pay10) (k0_pay117 (k0_pay95 stack k (k0_pay82 G) (k0_pay83 stack G)))
        (k0_pay129 k0_pay120 (k0_pay126 (k0_pay12 rowWord colWord k0_pay7 (64#32) k0_pay8 k0_pay9 k0_pay10) (k0_pay98 vv) dd (k0_pay117 (k0_pay95 stack k (k0_pay82 G) (k0_pay83 stack G))))
          (k0_pay127 laneWord 64#32 (k0_pay122 laneWord)) k0_pay128)
        (k0_pay131 laneWord) (k0_pay133 (k0_pay98 vv) dd))
      (k0_pay152 dd (S 3)) (k0_pay168 dd (S 2)) (k0_pay187 dd (S 1)) (k0_pay204 dd (S 0))) (ix2 (tok n t) l) : EReal)
    = queryGrad (fun u => (k0_pay78 (F := Ideal) G (ix2 (tok n u) l) : EReal)) (fun u => k (ix2 (tok n u) l)) (fun u w => vv (ix2 (tok n u) (col (half l) w)))
      (fun w => dd (ix2 (tok n t) (col (half l) w))) (fun w => S n (ix4 0 0 l (col (half l) w))) t := by
  rw [second_pair]
  generalize k0_pay78 (F := Ideal) G = f at hg ⊢
  exact query0 f k vv dd S n t l hg hz
end

section
variable (g : Vec Ideal S1x128 .f32) (x z d x' z' d' : Vec Ideal S256x128 .f32) (p : Fin 256) (w : Fin 128)

theorem cotangent0 : (k0_pay59 (F := Ideal) (k0_pay49 g (k0_pay43 x) (k0_pay44 x) z d) (k0_pay51 (k0_pay50 x')) (k0_pay52 x' (k0_pay50 x')) (k0_pay57 g z' d')
      (k0_pay58 g x' (k0_pay50 x') z' d') (ix2 p (col 0 w)) : EReal)
    = headGrad (fun q => x (ix2 p q)) (fun q => z (ix2 p q)) (fun q => d (ix2 p q)) (fun q => g (ix2 0 q)) w := by
  unfold headGrad outGrad normed rms gateSig headWidth rmsEps col
  pointwise [k0_pay59, k0_pay49, k0_pay43, k0_pay44, k0_pay46, k0_pay45]
  simp only [zero_sub]
theorem cotangent1 : (k0_pay59 (F := Ideal) (k0_pay49 g (k0_pay43 x) (k0_pay44 x) z d) (k0_pay51 (k0_pay50 x')) (k0_pay52 x' (k0_pay50 x')) (k0_pay57 g z' d')
      (k0_pay58 g x' (k0_pay50 x') z' d') (ix2 p (col 1 w)) : EReal)
    = headGrad (fun q => x' (ix2 p q)) (fun q => z' (ix2 p q)) (fun q => d' (ix2 p q)) (fun q => g (ix2 0 q)) w := by
  unfold headGrad outGrad normed rms gateSig headWidth rmsEps col
  pointwise [k0_pay59, k0_pay58, k0_pay57, k0_pay54, k0_pay53, k0_pay52, k0_pay51, k0_pay50]
  simp only [zero_sub]
theorem cotangent2 : (k0_pay115 (F := Ideal) g (k0_pay107 g (k0_pay99 x) (k0_pay100 x) (k0_pay102 z) d) (k0_pay108 x') (k0_pay109 x') z' (k0_pay110 z') (FloatOps.ofBits FTy.f32 1065353216#32) d' (ix2 p (col 0 w)) : EReal)
    = headGrad (fun q => x (ix2 p q)) (fun q => z (ix2 p q)) (fun q => d (ix2 p q)) (fun q => g (ix2 0 q)) w := by
  unfold headGrad outGrad normed rms gateSig headWidth rmsEps col
  pointwise [k0_pay115, k0_pay107, k0_pay99, k0_pay100, k0_pay102, k0_pay101]
  simp only [zero_sub]
theorem cotangent3 : (k0_pay115 (F := Ideal) g (k0_pay107 g (k0_pay99 x) (k0_pay100 x) (k0_pay102 z) d) (k0_pay108 x') (k0_pay109 x') z' (k0_pay110 z') (FloatOps.ofBits FTy.f32 1065353216#32) d' (ix2 p (col 1 w)) : EReal)
    = headGrad (fun q => x' (ix2 p q)) (fun q => z' (ix2 p q)) (fun q => d' (ix2 p q)) (fun q => g (ix2 0 q)) w := by
  unfold headGrad outGrad normed rms gateSig headWidth rmsEps col
  pointwise [k0_pay115, k0_pay108, k0_pay109, k0_pay110, k0_pay111, k0_pay112]
  simp only [zero_sub]
end

section
variable (a : Vec Ideal S256x128 .f32) (w : Vec Ideal S128x256 .f32) (b : Vec Ideal S1x256 .f32) (p : Fin 256)

theorem decays (s : Fin 256) : (k0_pay25 (F := Ideal) a w b (ix2 p s) : EReal) = logDecay (∑ q : Fin 128, a (ix2 p q) * w (ix2 q s) + b (ix2 0 s)) := by
  unfold logDecay
  pointwise [k0_pay25, k0_pay24]
  rw [zero_sub]
  rfl
theorem decays0 (l : Fin 128) : (k0_pay27 (F := Ideal) a w b (ix2 p l) : EReal) = logDecay (∑ q : Fin 128, a (ix2 p q) * w (ix2 q (col 0 l)) + b (ix2 0 (col 0 l))) := by
  rw [← decays a w b p (col 0 l)]
  unfold col
  pointwise [k0_pay27]
theorem decays1 (l : Fin 128) : (k0_pay78 (F := Ideal) (k0_pay25 a w b) (ix2 p l) : EReal) = logDecay (∑ q : Fin 128, a (ix2 p q) * w (ix2 q (col 1 l)) + b (ix2 0 (col 1 l))) := by
  rw [← decays a w b p (col 1 l)]
  unfold col
  pointwise [k0_pay78]
end
end Cert.KernelIdeal.Gate
end
-- ==== Proof.GateReal.lean ====
/- The output gate's gradient: the derivative's form is the kernel's, for a finite cotangent and a finite gain. -/
module

public import proofs.«01_k».proof.Proof.GateSpec
public import proofs.«01_k».proof.Proof.NormReal

@[expose] public section

noncomputable section

namespace Cert.Proof

open Idealize.ShloMosaic

theorem word_128 : headWidth = ((128 : ℝ) : EReal) := by
  simp [headWidth, Ideal.ofBits, Ideal.ieee, -EReal.coe_mul]; norm_num
theorem word_rms_eps : ∃ e : ℝ, 0 < e ∧ rmsEps = (e : EReal) := by
  refine ⟨_, ?_, by simp [rmsEps, Ideal.ofBits, Ideal.ieee, -EReal.coe_mul]; rfl⟩
  norm_num

theorem square_nonneg (x : EReal) : 0 ≤ x * x := by
  induction x with
  | bot => simp
  | top => simp
  | coe r => exact_mod_cast mul_self_nonneg r

/-- The mean square of a head is not negative; it is infinite where an element is. -/
theorem mean_nonneg (x : Fin 128 → EReal) : 0 ≤ Ideal.div (∑ q : Fin 128, x q * x q) headWidth := by
  rw [word_128, Ideal.div, if_neg (by norm_num)]
  exact EReal.mul_nonneg (Finset.sum_nonneg fun q _ => square_nonneg _) (EReal.inv_nonneg_of_nonneg (by norm_num))
theorem mean_top (x : Fin 128 → EReal) (j : Fin 128) (h : x j * x j = ⊤) : Ideal.div (∑ q : Fin 128, x q * x q) headWidth = ⊤ := by
  have e : ∑ q : Fin 128, x q * x q = ⊤ :=
    top_le_iff.1 (h ▸ Finset.single_le_sum (f := fun q => x q * x q) (fun q _ => square_nonneg _) (Finset.mem_univ j))
  rw [e, word_128, Ideal.div, if_neg (by norm_num), ← EReal.coe_inv, EReal.top_mul_coe_of_pos (by norm_num)]

/-- The normed head is real whatever the head holds: the norm takes an infinite one to zero. -/
theorem normed_real (x : Fin 128 → EReal) (j : Fin 128) : Real' (normed x j) := by
  obtain ⟨e, he, hw⟩ := word_rms_eps
  have key : ∀ v : EReal, 0 ≤ v → Real' (Ideal.rsqrt (v + (e : EReal))) := by
    intro v hv
    induction v with
    | bot => simp at hv
    | top => exact ⟨0, by simp⟩
    | coe r =>
      have hr : 0 ≤ r := by exact_mod_cast hv
      rw [← EReal.coe_add, rsqrt_pos (by linarith)]
      exact ⟨_, rfl⟩
  have hr : Real' (rms x) := by
    unfold rms
    rw [hw]
    exact key _ (mean_nonneg x)
  by_cases hx : x j * x j = ⊤
  · have : rms x = 0 := by
      unfold rms
      rw [mean_top x j hx, hw]
      simp
    exact ⟨0, by rw [normed, this, mul_zero]; rfl⟩
  · refine Real'.mul ?_ hr
    generalize x j = y at hx
    induction y with
    | bot => simp at hx
    | top => simp at hx
    | coe r => exact ⟨r, rfl⟩

/-- The logistic function is real, and its complement vanishes at plus infinity, itself at minus infinity. -/
theorem sig_top : gateSig ⊤ = 1 := by
  simp [gateSig, Ideal.div]
theorem sig_bot : gateSig ⊥ = 0 := by
  have e : (1 : EReal) + ⊤ = ⊤ := EReal.add_top_of_ne_bot (EReal.coe_ne_bot 1)
  simp [gateSig, Ideal.div, e]
theorem sig_real (z : EReal) : Real' (gateSig z) := by
  induction z with
  | bot => exact ⟨0, sig_bot⟩
  | top => exact ⟨1, sig_top⟩
  | coe r =>
    refine ⟨1 / (1 + Real.exp (-r)), ?_⟩
    have h : (1 : EReal) + ((Real.exp (-r) : ℝ) : EReal) = ((1 + Real.exp (-r) : ℝ) : EReal) := by norm_cast
    have hp : (0 : ℝ) < 1 + Real.exp (-r) := by positivity
    rw [gateSig, ← EReal.coe_neg, Ideal.exp_coe, h, Ideal.div, if_neg (by exact_mod_cast hp.ne'), ← EReal.coe_inv, one_mul, one_div]

/-- The derivative of `z * sig z` taken by the product rule, against the kernel's factored form. -/
theorem gate_grad (D z : EReal) (hD : Real' D) :
    D * (gateSig z * (1 + z * (1 - gateSig z))) = D * gateSig z + z * D * (gateSig z * (1 - gateSig z)) := by
  obtain ⟨d, rfl⟩ := hD
  induction z with
  | bot => rw [sig_bot]; simp
  | top =>
    have e : (1 : EReal) - 1 = 0 := EReal.sub_self (EReal.coe_ne_top 1) (EReal.coe_ne_bot 1)
    rw [sig_top, e]; simp
  | coe r =>
    obtain ⟨s, hs⟩ := sig_real (r : EReal)
    rw [hs]
    norm_cast
    ring

end Cert.Proof

end
-- ==== Proof.GlaReal.lean ====
/- The gated linear attention's log decays and running sums over the extended reals. -/
module

public import proofs.«01_k».proof.Proof.GlaSpec
public import proofs.«01_k».proof.Proof.GateReal

@[expose] public section

set_option maxRecDepth 16384

noncomputable section

namespace Cert.Proof

open Idealize.ShloMosaic

/-- The soft part of a log decay is a real number. -/
theorem soft_real (x : EReal) : ∃ r : ℝ, Ideal.log (1 + Ideal.exp (-max x (-x))) = (r : EReal) := by
  have key : ∀ r : ℝ, ∃ s : ℝ, Ideal.log (1 + Ideal.exp (r : EReal)) = (s : EReal) := fun r => by
    have h : (1 : EReal) + ((Real.exp r : ℝ) : EReal) = ((1 + Real.exp r : ℝ) : EReal) := by norm_cast
    have hp : ¬(1 + Real.exp r ≤ 0) := not_le.2 (by positivity)
    refine ⟨Real.log (1 + Real.exp r), ?_⟩
    rw [Ideal.exp_coe, h]
    exact if_neg hp
  have bot : ∃ s : ℝ, Ideal.log (1 + Ideal.exp (⊥ : EReal)) = (s : EReal) := by
    refine ⟨Real.log 1, ?_⟩
    have h : (1 : EReal) + Ideal.exp ⊥ = ((1 : ℝ) : EReal) := by
      show (1 : EReal) + 0 = _
      simp
    rw [h]
    exact if_neg (by norm_num)
  induction x with
  | bot => simpa using bot
  | top => simpa using bot
  | coe r =>
    have e : -max (r : EReal) (-(r : EReal)) = ((-max r (-r) : ℝ) : EReal) := by norm_cast
    rw [e]
    exact key _

theorem word_16 : Ideal.ofBits .f32 0x41800000#32 = ((16 : ℝ) : EReal) := by
  simp [Ideal.ofBits, Ideal.ieee, -EReal.coe_mul]; norm_num

theorem logDecay_ne_top (x : EReal) : logDecay x ≠ ⊤ := by
  obtain ⟨r, hr⟩ := soft_real x
  unfold logDecay
  rw [hr, word_16, Ideal.div, if_neg (by norm_num), ← EReal.coe_inv]
  have h : min x 0 ≠ ⊤ := fun e => absurd ((e.symm.le.trans (min_le_right x 0))) (by simp)
  generalize min x 0 = y at h
  induction y with
  | bot =>
    rw [EReal.bot_sub, EReal.bot_mul_coe_of_pos (by norm_num)]
    exact bot_ne_top
  | top => exact absurd rfl h
  | coe s =>
    rw [← EReal.coe_sub, ← EReal.coe_mul]
    exact EReal.coe_ne_top _

/-- The logarithm of the logistic function, as the library's function computes it. -/
theorem soft_neg (x : EReal) : -(max (-x) 0 + Ideal.log1p (Ideal.exp (-max (-x) (-(-x))))) = min x 0 - Ideal.log (1 + Ideal.exp (-max x (-x))) := by
  obtain ⟨r, hr⟩ := soft_real x
  have e : Ideal.log1p (Ideal.exp (-max (-x) (-(-x)))) = (r : EReal) := by
    rw [neg_neg, max_comm]
    exact hr
  have hm : -max (-x) 0 = min x 0 := by
    rcases le_total x 0 with h | h
    · rw [max_eq_left (EReal.le_neg_of_le_neg (by simpa using h)), neg_neg, min_eq_left h]
    · rw [max_eq_right (EReal.neg_le_of_neg_le (by simpa using h)), neg_zero, min_eq_right h]
  rw [e, hr, EReal.neg_add (Or.inr (EReal.coe_ne_top r)) (Or.inr (EReal.coe_ne_bot r)), hm]

/-- The head norm's derivative as the product rule gives it. -/
def headRule (x d : Fin 128 → EReal) (w : Fin 128) : EReal :=
  d w * rms x + Ideal.div ((∑ q : Fin 128, x q * d q) * (Ideal.ofBits .f32 0xBF000000#32 * Ideal.div (rms x) (Ideal.div (∑ q : Fin 128, x q * x q) headWidth + rmsEps))) headWidth
    * (Ideal.ofBits .f32 0x40000000#32 * x w)

theorem sum_scale (r : ℝ) (hr : 0 ≤ r) (f : Fin 128 → EReal) : ∑ q : Fin 128, (r : EReal) * f q = (r : EReal) * ∑ q : Fin 128, f q := by
  classical
  refine Finset.induction_on (Finset.univ : Finset (Fin 128)) (by simp) fun a s h ih => ?_
  rw [Finset.sum_insert h, Finset.sum_insert h, ih, EReal.left_distrib_of_nonneg_of_ne_top (EReal.coe_nonneg.2 hr) (EReal.coe_ne_top _)]

/-- The kernel's form of the norm's derivative is the product rule's, whatever the head and the cotangent. -/
theorem head_rule (x d : Fin 128 → EReal) (w : Fin 128) :
    headRule x d w = rms x * (d w - normed x w * Ideal.div (∑ q : Fin 128, d q * normed x q) headWidth) := by
  obtain ⟨e, he, hw⟩ := word_rms_eps
  by_cases hx : ∃ j, x j * x j = ⊤
  · obtain ⟨j, hj⟩ := hx
    have hr : rms x = 0 := by
      unfold rms
      rw [mean_top x j hj, hw]
      simp
    have h0 : ∀ y : ℝ, y ≠ 0 → Ideal.div 0 (y : EReal) = 0 := fun y hy => by rw [Ideal.div_coe hy, zero_mul]
    have ht : Ideal.div 0 (⊤ + (e : EReal)) = 0 := by
      rw [EReal.top_add_coe]
      simp [Ideal.div]
    unfold headRule
    rw [hr, mean_top x j hj, hw, ht, mul_zero, mul_zero, mul_zero, zero_mul, word_128, h0 128 (by norm_num), zero_mul, zero_add]
  · have hxr : ∀ q, Real' (x q) := fun q => by
      have h : x q * x q ≠ ⊤ := fun h => hx ⟨q, h⟩
      generalize x q = y at h
      induction y with
      | bot => simp at h
      | top => simp at h
      | coe r => exact ⟨r, rfl⟩
    choose x' hx' using hxr
    have hv : 0 < (∑ q, x' q * x' q) * (1 / 128) + e := by
      have : 0 ≤ ∑ q, x' q * x' q := Finset.sum_nonneg fun k _ => mul_self_nonneg _
      positivity
    have hm : Ideal.div (∑ q : Fin 128, x q * x q) headWidth + rmsEps = (((∑ q, x' q * x' q) * (1 / 128) + e : ℝ) : EReal) := by
      simp only [hx', hw, word_128, Ideal.div_coe (show (128 : ℝ) ≠ 0 by norm_num), ← EReal.coe_mul, ← coe_sum, ← EReal.coe_add]
    unfold headRule normed rms
    rw [hm]
    generalize (∑ q, x' q * x' q) * (1 / 128) + e = v at hv
    have hs : (Real.sqrt v)⁻¹ * (Real.sqrt v)⁻¹ = 1 / v := by rw [← mul_inv, Real.mul_self_sqrt hv.le, one_div]
    have hr : 0 ≤ (Real.sqrt v)⁻¹ := inv_nonneg.2 (Real.sqrt_nonneg v)
    rw [rsqrt_pos hv]
    generalize (Real.sqrt v)⁻¹ = s at hs hr
    have hsum : ∑ q, d q * (x q * (s : EReal)) = (s : EReal) * ∑ q, x q * d q := by
      rw [← sum_scale s hr]
      exact Finset.sum_congr rfl fun q _ => by ac_rfl
    rw [hsum]
    generalize ∑ q, x q * d q = S
    rw [hx' w, word_128, word_2, word_neg_half, Ideal.div_coe (show (128 : ℝ) ≠ 0 by norm_num), Ideal.div_coe (show (128 : ℝ) ≠ 0 by norm_num), Ideal.div_coe hv.ne',
      sub_eq_add_neg, EReal.left_distrib_of_nonneg_of_ne_top (EReal.coe_nonneg.2 hr) (EReal.coe_ne_top _)]
    refine congrArg₂ (· + ·) (mul_comm _ _) ?_
    have e1 : ∀ a b c : ℝ, S * (a : EReal) * b * c = S * ((a * b * c : ℝ) : EReal) := fun a b c => by
      simp only [EReal.coe_mul, mul_assoc]
    have e2 : ∀ a b : ℝ, (s : EReal) * -((a : EReal) * s * (s * S * b)) = S * ((-(s * (a * s * (s * b))) : ℝ) : EReal) := fun a b => by
      simp only [EReal.coe_neg, EReal.coe_mul, mul_neg]
      refine congrArg _ ?_
      ac_rfl
    rw [e2, ← EReal.coe_mul, ← EReal.coe_mul, ← EReal.coe_mul, e1]
    refine congrArg (fun y : ℝ => S * (y : EReal)) ?_
    rw [← hs]
    ring

/-- The query's gradient of the step's arrays: of head `h` and lane `j`, at row `t` of chunk `n`. -/
def queryOf (A0 : (⟨2, ![4096, 3200]⟩ : Shape).Idx → EReal) (A1 : (⟨2, ![4096, 1024]⟩ : Shape).Idx → EReal) (A2 : (⟨2, ![4096, 512]⟩ : Shape).Idx → EReal)
    (A3 : (⟨4, ![64, 4, 64, 128]⟩ : Shape).Idx → EReal) (A4 : (⟨2, ![128, 256]⟩ : Shape).Idx → EReal) (A5 : (⟨2, ![1, 256]⟩ : Shape).Idx → EReal)
    (A6 : (⟨2, ![1, 128]⟩ : Shape).Idx → EReal) (n t : Fin 64) (h : Fin 4) (j : Fin 64) : EReal :=
  queryGrad (fun u => logDecay (∑ q : Fin 128, A0 (ix2 ⟨n.val * 64 + u.val, by omega⟩ ⟨3072 + q.val, by omega⟩) * A4 (ix2 q ⟨h.val * 64 + j.val, by omega⟩) + A5 (ix2 0 ⟨h.val * 64 + j.val, by omega⟩)))
    (fun u => A0 (ix2 ⟨n.val * 64 + u.val, by omega⟩ ⟨1792 + (h.val * 64 + j.val), by omega⟩)) (fun u w => A0 (ix2 ⟨n.val * 64 + u.val, by omega⟩ ⟨2048 + (h.val * 128 + w.val), by omega⟩))
    (headGrad (fun q => A2 (ix2 ⟨n.val * 64 + t.val, by omega⟩ ⟨h.val * 128 + q.val, by omega⟩)) (fun q => A0 (ix2 ⟨n.val * 64 + t.val, by omega⟩ ⟨2560 + (h.val * 128 + q.val), by omega⟩))
      (fun q => A1 (ix2 ⟨n.val * 64 + t.val, by omega⟩ ⟨512 + (h.val * 128 + q.val), by omega⟩)) (fun q => A6 (ix2 0 q)))
    (fun w => A3 (ix4 n h j w)) t

theorem headGrad_congr {x z z' d d' g : Fin 128 → EReal} (hz : ∀ q, z q = z' q) (hd : ∀ q, d q = d' q) (w : Fin 128) : headGrad x z d g w = headGrad x z' d' g w := by
  rw [funext hz, funext hd]

/-- The gate's gradient as the product rule gives it. -/
def gateRule (x : Fin 128 → EReal) (z d g : EReal) (j : Fin 128) : EReal :=
  d * normed x j * g * gateSig z + z * (d * normed x j * g) * (gateSig z * (1 - gateSig z))

theorem swap (a g d : EReal) : a * g * d = d * a * g := by rw [mul_comm, mul_assoc]

end Cert.Proof

end
-- ==== Proof.GateTile.lean ====
/- The gated linear attention's output gate and head norm: what a tile leaves. -/
module

public import proofs.«01_k».proof.Proof.GateSpec

@[expose] public section

set_option maxRecDepth 16384

noncomputable section

namespace Cert.KernelIdeal.Gate

open Idealize.ShloMosaic Idealize.ShloMosaic.TcCoe Idealize.SL.Sem Cert.Proof Cert.KernelIdeal Cert.KernelIdeal.Gen
open Idealize.ShloMosaic.Pipeline (Dat)

variable (m : (ℓ : Loc nD τ sig) → Buf (Elt Ideal) ℓ)

/-- The rows' gate inputs, cotangents and attention outputs, and the gain. -/
def kZ (c : Dev nD) (n : Fin 4096) (s : Fin 512) : EReal := m ((c : Thread nD τ).loc main_arg0) (ix2 n ⟨2560 + s.val, by omega⟩)
def kD (c : Dev nD) (n : Fin 4096) (s : Fin 512) : EReal := m ((c : Thread nD τ).loc main_arg1) (ix2 n ⟨512 + s.val, by omega⟩)
def kX (c : Dev nD) (n : Fin 4096) (s : Fin 512) : EReal := m ((c : Thread nD τ).loc main_arg2) (ix2 n s)
def kG (c : Dev nD) (j : Fin 128) : EReal := m ((c : Thread nD τ).loc main_arg6) (ix2 0 j)

/-- Lane `j` of head `h`, and row `p` of the tile of point `t`: the tiles are taken from the last to the first. -/
def lane (h : Fin 4) (j : Fin 128) : Fin 512 := ⟨h.val * 128 + j.val, by omega⟩

theorem lt16 {n : ℕ} (h : n < cfg0.N) : n < 16 := lt_of_lt_of_eq h N_0

def row (t : Fin cfg0.N) (p : Fin 256) : Fin 4096 := ⟨(15 - t.val) * 256 + p.val, by have := lt16 t.isLt; omega⟩

theorem idx3 : ∀ t : Fin cfg0.N, win0_3.index t 0 = 15 - t.val ∧ win0_3.index t 1 = 5 :=
  (by decide +kernel : ∀ t : Fin grid0.N, win0_3.index t 0 = 15 - t.val ∧ win0_3.index t 1 = 5)
theorem idx5 : ∀ t : Fin cfg0.N, win0_5.index t 0 = 15 - t.val ∧ win0_5.index t 1 = 1 :=
  (by decide +kernel : ∀ t : Fin grid0.N, win0_5.index t 0 = 15 - t.val ∧ win0_5.index t 1 = 1)
theorem idx6 : ∀ t : Fin cfg0.N, win0_6.index t 0 = 15 - t.val ∧ win0_6.index t 1 = 0 :=
  (by decide +kernel : ∀ t : Fin grid0.N, win0_6.index t 0 = 15 - t.val ∧ win0_6.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 15 - t.val ∧ win0_11.index t 1 = 0 :=
  (by decide +kernel : ∀ t : Fin grid0.N, win0_11.index t 0 = 15 - t.val ∧ win0_11.index t 1 = 0)
theorem idx14 : ∀ t : Fin cfg0.N, win0_14.index t 0 = 0 ∧ win0_14.index t 1 = 0 :=
  (by decide +kernel : ∀ t : Fin grid0.N, win0_14.index t 0 = 0 ∧ win0_14.index t 1 = 0)

section
variable (c : Dev nD) (t : Fin cfg0.N) (p : Fin 256)

theorem blk3 (s : Fin 512) : (X0_3 m c t : S256x512.Idx → EReal) (ix2 p s) = kZ m c (row t p) s := by
  have ht := lt16 t.isLt
  unfold X0_3 Pipeline.Window.fill
  rw [dif_pos (moved0_3 t (ix2 p s))]
  unfold kZ row
  rw [← V_main_arg0 m c]
  blk_ext [iblk, idx3 t]
theorem blk5 (s : Fin 512) : (iblk m c 5 t : S256x512.Idx → EReal) (ix2 p s) = kD m c (row t p) s := by
  have ht := lt16 t.isLt
  unfold kD row
  rw [← V_main_arg1 m c]
  blk_ext [iblk, idx5 t]
theorem blk6 (s : Fin 512) : (iblk m c 6 t : S256x512.Idx → EReal) (ix2 p s) = kX m c (row t p) s := by
  have ht := lt16 t.isLt
  unfold kX row
  rw [← V_main_arg2 m c]
  blk_ext [iblk, idx6 t]
theorem blk10 (j : Fin 128) : (iblk m c 10 t : S1x128.Idx → EReal) (ix2 0 j) = kG m c j := by
  have ht := lt16 t.isLt
  unfold kG
  rw [← V_main_arg6 m c]
  blk_ext [iblk, idx10 t]
end

/-- A head's columns read out of a tile's. -/
theorem ld_head (w : Vec Ideal S256x512 .f32) (h : Fin 4) (o : ℕ) (ho : o = h.val * 128)
    (inb : ∀ a, (![0, o] : Fin 2 → ℕ) a + (![256, 128] : Fin 2 → ℕ) a ≤ S256x512.size a) (p : Fin 256) (j : Fin 128) :
    (View.ld w (Rect.unit (s := S256x512) ![0, o] ![256, 128] inb) (ix2 p j) : EReal) = w (ix2 p (lane h j)) := by
  subst ho
  refine View.ld_unit_apply_of _ _ _ _ _ (ix2 p (lane h j)) fun a => ?_
  unfold lane
  fin_cases a <;> simp

theorem gateGrad_congr {x x' : Fin 128 → EReal} {z z' d d' g g' : EReal} (j : Fin 128) (hx : ∀ q, x q = x' q) (hz : z = z') (hd : d = d') (hg : g = g') :
    gateGrad x z d g j = gateGrad x' z' d' g' j := by
  rw [funext hx, hz, hd, hg]
theorem gainTerm_congr {x x' : Fin 128 → EReal} {z z' d d' : EReal} (j : Fin 128) (hx : ∀ q, x q = x' q) (hz : z = z') (hd : d = d') :
    gainTerm x z d j = gainTerm x' z' d' j := by
  rw [funext hx, hz, hd]

/-- The gate's gradient at row `n`, head `h` and lane `j`; the gain's term there. -/
def gateAt (c : Dev nD) (n : Fin 4096) (h : Fin 4) (j : Fin 128) : EReal :=
  gateGrad (fun q => kX m c n (lane h q)) (kZ m c n (lane h j)) (kD m c n (lane h j)) (kG m c j) j
def gainAt (c : Dev nD) (n : Fin 4096) (h : Fin 4) (j : Fin 128) : EReal :=
  gainTerm (fun q => kX m c n (lane h q)) (kZ m c n (lane h j)) (kD m c n (lane h j)) j

section
variable (c : Dev nD) (t : Fin cfg0.N) (h : Fin 4) (o : ℕ) (ho : o = h.val * 128)
  (inb : ∀ a, (![0, o] : Fin 2 → ℕ) a + (![256, 128] : Fin 2 → ℕ) a ≤ S256x512.size a)
include ho

theorem head_grad (p : Fin 256) (j : Fin 128) :
    gateGrad (fun q => View.ld (iblk m c 6 t) (Rect.unit (s := S256x512) ![0, o] ![256, 128] inb) (ix2 p q))
      (View.ld (X0_3 m c t) (Rect.unit (s := S256x512) ![0, o] ![256, 128] inb) (ix2 p j))
      (View.ld (iblk m c 5 t) (Rect.unit (s := S256x512) ![0, o] ![256, 128] inb) (ix2 p j)) ((iblk m c 10 t : S1x128.Idx → EReal) (ix2 0 j)) j
    = gateAt m c (row t p) h j :=
  gateGrad_congr j (fun q => (ld_head (iblk m c 6 t) h o ho inb p q).trans (blk6 m c t p _)) ((ld_head (X0_3 m c t) h o ho inb p j).trans (blk3 m c t p _))
    ((ld_head (iblk m c 5 t) h o ho inb p j).trans (blk5 m c t p _)) (blk10 m c t j)
theorem head_sum (j : Fin 128) :
    headSum (View.ld (iblk m c 6 t) (Rect.unit (s := S256x512) ![0, o] ![256, 128] inb))
      (View.ld (X0_3 m c t) (Rect.unit (s := S256x512) ![0, o] ![256, 128] inb))
      (View.ld (iblk m c 5 t) (Rect.unit (s := S256x512) ![0, o] ![256, 128] inb)) j
    = ∑ p : Fin 256, gainAt m c (row t p) h j :=
  Finset.sum_congr rfl fun p _ => gainTerm_congr j (fun q => (ld_head (iblk m c 6 t) h o ho inb p q).trans (blk6 m c t p _))
    ((ld_head (X0_3 m c t) h o ho inb p j).trans (blk3 m c t p _)) ((ld_head (iblk m c 5 t) h o ho inb p j).trans (blk5 m c t p _))
end

/-- The tile's stores, read in the gate's columns: the seven last go past them, the four first are the heads'. -/
theorem gate_columns (u0 u2 u3 u5 u6 w0 w1 w2 w3 : Vec Ideal S256x128 .bf16) (u1 u4 : Vec Ideal S256x256 .bf16) (f : Fin 4 → Fin 256 → Fin 128 → EReal)
    (h0 : ∀ p j, w0 (ix2 p j) = f 0 p j) (h1 : ∀ p j, w1 (ix2 p j) = f 1 p j) (h2 : ∀ p j, w2 (ix2 p j) = f 2 p j) (h3 : ∀ p j, w3 (ix2 p j) = f 3 p j)
    (h : Fin 4) (p : Fin 256) (j : Fin 128) :
    View.canon (Val := Elt Ideal) (s := S256x1664) (e := .bf16)
      [⟨Rect.unit (s := S256x1664) ![0, 1536] S256x128.size inb_S256x1664_S256x128_0_1536, u0⟩,
       ⟨Rect.unit (s := S256x1664) ![0, 768] S256x256.size inb_S256x1664_S256x256_0_768, u1⟩,
       ⟨Rect.unit (s := S256x1664) ![0, 384] S256x128.size inb_S256x1664_S256x128_0_384, u2⟩,
       ⟨Rect.unit (s := S256x1664) ![0, 128] S256x128.size inb_S256x1664_S256x128_0_128, u3⟩,
       ⟨Rect.unit (s := S256x1664) ![0, 512] S256x256.size inb_S256x1664_S256x256_0_512, u4⟩,
       ⟨Rect.unit (s := S256x1664) ![0, 256] S256x128.size inb_S256x1664_S256x128_0_256, u5⟩,
       ⟨Rect.unit (s := S256x1664) ![0, 0] S256x128.size inb_S256x1664_S256x128_0_0, u6⟩,
       ⟨Rect.unit (s := S256x1664) ![0, 1408] S256x128.size inb_S256x1664_S256x128_0_1408, w3⟩,
       ⟨Rect.unit (s := S256x1664) ![0, 1280] S256x128.size inb_S256x1664_S256x128_0_1280, w2⟩,
       ⟨Rect.unit (s := S256x1664) ![0, 1152] S256x128.size inb_S256x1664_S256x128_0_1152, w1⟩,
       ⟨Rect.unit (s := S256x1664) ![0, 1024] S256x128.size inb_S256x1664_S256x128_0_1024, w0⟩]
      (ix2 p ⟨1024 + h.val * 128 + j.val, by omega⟩) = f h p j := by
  refine (canon_miss _ _ _ _ 1 (Or.inl ?_)).trans ?_
  · show 1024 + h.val * 128 + j.val < 1536
    omega
  iterate 6
    refine (canon_miss _ _ _ _ 1 (Or.inr ?_)).trans ?_
    · simp <;> omega
  by_cases e3 : h = 3
  · subst e3
    refine (canon_hit _ _ _ _ (ix2 p j) ?_).trans (h3 p j)
    intro a; fin_cases a <;> simp
  refine (canon_miss _ _ _ _ 1 (Or.inl ?_)).trans ?_
  · show 1024 + h.val * 128 + j.val < 1408
    omega
  by_cases e2 : h = 2
  · subst e2
    refine (canon_hit _ _ _ _ (ix2 p j) ?_).trans (h2 p j)
    intro a; fin_cases a <;> simp
  refine (canon_miss _ _ _ _ 1 (Or.inl ?_)).trans ?_
  · show 1024 + h.val * 128 + j.val < 1280
    omega
  by_cases e1 : h = 1
  · subst e1
    refine (canon_hit _ _ _ _ (ix2 p j) ?_).trans (h1 p j)
    intro a; fin_cases a <;> simp
  refine (canon_miss _ _ _ _ 1 (Or.inl ?_)).trans ?_
  · show 1024 + h.val * 128 + j.val < 1152
    omega
  obtain rfl : h = 0 := by omega
  refine (canon_hit _ _ _ _ (ix2 p j) ?_).trans (h0 p j)
  intro a; fin_cases a <;> simp

/-- The gate's columns of a tile. -/
theorem tile_gate (c : Dev nD) (t : Fin cfg0.N) (h : Fin 4) (p : Fin 256) (j : Fin 128) :
    ((outsAt0 m c t.val t.isLt).1 (ix2 p ⟨1024 + h.val * 128 + j.val, by omega⟩) : EReal) = gateAt m c (row t p) h j := by
  by_cases h0 : t.val % 16 = 0
  · rw [outsAt0_A m c t h0]
    frame_out
    exact gate_columns _ _ _ _ _ _ _ _ _ _ _ (fun h p j => gateAt m c (row t p) h j)
      (fun p j => (store0 _ _ _ _ p j).trans (head_grad m c t 0 0 rfl _ p j)) (fun p j => (store1 _ _ _ _ p j).trans (head_grad m c t 1 128 rfl _ p j))
      (fun p j => (store2 _ _ _ _ p j).trans (head_grad m c t 2 256 rfl _ p j)) (fun p j => (store3 _ _ _ _ p j).trans (head_grad m c t 3 384 rfl _ p j)) h p j
  · rw [outsAt0_B m c t h0]
    frame_out
    exact gate_columns _ _ _ _ _ _ _ _ _ _ _ (fun h p j => gateAt m c (row t p) h j)
      (fun p j => (store0 _ _ _ _ p j).trans (head_grad m c t 0 0 rfl _ p j)) (fun p j => (store1 _ _ _ _ p j).trans (head_grad m c t 1 128 rfl _ p j))
      (fun p j => (store2 _ _ _ _ p j).trans (head_grad m c t 2 256 rfl _ p j)) (fun p j => (store3 _ _ _ _ p j).trans (head_grad m c t 3 384 rfl _ p j)) h p j

/-- What a tile adds to the gain's gradient. -/
def gainTile (c : Dev nD) (t : Fin cfg0.N) (j : Fin 128) : EReal :=
  ∑ p : Fin 256, gainAt m c (row t p) 0 j + ∑ p : Fin 256, gainAt m c (row t p) 1 j
    + ∑ p : Fin 256, gainAt m c (row t p) 2 j + ∑ p : Fin 256, gainAt m c (row t p) 3 j

theorem gain_heads (c : Dev nD) (t : Fin cfg0.N) (j : Fin 128) (b : Vec Ideal S1x128 .f32)
    (i0 : ∀ a, (![0, 0] : Fin 2 → ℕ) a + (![256, 128] : Fin 2 → ℕ) a ≤ S256x512.size a) (i1 : ∀ a, (![0, 128] : Fin 2 → ℕ) a + (![256, 128] : Fin 2 → ℕ) a ≤ S256x512.size a)
    (i2 : ∀ a, (![0, 256] : Fin 2 → ℕ) a + (![256, 128] : Fin 2 → ℕ) a ≤ S256x512.size a) (i3 : ∀ a, (![0, 384] : Fin 2 → ℕ) a + (![256, 128] : Fin 2 → ℕ) a ≤ S256x512.size a) :
    let X o (inb : ∀ a, (![0, o] : Fin 2 → ℕ) a + (![256, 128] : Fin 2 → ℕ) a ≤ S256x512.size a) : Vec Ideal S256x128 .f32 :=
      View.ld (iblk m c 6 t) (Rect.unit (s := S256x512) ![0, o] ![256, 128] inb)
    let Z o (inb : ∀ a, (![0, o] : Fin 2 → ℕ) a + (![256, 128] : Fin 2 → ℕ) a ≤ S256x512.size a) : Vec Ideal S256x128 .f32 :=
      View.ld (X0_3 m c t) (Rect.unit (s := S256x512) ![0, o] ![256, 128] inb)
    let D o (inb : ∀ a, (![0, o] : Fin 2 → ℕ) a + (![256, 128] : Fin 2 → ℕ) a ≤ S256x512.size a) : Vec Ideal S256x128 .f32 :=
      View.ld (iblk m c 5 t) (Rect.unit (s := S256x512) ![0, o] ![256, 128] inb)
    (k0_pay240 (F := Ideal) (k0_pay114 (k0_pay106 (k0_pay56 (k0_pay48 k0_pay26 (k0_pay44 (X 0 i0)) (Z 0 i0) (D 0 i0)) (X 128 i1) (k0_pay50 (X 128 i1)) (Z 128 i1) (D 128 i1))
      (k0_pay100 (X 256 i2)) (k0_pay102 (Z 256 i2)) (D 256 i2)) (k0_pay109 (X 384 i3)) (Z 384 i3) (k0_pay110 (Z 384 i3)) (FloatOps.ofBits FTy.f32 1065353216#32) (D 384 i3)) b (ix2 0 j) : EReal)
    = b (ix2 0 j) + gainTile m c t j := by
  intro X Z D
  refine (gain_next _ j b).trans (congrArg (fun z : EReal => b (ix2 0 j) + z) ?_)
  refine (gain3 _ _ _ _ j).trans (congrArg₂ (· + ·) ?_ (head_sum m c t 3 384 rfl i3 j))
  refine (gain2 _ _ _ _ j).trans (congrArg₂ (· + ·) ?_ (head_sum m c t 2 256 rfl i2 j))
  refine (gain1 _ _ _ _ j).trans (congrArg₂ (· + ·) ?_ (head_sum m c t 1 128 rfl i1 j))
  refine (gain0 _ _ _ _ j).trans ((congrArg₂ (· + ·) (gain_zero j) (head_sum m c t 0 0 rfl i0 j)).trans (zero_add _))

theorem first (c : Dev nD) (t : Fin cfg0.N) (h : t.val % 16 = 0) (i : S1x128.Idx) :
    (outsAt0 m c t.val t.isLt).2.2.2.1 i = (fun _ => 0 : S1x128.Idx → EReal) i + gainTile m c t (i 1) := by
  obtain ⟨z, j, rfl⟩ : ∃ (z : Fin 1) (j : Fin 128), i = ix2 z j := ⟨i 0, i 1, eq_ix2 i⟩
  obtain rfl : z = 0 := Subsingleton.elim _ _
  rw [outsAt0_A m c t h]
  frame_out
  exact (gain_heads m c t j _ _ _ _ _).trans (congrArg (fun z : EReal => z + gainTile m c t j) (gain_reset j))

theorem next (c : Dev nD) (t : Fin cfg0.N) (h : ¬t.val % 16 = 0) (i : S1x128.Idx) :
    (outsAt0 m c t.val t.isLt).2.2.2.1 i
    = (show EReal from (outsAt0 m c (t.val - 1) (Nat.lt_of_le_of_lt (Nat.sub_le _ _) t.isLt)).2.2.2.1 i) + gainTile m c t (i 1) := by
  obtain ⟨z, j, rfl⟩ : ∃ (z : Fin 1) (j : Fin 128), i = ix2 z j := ⟨i 0, i 1, eq_ix2 i⟩
  obtain rfl : z = 0 := Subsingleton.elim _ _
  rw [outsAt0_B m c t h]
  frame_out
  exact gain_heads m c t j _ _ _ _ _

end Cert.KernelIdeal.Gate

end
-- ==== Proof.GlaTile.lean ====
/- The gated linear attention's queries: what a tile reads. -/
module

public import proofs.«01_k».proof.Proof.GlaReal
public import proofs.«01_k».proof.Proof.GateTile

@[expose] public section

set_option maxRecDepth 16384

noncomputable section

namespace Cert.KernelIdeal.Gate

open Idealize.ShloMosaic Idealize.ShloMosaic.TcCoe Idealize.SL.Sem Cert.Proof Cert.KernelIdeal Cert.KernelIdeal.Gen
open Idealize.ShloMosaic.Pipeline (Dat)

variable (m : (ℓ : Loc nD τ sig) → Buf (Elt Ideal) ℓ)

/-- The rows' keys, values and decay inputs, the chunks' states, and the decays' weights and bias. -/
def kK (c : Dev nD) (n : Fin 4096) (s : Fin 256) : EReal := m ((c : Thread nD τ).loc main_arg0) (ix2 n ⟨1792 + s.val, by omega⟩)
def kV (c : Dev nD) (n : Fin 4096) (s : Fin 512) : EReal := m ((c : Thread nD τ).loc main_arg0) (ix2 n ⟨2048 + s.val, by omega⟩)
def kA (c : Dev nD) (n : Fin 4096) (s : Fin 128) : EReal := m ((c : Thread nD τ).loc main_arg0) (ix2 n ⟨3072 + s.val, by omega⟩)
def kS (c : Dev nD) (n : Fin 64) (h : Fin 4) (j : Fin 64) (w : Fin 128) : EReal := m ((c : Thread nD τ).loc main_arg3) (ix4 n h j w)
def kW (c : Dev nD) (q : Fin 128) (s : Fin 256) : EReal := m ((c : Thread nD τ).loc main_arg4) (ix2 q s)
def kB (c : Dev nD) (s : Fin 256) : EReal := m ((c : Thread nD τ).loc main_arg5) (ix2 0 s)

theorem idx1 : ∀ t : Fin cfg0.N, win0_1.index t 0 = 15 - t.val ∧ win0_1.index t 1 = 7 :=
  (by decide +kernel : ∀ t : Fin grid0.N, win0_1.index t 0 = 15 - t.val ∧ win0_1.index t 1 = 7)
theorem idx2 : ∀ t : Fin cfg0.N, win0_2.index t 0 = 15 - t.val ∧ win0_2.index t 1 = 4 :=
  (by decide +kernel : ∀ t : Fin grid0.N, win0_2.index t 0 = 15 - t.val ∧ win0_2.index t 1 = 4)
theorem idx4 : ∀ t : Fin cfg0.N, win0_4.index t 0 = 15 - t.val ∧ win0_4.index t 1 = 24 :=
  (by decide +kernel : ∀ t : Fin grid0.N, win0_4.index t 0 = 15 - t.val ∧ win0_4.index t 1 = 24)
theorem idx7 : ∀ t : Fin cfg0.N, win0_7.index t 0 = 15 - t.val ∧ win0_7.index t 1 = 0 ∧ win0_7.index t 2 = 0 ∧ win0_7.index t 3 = 0 :=
  (by decide +kernel : ∀ t : Fin grid0.N, win0_7.index t 0 = 15 - t.val ∧ win0_7.index t 1 = 0 ∧ win0_7.index t 2 = 0 ∧ win0_7.index t 3 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)

theorem cat2 {a a' b b' : Vec Ideal S64x2x64x256 .f32} (ha : a = a') (hb : b = b') :
    concatenate S64x2x128x256 2 [⟨S64x2x64x256, a⟩, ⟨S64x2x64x256, b⟩] concatenates_S64x2x64x256_S64x2x64x256_S64x2x128x256_d2
    = concatenate S64x2x128x256 2 [⟨S64x2x64x256, a'⟩, ⟨S64x2x64x256, b'⟩] concatenates_S64x2x64x256_S64x2x64x256_S64x2x128x256_d2 := by
  rw [ha, hb]
theorem cat3 {a a' b b' : Vec Ideal S64x2x64x128 .f32} (ha : a = a') (hb : b = b') :
    concatenate S64x2x64x256 3 [⟨S64x2x64x128, a⟩, ⟨S64x2x64x128, b⟩] concatenates_S64x2x64x128_S64x2x64x128_S64x2x64x256_d3
    = concatenate S64x2x64x256 3 [⟨S64x2x64x128, a'⟩, ⟨S64x2x64x128, b'⟩] concatenates_S64x2x64x128_S64x2x64x128_S64x2x64x256_d3 := by
  rw [ha, hb]
/-- The first and second heads of every pair. -/
def firsts (c : Dev nD) : Vec Ideal S64x2x64x128 .f32 :=
  Host.slice S64x2x64x128 ![0, 0, 0, 0] ![1, 2, 1, 1] (m (c, Proc.tc.devRef main_arg3)) slicesBy_S64x4x64x128_S64x2x64x128_0s1_0s2_0s1_0s1
def seconds (c : Dev nD) : Vec Ideal S64x2x64x128 .f32 :=
  Host.slice S64x2x64x128 ![0, 1, 0, 0] ![1, 2, 1, 1] (m (c, Proc.tc.devRef main_arg3)) slicesBy_S64x4x64x128_S64x2x64x128_0s1_1s2_0s1_0s1
def zeros : Vec Ideal S64x2x64x128 .f32 := broadcastInDim S64x2x64x128 ![] bcast_S_S64x2x64x128 (constant (F := Ideal) S_ FTy.f32 0#32)

theorem entry_pairs (c : Dev nD) :
    (V m c main_v6 : S64x2x128x256.Idx → EReal)
    = concatenate S64x2x128x256 2 [⟨S64x2x64x256, concatenate S64x2x64x256 3 [⟨S64x2x64x128, firsts m c⟩, ⟨S64x2x64x128, zeros⟩] concatenates_S64x2x64x128_S64x2x64x128_S64x2x64x256_d3⟩,
        ⟨S64x2x64x256, concatenate S64x2x64x256 3 [⟨S64x2x64x128, zeros⟩, ⟨S64x2x64x128, seconds m c⟩] concatenates_S64x2x64x128_S64x2x64x128_S64x2x64x256_d3⟩]
        concatenates_S64x2x64x256_S64x2x64x256_S64x2x128x256_d2 := by
  unfold V
  simp only [StableHlo.after_cons, StableHlo.after_nil]
  refine (StableHlo.binary_result ..).trans ?_
  refine cat2 ?_ ?_
  · after_results_simp
    refine cat3 ?_ ?_ <;> (try after_results_simp) <;> rfl
  · after_results_simp
    refine cat3 ?_ ?_ <;> (try after_results_simp) <;> rfl

section
variable (c : Dev nD) (t : Fin cfg0.N) (p : Fin 256)

theorem blk1 (s : Fin 256) : (X0_1 m c t : S256x256.Idx → EReal) (ix2 p s) = kK m c (row t p) s := by
  have ht := lt16 t.isLt
  unfold X0_1 Pipeline.Window.fill
  rw [dif_pos (moved0_1 t (ix2 p s))]
  unfold kK row
  rw [← V_main_arg0 m c]
  blk_ext [iblk, idx1 t]
theorem blk2 (s : Fin 512) : (X0_2 m c t : S256x512.Idx → EReal) (ix2 p s) = kV m c (row t p) s := by
  have ht := lt16 t.isLt
  unfold X0_2 Pipeline.Window.fill
  rw [dif_pos (moved0_2 t (ix2 p s))]
  unfold kV row
  rw [← V_main_arg0 m c]
  blk_ext [iblk, idx2 t]
theorem blk4 (s : Fin 128) : (iblk m c 4 t : S256x128.Idx → EReal) (ix2 p s) = kA m c (row t p) s := by
  have ht := lt16 t.isLt
  unfold kA row
  rw [← V_main_arg0 m c]
  blk_ext [iblk, idx4 t]
theorem blk8 (q : Fin 128) (s : Fin 256) : (iblk m c 8 t : S128x256.Idx → EReal) (ix2 q s) = kW m c q s := by
  have ht := lt16 t.isLt
  unfold kW
  rw [← V_main_arg4 m c]
  blk_ext [iblk, idx8 t]
theorem blk9 (s : Fin 256) : (iblk m c 9 t : S1x256.Idx → EReal) (ix2 0 s) = kB m c s := by
  have ht := lt16 t.isLt
  unfold kB
  rw [← V_main_arg5 m c]
  blk_ext [iblk, idx9 t]

theorem firsts_at (n : Fin 64) (P : Fin 2) (j : Fin 64) (w : Fin 128) : (firsts m c (ix4 n P j w) : EReal) = kS m c n ⟨2 * P.val, by omega⟩ j w := by
  unfold kS
  pointwise [firsts]
theorem seconds_at (n : Fin 64) (P : Fin 2) (j : Fin 64) (w : Fin 128) : (seconds m c (ix4 n P j w) : EReal) = kS m c n ⟨1 + 2 * P.val, by omega⟩ j w := by
  unfold kS
  pointwise [seconds]
theorem zeros_at (i : S64x2x64x128.Idx) : (zeros i : EReal) = 0 := by
  pointwise [zeros]

/-- A pair's states stand on the diagonal of what the region finds. -/
theorem entry_s (n : Fin 64) (P : Fin 2) (l : Fin 128) (x : Fin 256) :
    (V m c main_v6 : S64x2x128x256.Idx → EReal) (ix4 n P l x)
    = if l.val / 64 = x.val / 128 then kS m c n ⟨2 * P.val + l.val / 64, by omega⟩ ⟨l.val % 64, by omega⟩ ⟨x.val % 128, by omega⟩ else 0 := by
  rw [entry_pairs]
  pointwise []
  by_cases hl : l.val < 64 <;> by_cases hx : x.val < 128
  · rw [dif_pos hl, dif_pos hx, if_pos (show l.val / 64 = x.val / 128 by omega), firsts_at]
    exact congr (congrArg₂ (kS m c n) (Fin.ext (show 2 * P.val = 2 * P.val + l.val / 64 by omega)) (Fin.ext (show l.val = l.val % 64 by omega))) (Fin.ext (show x.val = x.val % 128 by omega))
  · rw [dif_pos hl, dif_neg hx, if_neg (show ¬l.val / 64 = x.val / 128 by omega), zeros_at]
  · rw [dif_neg hl, dif_pos hx, if_neg (show ¬l.val / 64 = x.val / 128 by omega), zeros_at]
  · rw [dif_neg hl, dif_neg hx, if_pos (show l.val / 64 = x.val / 128 by omega), seconds_at]
    exact congr (congrArg₂ (kS m c n) (Fin.ext (show 1 + 2 * P.val = 2 * P.val + l.val / 64 by omega)) (Fin.ext (show l.val - 64 = l.val % 64 by omega))) (Fin.ext (show x.val - 128 = x.val % 128 by omega))
end

/-- Row `u` of chunk `n`, chunk `k` of a tile, and the head of a query's column. -/
def chunk (n u : Fin 64) : Fin 4096 := ⟨n.val * 64 + u.val, by omega⟩
def part (t : Fin cfg0.N) (k : Fin 4) : Fin 64 := ⟨(15 - t.val) * 4 + k.val, by have := lt16 t.isLt; omega⟩
def head (s : Fin 256) : Fin 4 := ⟨s.val / 64, by omega⟩
theorem row_tok (t : Fin cfg0.N) (k : Fin 4) (u : Fin 64) : row t (tok k u) = chunk (part t k) u :=
  Fin.ext (show (15 - t.val) * 256 + (k.val * 64 + u.val) = ((15 - t.val) * 4 + k.val) * 64 + u.val by omega)

/-- The head's cotangent at a row and lane, the log decays at a row and column, and the query's gradient. -/
def headAt (c : Dev nD) (n : Fin 4096) (h : Fin 4) (w : Fin 128) : EReal :=
  headGrad (fun q => kX m c n (lane h q)) (fun q => kZ m c n (lane h q)) (fun q => kD m c n (lane h q)) (kG m c) w
def decayAt (c : Dev nD) (n : Fin 4096) (s : Fin 256) : EReal := logDecay (∑ q : Fin 128, kA m c n q * kW m c q s + kB m c s)
def queryAt (c : Dev nD) (n u : Fin 64) (s : Fin 256) : EReal :=
  queryGrad (fun v => decayAt m c (chunk n v) s) (fun v => kK m c (chunk n v) s) (fun v w => kV m c (chunk n v) (lane (head s) w))
    (headAt m c (chunk n u) (head s)) (fun w => kS m c n (head s) ⟨s.val % 64, by omega⟩ w) u

theorem queryGrad_congr {g g' k k' : Fin 64 → EReal} {v v' : Fin 64 → Fin 128 → EReal} {d d' s s' : Fin 128 → EReal} (t : Fin 64) (hg : ∀ u, g u = g' u) (hk : ∀ u, k u = k' u)
    (hv : ∀ u w, v u w = v' u w) (hd : ∀ w, d w = d' w) (hs : ∀ w, s w = s' w) : queryGrad g k v d s t = queryGrad g' k' v' d' s' t := by
  rw [funext hg, funext hk, funext fun u => funext (hv u), funext hd, funext hs]

/-- A head of a pair. -/
def headOf (P h : Fin 2) : Fin 4 := ⟨2 * P.val + h.val, by omega⟩

/-- What a pair's arrays give in a tile. -/
theorem pair_query (c : Dev nD) (t : Fin cfg0.N) (P : Fin 2) (g k : Vec Ideal S256x128 .f32) (vv : Vec Ideal S256x256 .f32) (dd : Vec Ideal S256x256 .bf16) (S : Fin 4 → Vec Ideal S1x1x128x256 .f32)
    (hg : ∀ p l, (g (ix2 p l) : EReal) = decayAt m c (row t p) (col P l)) (hk : ∀ p l, (k (ix2 p l) : EReal) = kK m c (row t p) (col P l))
    (hv : ∀ p h w, (vv (ix2 p (col h w)) : EReal) = kV m c (row t p) (lane (headOf P h) w)) (hd : ∀ p h w, (dd (ix2 p (col h w)) : EReal) = headAt m c (row t p) (headOf P h) w)
    (hs : ∀ n l x, (S n (ix4 0 0 l x) : EReal) = (V m c main_v6 : S64x2x128x256.Idx → EReal) (ix4 (part t n) P l x)) (n : Fin 4) (u : Fin 64) (l : Fin 128) :
    (∀ s, (g (ix2 s l) : EReal) ≠ ⊤) ∧ (∀ x : Fin 256, (half l).val ≠ x.val / 128 → (S n (ix4 0 0 l x) : EReal) = 0) ∧
    queryGrad (fun u => (g (ix2 (tok n u) l) : EReal)) (fun u => k (ix2 (tok n u) l)) (fun u w => vv (ix2 (tok n u) (col (half l) w)))
      (fun w => dd (ix2 (tok n u) (col (half l) w))) (fun w => S n (ix4 0 0 l (col (half l) w))) u = queryAt m c (part t n) u (col P l) := by
  have e : headOf P (half l) = head (col P l) := Fin.ext (show 2 * P.val + l.val / 64 = (P.val * 128 + l.val) / 64 by omega)
  refine ⟨fun s => ?_, fun x hx => ?_, queryGrad_congr u (fun v => ?_) (fun v => ?_) (fun v w => ?_) (fun w => ?_) fun w => ?_⟩
  · rw [hg]; exact logDecay_ne_top _
  · rw [hs, entry_s]
    exact if_neg hx
  · rw [hg, row_tok]
  · rw [hk, row_tok]
  · rw [hv, row_tok, e]
  · rw [hd, row_tok, e]
  · have hw : (col (half l) w).val = l.val / 64 * 128 + w.val := rfl
    rw [hs, entry_s, if_pos (by omega)]
    refine congr (congrArg₂ (kS m c (part t n)) ?_ (Fin.ext ?_)) (Fin.ext ?_)
    · exact Fin.ext (show 2 * P.val + l.val / 64 = (P.val * 128 + l.val) / 64 by omega)
    · show l.val % 64 = (P.val * 128 + l.val) % 64
      omega
    · show (col (half l) w).val % 128 = w.val
      omega

section
variable (c : Dev nD) (t : Fin cfg0.N) (P : Fin 2) (o : ℕ)
/-- The pair's loads. -/
theorem ld_keys (ho : o = P.val * 128) (inb : ∀ a, (![0, o] : Fin 2 → ℕ) a + (![256, 128] : Fin 2 → ℕ) a ≤ S256x256.size a) (p : Fin 256) (l : Fin 128) :
    (View.ld (X0_1 m c t) (Rect.unit (s := S256x256) ![0, o] ![256, 128] inb) (ix2 p l) : EReal) = kK m c (row t p) (col P l) := by
  subst ho
  rw [← blk1 m c t p]
  refine View.ld_unit_apply_of _ _ _ _ _ (ix2 p (col P l)) fun a => ?_
  unfold col
  fin_cases a <;> simp
theorem ld_values (ho : o = P.val * 256) (inb : ∀ a, (![0, o] : Fin 2 → ℕ) a + (![256, 256] : Fin 2 → ℕ) a ≤ S256x512.size a) (p : Fin 256) (h : Fin 2) (w : Fin 128) :
    (View.ld (X0_2 m c t) (Rect.unit (s := S256x512) ![0, o] ![256, 256] inb) (ix2 p (col h w)) : EReal) = kV m c (row t p) (lane (headOf P h) w) := by
  subst ho
  rw [← blk2 m c t p]
  refine View.ld_unit_apply_of _ _ _ _ _ (ix2 p (lane (headOf P h) w)) fun a => ?_
  unfold col lane headOf
  fin_cases a
  · simp
  · simp
    omega
theorem ld_states (k : Fin 4) (q : ℕ) (hq : q = k.val) (ho : o = P.val) (inb : ∀ a, (![q, o, 0, 0] : Fin 4 → ℕ) a + (![1, 1, 128, 256] : Fin 4 → ℕ) a ≤ S4x2x128x256.size a) (l : Fin 128) (x : Fin 256) :
    (View.ld (iblk m c 7 t) (Rect.unit (s := S4x2x128x256) ![q, o, 0, 0] ![1, 1, 128, 256] inb) (ix4 0 0 l x) : EReal)
    = (V m c main_v6 : S64x2x128x256.Idx → EReal) (ix4 (part t k) P l x) := by
  subst ho hq
  have e : (iblk m c 7 t : S4x2x128x256.Idx → EReal) (ix4 k P l x) = (V m c main_v6 : S64x2x128x256.Idx → EReal) (ix4 (part t k) P l x) := by
    have ht := lt16 t.isLt
    unfold part
    blk_ext [iblk, idx7 t]
  rw [← e]
  refine View.ld_unit_apply_of _ _ _ _ _ (ix4 k P l x) fun a => ?_
  fin_cases a <;> simp
end

/-- The tile's stores, read in the queries' columns. -/
theorem query_columns (u0 u2 u3 u5 u6 w0 w1 w2 w3 : Vec Ideal S256x128 .bf16) (u1 u4 : Vec Ideal S256x256 .bf16) (f : Fin 2 → Fin 256 → Fin 128 → EReal)
    (h0 : ∀ p j, u6 (ix2 p j) = f 0 p j) (h1 : ∀ p j, u3 (ix2 p j) = f 1 p j) (P : Fin 2) (p : Fin 256) (j : Fin 128) :
    View.canon (Val := Elt Ideal) (s := S256x1664) (e := .bf16)
      [⟨Rect.unit (s := S256x1664) ![0, 1536] S256x128.size inb_S256x1664_S256x128_0_1536, u0⟩,
       ⟨Rect.unit (s := S256x1664) ![0, 768] S256x256.size inb_S256x1664_S256x256_0_768, u1⟩,
       ⟨Rect.unit (s := S256x1664) ![0, 384] S256x128.size inb_S256x1664_S256x128_0_384, u2⟩,
       ⟨Rect.unit (s := S256x1664) ![0, 128] S256x128.size inb_S256x1664_S256x128_0_128, u3⟩,
       ⟨Rect.unit (s := S256x1664) ![0, 512] S256x256.size inb_S256x1664_S256x256_0_512, u4⟩,
       ⟨Rect.unit (s := S256x1664) ![0, 256] S256x128.size inb_S256x1664_S256x128_0_256, u5⟩,
       ⟨Rect.unit (s := S256x1664) ![0, 0] S256x128.size inb_S256x1664_S256x128_0_0, u6⟩,
       ⟨Rect.unit (s := S256x1664) ![0, 1408] S256x128.size inb_S256x1664_S256x128_0_1408, w3⟩,
       ⟨Rect.unit (s := S256x1664) ![0, 1280] S256x128.size inb_S256x1664_S256x128_0_1280, w2⟩,
       ⟨Rect.unit (s := S256x1664) ![0, 1152] S256x128.size inb_S256x1664_S256x128_0_1152, w1⟩,
       ⟨Rect.unit (s := S256x1664) ![0, 1024] S256x128.size inb_S256x1664_S256x128_0_1024, w0⟩]
      (ix2 p ⟨(col P j).val, by omega⟩) = f P p j := by
  have hc : (col P j).val = P.val * 128 + j.val := rfl
  iterate 3
    refine (canon_miss _ _ _ _ 1 (Or.inl ?_)).trans ?_
    · simp <;> omega
  by_cases e : P = 1
  · subst e
    refine (canon_hit _ _ _ _ (ix2 p j) ?_).trans (h1 p j)
    intro a; fin_cases a <;> simp [col]
  obtain rfl : P = 0 := by omega
  iterate 3
    refine (canon_miss _ _ _ _ 1 (Or.inl ?_)).trans ?_
    · simp <;> omega
  refine (canon_hit _ _ _ _ (ix2 p j) ?_).trans (h0 p j)
  intro a; fin_cases a <;> simp [col]

theorem headGrad_congr {x x' z z' d d' g g' : Fin 128 → EReal} (w : Fin 128) (hx : ∀ q, x q = x' q) (hz : ∀ q, z q = z' q) (hd : ∀ q, d q = d' q) (hg : ∀ q, g q = g' q) :
    headGrad x z d g w = headGrad x' z' d' g' w := by
  rw [funext hx, funext hz, funext hd, funext hg]

section
variable (c : Dev nD) (t : Fin cfg0.N)

theorem head_tile (h : Fin 4) (o : ℕ) (ho : o = h.val * 128) (inb : ∀ a, (![0, o] : Fin 2 → ℕ) a + (![256, 128] : Fin 2 → ℕ) a ≤ S256x512.size a) (p : Fin 256) (w : Fin 128) :
    headGrad (fun q => View.ld (iblk m c 6 t) (Rect.unit (s := S256x512) ![0, o] ![256, 128] inb) (ix2 p q))
      (fun q => View.ld (X0_3 m c t) (Rect.unit (s := S256x512) ![0, o] ![256, 128] inb) (ix2 p q))
      (fun q => View.ld (iblk m c 5 t) (Rect.unit (s := S256x512) ![0, o] ![256, 128] inb) (ix2 p q)) (fun q => (iblk m c 10 t : S1x128.Idx → EReal) (ix2 0 q)) w
    = headAt m c (row t p) h w :=
  headGrad_congr w (fun q => (ld_head (iblk m c 6 t) h o ho inb p q).trans (blk6 m c t p _)) (fun q => (ld_head (X0_3 m c t) h o ho inb p q).trans (blk3 m c t p _))
    (fun q => (ld_head (iblk m c 5 t) h o ho inb p q).trans (blk5 m c t p _)) (fun q => blk10 m c t q)

/-- The query's gradient at a row of the tile. -/
def queryRow (P : Fin 2) (p : Fin 256) (l : Fin 128) : EReal := queryAt m c (part t ⟨p.val / 64, by omega⟩) ⟨p.val % 64, by omega⟩ (col P l)
theorem tok_split (p : Fin 256) : p = tok ⟨p.val / 64, by omega⟩ ⟨p.val % 64, by omega⟩ := Fin.ext (show p.val = p.val / 64 * 64 + p.val % 64 by omega)

section
variable (g k : Vec Ideal S256x128 .f32) (G : Vec Ideal S256x256 .f32) (vv : Vec Ideal S256x256 .f32) (dd : Vec Ideal S256x256 .bf16) (s0 s1 s2 s3 : Vec Ideal S1x1x128x256 .f32)

theorem store_query0
    (hg : ∀ p l, (g (ix2 p l) : EReal) = decayAt m c (row t p) (col 0 l)) (hk : ∀ p l, (k (ix2 p l) : EReal) = kK m c (row t p) (col 0 l))
    (hv : ∀ p h w, (vv (ix2 p (col h w)) : EReal) = kV m c (row t p) (lane (headOf 0 h) w)) (hd : ∀ p h w, (dd (ix2 p (col h w)) : EReal) = headAt m c (row t p) (headOf 0 h) w)
    (h0 : ∀ l x, (s0 (ix4 0 0 l x) : EReal) = (V m c main_v6 : S64x2x128x256.Idx → EReal) (ix4 (part t 0) 0 l x))
    (h1 : ∀ l x, (s1 (ix4 0 0 l x) : EReal) = (V m c main_v6 : S64x2x128x256.Idx → EReal) (ix4 (part t 1) 0 l x))
    (h2 : ∀ l x, (s2 (ix4 0 0 l x) : EReal) = (V m c main_v6 : S64x2x128x256.Idx → EReal) (ix4 (part t 2) 0 l x))
    (h3 : ∀ l x, (s3 (ix4 0 0 l x) : EReal) = (V m c main_v6 : S64x2x128x256.Idx → EReal) (ix4 (part t 3) 0 l x)) (p : Fin 256) (l : Fin 128) :
    (k0_pay224 (F := Ideal) (k0_pay215 (k0_pay33 stack g) (k0_pay36 stack g)
      (k0_pay76 (k0_pay12 rowWord colWord k0_pay7 (64#32) k0_pay8 k0_pay9 k0_pay10) (k0_pay42 vv) dd (k0_pay61 (k0_pay39 stack g k))
        (k0_pay70 (k0_pay12 rowWord colWord k0_pay7 (64#32) k0_pay8 k0_pay9 k0_pay10) (k0_pay42 vv) dd (k0_pay61 (k0_pay39 stack g k)) k0_pay64 (k0_pay66 laneWord))
        (k0_pay72 laneWord) 1#32)
      (k0_pay143 dd s3) (k0_pay160 dd s2) (k0_pay177 dd s1) (k0_pay195 dd s0)) (ix2 p l) : EReal)
    = queryRow m c t 0 p l := by
  have hs : ∀ (n : Fin 4) l x, ((![s0, s1, s2, s3] : Fin 4 → Vec Ideal S1x1x128x256 .f32) n (ix4 0 0 l x) : EReal) = (V m c main_v6 : S64x2x128x256.Idx → EReal) (ix4 (part t n) 0 l x) := fun n => by
    fin_cases n
    exacts [h0, h1, h2, h3]
  have e := pair_query m c t 0 g k vv dd ![s0, s1, s2, s3] hg hk hv hd hs ⟨p.val / 64, by omega⟩ ⟨p.val % 64, by omega⟩ l
  have q := query0 g k vv dd ![s0, s1, s2, s3] ⟨p.val / 64, by omega⟩ ⟨p.val % 64, by omega⟩ l e.1 e.2.1
  rw [← tok_split p] at q e
  exact q.trans e.2.2
theorem store_query1
    (hg : ∀ p l, (k0_pay78 (F := Ideal) G (ix2 p l) : EReal) = decayAt m c (row t p) (col 1 l)) (hk : ∀ p l, (k (ix2 p l) : EReal) = kK m c (row t p) (col 1 l))
    (hv : ∀ p h w, (vv (ix2 p (col h w)) : EReal) = kV m c (row t p) (lane (headOf 1 h) w)) (hd : ∀ p h w, (dd (ix2 p (col h w)) : EReal) = headAt m c (row t p) (headOf 1 h) w)
    (h0 : ∀ l x, (s0 (ix4 0 0 l x) : EReal) = (V m c main_v6 : S64x2x128x256.Idx → EReal) (ix4 (part t 0) 1 l x))
    (h1 : ∀ l x, (s1 (ix4 0 0 l x) : EReal) = (V m c main_v6 : S64x2x128x256.Idx → EReal) (ix4 (part t 1) 1 l x))
    (h2 : ∀ l x, (s2 (ix4 0 0 l x) : EReal) = (V m c main_v6 : S64x2x128x256.Idx → EReal) (ix4 (part t 2) 1 l x))
    (h3 : ∀ l x, (s3 (ix4 0 0 l x) : EReal) = (V m c main_v6 : S64x2x128x256.Idx → EReal) (ix4 (part t 3) 1 l x)) (p : Fin 256) (l : Fin 128) :
    (k0_pay235 (F := Ideal) (k0_pay231 (k0_pay89 stack (k0_pay82 G) (k0_pay83 stack G)) (k0_pay92 stack (k0_pay82 G) (k0_pay83 stack G))
      (k0_pay136 (k0_pay12 rowWord colWord k0_pay7 (64#32) k0_pay8 k0_pay9 k0_pay10) (k0_pay117 (k0_pay95 stack k (k0_pay82 G) (k0_pay83 stack G)))
        (k0_pay129 k0_pay120 (k0_pay126 (k0_pay12 rowWord colWord k0_pay7 (64#32) k0_pay8 k0_pay9 k0_pay10) (k0_pay98 vv) dd (k0_pay117 (k0_pay95 stack k (k0_pay82 G) (k0_pay83 stack G))))
          (k0_pay127 laneWord 64#32 (k0_pay122 laneWord)) k0_pay128)
        (k0_pay131 laneWord) (k0_pay133 (k0_pay98 vv) dd))
      (k0_pay152 dd s3) (k0_pay168 dd s2) (k0_pay187 dd s1) (k0_pay204 dd s0)) (ix2 p l) : EReal)
    = queryRow m c t 1 p l := by
  have hs : ∀ (n : Fin 4) l x, ((![s0, s1, s2, s3] : Fin 4 → Vec Ideal S1x1x128x256 .f32) n (ix4 0 0 l x) : EReal) = (V m c main_v6 : S64x2x128x256.Idx → EReal) (ix4 (part t n) 1 l x) := fun n => by
    fin_cases n
    exacts [h0, h1, h2, h3]
  have e := pair_query m c t 1 (k0_pay78 (F := Ideal) G) k vv dd ![s0, s1, s2, s3] hg hk hv hd hs ⟨p.val / 64, by omega⟩ ⟨p.val % 64, by omega⟩ l
  have q := query1 k vv dd ![s0, s1, s2, s3] ⟨p.val / 64, by omega⟩ ⟨p.val % 64, by omega⟩ l G e.1 e.2.1
  rw [← tok_split p] at q e
  exact q.trans e.2.2
end

theorem two_halves {f : Fin 256 → Fin 2 → Fin 128 → Prop} (h0 : ∀ p w, f p 0 w) (h1 : ∀ p w, f p 1 w) (p : Fin 256) (h : Fin 2) (w : Fin 128) : f p h w := by
  obtain rfl | rfl : h = 0 ∨ h = 1 := by omega
  exacts [h0 p w, h1 p w]

/-- The tile's loads. -/
abbrev Fits (o n : ℕ) : Prop := ∀ a, (![0, o] : Fin 2 → ℕ) a + (![256, n] : Fin 2 → ℕ) a ≤ S256x512.size a
abbrev FitsK (o : ℕ) : Prop := ∀ a, (![0, o] : Fin 2 → ℕ) a + (![256, 128] : Fin 2 → ℕ) a ≤ S256x256.size a
abbrev FitsS (k o : ℕ) : Prop := ∀ a, (![k, o, 0, 0] : Fin 4 → ℕ) a + (![1, 1, 128, 256] : Fin 4 → ℕ) a ≤ S4x2x128x256.size a
abbrev lX (o : ℕ) (i : Fits o 128) : Vec Ideal S256x128 .f32 := View.ld (iblk m c 6 t) (Rect.unit (s := S256x512) ![0, o] ![256, 128] i)
abbrev lZ (o : ℕ) (i : Fits o 128) : Vec Ideal S256x128 .f32 := View.ld (X0_3 m c t) (Rect.unit (s := S256x512) ![0, o] ![256, 128] i)
abbrev lD (o : ℕ) (i : Fits o 128) : Vec Ideal S256x128 .f32 := View.ld (iblk m c 5 t) (Rect.unit (s := S256x512) ![0, o] ![256, 128] i)
abbrev lK (o : ℕ) (i : FitsK o) : Vec Ideal S256x128 .f32 := View.ld (X0_1 m c t) (Rect.unit (s := S256x256) ![0, o] ![256, 128] i)
abbrev lV (o : ℕ) (i : Fits o 256) : Vec Ideal S256x256 .f32 := View.ld (X0_2 m c t) (Rect.unit (s := S256x512) ![0, o] ![256, 256] i)
abbrev lS (k o : ℕ) (i : FitsS k o) : Vec Ideal S1x1x128x256 .f32 := View.ld (iblk m c 7 t) (Rect.unit (s := S4x2x128x256) ![k, o, 0, 0] ![1, 1, 128, 256] i)

theorem decay_tile (A : Vec Ideal S256x128 .f32) (W : Vec Ideal S128x256 .f32) (B : Vec Ideal S1x256 .f32) (hA : A = iblk m c 4 t) (hW : W = iblk m c 8 t) (hB : B = iblk m c 9 t) (p s : Fin 256) :
    logDecay (∑ q : Fin 128, A (ix2 p q) * W (ix2 q s) + B (ix2 0 s)) = decayAt m c (row t p) s := by
  subst hA hW hB
  exact congrArg logDecay (congrArg₂ (· + ·) (Finset.sum_congr (M := EReal) rfl fun q _ => congrArg₂ (· * ·) (blk4 m c t p q) (blk8 m c t q s)) (blk9 m c t s))

section
variable (i0 : Fits 0 128) (i1 : Fits 128 128) (i2 : Fits 256 128) (i3 : Fits 384 128)
theorem dd_first (p : Fin 256) (h : Fin 2) (w : Fin 128) :
    (k0_pay59 (F := Ideal) (k0_pay49 (iblk m c 10 t) (k0_pay43 (lX m c t 0 i0)) (k0_pay44 (lX m c t 0 i0)) (lZ m c t 0 i0) (lD m c t 0 i0)) (k0_pay51 (k0_pay50 (lX m c t 128 i1)))
      (k0_pay52 (lX m c t 128 i1) (k0_pay50 (lX m c t 128 i1))) (k0_pay57 (iblk m c 10 t) (lZ m c t 128 i1) (lD m c t 128 i1))
      (k0_pay58 (iblk m c 10 t) (lX m c t 128 i1) (k0_pay50 (lX m c t 128 i1)) (lZ m c t 128 i1) (lD m c t 128 i1)) (ix2 p (col h w)) : EReal)
    = headAt m c (row t p) (headOf 0 h) w := by
  obtain rfl | rfl : h = 0 ∨ h = 1 := by omega
  · exact (cotangent0 (iblk m c 10 t) (lX m c t 0 i0) (lZ m c t 0 i0) (lD m c t 0 i0) (lX m c t 128 i1) (lZ m c t 128 i1) (lD m c t 128 i1) p w).trans (head_tile m c t 0 0 rfl i0 p w)
  · exact (cotangent1 (iblk m c 10 t) (lX m c t 0 i0) (lZ m c t 0 i0) (lD m c t 0 i0) (lX m c t 128 i1) (lZ m c t 128 i1) (lD m c t 128 i1) p w).trans (head_tile m c t 1 128 rfl i1 p w)
theorem dd_second (p : Fin 256) (h : Fin 2) (w : Fin 128) :
    (k0_pay115 (F := Ideal) (iblk m c 10 t) (k0_pay107 (iblk m c 10 t) (k0_pay99 (lX m c t 256 i2)) (k0_pay100 (lX m c t 256 i2)) (k0_pay102 (lZ m c t 256 i2)) (lD m c t 256 i2))
      (k0_pay108 (lX m c t 384 i3)) (k0_pay109 (lX m c t 384 i3)) (lZ m c t 384 i3) (k0_pay110 (lZ m c t 384 i3)) (FloatOps.ofBits FTy.f32 1065353216#32) (lD m c t 384 i3) (ix2 p (col h w)) : EReal)
    = headAt m c (row t p) (headOf 1 h) w := by
  obtain rfl | rfl : h = 0 ∨ h = 1 := by omega
  · exact (cotangent2 (iblk m c 10 t) (lX m c t 256 i2) (lZ m c t 256 i2) (lD m c t 256 i2) (lX m c t 384 i3) (lZ m c t 384 i3) (lD m c t 384 i3) p w).trans (head_tile m c t 2 256 rfl i2 p w)
  · exact (cotangent3 (iblk m c 10 t) (lX m c t 256 i2) (lZ m c t 256 i2) (lD m c t 256 i2) (lX m c t 384 i3) (lZ m c t 384 i3) (lD m c t 384 i3) p w).trans (head_tile m c t 3 384 rfl i3 p w)
end

/-- The queries' columns of a tile. -/
theorem tile_query (P : Fin 2) (p : Fin 256) (l : Fin 128) :
    ((outsAt0 m c t.val t.isLt).1 (ix2 p ⟨(col P l).val, by omega⟩) : EReal) = queryRow m c t P p l := by
  by_cases h0 : t.val % 16 = 0
  · rw [outsAt0_A m c t h0]
    frame_out
    refine query_columns _ _ _ _ _ _ _ _ _ _ _ (queryRow m c t) ?_ ?_ P p l
    · refine store_query0 m c t (k0_pay27 (iblk m c 4 t) (iblk m c 8 t) (iblk m c 9 t)) (lK m c t 0 _) (lV m c t 0 _) _ (lS m c t 0 0 _) (lS m c t 1 0 _) (lS m c t 2 0 _) (lS m c t 3 0 _) ?_ ?_ ?_ ?_ ?_ ?_ ?_ ?_
      · exact fun p l => (decays0 _ _ _ p l).trans (decay_tile m c t _ _ _ rfl rfl rfl p _)
      · exact fun p l => ld_keys m c t 0 0 rfl _ p l
      · exact fun p h w => ld_values m c t 0 0 rfl _ p h w
      · exact dd_first m c t _ _
      · exact fun l x => ld_states m c t 0 0 0 0 rfl rfl _ l x
      · exact fun l x => ld_states m c t 0 0 1 1 rfl rfl _ l x
      · exact fun l x => ld_states m c t 0 0 2 2 rfl rfl _ l x
      · exact fun l x => ld_states m c t 0 0 3 3 rfl rfl _ l x
    · refine store_query1 m c t (lK m c t 128 _) (k0_pay25 (iblk m c 4 t) (iblk m c 8 t) (iblk m c 9 t)) (lV m c t 256 _) _ (lS m c t 0 1 _) (lS m c t 1 1 _) (lS m c t 2 1 _) (lS m c t 3 1 _) ?_ ?_ ?_ ?_ ?_ ?_ ?_ ?_
      · exact fun p l => (decays1 _ _ _ p l).trans (decay_tile m c t _ _ _ rfl rfl rfl p _)
      · exact fun p l => ld_keys m c t 1 128 rfl _ p l
      · exact fun p h w => ld_values m c t 1 256 rfl _ p h w
      · exact dd_second m c t _ _
      · exact fun l x => ld_states m c t 1 1 0 0 rfl rfl _ l x
      · exact fun l x => ld_states m c t 1 1 1 1 rfl rfl _ l x
      · exact fun l x => ld_states m c t 1 1 2 2 rfl rfl _ l x
      · exact fun l x => ld_states m c t 1 1 3 3 rfl rfl _ l x
  · rw [outsAt0_B m c t h0]
    frame_out
    refine query_columns _ _ _ _ _ _ _ _ _ _ _ (queryRow m c t) ?_ ?_ P p l
    · refine store_query0 m c t (k0_pay27 (iblk m c 4 t) (iblk m c 8 t) (iblk m c 9 t)) (lK m c t 0 _) (lV m c t 0 _) _ (lS m c t 0 0 _) (lS m c t 1 0 _) (lS m c t 2 0 _) (lS m c t 3 0 _) ?_ ?_ ?_ ?_ ?_ ?_ ?_ ?_
      · exact fun p l => (decays0 _ _ _ p l).trans (decay_tile m c t _ _ _ rfl rfl rfl p _)
      · exact fun p l => ld_keys m c t 0 0 rfl _ p l
      · exact fun p h w => ld_values m c t 0 0 rfl _ p h w
      · exact dd_first m c t _ _
      · exact fun l x => ld_states m c t 0 0 0 0 rfl rfl _ l x
      · exact fun l x => ld_states m c t 0 0 1 1 rfl rfl _ l x
      · exact fun l x => ld_states m c t 0 0 2 2 rfl rfl _ l x
      · exact fun l x => ld_states m c t 0 0 3 3 rfl rfl _ l x
    · refine store_query1 m c t (lK m c t 128 _) (k0_pay25 (iblk m c 4 t) (iblk m c 8 t) (iblk m c 9 t)) (lV m c t 256 _) _ (lS m c t 0 1 _) (lS m c t 1 1 _) (lS m c t 2 1 _) (lS m c t 3 1 _) ?_ ?_ ?_ ?_ ?_ ?_ ?_ ?_
      · exact fun p l => (decays1 _ _ _ p l).trans (decay_tile m c t _ _ _ rfl rfl rfl p _)
      · exact fun p l => ld_keys m c t 1 128 rfl _ p l
      · exact fun p h w => ld_values m c t 1 256 rfl _ p h w
      · exact dd_second m c t _ _
      · exact fun l x => ld_states m c t 1 1 0 0 rfl rfl _ l x
      · exact fun l x => ld_states m c t 1 1 1 1 rfl rfl _ l x
      · exact fun l x => ld_states m c t 1 1 2 2 rfl rfl _ l x
      · exact fun l x => ld_states m c t 1 1 3 3 rfl rfl _ l x
end

end Cert.KernelIdeal.Gate
end
-- ==== Proof.GlaRef.lean ====
/- The gated linear attention's queries: what the reference gives, array by array. -/
module

public import proofs.«01_k».proof.Proof.Gen.ReferenceIdeal.Run
public import proofs.«01_k».proof.Proof.GlaReal

@[expose] public section

set_option maxRecDepth 16384

noncomputable section

namespace Cert.ReferenceIdeal.Gla

open Idealize.ShloMosaic Idealize.ShloMosaic.TcCoe Cert.Proof Cert.ReferenceIdeal Cert.ReferenceIdeal.Gen Idealize.SL.Sem Idealize.ShloMosaic.StableHlo

/-- The query's gradient of the running sums of the log decays. -/
def queryRun (b k : Fin 64 → EReal) (v : Fin 64 → Fin 128 → EReal) (d s : Fin 128 → EReal) (t : Fin 64) : EReal :=
  ((∑ u : Fin 64, (if u.val ≤ t.val then ∑ w : Fin 128, d w * v u w else 0) * (k u * Ideal.exp (b 31 - b u))) * Ideal.exp (b t - b 31)
    + (∑ w : Fin 128, d w * s w) * Ideal.exp (b t)) * Ideal.ofBits .f32 0x3E000000#32

theorem first_piece (a : FVec Ideal S4096x256 .f32) (b : FVec Ideal S4096x768 .f32) (c : FVec Ideal S4096x512 .f32) (d : FVec Ideal S4096x128 .f32) (n : Fin 4096) (k : Fin 256) :
    (truncf .bf16 (concatenate S4096x1664 1 [⟨S4096x256, a⟩, ⟨S4096x768, b⟩, ⟨S4096x512, c⟩, ⟨S4096x128, d⟩]
      concatenates_S4096x256_S4096x768_S4096x512_S4096x128_S4096x1664_d1) bitsLt_bf16_f32 (ix2 n ⟨k.val, by omega⟩) : EReal) = a (ix2 n k) := by
  pointwise []

theorem third_piece (a : FVec Ideal S4096x256 .f32) (b : FVec Ideal S4096x768 .f32) (c : FVec Ideal S4096x512 .f32) (d : FVec Ideal S4096x128 .f32) (n : Fin 4096) (k : Fin 512) :
    (truncf .bf16 (concatenate S4096x1664 1 [⟨S4096x256, a⟩, ⟨S4096x768, b⟩, ⟨S4096x512, c⟩, ⟨S4096x128, d⟩]
      concatenates_S4096x256_S4096x768_S4096x512_S4096x128_S4096x1664_d1) bitsLt_bf16_f32 (ix2 n ⟨1024 + k.val, by omega⟩) : EReal) = c (ix2 n k) := by
  pointwise []
  have e : 1024 + k.val - 256 - 768 = k.val := by omega
  rw [dif_neg (by omega), dif_neg (by omega), dif_pos (by omega)]
  simp only [e]

/-- The lower triangle's mask. -/
theorem tril (t u : Fin 64) : Scalar.select (IntOp.cmpi CmpIPredicate.sge (IntOp.addi (BitVec.ofNat 32 t.val) 0#32) (BitVec.ofNat 32 u.val)) 1#1 0#1 = if u.val ≤ t.val then 1#1 else 0#1 := by
  revert t u
  decide +kernel

theorem ref_query (B K : FVec Ideal S64x64x4x64 .f32) (D V : FVec Ideal S64x64x4x128 .f32) (S : FVec Ideal S64x4x64x128 .f32) (n t : Fin 64) (h : Fin 4) (j : Fin 64) :
    (mulf (F := Ideal) (shapeCast _ (addf (mulf (transpose S64x64x4x64 [0, 2, 1, 3] (Host.dotGeneral dot_S64x4x128x64_S64x4x64x128_S64x4x64x64_2_3_3_2_01_01 none (transpose S64x4x128x64 [0, 2, 3, 1] D transposes_S64x64x4x128_S64x4x128x64_0_2_3_1) S) transposes_S64x4x64x64_S64x64x4x64_0_2_1_3) (Host.exp B))
      (mulf (transpose S64x64x4x64 [0, 2, 1, 3] (Host.dotGeneral dot_S64x4x64x64_S64x64x4x64_S64x4x64x64_3_1_2_3_01_02 none
        (select (broadcastInDim S64x4x64x64 ![2, 3] bcast_S64x64_S64x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))
          (Host.dotGeneral dot_S64x4x128x64_S64x64x4x128_S64x4x64x64_2_3_3_1_01_02 none (transpose S64x4x128x64 [0, 2, 3, 1] D transposes_S64x64x4x128_S64x4x128x64_0_2_3_1) V) (broadcastInDim S64x4x64x64 ![] bcast_S_S64x4x64x64 (constant S_ .f32 0x00000000#32)))
        (mulf K (Host.exp (subf (broadcastInDim S64x64x4x64 ![0, 1, 2, 3] bcast_S64x1x4x64_S64x64x4x64_0_1_2_3 (extractStridedSlice S64x1x4x64 ![0, 31, 0, 0] B slices_S64x64x4x64_S64x1x4x64_0_31_0_0)) B)))) transposes_S64x4x64x64_S64x64x4x64_0_2_1_3)
        (Host.exp (subf B (broadcastInDim S64x64x4x64 ![0, 1, 2, 3] bcast_S64x1x4x64_S64x64x4x64_0_1_2_3 (extractStridedSlice S64x1x4x64 ![0, 31, 0, 0] B slices_S64x64x4x64_S64x1x4x64_0_31_0_0))))))
      shapeCasts_S64x64x4x64_S4096x256) (broadcastInDim S4096x256 ![] bcast_S_S4096x256 (constant S_ .f32 0x3E000000#32)) (ix2 ⟨n.val * 64 + t.val, by omega⟩ ⟨h.val * 64 + j.val, by omega⟩) : EReal)
    = queryRun (fun u => B (ix4 n u h j)) (fun u => K (ix4 n u h j)) (fun u w => V (ix4 n u h w)) (fun w => D (ix4 n t h w)) (fun w => S (ix4 n h j w)) t := by
  unfold queryRun
  pointwise []
  have pick : ∀ (u : Fin 64) (x : EReal), Scalar.select (Scalar.select (IntOp.cmpi CmpIPredicate.sge (IntOp.addi (BitVec.ofNat 32 t.val) 0#32) (BitVec.ofNat 32 u.val)) 1#1 0#1) x 0
      = if u.val ≤ t.val then x else 0 := fun u x => by
    have h := tril t u
    by_cases hu : u.val ≤ t.val
    · rw [if_pos hu, h, if_pos hu]; rfl
    · rw [if_neg hu, h, if_neg hu]; rfl
  refine congrArg (fun z : EReal => z * Ideal.ofBits .f32 0x3E000000#32) ((add_comm (G := EReal) _ _).trans (congrArg₂ (· + ·) (congrArg (fun z : EReal => z * _) ?_) rfl))
  refine Finset.sum_congr (M := EReal) rfl fun u _ => (pick u _).trans ?_
  by_cases hu : u.val ≤ t.val
  · rw [if_pos hu, if_pos hu]
  · rw [if_neg hu, if_neg hu, zero_mul]

/-! ## The running sum -/

theorem fold_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window's positions are the 64 rows of a chunk. -/
def windowRows : Fin 64 ≃ (⟨4, ![1, 64, 1, 1]⟩ : Shape).Idx where
  toFun u := ix4 0 u 0 0
  invFun i := i 1
  left_inv u := rfl
  right_inv i := by
    funext a
    fin_cases a
    · exact Subsingleton.elim (α := Fin 1) _ _
    · rfl
    · exact Subsingleton.elim (α := Fin 1) _ _
    · exact Subsingleton.elim (α := Fin 1) _ _

theorem shift (g : Fin 64 → EReal) (t : Fin 64) : (∑ u : Fin 64, if h : 63 ≤ t.val + u.val then g ⟨t.val + u.val - 63, by omega⟩ else 0) = decay g t := by
  unfold decay
  refine Eq.trans (Finset.sum_congr (M := EReal) rfl fun u _ => ?_) (Equiv.sum_comp (Equiv.addLeft (t + 1)) fun v : Fin 64 => if v.val ≤ t.val then g v else 0)
  have hv : ((Equiv.addLeft (t + 1)) u).val = (t.val + 1 + u.val) % 64 := by
    show (t + 1 + u).val = _
    simp [Fin.val_add]
  by_cases h : 63 ≤ t.val + u.val
  · rw [dif_pos h, if_pos (by omega)]
    exact congrArg g (Fin.ext (by rw [hv]; show t.val + u.val - 63 = _; omega))
  · rw [dif_neg h, if_neg (by omega)]

theorem running (x : FVec Ideal S64x64x4x64 .f32) (z : FVec Ideal S_ .f32) (hz : ∀ i, (z i : EReal) = 0) (n t : Fin 64) (h : Fin 4) (j : Fin 64) :
    (Host.reduceWindowAdd (F := Ideal) ![1, 64, 1, 1] ![1, 1, 1, 1] ![0, 63, 0, 0] ![0, 0, 0, 0] x z reduceWindows_S64x64x4x64_S64x64x4x64_w1s1p0_0_w64s1p63_0_w1s1p0_0_w1s1p0_0 h_S_ (ix4 n t h j) : EReal)
    = decay (fun u => x (ix4 n u h j)) t := by
  refine (fold_sum _ _ _).trans ?_
  rw [hz, zero_add]
  refine Eq.trans ?_ (shift (fun u => x (ix4 n u h j)) t)
  rw [← Fin.sum_univ_def]
  refine ((Equiv.sum_comp (⟨4, ![1, 64, 1, 1]⟩ : Shape).rowMajor _).symm.trans (Equiv.sum_comp windowRows _).symm).trans ?_
  refine Finset.sum_congr (M := EReal) rfl fun u _ => ?_
  simp only [Equiv.symm_apply_apply]
  by_cases hu : 63 ≤ t.val + u.val
  · rw [dif_pos hu, dif_pos]
    · refine congrArg x (funext fun a => ?_)
      match a with
      | ⟨0, _⟩ => exact Fin.ext (show n.val * 1 + 0 - 0 = n.val by omega)
      | ⟨1, _⟩ => exact Fin.ext (show t.val * 1 + u.val - 63 = t.val + u.val - 63 by omega)
      | ⟨2, _⟩ => exact Fin.ext (show h.val * 1 + 0 - 0 = h.val by omega)
      | ⟨3, _⟩ => exact Fin.ext (show j.val * 1 + 0 - 0 = j.val by omega)
    · intro a
      match a with
      | ⟨0, _⟩ => exact ⟨Nat.zero_le _, show n.val * 1 + 0 - 0 < 64 by omega⟩
      | ⟨1, _⟩ => exact ⟨show 63 ≤ t.val * 1 + u.val by omega, show t.val * 1 + u.val - 63 < 64 by omega⟩
      | ⟨2, _⟩ => exact ⟨Nat.zero_le _, show h.val * 1 + 0 - 0 < 4 by omega⟩
      | ⟨3, _⟩ => exact ⟨Nat.zero_le _, show j.val * 1 + 0 - 0 < 64 by omega⟩
  · rw [dif_neg hu, dif_neg]
    intro e
    have e1 : 63 ≤ t.val * 1 + u.val := (e 1).1
    omega

/-! ## The log decays -/

theorem soft (x : EReal) :
    Ideal.div (-(if -x ≠ -x then -x else max (-x) 0 + Ideal.log1p (Ideal.exp (-max (-x) (-(-x)))))) (Ideal.ofBits .f32 0x41800000#32) = logDecay x := by
  rw [if_neg (not_not.2 rfl), soft_neg]
  rfl

theorem ref_decay (X : FVec Ideal S4096x256 .f32) (n t : Fin 64) (h : Fin 4) (j : Fin 64) :
    (shapeCast S64x64x4x64 (Host.divf (F := Ideal) (Host.negf (select (cmpf .une (subf (Host.negf X) (broadcastInDim S4096x256 ![] bcast_S_S4096x256 (constant S_ .f32 0x00000000#32))) (subf (Host.negf X) (broadcastInDim S4096x256 ![] bcast_S_S4096x256 (constant S_ .f32 0x00000000#32))))
      (addf (Host.negf X) (broadcastInDim S4096x256 ![] bcast_S_S4096x256 (constant S_ .f32 0x00000000#32)))
      (addf (maximumf (Host.negf X) (broadcastInDim S4096x256 ![] bcast_S_S4096x256 (constant S_ .f32 0x00000000#32)))
        (Host.log1p (Host.exp (Host.negf (Host.absf (subf (Host.negf X) (broadcastInDim S4096x256 ![] bcast_S_S4096x256 (constant S_ .f32 0x00000000#32))))))))))
      (broadcastInDim S4096x256 ![] bcast_S_S4096x256 (constant S_ .f32 0x41800000#32))) shapeCasts_S4096x256_S64x64x4x64 (ix4 n t h j) : EReal)
    = logDecay (X (ix2 ⟨n.val * 64 + t.val, by omega⟩ ⟨h.val * 64 + j.val, by omega⟩)) := by
  rw [← soft]
  pointwise []
  rfl

/-! ## The head's gradient -/

theorem ref_head (C Z O : FVec Ideal S4096x512 .f32) (G : FVec Ideal S1x128 .f32) (n t : Fin 64) (h : Fin 4) (w : Fin 128) :
    (shapeCast S64x64x4x128 (shapeCast S4096x512 (addf (F := Ideal) (mulf (mulf (shapeCast _ (mulf C (mulf Z (Host.divf (broadcastInDim S4096x512 ![] bcast_S_S4096x512 (constant S_ .f32 0x3F800000#32)) (addf (broadcastInDim S4096x512 ![] bcast_S_S4096x512 (constant S_ .f32 0x3F800000#32)) (Host.exp (Host.negf Z)))))) shapeCasts_S4096x512_S4096x4x128)
        (broadcastInDim S4096x4x128 ![0, 1, 2] bcast_S1x1x128_S4096x4x128_0_1_2 (broadcastInDim S1x1x128 ![2] bcast_S128_S1x1x128_2 (shapeCast _ G shapeCasts_S1x128_S128))))
        (broadcastInDim S4096x4x128 ![0, 1, 2] bcast_S4096x4x1_S4096x4x128_0_1_2 (Host.rsqrt (addf (Host.divf (broadcastInDim S4096x4x1 ![0, 1] bcast_S4096x4_S4096x4x1_0_1 (Host.reduceAdd (mulf (shapeCast _ O shapeCasts_S4096x512_S4096x4x128) (shapeCast _ O shapeCasts_S4096x512_S4096x4x128)) (constant S_ .f32 0x00000000#32) reducesTo_S4096x4x128_S4096x4_d2 h_S_)) (broadcastInDim S4096x4x1 ![] bcast_S_S4096x4x1 (constant S_ .f32 0x43000000#32))) (broadcastInDim S4096x4x1 ![] bcast_S_S4096x4x1 (constant S_ .f32 0x358637BD#32))))))
      (mulf (broadcastInDim S4096x4x128 ![0, 1] bcast_S4096x4_S4096x4x128_0_1 (Host.reduceAdd (Host.divf (mulf (shapeCast _ (Host.reduceAdd (mulf (shapeCast _ O shapeCasts_S4096x512_S4096x4x128) (mulf (shapeCast _ (mulf C (mulf Z (Host.divf (broadcastInDim S4096x512 ![] bcast_S_S4096x512 (constant S_ .f32 0x3F800000#32)) (addf (broadcastInDim S4096x512 ![] bcast_S_S4096x512 (constant S_ .f32 0x3F800000#32)) (Host.exp (Host.negf Z)))))) shapeCasts_S4096x512_S4096x4x128)
          (broadcastInDim S4096x4x128 ![0, 1, 2] bcast_S1x1x128_S4096x4x128_0_1_2 (broadcastInDim S1x1x128 ![2] bcast_S128_S1x1x128_2 (shapeCast _ G shapeCasts_S1x128_S128))))) (constant S_ .f32 0x00000000#32) reducesTo_S4096x4x128_S4096x4_d2 h_S_) shapeCasts_S4096x4_S4096x4x1)
        (mulf (broadcastInDim S4096x4x1 ![] bcast_S_S4096x4x1 (constant S_ .f32 0xBF000000#32)) (Host.divf (Host.rsqrt (addf (Host.divf (broadcastInDim S4096x4x1 ![0, 1] bcast_S4096x4_S4096x4x1_0_1 (Host.reduceAdd (mulf (shapeCast _ O shapeCasts_S4096x512_S4096x4x128) (shapeCast _ O shapeCasts_S4096x512_S4096x4x128)) (constant S_ .f32 0x00000000#32) reducesTo_S4096x4x128_S4096x4_d2 h_S_)) (broadcastInDim S4096x4x1 ![] bcast_S_S4096x4x1 (constant S_ .f32 0x43000000#32))) (broadcastInDim S4096x4x1 ![] bcast_S_S4096x4x1 (constant S_ .f32 0x358637BD#32))))
          (addf (Host.divf (broadcastInDim S4096x4x1 ![0, 1] bcast_S4096x4_S4096x4x1_0_1 (Host.reduceAdd (mulf (shapeCast _ O shapeCasts_S4096x512_S4096x4x128) (shapeCast _ O shapeCasts_S4096x512_S4096x4x128)) (constant S_ .f32 0x00000000#32) reducesTo_S4096x4x128_S4096x4_d2 h_S_)) (broadcastInDim S4096x4x1 ![] bcast_S_S4096x4x1 (constant S_ .f32 0x43000000#32))) (broadcastInDim S4096x4x1 ![] bcast_S_S4096x4x1 (constant S_ .f32 0x358637BD#32))))))
        (broadcastInDim S4096x4x1 ![] bcast_S_S4096x4x1 (constant S_ .f32 0x43000000#32))) (constant S_ .f32 0x00000000#32) reducesTo_S4096x4x1_S4096x4_d2 h_S_)) (mulf (broadcastInDim S4096x4x128 ![] bcast_S_S4096x4x128 (constant S_ .f32 0x40000000#32)) (shapeCast _ O shapeCasts_S4096x512_S4096x4x128)))) shapeCasts_S4096x4x128_S4096x512) shapeCasts_S4096x512_S64x64x4x128 (ix4 n t h w) : EReal)
    = headRule (fun q => O (ix2 ⟨n.val * 64 + t.val, by omega⟩ ⟨h.val * 128 + q.val, by omega⟩))
      (outGrad (fun q => Z (ix2 ⟨n.val * 64 + t.val, by omega⟩ ⟨h.val * 128 + q.val, by omega⟩)) (fun q => C (ix2 ⟨n.val * 64 + t.val, by omega⟩ ⟨h.val * 128 + q.val, by omega⟩)) (fun q => G (ix2 0 q))) w := by
  unfold headRule outGrad rms gateSig headWidth rmsEps
  pointwise [Fin.sum_univ_one]

/-! ## The reference's queries' columns -/

theorem queryRun_congr {b b' k k' : Fin 64 → EReal} {v v' : Fin 64 → Fin 128 → EReal} {d d' s s' : Fin 128 → EReal} (hb : ∀ u, b u = b' u) (hk : ∀ u, k u = k' u)
    (hv : ∀ u w, v u w = v' u w) (hd : ∀ w, d w = d' w) (hs : ∀ w, s w = s' w) (t : Fin 64) : queryRun b k v d s t = queryRun b' k' v' d' s' t := by
  rw [funext hb, funext hk, funext fun u => funext (hv u), funext hd, funext hs]

section
variable (A0 : FVec Ideal S4096x3200 .f32)

theorem ref_pre (A4 : FVec Ideal S128x256 .f32) (A5 : FVec Ideal S1x256 .f32) (r : Fin 4096) (s : Fin 256) :
    (addf (F := Ideal) (Host.dotGeneral dot_S4096x128_S128x256_S4096x256_1_0_0_1_n_n none (extractStridedSlice S4096x128 ![0, 1536] (extractStridedSlice S4096x1664 ![0, 1536] A0 slices_S4096x3200_S4096x1664_0_1536) slices_S4096x1664_S4096x128_0_1536) A4)
      (broadcastInDim S4096x256 ![0, 1] bcast_S1x256_S4096x256_0_1 A5) (ix2 r s) : EReal)
    = ∑ q : Fin 128, A0 (ix2 r ⟨3072 + q.val, by omega⟩) * A4 (ix2 q s) + A5 (ix2 0 s) := by
  pointwise []
  refine congrArg (· + (A5 (ix2 0 s) : EReal)) (Finset.sum_congr (M := EReal) rfl fun q _ => congrArg (fun a : Fin 3200 => (A0 (ix2 r a) * A4 (ix2 q s) : EReal)) (Fin.ext ?_))
  show 1536 + (1536 + q.val) = 3072 + q.val
  omega
theorem ref_key (n u : Fin 64) (h : Fin 4) (j : Fin 64) :
    (shapeCast S64x64x4x64 (extractStridedSlice S4096x256 ![0, 256] (extractStridedSlice S4096x1664 ![0, 1536] A0 slices_S4096x3200_S4096x1664_0_1536) slices_S4096x1664_S4096x256_0_256) shapeCasts_S4096x256_S64x64x4x64 (ix4 n u h j) : EReal)
    = A0 (ix2 ⟨n.val * 64 + u.val, by omega⟩ ⟨1792 + (h.val * 64 + j.val), by omega⟩) := by
  pointwise []
  refine congrArg (fun a : Fin 3200 => (A0 (ix2 _ a) : EReal)) (Fin.ext ?_)
  show 1536 + (256 + (h.val * 64 + j.val)) = 1792 + (h.val * 64 + j.val)
  omega
theorem ref_value (n u : Fin 64) (h : Fin 4) (w : Fin 128) :
    (shapeCast S64x64x4x128 (extractStridedSlice S4096x512 ![0, 512] (extractStridedSlice S4096x1664 ![0, 1536] A0 slices_S4096x3200_S4096x1664_0_1536) slices_S4096x1664_S4096x512_0_512) shapeCasts_S4096x512_S64x64x4x128 (ix4 n u h w) : EReal)
    = A0 (ix2 ⟨n.val * 64 + u.val, by omega⟩ ⟨2048 + (h.val * 128 + w.val), by omega⟩) := by
  pointwise []
  refine congrArg (fun a : Fin 3200 => (A0 (ix2 _ a) : EReal)) (Fin.ext ?_)
  show 1536 + (512 + (h.val * 128 + w.val)) = 2048 + (h.val * 128 + w.val)
  omega
theorem ref_gate (r : Fin 4096) (s : Fin 512) :
    (extractStridedSlice S4096x512 ![0, 1024] (extractStridedSlice S4096x1664 ![0, 1536] A0 slices_S4096x3200_S4096x1664_0_1536) slices_S4096x1664_S4096x512_0_1024 (ix2 r s) : EReal)
    = A0 (ix2 r ⟨2560 + s.val, by omega⟩) := by
  pointwise []
  refine congrArg (fun a : Fin 3200 => (A0 (ix2 _ a) : EReal)) (Fin.ext ?_)
  show 1536 + (1024 + s.val) = 2560 + s.val
  omega
theorem ref_cotangent (A1 : FVec Ideal S4096x1024 .f32) (r : Fin 4096) (s : Fin 512) :
    (extractStridedSlice S4096x512 ![0, 512] A1 slices_S4096x1024_S4096x512_0_512 (ix2 r s) : EReal) = A1 (ix2 r ⟨512 + s.val, by omega⟩) := by
  pointwise []
end

theorem ref_column (m : (ℓ : Loc nD τ sig) → Buf (Elt Ideal) ℓ) (c : Dev nD) (n t : Fin 64) (h : Fin 4) (j : Fin 64) :
    (Cert.ReferenceIdeal.Value.res_main_v105 m c (ix2 ⟨n.val * 64 + t.val, by omega⟩ ⟨h.val * 64 + j.val, by omega⟩) : EReal)
    = queryOf (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) n t h j := by
  unfold Cert.ReferenceIdeal.Value.res_main_v105
  refine (first_piece _ _ _ _ ⟨n.val * 64 + t.val, by omega⟩ ⟨h.val * 64 + j.val, by omega⟩).trans ?_
  refine (ref_query _ _ _ _ _ n t h j).trans ?_
  refine queryRun_congr (fun u => ?_) (fun u => ref_key _ n u h j) (fun u w => ref_value _ n u h w) (fun w => ?_) (fun w => rfl) t
  · refine (running _ _ (fun i => ?_) n u h j).trans (congrArg (fun f => decay f u) (funext fun v => (ref_decay _ n v h j).trans (congrArg logDecay (ref_pre _ _ _ _ _))))
    exact Ideal.ofBits_zero_f32
  · exact (ref_head _ _ _ _ n t h w).trans ((head_rule _ _ w).trans (headGrad_congr (fun q => ref_gate _ _ _) (fun q => ref_cotangent _ _ _) w))

/-! ## The reference's gate's columns -/

theorem ref_gated (C Z O : FVec Ideal S4096x512 .f32) (G : FVec Ideal S1x128 .f32) (n : Fin 4096) (h : Fin 4) (j : Fin 128) :
    (addf (F := Ideal) (mulf (mulf (shapeCast _ (mulf (mulf (shapeCast _ O shapeCasts_S4096x512_S4096x4x128) (broadcastInDim S4096x4x128 ![0, 1, 2] bcast_S4096x4x1_S4096x4x128_0_1_2 (Host.rsqrt (addf (Host.divf (broadcastInDim S4096x4x1 ![0, 1] bcast_S4096x4_S4096x4x1_0_1 (Host.reduceAdd (mulf (shapeCast _ O shapeCasts_S4096x512_S4096x4x128) (shapeCast _ O shapeCasts_S4096x512_S4096x4x128)) (constant S_ .f32 0x00000000#32) reducesTo_S4096x4x128_S4096x4_d2 h_S_)) (broadcastInDim S4096x4x1 ![] bcast_S_S4096x4x1 (constant S_ .f32 0x43000000#32))) (broadcastInDim S4096x4x1 ![] bcast_S_S4096x4x1 (constant S_ .f32 0x358637BD#32)))))) (broadcastInDim S4096x4x128 ![0, 1, 2] bcast_S1x1x128_S4096x4x128_0_1_2 (broadcastInDim S1x1x128 ![2] bcast_S128_S1x1x128_2 (shapeCast _ G shapeCasts_S1x128_S128)))) shapeCasts_S4096x4x128_S4096x512) C) (Host.divf (broadcastInDim S4096x512 ![] bcast_S_S4096x512 (constant S_ .f32 0x3F800000#32)) (addf (broadcastInDim S4096x512 ![] bcast_S_S4096x512 (constant S_ .f32 0x3F800000#32)) (Host.exp (Host.negf Z)))))
      (mulf (mulf Z (mulf (shapeCast _ (mulf (mulf (shapeCast _ O shapeCasts_S4096x512_S4096x4x128) (broadcastInDim S4096x4x128 ![0, 1, 2] bcast_S4096x4x1_S4096x4x128_0_1_2 (Host.rsqrt (addf (Host.divf (broadcastInDim S4096x4x1 ![0, 1] bcast_S4096x4_S4096x4x1_0_1 (Host.reduceAdd (mulf (shapeCast _ O shapeCasts_S4096x512_S4096x4x128) (shapeCast _ O shapeCasts_S4096x512_S4096x4x128)) (constant S_ .f32 0x00000000#32) reducesTo_S4096x4x128_S4096x4_d2 h_S_)) (broadcastInDim S4096x4x1 ![] bcast_S_S4096x4x1 (constant S_ .f32 0x43000000#32))) (broadcastInDim S4096x4x1 ![] bcast_S_S4096x4x1 (constant S_ .f32 0x358637BD#32)))))) (broadcastInDim S4096x4x128 ![0, 1, 2] bcast_S1x1x128_S4096x4x128_0_1_2 (broadcastInDim S1x1x128 ![2] bcast_S128_S1x1x128_2 (shapeCast _ G shapeCasts_S1x128_S128)))) shapeCasts_S4096x4x128_S4096x512) C)) (mulf (Host.divf (broadcastInDim S4096x512 ![] bcast_S_S4096x512 (constant S_ .f32 0x3F800000#32)) (addf (broadcastInDim S4096x512 ![] bcast_S_S4096x512 (constant S_ .f32 0x3F800000#32)) (Host.exp (Host.negf Z)))) (subf (broadcastInDim S4096x512 ![] bcast_S_S4096x512 (constant S_ .f32 0x3F800000#32)) (Host.divf (broadcastInDim S4096x512 ![] bcast_S_S4096x512 (constant S_ .f32 0x3F800000#32)) (addf (broadcastInDim S4096x512 ![] bcast_S_S4096x512 (constant S_ .f32 0x3F800000#32)) (Host.exp (Host.negf Z))))))) (ix2 n ⟨h.val * 128 + j.val, by omega⟩) : EReal)
    = gateRule (fun q => O (ix2 n ⟨h.val * 128 + q.val, by omega⟩)) (Z (ix2 n ⟨h.val * 128 + j.val, by omega⟩)) (C (ix2 n ⟨h.val * 128 + j.val, by omega⟩)) (G (ix2 0 j)) j := by
  unfold gateRule normed rms gateSig headWidth rmsEps
  pointwise [Fin.sum_univ_one]
  rw [swap (_ * Ideal.rsqrt _)]

theorem ref_gate_column (m : (ℓ : Loc nD τ sig) → Buf (Elt Ideal) ℓ) (c : Dev nD) (n : Fin 4096) (h : Fin 4) (j : Fin 128) :
    (Cert.ReferenceIdeal.Value.res_main_v105 m c (ix2 n ⟨1024 + (h.val * 128 + j.val), by omega⟩) : EReal)
    = gateRule (fun q => m ((c.tc : Thread nD τ).loc main_arg2) (ix2 n ⟨h.val * 128 + q.val, by omega⟩)) (m ((c.tc : Thread nD τ).loc main_arg0) (ix2 n ⟨2560 + (h.val * 128 + j.val), by omega⟩))
      (m ((c.tc : Thread nD τ).loc main_arg1) (ix2 n ⟨512 + (h.val * 128 + j.val), by omega⟩)) (m ((c.tc : Thread nD τ).loc main_arg6) (ix2 0 j)) j := by
  unfold Cert.ReferenceIdeal.Value.res_main_v105
  refine (third_piece _ _ _ _ n ⟨h.val * 128 + j.val, by omega⟩).trans ?_
  refine (ref_gated _ _ _ _ n h j).trans ?_
  exact congrArg₂ (fun z d => gateRule _ z d _ j) (ref_gate _ _ _) (ref_cotangent _ _ _)

end Cert.ReferenceIdeal.Gla
end
-- ==== Proof.GateClaim.lean ====
/- The gated linear attention's backward call: the value claim on the queries' and the output gate's columns and the head norm's gain. -/
module

public import proofs.«01_k».proof.Defs
public import proofs.«01_k».proof.Proof.Gen.ReferenceIdeal.Run
public import proofs.«01_k».proof.Proof.Gen.Pre_finite
public import proofs.«01_k».proof.Proof.Gen.On_gate_norm
public import proofs.«01_k».proof.Proof.GlaTile
public import proofs.«01_k».proof.Proof.GlaRef
public import proofs.«01_k».proof.Proof.NormClaim
public import Idealize.ShloMosaic.Lib.ReduceAll

@[expose] public section

set_option maxRecDepth 16384

noncomputable section

namespace Cert.KernelIdeal.Gate

open Idealize.ShloMosaic Idealize.ShloMosaic.TcCoe Idealize.SL.Sem Cert.Proof Cert.KernelIdeal Cert.KernelIdeal.Gen
open Idealize.ShloMosaic.Pipeline (Dat)

variable (m : (ℓ : Loc nD τ sig) → Buf (Elt Ideal) ℓ)

/-- The point that takes row `n`, and what the points leave of the first result. -/
def point (n : Fin 4096) : Fin cfg0.N := ⟨15 - n.val / 256, (by omega : 15 - n.val / 256 < 16).trans_eq N_0.symm⟩
def left (c : Dev nD) (t : Fin cfg0.N) : S256x1664.Idx → EReal := (outsAt0 m c t.val t.isLt).1
def tiles (c : Dev nD) (i : S4096x1664.Idx) : EReal := left m c (point (i 0)) (ix2 ⟨(i 0).val % 256, Nat.mod_lt _ (by decide)⟩ (i 1))

theorem point_row (t : Fin cfg0.N) (p : Fin 256) : point (row t p) = t := by
  have ht := lt16 t.isLt
  exact Fin.ext (show 15 - ((15 - t.val) * 256 + p.val) / 256 = t.val by omega)
theorem row_point (n : Fin 4096) : row (point n) ⟨n.val % 256, Nat.mod_lt _ (by decide)⟩ = n := by
  exact Fin.ext (show (15 - (15 - n.val / 256)) * 256 + n.val % 256 = n.val by omega)
theorem tiles_row (c : Dev nD) (t : Fin cfg0.N) (p : Fin 256) (s : Fin 1664) : tiles m c (ix2 (row t p) s) = left m c t (ix2 p s) := by
  have e : (⟨(row t p).val % 256, Nat.mod_lt _ (by decide)⟩ : Fin 256) = p :=
    Fin.ext (show ((15 - t.val) * 256 + p.val) % 256 = p.val by omega)
  exact congrArg₂ (fun a b => left m c a (ix2 b s)) (point_row t p) e

theorem arr0 (c : Dev nD) : (dats m 0 c).arrAt 11 cfg0.N = (tiles m c : S4096x1664.Idx → EReal) := by
  refine (dats m 0 c).arrAt_eq_of_covers 11 _ (by decide +kernel) fun t hf y => ?_
  have ht := lt16 t.isLt
  blk_simp
  rw [after0_11]
  obtain ⟨p, s, rfl⟩ : ∃ (p : Fin 256) (s : Fin 1664), y = ix2 p s := ⟨y 0, y 1, eq_ix2 y⟩
  have e : ((win0_11.blk t).view.emb (ix2 p s) : S4096x1664.Idx) = ix2 (row t p) s := by
    unfold row
    blk_ext [idx11 t]
  exact ((congrArg (tiles m c) e).trans (tiles_row m c t p s)).symm

/-- The gate's columns of the first result. -/
theorem tiles_gate (c : Dev nD) (n : Fin 4096) (h : Fin 4) (j : Fin 128) :
    tiles m c (ix2 n ⟨1024 + h.val * 128 + j.val, by omega⟩) = gateAt m c n h j := by
  rw [← row_point n, tiles_row]
  exact tile_gate m c _ h _ j

/-- The queries' columns of the first result. -/
theorem tiles_query (c : Dev nD) (n u : Fin 64) (s : Fin 256) : tiles m c (ix2 (chunk n u) ⟨s.val, by omega⟩) = queryAt m c n u s := by
  obtain ⟨P, l, rfl⟩ : ∃ (P : Fin 2) (l : Fin 128), s = col P l :=
    ⟨⟨s.val / 128, by omega⟩, ⟨s.val % 128, by omega⟩, Fin.ext (show s.val = s.val / 128 * 128 + s.val % 128 by omega)⟩
  have hp : (point (chunk n u)).val = 15 - (n.val * 64 + u.val) / 256 := rfl
  have hr := row_point (chunk n u)
  refine (congrArg (fun a => tiles m c (ix2 a ⟨(col P l).val, by omega⟩)) hr.symm).trans ((tiles_row m c _ _ _).trans ((tile_query m c _ P _ l).trans ?_))
  refine congrArg₂ (fun a b => queryAt m c a b (col P l)) (Fin.ext ?_) (Fin.ext ?_)
  · show (15 - (point (chunk n u)).val) * 4 + (n.val * 64 + u.val) % 256 / 64 = n.val
    omega
  · show (n.val * 64 + u.val) % 256 % 64 = u.val
    omega

theorem query_of (c : Dev nD) (n u : Fin 64) (h : Fin 4) (j : Fin 64) :
    queryAt m c n u ⟨h.val * 64 + j.val, by omega⟩ = queryOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) n u h j := by
  have e1 : head ⟨h.val * 64 + j.val, by omega⟩ = h := Fin.ext (show (h.val * 64 + j.val) / 64 = h.val by omega)
  have e2 : (⟨(h.val * 64 + j.val) % 64, by omega⟩ : Fin 64) = j := Fin.ext (show (h.val * 64 + j.val) % 64 = j.val by omega)
  unfold queryAt
  rw [e1]
  simp only [e2]
  rfl

/-- The gain's gradient. -/
def G3 (c : Dev nD) (i : S1x128.Idx) : EReal := ∑ n : Fin 4096, ∑ h : Fin 4, gainAt m c n h (i 1)

theorem tile_rows (c : Dev nD) (t : Fin cfg0.N) (j : Fin 128) : gainTile m c t j = ∑ p : Fin 256, ∑ h : Fin 4, gainAt m c (row t p) h j := by
  unfold gainTile
  simp only [Fin.sum_univ_four, Finset.sum_add_distrib]
theorem all_tiles (c : Dev nD) (j : Fin 128) (u : Fin 16 → Fin cfg0.N) (hu : ∀ q, (u q).val = q.val) :
    ∑ q : Fin 16, gainTile m c (u q) j = ∑ n : Fin 4096, ∑ h : Fin 4, gainAt m c n h j := by
  refine Eq.trans ?_ (Fin.sum_mul_add_congr (S := 16) (n := 256)
    (F := fun q p => ∑ h : Fin 4, gainAt m c ⟨q.val * 256 + p.val, by omega⟩ h j) fun q p hl => rfl)
  refine Eq.trans (Finset.sum_congr rfl fun q _ => ?_)
    (Equiv.sum_comp Fin.revPerm fun q : Fin 16 => ∑ p : Fin 256, ∑ h : Fin 4, gainAt m c ⟨q.val * 256 + p.val, by omega⟩ h j)
  rw [tile_rows]
  refine Finset.sum_congr rfl fun p _ => ?_
  have e : row (u q) p = ⟨(Fin.revPerm q).val * 256 + p.val, by omega⟩ := by
    refine Fin.ext ?_
    show (15 - (u q).val) * 256 + p.val = (16 - (q.val + 1)) * 256 + p.val
    rw [hu q]
    omega
  rw [e]

theorem arr3 (c : Dev nD) : (dats m 0 c).arrAt 14 cfg0.N = (G3 m c : S1x128.Idx → EReal) := by
  refine (dats m 0 c).arrAt_eq_of_covers 14 _ (by decide +kernel) fun t hf y => ?_
  have ht := lt16 t.isLt
  blk_simp
  rw [after0_14]
  obtain ⟨z, j, rfl⟩ : ∃ (z : Fin 1) (j : Fin 128), y = ix2 z j := ⟨y 0, y 1, eq_ix2 y⟩
  obtain rfl : z = 0 := Subsingleton.elim _ _
  have e : ((win0_14.blk t).view.emb (ix2 0 j) : S1x128.Idx) = ix2 0 j := by
    blk_ext [idx14 t]
  refine Eq.trans ?_ (congrArg (G3 m c) e).symm
  refine (Pipeline.eq_sum_fin_of_reset_step_apply_of_flush (M := EReal) (fun n h => (outsAt0 m c n h).2.2.2.1) 16 (fun _ => 0)
    (fun t i => gainTile m c t (i 1)) (first m c) (next m c) t ((flush0_14 t).mp hf) (ix2 0 j)).trans ?_
  refine (zero_add _).trans ?_
  have h15 := (flush0_14 t).mp hf
  exact all_tiles m c j _ fun q => show 16 * (t.val / 16) + q.val = q.val by omega

end Cert.KernelIdeal.Gate

/-! ## The mask -/

namespace Cert.Proof

open Idealize.ShloMosaic Idealize.ShloMosaic.TcCoe Idealize.SL.Sem Cert.KernelIdeal.Gate

section
variable (z : FVec Ideal Cert.KernelIdeal.S4096x3200 .f32) (d : FVec Ideal Cert.KernelIdeal.S4096x1024 .f32) (x : FVec Ideal Cert.KernelIdeal.S4096x512 .f32)
  (s : FVec Ideal Cert.KernelIdeal.S64x4x64x128 .f32) (w : FVec Ideal Cert.KernelIdeal.S128x256 .f32) (b : FVec Ideal Cert.KernelIdeal.S1x256 .f32)
  (g : FVec Ideal Cert.KernelIdeal.S1x128 .f32)

/-- The first result's mask is set in the queries' and the gate's columns only, and those of the second and third nowhere. -/
theorem mask_gate (i : Cert.KernelIdeal.S4096x1664.Idx) (h : (Cert.On_gate_norm.fn (F := Ideal) z d x s w b g).1 i = 1#1) :
    (i 1).val < 256 ∨ 1024 ≤ (i 1).val ∧ (i 1).val < 1536 := by
  have key : ∀ r < 1664, IntOp.ori (IntOp.cmpi .slt (BitVec.ofNat 32 r) 256#32) (IntOp.andi (IntOp.cmpi .sge (BitVec.ofNat 32 r) 1024#32) (IntOp.cmpi .slt (BitVec.ofNat 32 r) 1536#32)) = 1#1
      → r < 256 ∨ 1024 ≤ r ∧ r < 1536 := by
    decide +kernel
  exact key (i 1).val (i 1).isLt h
theorem mask_up (i : Cert.KernelIdeal.S128x256.Idx) : ¬(Cert.On_gate_norm.fn (F := Ideal) z d x s w b g).2.1 i = 1#1 := by
  have key : ∀ r < 256, ¬IntOp.cmpi .slt (BitVec.ofNat 32 r) 0#32 = 1#1 := by decide +kernel
  exact key _ (i 1).isLt
theorem mask_bias (i : Cert.KernelIdeal.S1x256.Idx) : ¬(Cert.On_gate_norm.fn (F := Ideal) z d x s w b g).2.2.1 i = 1#1 := by
  have key : ∀ r < 256, ¬IntOp.cmpi .slt (BitVec.ofNat 32 r) 0#32 = 1#1 := by decide +kernel
  exact key _ (i 1).isLt

theorem finite_gate (h : ∀ i, Cert.Pre_finite.fn (F := Ideal) z d x s w b g i = 1#1) : (∀ i, Real' (d i)) ∧ ∀ i, Real' (g i) := by
  haveI : Subsingleton Cert.Pre_finite.S_.Idx := ⟨fun x y => funext fun k => k.elim0⟩
  have e := h (fun k => k.elim0)
  obtain ⟨h1, h2⟩ := IntOp.andi_eq_one.1 (show IntOp.andi _ _ = 1#1 from e)
  have hz : Ideal.ofBits .f32 0x00000000#32 = 0 := Ideal.ofBits_zero_f32
  exact ⟨real_of_all d _ (fun _ => hz) _ _ _ _ h1, real_of_all g _ (fun _ => hz) _ _ _ _ h2⟩
end

/-! ## The claim -/

def gateColumn (h : Fin 4) (j : Fin 128) : Fin 1664 := ⟨1024 + h.val * 128 + j.val, by omega⟩
theorem column (k : Fin 1664) (lo : 1024 ≤ k.val) (hi : k.val < 1536) : ∃ (h : Fin 4) (j : Fin 128), k = gateColumn h j :=
  ⟨⟨(k.val - 1024) / 128, by omega⟩, ⟨(k.val - 1024) % 128, by omega⟩, Fin.ext (show k.val = 1024 + (k.val - 1024) / 128 * 128 + (k.val - 1024) % 128 by omega)⟩

def queryColumn (h : Fin 4) (j : Fin 64) : Fin 1664 := ⟨h.val * 64 + j.val, by omega⟩
theorem query_column (k : Fin 1664) (lo : k.val < 256) : ∃ (h : Fin 4) (j : Fin 64), k = queryColumn h j :=
  ⟨⟨k.val / 64, by omega⟩, ⟨k.val % 64, by omega⟩, Fin.ext (show k.val = k.val / 64 * 64 + k.val % 64 by omega)⟩

/-- The sum over the two leading axes of three. -/
theorem reduce_two {n0 n1 n2 : ℕ} (h : (⟨3, ![n0, n1, n2]⟩ : Shape).ReducesTo [0, 1] ⟨1, ![n2]⟩) (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ((Finset.sum_filter_eq_sum_of_fiber _ (fun q : Fin n0 × Fin n1 => ix3 q.1 q.2 j) (fun _ _ e => Prod.ext (congrFun e 0) (congrFun e 1))
    (fun i => ⟨fun e => ⟨(i 0, i 1), ?_⟩, ?_⟩) v).trans (Fintype.sum_prod_type _))
  · funext a
    match a with
    | ⟨0, _⟩ => rfl
    | ⟨1, _⟩ => rfl
    | ⟨2, _⟩ => exact Fin.ext (congrArg Fin.val (congrFun e 0)).symm
  · rintro ⟨q, rfl⟩
    funext b
    match b with
    | ⟨0, _⟩ => rfl

theorem algebraic_gate : Cert.algebraic_KernelIdeal_ReferenceIdeal_on_gate_norm_pre_finite := by
  intro m ρ m' ρ' hpre hagree
  refine ⟨fun c => tiles m c, fun c => (Cert.KernelIdeal.Gen.dats m 0 c).arrAt 12 Cert.KernelIdeal.cfg0.N,
    fun c => (Cert.KernelIdeal.Gen.dats m 0 c).arrAt 13 Cert.KernelIdeal.cfg0.N, fun c => G3 m c,
    (θ_run _ _ _).mono (fun r h c => ?_) (Cert.KernelIdeal.Value.run_blocks m ρ),
    (θ_run _ _ _).mono (fun r h c => ?_) (Cert.ReferenceIdeal.Value.run (F := Ideal) m' ρ')⟩
  · obtain ⟨h0, h1, h2, h3, hk⟩ := h c
    exact ⟨fun i _ => congrFun (h0.trans (arr0 m c)) i, fun i _ => congrFun h1 i, fun i _ => congrFun h2 i, fun i _ => congrFun (h3.trans (arr3 m c)) i, hk⟩
  · obtain ⟨h0, h1, h2, h3, hk⟩ := h c
    obtain ⟨a0, a1, a2, a3, a4, a5, a6⟩ := hagree c
    refine ⟨fun i hi => (congrFun h0 i).trans ?_, fun i hi => absurd hi (mask_up _ _ _ _ _ _ _ i), fun i hi => absurd hi (mask_bias _ _ _ _ _ _ _ i),
      fun i _ => (congrFun h3 i).trans ?_, hk⟩
    · have hmask := mask_gate _ _ _ _ _ _ _ i hi
      obtain ⟨n, k, rfl⟩ : ∃ (n : Fin 4096) (k : Fin 1664), i = ix2 n k := ⟨i 0, i 1, eq_ix2 i⟩
      obtain lo | ⟨lo, hi⟩ : k.val < 256 ∨ 1024 ≤ k.val ∧ k.val < 1536 := hmask
      · obtain ⟨q, t, rfl⟩ : ∃ q t : Fin 64, n = chunk q t :=
          ⟨⟨n.val / 64, by omega⟩, ⟨n.val % 64, by omega⟩, Fin.ext (show n.val = n.val / 64 * 64 + n.val % 64 by omega)⟩
        obtain ⟨h, j, rfl⟩ := query_column k lo
        refine (Cert.ReferenceIdeal.Gla.ref_column m' c q t h j).trans (Eq.trans ?_ ((tiles_query m c q t ⟨h.val * 64 + j.val, by omega⟩).trans (query_of m c q t h j)).symm)
        rw [a0, a1, a2, a3, a4, a5, a6]
      obtain ⟨h, j, rfl⟩ := column k lo hi
      refine Eq.trans ?_ (tiles_gate m c n h j).symm
      obtain ⟨fd, fg⟩ := finite_gate _ _ _ _ _ _ _ (fun i => congrFun (hpre c) i)
      have hD : Real' (kD m c n (lane h j) * normed (fun q => kX m c n (lane h q)) j * kG m c j) :=
        ((fd (ix2 n _)).mul (normed_real _ j)).mul (fg (ix2 0 j))
      refine Eq.trans ?_ (gate_grad _ (kZ m c n (lane h j)) hD).symm
      have e : gateColumn h j = ⟨1024 + (h.val * 128 + j.val), by omega⟩ := Fin.ext (show 1024 + h.val * 128 + j.val = 1024 + (h.val * 128 + j.val) by omega)
      rw [e]
      refine (Cert.ReferenceIdeal.Gla.ref_gate_column m' c n h j).trans ?_
      rw [a0, a1, a2, a6]
      rfl
    · obtain ⟨z, j, rfl⟩ : ∃ (z : Fin 1) (j : Fin 128), i = ix2 z j := ⟨i 0, i 1, eq_ix2 i⟩
      rw [a0, a1, a2]
      unfold G3 gainAt gainTerm gateSig normed rms headWidth rmsEps kZ kD kX lane
      pointwise
      rw [reduce_two]
      simp only [Fin.sum_univ_one]
      pointwise
      rw [reduce_two]
      pointwise
      refine Finset.sum_congr (M := EReal) rfl fun n _ => Finset.sum_congr (M := EReal) rfl fun h _ => (mul_comm (G := EReal) _ _).trans ?_
      have e (q : Fin 128) : (⟨1536 + (1024 + (h.val * 128 + q.val)), by omega⟩ : Fin 3200) = ⟨2560 + (h.val * 128 + q.val), by omega⟩ :=
        Fin.ext (show 1536 + (1024 + (h.val * 128 + q.val)) = 2560 + (h.val * 128 + q.val) by omega)
      rw [e]

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Pre_finite
public import proofs.«01_k».proof.Proof.Gen.On_gate_norm
public import proofs.«01_k».proof.Proof.Gen.Pre_finite9
public import proofs.«01_k».proof.Proof.Gen.Pre_finite3
public import proofs.«01_k».proof.Proof.ConvClaim
public import proofs.«01_k».proof.Proof.NormClaim
public import proofs.«01_k».proof.Proof.DownIn
public import proofs.«01_k».proof.Proof.UpWeights
public import proofs.«01_k».proof.Proof.OutWeights
public import proofs.«01_k».proof.Proof.InWeights
public import proofs.«01_k».proof.Proof.DownWeights
public import proofs.«01_k».proof.Proof.LossClaim
public import proofs.«01_k».proof.Proof.OutNorm
public import proofs.«01_k».proof.Proof.ConvForward
public import proofs.«01_k».proof.Proof.OptimiserStep
public import proofs.«01_k».proof.Proof.GateClaim
public import Idealize.ShloMosaic.Lib.Quiescent
public import Idealize.ShloMosaic.Adequacy
public import Idealize.ShloMosaic.Init

@[expose] public section

noncomputable section

namespace Cert.Proof

open Idealize.ShloMosaic Idealize.SL.Sem

/-! The references run on the host alone: no semaphore is declared, so every counter is zero at the end. -/

theorem frame_gate_ref : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

theorem frame_conv_ref : Cert.quiescent_Reference2Ideal := fun m ρ _ =>
  (θ_run Cert.Reference2Ideal.defs _ _).mono
    (fun r h => ⟨fun c => (h c).2.2.2, sem_eq_zero_of_no_sems (by decide) r.2⟩)
    (Cert.Reference2Ideal.Value.run (F := Ideal) m ρ)

theorem frame_dh_ref : Cert.quiescent_Reference3Ideal := fun m ρ _ =>
  (θ_run Cert.Reference3Ideal.defs _ _).mono
    (fun r h => ⟨fun c => (h c).2.2.2, sem_eq_zero_of_no_sems (by decide) r.2⟩)
    (Cert.Reference3Ideal.Value.run (F := Ideal) m ρ)

theorem frame_down_in_ref : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem frame_up_weights_ref : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

theorem frame_out_weights_ref : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem frame_in_weights_ref : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

theorem frame_down_weights_ref : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

theorem frame_conv_forward_ref : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

theorem frame_loss_ref : Cert.quiescent_Reference9Ideal := fun m ρ _ =>
  (θ_run Cert.Reference9Ideal.defs _ _).mono
    (fun r h => ⟨fun c => (h c).2.2.2.2.2, sem_eq_zero_of_no_sems (by decide) r.2⟩)
    (Cert.Reference9Ideal.Value.run (F := Ideal) m ρ)

theorem frame_out_norm_ref : Cert.quiescent_Reference10Ideal := fun m ρ _ =>
  (θ_run Cert.Reference10Ideal.defs _ _).mono
    (fun r h => ⟨fun c => (h c).2.2.2, sem_eq_zero_of_no_sems (by decide) r.2⟩)
    (Cert.Reference10Ideal.Value.run (F := Ideal) m ρ)

theorem frame_step_in_ref : Cert.quiescent_Reference12Ideal := fun m ρ _ =>
  (θ_run Cert.Reference12Ideal.defs _ _).mono
    (fun r h => ⟨fun c => (h c).2.2.2, sem_eq_zero_of_no_sems (by decide) r.2⟩)
    (Cert.Reference12Ideal.Value.run (F := Ideal) m ρ)

theorem frame_step_out_ref : Cert.quiescent_Reference13Ideal := fun m ρ _ =>
  (θ_run Cert.Reference13Ideal.defs _ _).mono
    (fun r h => ⟨fun c => (h c).2.2.2, sem_eq_zero_of_no_sems (by decide) r.2⟩)
    (Cert.Reference13Ideal.Value.run (F := Ideal) m ρ)

theorem frame_step_up_ref : Cert.quiescent_Reference14Ideal := fun m ρ _ =>
  (θ_run Cert.Reference14Ideal.defs _ _).mono
    (fun r h => ⟨fun c => (h c).2.2.2, sem_eq_zero_of_no_sems (by decide) r.2⟩)
    (Cert.Reference14Ideal.Value.run (F := Ideal) m ρ)

theorem frame_step_down_ref : Cert.quiescent_Reference15Ideal := fun m ρ _ =>
  (θ_run Cert.Reference15Ideal.defs _ _).mono
    (fun r h => ⟨fun c => (h c).2.2.2, sem_eq_zero_of_no_sems (by decide) r.2⟩)
    (Cert.Reference15Ideal.Value.run (F := Ideal) m ρ)

/-- The two constants of the convolution's backward kernel that are given a name: each name's value is the real it
    was computed from. -/
theorem preserves_conv : Cert.preserves_Kernel2_Kernel2Ideal :=
  ⟨IdealRules.named_const.statement Cert.Kernel2Ideal.κ "inv_sqrt2" .f32 0x3F3504F3#32 (((Real.sqrt 2)⁻¹ : ℝ) : EReal) rfl,
   IdealRules.named_const.statement Cert.Kernel2Ideal.κ "inv_sqrt2pi" .f32 0x3ECC422A#32
     (((Real.sqrt (2 * Real.pi))⁻¹ : ℝ) : EReal) rfl⟩

/-- And the one of its forward kernel. -/
theorem preserves_conv_forward : Cert.preserves_Kernel11_Kernel11Ideal :=
  IdealRules.named_const.statement Cert.Kernel11Ideal.κ "inv_sqrt2" .f32 0x3F3504F3#32 (((Real.sqrt 2)⁻¹ : ℝ) : EReal) rfl

/-- The reciprocals of the optimiser's two bias corrections. -/
theorem preserves_step_in : Cert.preserves_Kernel12_Kernel12Ideal :=
  ⟨IdealRules.named_const.statement Cert.Kernel12Ideal.κ "bias1" .f32 0x3FC48605#32 (((5463681 / 8388608)⁻¹ : ℝ) : EReal) rfl,
   IdealRules.named_const.statement Cert.Kernel12Ideal.κ "bias2" .f32 0x42C8E6D3#32 (((2672307 / 268435456)⁻¹ : ℝ) : EReal) rfl⟩
theorem preserves_step_out : Cert.preserves_Kernel13_Kernel13Ideal :=
  ⟨IdealRules.named_const.statement Cert.Kernel13Ideal.κ "bias1" .f32 0x3FC48605#32 (((5463681 / 8388608)⁻¹ : ℝ) : EReal) rfl,
   IdealRules.named_const.statement Cert.Kernel13Ideal.κ "bias2" .f32 0x42C8E6D3#32 (((2672307 / 268435456)⁻¹ : ℝ) : EReal) rfl⟩
theorem preserves_step_up : Cert.preserves_Kernel14_Kernel14Ideal :=
  ⟨IdealRules.named_const.statement Cert.Kernel14Ideal.κ "bias1" .f32 0x3FC48605#32 (((5463681 / 8388608)⁻¹ : ℝ) : EReal) rfl,
   IdealRules.named_const.statement Cert.Kernel14Ideal.κ "bias2" .f32 0x42C8E6D3#32 (((2672307 / 268435456)⁻¹ : ℝ) : EReal) rfl⟩
theorem preserves_step_down : Cert.preserves_Kernel15_Kernel15Ideal :=
  ⟨IdealRules.named_const.statement Cert.Kernel15Ideal.κ "bias1" .f32 0x3FC48605#32 (((5463681 / 8388608)⁻¹ : ℝ) : EReal) rfl,
   IdealRules.named_const.statement Cert.Kernel15Ideal.κ "bias2" .f32 0x42C8E6D3#32 (((2672307 / 268435456)⁻¹ : ℝ) : EReal) rfl⟩

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   Cert.Pre_finite.Gen.facts, Cert.Pre_finite3.Gen.facts, Cert.Pre_finite9.Gen.facts, Cert.On_gate_norm.Gen.facts,
   fun m ρ _ => Cert.Kernel.Gen.frame m ρ, fun m ρ _ => Cert.KernelIdeal.Gen.frame m ρ, fun m ρ _ => Cert.KernelIdeal.Gen.frame m ρ, frame_gate_ref, fun m ρ _ => frame_gate_ref m ρ trivial,
   fun m ρ _ => Cert.Kernel2.Gen.frame m ρ, fun m ρ _ => Cert.Kernel2Ideal.Gen.frame m ρ, frame_conv_ref,
   fun m ρ _ => Cert.Kernel3.Gen.frame m ρ, fun m ρ _ => Cert.Kernel3Ideal.Gen.frame m ρ, fun m ρ _ => Cert.Kernel3Ideal.Gen.frame m ρ, frame_dh_ref, fun m ρ _ => frame_dh_ref m ρ trivial,
   fun m ρ _ => Cert.Kernel4.Gen.frame m ρ, fun m ρ _ => Cert.Kernel4Ideal.Gen.frame m ρ, frame_down_in_ref,
   fun m ρ _ => Cert.Kernel5.Gen.frame m ρ, fun m ρ _ => Cert.Kernel5Ideal.Gen.frame m ρ, frame_up_weights_ref,
   fun m ρ _ => Cert.Kernel6.Gen.frame m ρ, fun m ρ _ => Cert.Kernel6Ideal.Gen.frame m ρ, frame_out_weights_ref,
   fun m ρ _ => Cert.Kernel7.Gen.frame m ρ, fun m ρ _ => Cert.Kernel7Ideal.Gen.frame m ρ, frame_in_weights_ref,
   fun m ρ _ => Cert.Kernel8.Gen.frame m ρ, fun m ρ _ => Cert.Kernel8Ideal.Gen.frame m ρ, frame_down_weights_ref,
   fun m ρ _ => Cert.Kernel9.Gen.frame m ρ, fun m ρ _ => Cert.Kernel9Ideal.Gen.frame m ρ, fun m ρ _ => Cert.Kernel9Ideal.Gen.frame m ρ, frame_loss_ref, fun m ρ _ => frame_loss_ref m ρ trivial,
   fun m ρ _ => Cert.Kernel10.Gen.frame m ρ, fun m ρ _ => Cert.Kernel10Ideal.Gen.frame m ρ, frame_out_norm_ref,
   fun m ρ _ => Cert.Kernel11.Gen.frame m ρ, fun m ρ _ => Cert.Kernel11Ideal.Gen.frame m ρ, frame_conv_forward_ref,
   fun m ρ _ => Cert.Kernel12.Gen.frame m ρ, fun m ρ _ => Cert.Kernel12Ideal.Gen.frame m ρ, frame_step_in_ref,
   fun m ρ _ => Cert.Kernel13.Gen.frame m ρ, fun m ρ _ => Cert.Kernel13Ideal.Gen.frame m ρ, frame_step_out_ref,
   fun m ρ _ => Cert.Kernel14.Gen.frame m ρ, fun m ρ _ => Cert.Kernel14Ideal.Gen.frame m ρ, frame_step_up_ref,
   fun m ρ _ => Cert.Kernel15.Gen.frame m ρ, fun m ρ _ => Cert.Kernel15Ideal.Gen.frame m ρ, frame_step_down_ref,
   trivial, algebraic_gate, preserves_conv, algebraic_conv, trivial, algebraic_norm,
   trivial, algebraic_down_in, trivial, algebraic_up_weights, trivial, algebraic_out_weights, trivial, algebraic_in_weights,
   trivial, algebraic_down_weights, trivial, algebraic_loss, trivial, algebraic_out_norm,
   preserves_conv_forward, algebraic_conv_forward,
   preserves_step_in, algebraic_step_in, preserves_step_out, algebraic_step_out, preserves_step_up, algebraic_step_up,
   preserves_step_down, algebraic_step_down⟩

end Cert.Proof

end
